-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_3)) (v3 : (c : Dev Cert.KernelIdeal.nD) → Buf (Elt Ideal) ((c.tc : Thread Cert.KernelIdeal.nD Cert.KernelIdeal.τ).loc Cert.KernelIdeal.main_v0_4)) (v4 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_3) = v2 c
          ∧ r.2.mem ((c.tc : Thread Cert.KernelIdeal.nD Cert.KernelIdeal.τ).loc Cert.KernelIdeal.main_v0_4) = v3 c
          ∧ r.2.mem ((c.tc : Thread Cert.KernelIdeal.nD Cert.KernelIdeal.τ).loc Cert.KernelIdeal.main_v0_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v80) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v42) = v0 c
          ∧ r.2.mem ((c.tc : Thread Cert.Reference17Ideal.nD Cert.Reference17Ideal.τ).loc Cert.Reference17Ideal.main_v43) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v19) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v51) = v0 c
          ∧ r.2.mem ((c.tc : Thread Cert.Reference20Ideal.nD Cert.Reference20Ideal.τ).loc Cert.Reference20Ideal.main_v52) = v1 c
          ∧ r.2.mem ((c.tc : Thread Cert.Reference20Ideal.nD Cert.Reference20Ideal.τ).loc Cert.Reference20Ideal.main_v53) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite3.lean ====
abbrev S4096x1024 : Shape := ⟨2, ![4096, 1024]⟩
abbrev S1x2816x1024 : Shape := ⟨3, ![1, 2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S1x2816x1024 .bf16) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x2816x1024 .f32 := (extf .f32 · bitsLt_bf16_f32) main_arg1
  let main_v5 : FVec F S1x2816x1024 .f32 := Host.absf main_v4
  let main_cst_0 : FVec F S_ .f32 := constant S_ .f32 0x7F800000#32
  let main_v6 : FVec F S1x2816x1024 .f32 := broadcastInDim S1x2816x1024 ![] bcast_S_S1x2816x1024 main_cst_0
  let main_v7 : IVec S1x2816x1024 1 := cmpf .olt main_v5 main_v6
  let main_c_1 : IVec S_ 1 := constantI S_ 1 1#1
  let main_v8 : IVec S_ 1 := (fun x v => Host.reduce IntOp.andi x v reducesTo_S1x2816x1024_S_d0_1_2 h_S_) main_v7 main_c_1
  let main_v9 : IVec S_ 1 := andi main_v3 main_v8
  let main_v10 : FVec F S4096x2816 .f32 := (extf .f32 · bitsLt_bf16_f32) main_arg3
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v9 main_v14
  main_v15
-- ==== Kernel.lean ====
abbrev S4096x5120 : Shape := ⟨2, ![4096, 5120]⟩
abbrev S4096x3072 : Shape := ⟨2, ![4096, 3072]⟩
abbrev S1x2048 : Shape := ⟨2, ![1, 2048]⟩
abbrev S8x128x128 : Shape := ⟨3, ![8, 128, 128]⟩
abbrev S8x128 : Shape := ⟨2, ![8, 128]⟩
abbrev S512x2048 : Shape := ⟨2, ![512, 2048]⟩
abbrev S256x5120 : Shape := ⟨2, ![256, 5120]⟩
abbrev S256x3072 : Shape := ⟨2, ![256, 3072]⟩
abbrev S256x2048 : Shape := ⟨2, ![256, 2048]⟩
abbrev S1x256 : Shape := ⟨2, ![1, 256]⟩
abbrev S1x128x128 : Shape := ⟨3, ![1, 128, 128]⟩
abbrev S128x128 : Shape := ⟨2, ![128, 128]⟩
abbrev S1x128 : Shape := ⟨2, ![1, 128]⟩
abbrev S256x256 : Shape := ⟨2, ![256, 256]⟩
abbrev S128x5120 : Shape := ⟨2, ![128, 5120]⟩
abbrev S128x256 : Shape := ⟨2, ![128, 256]⟩
abbrev S128 : Shape := ⟨1, ![128]⟩
abbrev S128x1 : Shape := ⟨2, ![128, 1]⟩
abbrev S128x3072 : Shape := ⟨2, ![128, 3072]⟩
abbrev S256 : Shape := ⟨1, ![256]⟩

abbrev nBuf : Space → Nat
  | .hbm => 13
  | .vmem => 18
  | .smem => 0
  | _ => 0

abbrev bufTy : (tb : Table) → Fin (tcTables nBuf tb) → BufTy
  | .hbm, ⟨0, _⟩ => ⟨S4096x5120, .f32⟩
  | .hbm, ⟨1, _⟩ => ⟨S4096x3072, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S512x2048, .f32⟩
  | .hbm, ⟨7, _⟩ => ⟨S4096x5120, .bf16⟩
  | .hbm, ⟨8, _⟩ => ⟨S512x2048, .f32⟩
  | .hbm, ⟨9, _⟩ => ⟨S1x2048, .f32⟩
  | .hbm, ⟨10, _⟩ => ⟨S1x2048, .f32⟩
  | .hbm, ⟨11, _⟩ => ⟨S8x128x128, .f32⟩
  | .hbm, ⟨12, _⟩ => ⟨S8x128, .f32⟩
  | .local _ .vmem, ⟨0, _⟩ => ⟨S256x5120, .f32⟩
  | .local _ .vmem, ⟨1, _⟩ => ⟨S256x5120, .f32⟩
  | .local _ .vmem, ⟨2, _⟩ => ⟨S256x3072, .f32⟩
  | .local _ .vmem, ⟨3, _⟩ => ⟨S256x3072, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128, .f32⟩
  | .local _ .vmem, ⟨8, _⟩ => ⟨S256x2048, .f32⟩
  | .local _ .vmem, ⟨9, _⟩ => ⟨S256x2048, .f32⟩
  | .local _ .vmem, ⟨10, _⟩ => ⟨S256x5120, .bf16⟩
  | .local _ .vmem, ⟨11, _⟩ => ⟨S256x5120, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S8x128x128, .f32⟩
  | .local _ .vmem, ⟨17, _⟩ => ⟨S8x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S4096x5120 : Shape := ⟨2, ![4096, 5120]⟩
abbrev S4096x3072 : Shape := ⟨2, ![4096, 3072]⟩
abbrev S1x2048 : Shape := ⟨2, ![1, 2048]⟩
abbrev S8x128x128 : Shape := ⟨3, ![8, 128, 128]⟩
abbrev S8x128 : Shape := ⟨2, ![8, 128]⟩
abbrev S512x2048 : Shape := ⟨2, ![512, 2048]⟩
abbrev S2x2048x5120 : Shape := ⟨3, ![2, 2048, 5120]⟩
abbrev S2x2048x2048 : Shape := ⟨3, ![2, 2048, 2048]⟩
abbrev S2x2048x1024 : Shape := ⟨3, ![2, 2048, 1024]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S2x2048x4x256 : Shape := ⟨4, ![2, 2048, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x2048x3072 : Shape := ⟨3, ![2, 2048, 3072]⟩
abbrev S2x4x256x256 : Shape := ⟨4, ![2, 4, 256, 256]⟩

abbrev nBuf : Space → Nat
  | .hbm => 258
  | .vmem => 0
  | .smem => 0
  | _ => 0

abbrev hbmTy0_0 (i : Nat) : BufTy := match i % 128 with
  | 0 => ⟨S4096x5120, .f32⟩
  | 1 => ⟨S4096x3072, .f32⟩
  | 2 => ⟨S1x2048, .f32⟩
  | 3 => ⟨S1x2048, .f32⟩
  | 4 => ⟨S8x128x128, .f32⟩
  | 5 => ⟨S8x128, .f32⟩
  | 6 => ⟨S512x2048, .f32⟩
  | 7 => ⟨S2x2048x5120, .f32⟩
  | 8 => ⟨S2x2048x2048, .f32⟩
  | 9 => ⟨S2x2048x2048, .f32⟩
  | 10 => ⟨S2x2048x1024, .f32⟩
  | 11 => ⟨S2x256x2048, .f32⟩
  | 12 => ⟨S2x256x1024, .f32⟩
  | 13 => ⟨S2x256x1024, .f32⟩
  | 14 => ⟨S2x256x4x256, .f32⟩
  | 15 => ⟨S2x256x4x256, .f32⟩
  | 16 => ⟨S2048, .f32⟩
  | 17 => ⟨S2048, .f32⟩
  | 18 => ⟨S_, .f32⟩
  | 19 => ⟨S2x2048x2048, .f32⟩
  | 20 => ⟨S2x2048x2048, .f32⟩
  | 21 => ⟨S_, .f32⟩
  | 22 => ⟨S2x2048x2048, .f32⟩
  | 23 => ⟨S2x2048x2048, .f32⟩
  | 24 => ⟨S2x2048x2048, .f32⟩
  | 25 => ⟨S2x2048x2048, .f32⟩
  | 26 => ⟨S2x2048x2048, .f32⟩
  | 27 => ⟨S2x2048x2048, .f32⟩
  | 28 => ⟨S_, .f32⟩
  | 29 => ⟨S2x2048x2048, .f32⟩
  | 30 => ⟨S2x2048x2048, .f32⟩
  | 31 => ⟨S2x2048x2048, .f32⟩
  | 32 => ⟨S_, .f32⟩
  | 33 => ⟨S2x2048x2048, .f32⟩
  | 34 => ⟨S2x2048x2048, .f32⟩
  | 35 => ⟨S_, .f32⟩
  | 36 => ⟨S2x2048x2048, .f32⟩
  | 37 => ⟨S2x2048x2048, .f32⟩
  | 38 => ⟨S2x2048x2048, .f32⟩
  | 39 => ⟨S2x2048x2048, .f32⟩
  | 40 => ⟨S2x2048x2048, .f32⟩
  | 41 => ⟨S2x2048x2048, .f32⟩
  | 42 => ⟨S_, .f32⟩
  | 43 => ⟨S2x2048x2048, .f32⟩
  | 44 => ⟨S2x2048x2048, .f32⟩
  | 45 => ⟨S2x2048x2048, .f32⟩
  | 46 => ⟨S_, .f32⟩
  | 47 => ⟨S2x2048, .f32⟩
  | 48 => ⟨S2x2048x1, .f32⟩
  | 49 => ⟨S_, .f32⟩
  | 50 => ⟨S2x2048x1, .f32⟩
  | 51 => ⟨S2x2048x1, .f32⟩
  | 52 => ⟨S2x2048x2048, .f32⟩
  | 53 => ⟨S2x2048x2048, .f32⟩
  | 54 => ⟨S2x2048x2048, .f32⟩
  | 55 => ⟨S_, .f32⟩
  | 56 => ⟨S2x2048, .f32⟩
  | 57 => ⟨S2x2048x1, .f32⟩
  | 58 => ⟨S_, .f32⟩
  | 59 => ⟨S2x2048x1, .f32⟩
  | 60 => ⟨S2x2048x1, .f32⟩
  | 61 => ⟨S_, .f32⟩
  | 62 => ⟨S2x2048x1, .f32⟩
  | 63 => ⟨S2x2048x1, .f32⟩
  | 64 => ⟨S2x2048x1, .f32⟩
  | 65 => ⟨S2x2048x1, .f32⟩
  | 66 => ⟨S_, .f32⟩
  | 67 => ⟨S2x2048x1, .f32⟩
  | 68 => ⟨S2x2048x1, .f32⟩
  | 69 => ⟨S2x2048x2048, .f32⟩
  | 70 => ⟨S2x2048x2048, .f32⟩
  | 71 => ⟨S1x1x2048, .f32⟩
  | 72 => ⟨S2x2048x2048, .f32⟩
  | 73 => ⟨S2x2048x2048, .f32⟩
  | 74 => ⟨S1x1x2048, .f32⟩
  | 75 => ⟨S2x2048x2048, .f32⟩
  | 76 => ⟨S2x2048x2048, .f32⟩
  | 77 => ⟨S2x16x128x8x256, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S1x128x128, .i1⟩
  | 90 => ⟨S_, .f32⟩
  | 91 => ⟨S_, .f32⟩
  | 92 => ⟨S8x128x128, .i1⟩
  | 93 => ⟨S8x128x128, .f32⟩
  | 94 => ⟨S8x128x128, .f32⟩
  | 95 => ⟨S_, .f32⟩
  | 96 => ⟨S8x128x128, .f32⟩
  | 97 => ⟨S8x2x16x256x128, .f32⟩
  | 98 => ⟨S2x16x128x8x256, .f32⟩
  | 99 => ⟨S128x8, .f32⟩
  | 100 => ⟨S1x1x128x8x1, .f32⟩
  | 101 => ⟨S2x16x128x8x256, .f32⟩
  | 102 => ⟨S2x16x128x8x256, .f32⟩
  | 103 => ⟨S2x2048x2048, .f32⟩
  | 104 => ⟨S2x2048x2048, .f32⟩
  | 105 => ⟨S2x2048x4x256, .f32⟩
  | 106 => ⟨S2x4x2048x256, .f32⟩
  | 107 => ⟨S_, .f32⟩
  | 108 => ⟨S2x4x2048x256, .f32⟩
  | 109 => ⟨S2x4x2048x256, .f32⟩
  | 110 => ⟨S_, .f32⟩
  | 111 => ⟨S2x4x2048, .f32⟩
  | 112 => ⟨S2x4x2048x1, .f32⟩
  | 113 => ⟨S2x4x2048x256, .f32⟩
  | 114 => ⟨S2x4x2048x256, .i1⟩
  | 115 => ⟨S2x4x2048x256, .f32⟩
  | 116 => ⟨S_, .f32⟩
  | 117 => ⟨S2x4x2048, .f32⟩
  | 118 => ⟨S2x4x2048x1, .f32⟩
  | 119 => ⟨S2x4x2048x256, .f32⟩
  | 120 => ⟨S2x4x2048x256, .f32⟩
  | 121 => ⟨S2x4x2048x256, .f32⟩
  | 122 => ⟨S_, .f32⟩
  | 123 => ⟨S2x4x2048, .f32⟩
  | 124 => ⟨S2x4x2048x1, .f32⟩
  | 125 => ⟨S2x4x2048x256, .f32⟩
  | 126 => ⟨S2x4x2048x256, .f32⟩
  | 127 => ⟨S2x4x2048x1, .f32⟩
  | _ => ⟨S4096x5120, .f32⟩

abbrev hbmTy0_1 (i : Nat) : BufTy := match i % 128 with
  | 0 => ⟨S_, .f32⟩
  | 1 => ⟨S2x4x2048x1, .f32⟩
  | 2 => ⟨S2x4x2048x1, .f32⟩
  | 3 => ⟨S2x4x256x2048, .f32⟩
  | 4 => ⟨S2x2048x4x256, .f32⟩
  | 5 => ⟨S2x2048x1024, .f32⟩
  | 6 => ⟨S2x2048x3072, .f32⟩
  | 7 => ⟨S4096x3072, .f32⟩
  | 8 => ⟨S2x2048x3072, .f32⟩
  | 9 => ⟨S2x2048x2048, .f32⟩
  | 10 => ⟨S2x2048x1024, .f32⟩
  | 11 => ⟨S2x2048x4x256, .f32⟩
  | 12 => ⟨S2x4x256x2048, .f32⟩
  | 13 => ⟨S2x4x2048x256, .f32⟩
  | 14 => ⟨S2x4x256x256, .f32⟩
  | 15 => ⟨S2x256x4x256, .f32⟩
  | 16 => ⟨S2x4x2048x256, .f32⟩
  | 17 => ⟨S2x4x2048x256, .f32⟩
  | 18 => ⟨S2x4x2048x256, .f32⟩
  | 19 => ⟨S_, .f32⟩
  | 20 => ⟨S2x4x2048, .f32⟩
  | 21 => ⟨S2x4x2048x1, .f32⟩
  | 22 => ⟨S2x4x2048x1, .f32⟩
  | 23 => ⟨S2x4x2048x256, .f32⟩
  | 24 => ⟨S2x4x2048x256, .f32⟩
  | 25 => ⟨S_, .f32⟩
  | 26 => ⟨S2x4x2048, .f32⟩
  | 27 => ⟨S2x4x2048x256, .f32⟩
  | 28 => ⟨S2x4x2048x256, .f32⟩
  | 29 => ⟨S2x4x2048x256, .f32⟩
  | 30 => ⟨S_, .f32⟩
  | 31 => ⟨S2x4x2048x256, .f32⟩
  | 32 => ⟨S2x4x2048x256, .f32⟩
  | 33 => ⟨S2x4x256x256, .f32⟩
  | 34 => ⟨S2x256x4x256, .f32⟩
  | 35 => ⟨S2x4x2048x256, .f32⟩
  | 36 => ⟨S2x2048x4x256, .f32⟩
  | 37 => ⟨S2x2048x1024, .f32⟩
  | 38 => ⟨S2x2048x2048, .f32⟩
  | 39 => ⟨S2x2048x2048, .f32⟩
  | 40 => ⟨S2x16x128x8x256, .f32⟩
  | 41 => ⟨S_, .f32⟩
  | 42 => ⟨S128x8, .f32⟩
  | 43 => ⟨S1x1x128x8x1, .f32⟩
  | 44 => ⟨S_, .f32⟩
  | 45 => ⟨S128x8, .f32⟩
  | 46 => ⟨S8x128, .f32⟩
  | 47 => ⟨S8x2x16x256x128, .f32⟩
  | 48 => ⟨S8x128x128, .f32⟩
  | 49 => ⟨S8x2x16x256x128, .f32⟩
  | 50 => ⟨S2x16x128x8x256, .f32⟩
  | 51 => ⟨S_, .f32⟩
  | 52 => ⟨S8x128x128, .f32⟩
  | 53 => ⟨S8x128x128, .f32⟩
  | 54 => ⟨S2x2048x2048, .f32⟩
  | 55 => ⟨S_, .f32⟩
  | 56 => ⟨S2048, .f32⟩
  | 57 => ⟨S1x1x2048, .f32⟩
  | 58 => ⟨S_, .f32⟩
  | 59 => ⟨S2048, .f32⟩
  | 60 => ⟨S2x2048x2048, .f32⟩
  | 61 => ⟨S_, .f32⟩
  | 62 => ⟨S2048, .f32⟩
  | 63 => ⟨S1x1x2048, .f32⟩
  | 64 => ⟨S2x2048x2048, .f32⟩
  | 65 => ⟨S2x2048x2048, .f32⟩
  | 66 => ⟨S_, .f32⟩
  | 67 => ⟨S2048, .f32⟩
  | 68 => ⟨S2x2048x2048, .f32⟩
  | 69 => ⟨S_, .f32⟩
  | 70 => ⟨S2x2048, .f32⟩
  | 71 => ⟨S2x2048x1, .f32⟩
  | 72 => ⟨S2x2048x2048, .f32⟩
  | 73 => ⟨S2x2048x2048, .f32⟩
  | 74 => ⟨S2x2048x1, .f32⟩
  | 75 => ⟨S_, .f32⟩
  | 76 => ⟨S2x2048x1, .f32⟩
  | 77 => ⟨S2x2048x1, .f32⟩
  | 78 => ⟨S_, .f32⟩
  | 79 => ⟨S2x2048, .f32⟩
  | 80 => ⟨S2x2048x2048, .f32⟩
  | 81 => ⟨S2x2048x2048, .f32⟩
  | 82 => ⟨S2x2048x2048, .f32⟩
  | 83 => ⟨S2x2048x2048, .f32⟩
  | 84 => ⟨S2x2048x2048, .f32⟩
  | 85 => ⟨S2x2048x2048, .f32⟩
  | 86 => ⟨S_, .f32⟩
  | 87 => ⟨S2x2048, .f32⟩
  | 88 => ⟨S2x2048x1, .f32⟩
  | 89 => ⟨S_, .f32⟩
  | 90 => ⟨S2x2048x1, .f32⟩
  | 91 => ⟨S2x2048x1, .f32⟩
  | 92 => ⟨S_, .f32⟩
  | 93 => ⟨S2x2048, .f32⟩
  | 94 => ⟨S2x2048x2048, .f32⟩
  | 95 => ⟨S2x2048x2048, .f32⟩
  | 96 => ⟨S2x2048x2048, .f32⟩
  | 97 => ⟨S2x2048x2048, .f32⟩
  | 98 => ⟨S_, .f32⟩
  | 99 => ⟨S2x2048x2048, .f32⟩
  | 100 => ⟨S2x2048x2048, .f32⟩
  | 101 => ⟨S2x2048x2048, .f32⟩
  | 102 => ⟨S_, .f32⟩
  | 103 => ⟨S2x2048x2048, .f32⟩
  | 104 => ⟨S2x2048x2048, .f32⟩
  | 105 => ⟨S_, .f32⟩
  | 106 => ⟨S2x2048x2048, .f32⟩
  | 107 => ⟨S2x2048x2048, .f32⟩
  | 108 => ⟨S2x2048x2048, .f32⟩
  | 109 => ⟨S2x2048x2048, .f32⟩
  | 110 => ⟨S2x2048x2048, .f32⟩
  | 111 => ⟨S_, .f32⟩
  | 112 => ⟨S2x2048x2048, .f32⟩
  | 113 => ⟨S2x2048x2048, .f32⟩
  | 114 => ⟨S2x2048x2048, .f32⟩
  | 115 => ⟨S_, .f32⟩
  | 116 => ⟨S2x2048x2048, .f32⟩
  | 117 => ⟨S2x2048x2048, .f32⟩
  | 118 => ⟨S_, .f32⟩
  | 119 => ⟨S2x2048x2048, .f32⟩
  | 120 => ⟨S2x2048x2048, .f32⟩
  | 121 => ⟨S2x2048x2048, .f32⟩
  | 122 => ⟨S1x2048, .f32⟩
  | 123 => ⟨S1x2048, .f32⟩
  | 124 => ⟨S2x256x1024, .f32⟩
  | 125 => ⟨S2x256x1024, .f32⟩
  | 126 => ⟨S2x256x2048, .f32⟩
  | 127 => ⟨S512x2048, .f32⟩
  | _ => ⟨S4096x5120, .f32⟩

abbrev hbmTy0_2 (i : Nat) : BufTy := match i % 128 with
  | 0 => ⟨S2x2048x5120, .f32⟩
  | 1 => ⟨S4096x5120, .f32⟩
  | _ => ⟨S4096x5120, .f32⟩

abbrev hbmTy (i : Nat) : BufTy := match i / 128 with
  | 0 => hbmTy0_0 i
  | 1 => hbmTy0_1 i
  | 2 => hbmTy0_2 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c : Ref sig .tc := ⟨.hbm, 78, rfl⟩
abbrev main_v59 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_call1_v0 : Ref sig .tc := ⟨.hbm, 91, rfl⟩
abbrev main_v62_1 : Ref sig .tc := ⟨.hbm, 92, rfl⟩
abbrev main_call1_v2 : Ref sig .tc := ⟨.hbm, 93, rfl⟩
abbrev main_v62_0 : Ref sig .tc := ⟨.hbm, 94, rfl⟩
abbrev main_call1_cst : Ref sig .tc := ⟨.hbm, 95, rfl⟩
abbrev main_v62_2 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_16 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_17 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_19 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_20 : Ref sig .tc := ⟨.hbm, 169, rfl⟩
abbrev main_v127 : Ref sig .tc := ⟨.hbm, 170, rfl⟩
abbrev main_v128 : Ref sig .tc := ⟨.hbm, 171, rfl⟩
abbrev main_cst_21 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_call2_cst : Ref sig .tc := ⟨.hbm, 179, rfl⟩
abbrev main_call2_v0 : Ref sig .tc := ⟨.hbm, 180, rfl⟩
abbrev main_v135 : Ref sig .tc := ⟨.hbm, 181, rfl⟩
abbrev main_v136 : Ref sig .tc := ⟨.hbm, 182, rfl⟩
abbrev main_cst_22 : Ref sig .tc := ⟨.hbm, 183, rfl⟩
abbrev main_v137 : Ref sig .tc := ⟨.hbm, 184, rfl⟩
abbrev main_v138 : Ref sig .tc := ⟨.hbm, 185, rfl⟩
abbrev main_cst_23 : Ref sig .tc := ⟨.hbm, 186, rfl⟩
abbrev main_v139 : Ref sig .tc := ⟨.hbm, 187, rfl⟩
abbrev main_v140 : Ref sig .tc := ⟨.hbm, 188, rfl⟩
abbrev main_cst_24 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_25 : Ref sig .tc := ⟨.hbm, 194, rfl⟩
abbrev main_v145 : Ref sig .tc := ⟨.hbm, 195, rfl⟩
abbrev main_v146 : Ref sig .tc := ⟨.hbm, 196, rfl⟩
abbrev main_cst_26 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_27 : Ref sig .tc := ⟨.hbm, 203, rfl⟩
abbrev main_v152 : Ref sig .tc := ⟨.hbm, 204, rfl⟩
abbrev main_v153 : Ref sig .tc := ⟨.hbm, 205, rfl⟩
abbrev main_cst_28 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_29 : Ref sig .tc := ⟨.hbm, 214, rfl⟩
abbrev main_v161 : Ref sig .tc := ⟨.hbm, 215, rfl⟩
abbrev main_v162 : Ref sig .tc := ⟨.hbm, 216, rfl⟩
abbrev main_cst_30 : Ref sig .tc := ⟨.hbm, 217, rfl⟩
abbrev main_v163 : Ref sig .tc := ⟨.hbm, 218, rfl⟩
abbrev main_v164 : Ref sig .tc := ⟨.hbm, 219, rfl⟩
abbrev main_cst_31 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_32 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_33 : Ref sig .tc := ⟨.hbm, 230, rfl⟩
abbrev main_v173 : Ref sig .tc := ⟨.hbm, 231, rfl⟩
abbrev main_v174 : Ref sig .tc := ⟨.hbm, 232, rfl⟩
abbrev main_cst_34 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_35 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_36 : Ref sig .tc := ⟨.hbm, 243, rfl⟩
abbrev main_v183 : Ref sig .tc := ⟨.hbm, 244, rfl⟩
abbrev main_v184 : Ref sig .tc := ⟨.hbm, 245, rfl⟩
abbrev main_cst_37 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩

abbrev nD : Nat := 1
abbrev τ : Topo := Topo.v7x

variable {F : FTy → Type} [FloatOps F]
-- ==== Kernel2.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S512x1024 : Shape := ⟨2, ![512, 1024]⟩
abbrev S3x512x5632 : Shape := ⟨3, ![3, 512, 5632]⟩
abbrev S3 : Shape := ⟨1, ![3]⟩
abbrev S1 : Shape := ⟨1, ![1]⟩
abbrev S_ : Shape := ⟨0, ![]⟩
abbrev S1x512x5632 : Shape := ⟨3, ![1, 512, 5632]⟩
abbrev S512x5632 : Shape := ⟨2, ![512, 5632]⟩
abbrev S1024x5632 : Shape := ⟨2, ![1024, 5632]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S1x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x5632, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S3x512x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_35 : BitVec 32 := 0#32
  c0_i32_35
def k0_mult2 : BitVec 32 :=
  let c512_i32_41 : BitVec 32 := 512#32
  c512_i32_41
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_35 : BitVec 32 := 2#32
  let v75 : BitVec 32 := Scalar.addi arg0 c2_i32_35
  let c512_i32_43 : BitVec 32 := 512#32
  let v87 : BitVec 32 := Scalar.muli v75 c512_i32_43
  v87
def k0_off1 (i : grid0.Coords) : Fin 1 → Nat :=
  let arg0 : BitVec 32 := BitVec.ofNat 32 (i 0).val
  let c2_i32_36 : BitVec 32 := 2#32
  let v76 : BitVec 32 := Scalar.addi arg0 c2_i32_36
  let c3_i32_37 : BitVec 32 := 3#32
  let c0_i32_38 : BitVec 32 := 0#32
  let v77 : BitVec 1 := Scalar.cmpi .eq c3_i32_37 c0_i32_38
  let c1_i32_39 : BitVec 32 := 1#32
  let v78 : BitVec 32 := Scalar.select v77 c1_i32_39 c3_i32_37
  let v79 : BitVec 32 := Scalar.remsi v76 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  ![v86.toNat]
def k0_off2 (i : grid0.Coords) : Fin 3 → Nat :=
  let arg0 : BitVec 32 := BitVec.ofNat 32 (i 0).val
  let c2_i32_36 : BitVec 32 := 2#32
  let v76 : BitVec 32 := Scalar.addi arg0 c2_i32_36
  let c3_i32_37 : BitVec 32 := 3#32
  let c0_i32_38 : BitVec 32 := 0#32
  let v77 : BitVec 1 := Scalar.cmpi .eq c3_i32_37 c0_i32_38
  let c1_i32_39 : BitVec 32 := 1#32
  let v78 : BitVec 32 := Scalar.select v77 c1_i32_39 c3_i32_37
  let v79 : BitVec 32 := Scalar.remsi v76 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  let c0_i32_44 : BitVec 32 := 0#32
  let c0_i32_45 : BitVec 32 := 0#32
  ![v86.toNat, 0, 0]
def k0_off3 (i : grid0.Coords) : Fin 2 → Nat :=
  let arg0 : BitVec 32 := BitVec.ofNat 32 (i 0).val
  let c2_i32_35 : BitVec 32 := 2#32
  let v75 : BitVec 32 := Scalar.addi arg0 c2_i32_35
  let c512_i32_43 : BitVec 32 := 512#32
  let v87 : BitVec 32 := Scalar.muli v75 c512_i32_43
  let v88 : BitVec 32 := v87
  let c0_i32_46 : BitVec 32 := 0#32
  ![v88.toNat, 0]
def k0_mult4 (i : grid0.Coords) : BitVec 32 :=
  let arg0 : BitVec 32 := BitVec.ofNat 32 (i 0).val
  let c512_i32 : BitVec 32 := 512#32
  let v17 : BitVec 32 := Scalar.muli arg0 c512_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c512_i32 : BitVec 32 := 512#32
  let v17 : BitVec 32 := Scalar.muli arg0 c512_i32
  let v18 : BitVec 32 := v17
  let c0_i32_8 : BitVec 32 := 0#32
  ![v18.toNat, 0]
def k0_off7 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v24 : Index := Scalar.indexCast v16
  let c0 : Index := 0#32
  let c0_9 : Index := 0#32
  ![v24.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .bf16⟩
  | .hbm, ⟨6, _⟩ => ⟨S1024x5632, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S4096x1024 : Shape := ⟨2, ![4096, 1024]⟩
abbrev S1x2816x1024 : Shape := ⟨3, ![1, 2816, 1024]⟩
abbrev S4096x2816 : Shape := ⟨2, ![4096, 2816]⟩
abbrev S4096x5632 : Shape := ⟨2, ![4096, 5632]⟩
abbrev S512x1024 : Shape := ⟨2, ![512, 1024]⟩
abbrev S512x5632 : Shape := ⟨2, ![512, 5632]⟩
abbrev S3x512x2816 : Shape := ⟨3, ![3, 512, 2816]⟩
abbrev S3 : Shape := ⟨1, ![3]⟩
abbrev S1 : Shape := ⟨1, ![1]⟩
abbrev S_ : Shape := ⟨0, ![]⟩
abbrev S1x512x2816 : Shape := ⟨3, ![1, 512, 2816]⟩
abbrev S512x2816 : Shape := ⟨2, ![512, 2816]⟩
abbrev S1x1408x1024 : Shape := ⟨3, ![1, 1408, 1024]⟩
abbrev S1408x1024 : Shape := ⟨2, ![1408, 1024]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .hbm, ⟨3, _⟩ => ⟨S4096x2816, .bf16⟩
  | .hbm, ⟨4, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1x2816x1024, .bf16⟩
  | .local _ .vmem, ⟨3, _⟩ => ⟨S512x5632, .bf16⟩
  | .local _ .vmem, ⟨4, _⟩ => ⟨S512x5632, .bf16⟩
  | .local _ .vmem, ⟨5, _⟩ => ⟨S3x512x2816, .bf16⟩
  | .local _ .vmem, ⟨6, _⟩ => ⟨S3x512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_50 : BitVec 32 := 0#32
  c0_i32_50
def k0_mult2 : BitVec 32 :=
  let c512_i32_61 : BitVec 32 := 512#32
  c512_i32_61
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_50 : BitVec 32 := 2#32
  let v93 : BitVec 32 := Scalar.addi arg0 c2_i32_50
  let c512_i32_58 : BitVec 32 := 512#32
  let v105 : BitVec 32 := Scalar.muli v93 c512_i32_58
  v105
def k0_off1 (i : grid0.Coords) : Fin 1 → Nat :=
  let arg0 : BitVec 32 := BitVec.ofNat 32 (i 0).val
  let c2_i32_51 : BitVec 32 := 2#32
  let v94 : BitVec 32 := Scalar.addi arg0 c2_i32_51
  let c3_i32_52 : BitVec 32 := 3#32
  let c0_i32_53 : BitVec 32 := 0#32
  let v95 : BitVec 1 := Scalar.cmpi .eq c3_i32_52 c0_i32_53
  let c1_i32_54 : BitVec 32 := 1#32
  let v96 : BitVec 32 := Scalar.select v95 c1_i32_54 c3_i32_52
  let v97 : BitVec 32 := Scalar.remsi v94 v96
  let c0_i32_56 : BitVec 32 := 0#32
  let v99 : BitVec 1 := Scalar.cmpi .slt v97 c0_i32_56
  let c0_i32_57 : BitVec 32 := 0#32
  let v100 : BitVec 1 := Scalar.cmpi .slt v96 c0_i32_57
  let v101 : BitVec 1 := Scalar.xori v99 v100
  let c0_i32_55 : BitVec 32 := 0#32
  let v98 : BitVec 1 := Scalar.cmpi .ne v97 c0_i32_55
  let v102 : BitVec 1 := Scalar.andi v101 v98
  let v103 : BitVec 32 := Scalar.addi v97 v96
  let v104 : BitVec 32 := Scalar.select v102 v103 v97
  ![v104.toNat]
def k0_off2 (i : grid0.Coords) : Fin 3 → Nat :=
  let arg0 : BitVec 32 := BitVec.ofNat 32 (i 0).val
  let c2_i32_51 : BitVec 32 := 2#32
  let v94 : BitVec 32 := Scalar.addi arg0 c2_i32_51
  let c3_i32_52 : BitVec 32 := 3#32
  let c0_i32_53 : BitVec 32 := 0#32
  let v95 : BitVec 1 := Scalar.cmpi .eq c3_i32_52 c0_i32_53
  let c1_i32_54 : BitVec 32 := 1#32
  let v96 : BitVec 32 := Scalar.select v95 c1_i32_54 c3_i32_52
  let v97 : BitVec 32 := Scalar.remsi v94 v96
  let c0_i32_56 : BitVec 32 := 0#32
  let v99 : BitVec 1 := Scalar.cmpi .slt v97 c0_i32_56
  let c0_i32_57 : BitVec 32 := 0#32
  let v100 : BitVec 1 := Scalar.cmpi .slt v96 c0_i32_57
  let v101 : BitVec 1 := Scalar.xori v99 v100
  let c0_i32_55 : BitVec 32 := 0#32
  let v98 : BitVec 1 := Scalar.cmpi .ne v97 c0_i32_55
  let v102 : BitVec 1 := Scalar.andi v101 v98
  let v103 : BitVec 32 := Scalar.addi v97 v96
  let v104 : BitVec 32 := Scalar.select v102 v103 v97
  let c0_i32_59 : BitVec 32 := 0#32
  let c0_i32_60 : BitVec 32 := 0#32
  ![v104.toNat, 0, 0]
def k0_off3 (i : grid0.Coords) : Fin 2 → Nat :=
  let arg0 : BitVec 32 := BitVec.ofNat 32 (i 0).val
  let c2_i32_50 : BitVec 32 := 2#32
  let v93 : BitVec 32 := Scalar.addi arg0 c2_i32_50
  let c512_i32_58 : BitVec 32 := 512#32
  let v105 : BitVec 32 := Scalar.muli v93 c512_i32_58
  let v106 : BitVec 32 := v105
  let c0_i32_61 : BitVec 32 := 0#32
  ![v106.toNat, 0]
def k0_mult4 (i : grid0.Coords) : BitVec 32 :=
  let arg0 : BitVec 32 := BitVec.ofNat 32 (i 0).val
  let c512_i32 : BitVec 32 := 512#32
  let v17 : BitVec 32 := Scalar.muli arg0 c512_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c512_i32 : BitVec 32 := 512#32
  let v17 : BitVec 32 := Scalar.muli arg0 c512_i32
  let v18 : BitVec 32 := v17
  let c0_i32_8 : BitVec 32 := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S1x2816x1024 : Shape := ⟨3, ![1, 2816, 1024]⟩
abbrev S4096x2816 : Shape := ⟨2, ![4096, 2816]⟩
abbrev S2816x1024 : Shape := ⟨2, ![2816, 1024]⟩
abbrev S_ : Shape := ⟨0, ![]⟩
abbrev S4096x5632 : Shape := ⟨2, ![4096, 5632]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .hbm, ⟨3, _⟩ => ⟨S4096x2816, .bf16⟩
  | .hbm, ⟨4, _⟩ => ⟨S2816x1024, .bf16⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x5632, .f32⟩
  | .hbm, ⟨37, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel4.lean ====
abbrev S4096x1024 : Shape := ⟨2, ![4096, 1024]⟩
abbrev S1x1024x5632 : Shape := ⟨3, ![1, 1024, 5632]⟩
abbrev S4096x2816 : Shape := ⟨2, ![4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | .local _ .vmem, ⟨8, _⟩ => ⟨S1024x2816, .bf16⟩
  | .local _ .vmem, ⟨9, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x1024, .f32⟩
  | .hbm, ⟨3, _⟩ => ⟨S1024x5632, .bf16⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S4096x2816, .bf16⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel5.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S2816x1024 : Shape := ⟨2, ![2816, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel6.lean ====
abbrev S4096x1024 : Shape := ⟨2, ![4096, 1024]⟩
abbrev S1x1024x5120 : Shape := ⟨3, ![1, 1024, 5120]⟩
abbrev S4096x5120 : Shape := ⟨2, ![4096, 5120]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x5120, .bf16⟩
  | .hbm, ⟨2, _⟩ => ⟨S4096x5120, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1x1024x5120 : Shape := ⟨3, ![1, 1024, 5120]⟩
abbrev S1024x5120 : Shape := ⟨2, ![1024, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5120, .bf16⟩
  | .hbm, ⟨2, _⟩ => ⟨S4096x1024, .f32⟩
  | .hbm, ⟨3, _⟩ => ⟨S1024x5120, .bf16⟩
  | .hbm, ⟨4, _⟩ => ⟨S1024x5120, .f32⟩
  | .hbm, ⟨5, _⟩ => ⟨S4096x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x3072 : Shape := ⟨2, ![4096, 3072]⟩
abbrev S1x3072x1024 : Shape := ⟨3, ![1, 3072, 1024]⟩
abbrev S4096x1024 : Shape := ⟨2, ![4096, 1024]⟩
abbrev S1x1024 : Shape := ⟨2, ![1, 1024]⟩
abbrev S1024x3072 : Shape := ⟨2, ![1024, 3072]⟩
abbrev S1024x1024 : Shape := ⟨2, ![1024, 1024]⟩
abbrev S3072x1024 : Shape := ⟨2, ![3072, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S1x3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1x3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4096x3072 : Shape := ⟨2, ![4096, 3072]⟩
abbrev S1x3072x1024 : Shape := ⟨3, ![1, 3072, 1024]⟩
abbrev S4096x1024 : Shape := ⟨2, ![4096, 1024]⟩
abbrev S1x1024 : Shape := ⟨2, ![1, 1024]⟩
abbrev S3072x1024 : Shape := ⟨2, ![3072, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x3072x1024, .bf16⟩
  | .hbm, ⟨2, _⟩ => ⟨S4096x1024, .f32⟩
  | .hbm, ⟨3, _⟩ => ⟨S1x1024, .f32⟩
  | .hbm, ⟨4, _⟩ => ⟨S4096x3072, .f32⟩
  | .hbm, ⟨5, _⟩ => ⟨S3072x1024, .bf16⟩
  | .hbm, ⟨6, _⟩ => ⟨S3072x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S4096x1024 : Shape := ⟨2, ![4096, 1024]⟩
abbrev S1x3072x1024 : Shape := ⟨3, ![1, 3072, 1024]⟩
abbrev S4096x3072 : Shape := ⟨2, ![4096, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x3072x1024, .bf16⟩
  | .hbm, ⟨2, _⟩ => ⟨S4096x3072, .f32⟩
  | .local _ .vmem, ⟨0, _⟩ => ⟨S2048x1024, .f32⟩
  | .local _ .vmem, ⟨1, _⟩ => ⟨S2048x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1x3072x1024 : Shape := ⟨3, ![1, 3072, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x3072x1024, .bf16⟩
  | .hbm, ⟨2, _⟩ => ⟨S3072x1024, .bf16⟩
  | .hbm, ⟨3, _⟩ => ⟨S3072x1024, .f32⟩
  | .hbm, ⟨4, _⟩ => ⟨S_, .f32⟩
  | .hbm, ⟨5, _⟩ => ⟨S4096x3072, .f32⟩
  | .hbm, ⟨6, _⟩ => ⟨S4096x1024, .f32⟩
  | .hbm, ⟨7, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S208x1024 : Shape := ⟨2, ![208, 1024]⟩

abbrev nBuf : Space → Nat
  | .hbm => 7
  | .vmem => 7
  | .smem => 0
  | _ => 0

abbrev bufTy : (tb : Table) → Fin (tcTables nBuf tb) → BufTy
  | .hbm, ⟨0, _⟩ => ⟨S208x1024, .f32⟩
  | .hbm, ⟨1, _⟩ => ⟨S208x1024, .f32⟩
  | .hbm, ⟨2, _⟩ => ⟨S208x1024, .f32⟩
  | .hbm, ⟨3, _⟩ => ⟨S208x1024, .f32⟩
  | .hbm, ⟨4, _⟩ => ⟨S208x1024, .f32⟩
  | .hbm, ⟨5, _⟩ => ⟨S208x1024, .f32⟩
  | .hbm, ⟨6, _⟩ => ⟨S208x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | _, _ => ⟨S208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S208x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S208x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S208x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S208x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S208x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S208x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S208x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S208x1024 : Shape := ⟨2, ![208, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S208x1024, .f32⟩
  | .hbm, ⟨1, _⟩ => ⟨S208x1024, .f32⟩
  | .hbm, ⟨2, _⟩ => ⟨S208x1024, .f32⟩
  | .hbm, ⟨3, _⟩ => ⟨S208x1024, .f32⟩
  | .hbm, ⟨4, _⟩ => ⟨S_, .f32⟩
  | .hbm, ⟨5, _⟩ => ⟨S208x1024, .f32⟩
  | .hbm, ⟨6, _⟩ => ⟨S208x1024, .f32⟩
  | .hbm, ⟨7, _⟩ => ⟨S_, .f32⟩
  | .hbm, ⟨8, _⟩ => ⟨S208x1024, .f32⟩
  | .hbm, ⟨9, _⟩ => ⟨S208x1024, .f32⟩
  | .hbm, ⟨10, _⟩ => ⟨S208x1024, .f32⟩
  | .hbm, ⟨11, _⟩ => ⟨S_, .f32⟩
  | .hbm, ⟨12, _⟩ => ⟨S208x1024, .f32⟩
  | .hbm, ⟨13, _⟩ => ⟨S208x1024, .f32⟩
  | .hbm, ⟨14, _⟩ => ⟨S208x1024, .f32⟩
  | .hbm, ⟨15, _⟩ => ⟨S_, .f32⟩
  | .hbm, ⟨16, _⟩ => ⟨S208x1024, .f32⟩
  | .hbm, ⟨17, _⟩ => ⟨S208x1024, .f32⟩
  | .hbm, ⟨18, _⟩ => ⟨S208x1024, .f32⟩
  | .hbm, ⟨19, _⟩ => ⟨S_, .f32⟩
  | .hbm, ⟨20, _⟩ => ⟨S208x1024, .f32⟩
  | .hbm, ⟨21, _⟩ => ⟨S208x1024, .f32⟩
  | .hbm, ⟨22, _⟩ => ⟨S_, .f32⟩
  | .hbm, ⟨23, _⟩ => ⟨S208x1024, .f32⟩
  | .hbm, ⟨24, _⟩ => ⟨S208x1024, .f32⟩
  | .hbm, ⟨25, _⟩ => ⟨S208x1024, .f32⟩
  | .hbm, ⟨26, _⟩ => ⟨S_, .f32⟩
  | .hbm, ⟨27, _⟩ => ⟨S208x1024, .f32⟩
  | .hbm, ⟨28, _⟩ => ⟨S208x1024, .f32⟩
  | .hbm, ⟨29, _⟩ => ⟨S208x1024, .f32⟩
  | .hbm, ⟨30, _⟩ => ⟨S_, .f32⟩
  | .hbm, ⟨31, _⟩ => ⟨S208x1024, .f32⟩
  | .hbm, ⟨32, _⟩ => ⟨S208x1024, .f32⟩
  | .hbm, ⟨33, _⟩ => ⟨S208x1024, .f32⟩
  | .hbm, ⟨34, _⟩ => ⟨S_, .f32⟩
  | .hbm, ⟨35, _⟩ => ⟨S208x1024, .f32⟩
  | .hbm, ⟨36, _⟩ => ⟨S208x1024, .f32⟩
  | _, _ => ⟨S208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x1280 : Shape := ⟨2, ![1024, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2048x512 : Shape := ⟨2, ![2048, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S768x1024 : Shape := ⟨2, ![768, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x5120 : Shape := ⟨2, ![4096, 5120]⟩
abbrev S1x2048 : Shape := ⟨2, ![1, 2048]⟩
abbrev S8x128x128 : Shape := ⟨3, ![8, 128, 128]⟩
abbrev S8x128 : Shape := ⟨2, ![8, 128]⟩
abbrev S512x2048 : Shape := ⟨2, ![512, 2048]⟩
abbrev S4096x3072 : Shape := ⟨2, ![4096, 3072]⟩
abbrev S256x5120 : Shape := ⟨2, ![256, 5120]⟩
abbrev S256x2048 : Shape := ⟨2, ![256, 2048]⟩
abbrev S256x3072 : Shape := ⟨2, ![256, 3072]⟩
abbrev S1x256 : Shape := ⟨2, ![1, 256]⟩
abbrev S1x128x128 : Shape := ⟨3, ![1, 128, 128]⟩
abbrev S128x128 : Shape := ⟨2, ![128, 128]⟩
abbrev S1x128 : Shape := ⟨2, ![1, 128]⟩
abbrev S256x256 : Shape := ⟨2, ![256, 256]⟩
abbrev S128x5120 : Shape := ⟨2, ![128, 5120]⟩
abbrev S128x256 : Shape := ⟨2, ![128, 256]⟩
abbrev S128 : Shape := ⟨1, ![128]⟩
abbrev S128x1 : Shape := ⟨2, ![128, 1]⟩
abbrev S128x3072 : Shape := ⟨2, ![128, 3072]⟩

abbrev nBuf : Space → Nat
  | .hbm => 7
  | .vmem => 10
  | .smem => 0
  | _ => 0

abbrev bufTy : (tb : Table) → Fin (tcTables nBuf tb) → BufTy
  | .hbm, ⟨0, _⟩ => ⟨S4096x5120, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S512x2048, .f32⟩
  | .hbm, ⟨6, _⟩ => ⟨S4096x3072, .bf16⟩
  | .local _ .vmem, ⟨0, _⟩ => ⟨S256x5120, .f32⟩
  | .local _ .vmem, ⟨1, _⟩ => ⟨S256x5120, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x3072, .bf16⟩
  | .local _ .vmem, ⟨9, _⟩ => ⟨S256x3072, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4096x5120 : Shape := ⟨2, ![4096, 5120]⟩
abbrev S1x2048 : Shape := ⟨2, ![1, 2048]⟩
abbrev S8x128x128 : Shape := ⟨3, ![8, 128, 128]⟩
abbrev S8x128 : Shape := ⟨2, ![8, 128]⟩
abbrev S512x2048 : Shape := ⟨2, ![512, 2048]⟩
abbrev S2x2048x5120 : Shape := ⟨3, ![2, 2048, 5120]⟩
abbrev S2x2048x2048 : Shape := ⟨3, ![2, 2048, 2048]⟩
abbrev S2x2048x1024 : Shape := ⟨3, ![2, 2048, 1024]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩
abbrev S2x2048x4x256 : Shape := ⟨4, ![2, 2048, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x2048x3072 : Shape := ⟨3, ![2, 2048, 3072]⟩
abbrev S4096x3072 : Shape := ⟨2, ![4096, 3072]⟩

abbrev nBuf : Space → Nat
  | .hbm => 114
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128, .f32⟩
  | .hbm, ⟨5, _⟩ => ⟨S512x2048, .f32⟩
  | .hbm, ⟨6, _⟩ => ⟨S2x2048x5120, .f32⟩
  | .hbm, ⟨7, _⟩ => ⟨S2x2048x2048, .f32⟩
  | .hbm, ⟨8, _⟩ => ⟨S2x2048x2048, .f32⟩
  | .hbm, ⟨9, _⟩ => ⟨S2x2048x1024, .f32⟩
  | .hbm, ⟨10, _⟩ => ⟨S2x256x2048, .f32⟩
  | .hbm, ⟨11, _⟩ => ⟨S2x256x1024, .f32⟩
  | .hbm, ⟨12, _⟩ => ⟨S2x256x1024, .f32⟩
  | .hbm, ⟨13, _⟩ => ⟨S2x256x4x256, .f32⟩
  | .hbm, ⟨14, _⟩ => ⟨S2x256x4x256, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048x2048, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S_, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S_, .f32⟩
  | .hbm, ⟨40, _⟩ => ⟨S2x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S_, .f32⟩
  | .hbm, ⟨55, _⟩ => ⟨S2x2048x1, .f32⟩
  | .hbm, ⟨56, _⟩ => ⟨S2x2048x1, .f32⟩
  | .hbm, ⟨57, _⟩ => ⟨S2x2048x1, .f32⟩
  | .hbm, ⟨58, _⟩ => ⟨S2x2048x2048, .f32⟩
  | .hbm, ⟨59, _⟩ => ⟨S2x2048x2048, .f32⟩
  | .hbm, ⟨60, _⟩ => ⟨S1x1x2048, .f32⟩
  | .hbm, ⟨61, _⟩ => ⟨S2x2048x2048, .f32⟩
  | .hbm, ⟨62, _⟩ => ⟨S2x2048x2048, .f32⟩
  | .hbm, ⟨63, _⟩ => ⟨S1x1x2048, .f32⟩
  | .hbm, ⟨64, _⟩ => ⟨S2x2048x2048, .f32⟩
  | .hbm, ⟨65, _⟩ => ⟨S2x2048x2048, .f32⟩
  | .hbm, ⟨66, _⟩ => ⟨S2x16x128x8x256, .f32⟩
  | .hbm, ⟨67, _⟩ => ⟨S_, .i1⟩
  | .hbm, ⟨68, _⟩ => ⟨S128x128, .i1⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .i1⟩
  | .hbm, ⟨76, _⟩ => ⟨S128x128, .i1⟩
  | .hbm, ⟨77, _⟩ => ⟨S128x128, .i1⟩
  | .hbm, ⟨78, _⟩ => ⟨S1x128x128, .i1⟩
  | .hbm, ⟨79, _⟩ => ⟨S_, .f32⟩
  | .hbm, ⟨80, _⟩ => ⟨S_, .f32⟩
  | .hbm, ⟨81, _⟩ => ⟨S8x128x128, .i1⟩
  | .hbm, ⟨82, _⟩ => ⟨S8x128x128, .f32⟩
  | .hbm, ⟨83, _⟩ => ⟨S8x128x128, .f32⟩
  | .hbm, ⟨84, _⟩ => ⟨S8x2x16x256x128, .f32⟩
  | .hbm, ⟨85, _⟩ => ⟨S2x16x128x8x256, .f32⟩
  | .hbm, ⟨86, _⟩ => ⟨S128x8, .f32⟩
  | .hbm, ⟨87, _⟩ => ⟨S1x1x128x8x1, .f32⟩
  | .hbm, ⟨88, _⟩ => ⟨S2x16x128x8x256, .f32⟩
  | .hbm, ⟨89, _⟩ => ⟨S2x16x128x8x256, .f32⟩
  | .hbm, ⟨90, _⟩ => ⟨S2x2048x2048, .f32⟩
  | .hbm, ⟨91, _⟩ => ⟨S2x2048x2048, .f32⟩
  | .hbm, ⟨92, _⟩ => ⟨S2x2048x4x256, .f32⟩
  | .hbm, ⟨93, _⟩ => ⟨S2x4x2048x256, .f32⟩
  | .hbm, ⟨94, _⟩ => ⟨S_, .f32⟩
  | .hbm, ⟨95, _⟩ => ⟨S2x4x2048x256, .f32⟩
  | .hbm, ⟨96, _⟩ => ⟨S2x4x2048x256, .f32⟩
  | .hbm, ⟨97, _⟩ => ⟨S_, .f32⟩
  | .hbm, ⟨98, _⟩ => ⟨S2x4x2048, .f32⟩
  | .hbm, ⟨99, _⟩ => ⟨S2x4x2048x1, .f32⟩
  | .hbm, ⟨100, _⟩ => ⟨S2x4x2048x256, .f32⟩
  | .hbm, ⟨101, _⟩ => ⟨S2x4x2048x256, .f32⟩
  | .hbm, ⟨102, _⟩ => ⟨S2x4x2048x256, .f32⟩
  | .hbm, ⟨103, _⟩ => ⟨S_, .f32⟩
  | .hbm, ⟨104, _⟩ => ⟨S2x4x2048, .f32⟩
  | .hbm, ⟨105, _⟩ => ⟨S2x4x2048x1, .f32⟩
  | .hbm, ⟨106, _⟩ => ⟨S2x4x2048x256, .f32⟩
  | .hbm, ⟨107, _⟩ => ⟨S2x4x2048x256, .f32⟩
  | .hbm, ⟨108, _⟩ => ⟨S2x4x256x2048, .f32⟩
  | .hbm, ⟨109, _⟩ => ⟨S2x2048x4x256, .f32⟩
  | .hbm, ⟨110, _⟩ => ⟨S2x2048x1024, .f32⟩
  | .hbm, ⟨111, _⟩ => ⟨S2x2048x3072, .f32⟩
  | .hbm, ⟨112, _⟩ => ⟨S4096x3072, .f32⟩
  | .hbm, ⟨113, _⟩ => ⟨S4096x3072, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_v50 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel17.lean ====
abbrev S4096x5120 : Shape := ⟨2, ![4096, 5120]⟩
abbrev S1x1024x5120 : Shape := ⟨3, ![1, 1024, 5120]⟩
abbrev S4096x1024 : Shape := ⟨2, ![4096, 1024]⟩
abbrev S1x1024 : Shape := ⟨2, ![1, 1024]⟩
abbrev S512x1024 : Shape := ⟨2, ![512, 1024]⟩
abbrev S3x512x5120 : Shape := ⟨3, ![3, 512, 5120]⟩
abbrev S3 : Shape := ⟨1, ![3]⟩
abbrev S1 : Shape := ⟨1, ![1]⟩
abbrev S_ : Shape := ⟨0, ![]⟩
abbrev S1x512x5120 : Shape := ⟨3, ![1, 512, 5120]⟩
abbrev S512x5120 : Shape := ⟨2, ![512, 5120]⟩
abbrev S1024x5120 : Shape := ⟨2, ![1024, 5120]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S1x1024x5120, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x5120, .bf16⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S3x512x5120, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_35 : BitVec 32 := 0#32
  c0_i32_35
def k0_mult2 : BitVec 32 :=
  let c512_i32_41 : BitVec 32 := 512#32
  c512_i32_41
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_35 : BitVec 32 := 2#32
  let v75 : BitVec 32 := Scalar.addi arg0 c2_i32_35
  let c512_i32_43 : BitVec 32 := 512#32
  let v87 : BitVec 32 := Scalar.muli v75 c512_i32_43
  v87
def k0_off1 (i : grid0.Coords) : Fin 1 → Nat :=
  let arg0 : BitVec 32 := BitVec.ofNat 32 (i 0).val
  let c2_i32_36 : BitVec 32 := 2#32
  let v76 : BitVec 32 := Scalar.addi arg0 c2_i32_36
  let c3_i32_37 : BitVec 32 := 3#32
  let c0_i32_38 : BitVec 32 := 0#32
  let v77 : BitVec 1 := Scalar.cmpi .eq c3_i32_37 c0_i32_38
  let c1_i32_39 : BitVec 32 := 1#32
  let v78 : BitVec 32 := Scalar.select v77 c1_i32_39 c3_i32_37
  let v79 : BitVec 32 := Scalar.remsi v76 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  ![v86.toNat]
def k0_off2 (i : grid0.Coords) : Fin 3 → Nat :=
  let arg0 : BitVec 32 := BitVec.ofNat 32 (i 0).val
  let c2_i32_36 : BitVec 32 := 2#32
  let v76 : BitVec 32 := Scalar.addi arg0 c2_i32_36
  let c3_i32_37 : BitVec 32 := 3#32
  let c0_i32_38 : BitVec 32 := 0#32
  let v77 : BitVec 1 := Scalar.cmpi .eq c3_i32_37 c0_i32_38
  let c1_i32_39 : BitVec 32 := 1#32
  let v78 : BitVec 32 := Scalar.select v77 c1_i32_39 c3_i32_37
  let v79 : BitVec 32 := Scalar.remsi v76 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  let c0_i32_44 : BitVec 32 := 0#32
  let c0_i32_45 : BitVec 32 := 0#32
  ![v86.toNat, 0, 0]
def k0_off3 (i : grid0.Coords) : Fin 2 → Nat :=
  let arg0 : BitVec 32 := BitVec.ofNat 32 (i 0).val
  let c2_i32_35 : BitVec 32 := 2#32
  let v75 : BitVec 32 := Scalar.addi arg0 c2_i32_35
  let c512_i32_43 : BitVec 32 := 512#32
  let v87 : BitVec 32 := Scalar.muli v75 c512_i32_43
  let v88 : BitVec 32 := v87
  let c0_i32_46 : BitVec 32 := 0#32
  ![v88.toNat, 0]
def k0_mult4 (i : grid0.Coords) : BitVec 32 :=
  let arg0 : BitVec 32 := BitVec.ofNat 32 (i 0).val
  let c512_i32 : BitVec 32 := 512#32
  let v17 : BitVec 32 := Scalar.muli arg0 c512_i32
  v17
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c512_i32 : BitVec 32 := 512#32
  let v17 : BitVec 32 := Scalar.muli arg0 c512_i32
  let v18 : BitVec 32 := v17
  let c0_i32_8 : BitVec 32 := 0#32
  ![v18.toNat, 0]
def k0_off7 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v24 : Index := Scalar.indexCast v16
  let c0 : Index := 0#32
  let c0_9 : Index := 0#32
  ![v24.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S4096x5120 : Shape := ⟨2, ![4096, 5120]⟩
abbrev S1x1024x5120 : Shape := ⟨3, ![1, 1024, 5120]⟩
abbrev S4096x1024 : Shape := ⟨2, ![4096, 1024]⟩
abbrev S1x1024 : Shape := ⟨2, ![1, 1024]⟩
abbrev S1024x5120 : Shape := ⟨2, ![1024, 5120]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1x1024x5120, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5120, .bf16⟩
  | .hbm, ⟨6, _⟩ => ⟨S1024x5120, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5120, .f32⟩
  | .hbm, ⟨29, _⟩ => ⟨S4096x5120, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel18.lean ====
abbrev S4096x1024 : Shape := ⟨2, ![4096, 1024]⟩
abbrev S1x2048x1024 : Shape := ⟨3, ![1, 2048, 1024]⟩
abbrev S4096x2048 : Shape := ⟨2, ![4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x2048x1024, .bf16⟩
  | .hbm, ⟨2, _⟩ => ⟨S4096x2048, .f32⟩
  | .local _ .vmem, ⟨0, _⟩ => ⟨S2048x1024, .f32⟩
  | .local _ .vmem, ⟨1, _⟩ => ⟨S2048x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1x2048x1024 : Shape := ⟨3, ![1, 2048, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2048x1024, .bf16⟩
  | .hbm, ⟨2, _⟩ => ⟨S2048x1024, .bf16⟩
  | .hbm, ⟨3, _⟩ => ⟨S2048x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x2048 : Shape := ⟨2, ![4096, 2048]⟩
abbrev S1x2048x1024 : Shape := ⟨3, ![1, 2048, 1024]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S1x2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S4096x2048 : Shape := ⟨2, ![4096, 2048]⟩
abbrev S1x2048x1024 : Shape := ⟨3, ![1, 2048, 1024]⟩
abbrev S4096x1024 : Shape := ⟨2, ![4096, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x1024, .bf16⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S2048x1024, .bf16⟩
  | .hbm, ⟨6, _⟩ => ⟨S2048x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel20.lean ====
abbrev S4096x1024 : Shape := ⟨2, ![4096, 1024]⟩
abbrev S1x1024 : Shape := ⟨2, ![1, 1024]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1024, .f32⟩
  | .hbm, ⟨73, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel21.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference21Ideal.lean ====
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S512x1024, .f32⟩
  | .hbm, ⟨37, _⟩ => ⟨S512x1024, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel22.lean ====
abbrev S4096x2816 : Shape := ⟨2, ![4096, 2816]⟩
abbrev S1x2816x1024 : Shape := ⟨3, ![1, 2816, 1024]⟩
abbrev S4096x1024 : Shape := ⟨2, ![4096, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel23.lean ====
abbrev S512x1024 : Shape := ⟨2, ![512, 1024]⟩
abbrev S1x1024x1024 : Shape := ⟨3, ![1, 1024, 1024]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1x1024x1024, .bf16⟩
  | .hbm, ⟨2, _⟩ => ⟨S512x1024, .f32⟩
  | .local _ .vmem, ⟨0, _⟩ => ⟨S512x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S512x512, .f32⟩
  | .local _ .vmem, ⟨4, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1x1024x1024, .bf16⟩
  | .hbm, ⟨2, _⟩ => ⟨S512x1024, .f32⟩
  | .hbm, ⟨3, _⟩ => ⟨S1024x1024, .bf16⟩
  | .hbm, ⟨4, _⟩ => ⟨S1024x1024, .f32⟩
  | .hbm, ⟨5, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S512x1024 : Shape := ⟨2, ![512, 1024]⟩
abbrev S1x1024x1024 : Shape := ⟨3, ![1, 1024, 1024]⟩
abbrev S1x512x1024 : Shape := ⟨3, ![1, 512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024x1024, .bf16⟩
  | .hbm, ⟨2, _⟩ => ⟨S512x1024, .f32⟩
  | .local _ .vmem, ⟨0, _⟩ => ⟨S512x1024, .f32⟩
  | .local _ .vmem, ⟨1, _⟩ => ⟨S1x512x1024, .bf16⟩
  | .local _ .vmem, ⟨2, _⟩ => ⟨S1x512x1024, .bf16⟩
  | .local _ .vmem, ⟨3, _⟩ => ⟨S512x512, .f32⟩
  | .local _ .vmem, ⟨4, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S512x1024 : Shape := ⟨2, ![512, 1024]⟩
abbrev S1x1024x1024 : Shape := ⟨3, ![1, 1024, 1024]⟩
abbrev S1x512x1024 : Shape := ⟨3, ![1, 512, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1x1024x1024, .bf16⟩
  | .hbm, ⟨2, _⟩ => ⟨S512x1024, .f32⟩
  | .hbm, ⟨3, _⟩ => ⟨S512x1024, .f32⟩
  | .local _ .vmem, ⟨0, _⟩ => ⟨S512x1024, .f32⟩
  | .local _ .vmem, ⟨1, _⟩ => ⟨S1x512x1024, .bf16⟩
  | .local _ .vmem, ⟨2, _⟩ => ⟨S1x512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024x1024, .bf16⟩
  | .hbm, ⟨2, _⟩ => ⟨S512x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference27Ideal.lean ====
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.DhRms.Spec.lean ====
module

public import proofs.«01_k».proof.Proof.Gen.Kernel2Ideal.Skeleton
public import Idealize.ShloMosaic.Lib.Pointwise

@[expose] public section

set_option maxRecDepth 16384

noncomputable section

open Idealize.ShloMosaic Idealize.SL.Sem

namespace Cert.DhRms

/-! ## The gradient of a normed projection, one row at a time, over the extended reals -/

/-- The mean square of a row, and the small constant. -/
def meanSq (x : Fin 1024 → EReal) : EReal :=
  Ideal.div (∑ k, x k * x k) (Ideal.ofBits .f32 0x44800000#32) + Ideal.ofBits .f32 0x358637BD#32

/-- What the mean's cotangent adds to each element of the row, before the factor `x`. -/
def meanPart (x h g : Fin 1024 → EReal) : EReal :=
  ∑ _ : Fin 1, Ideal.div ((∑ k, x k * (h k * g k)) * (Ideal.ofBits .f32 0xBF000000#32 * Ideal.div (Ideal.rsqrt (meanSq x)) (meanSq x)))
    (Ideal.ofBits .f32 0x44800000#32)

/-- The row's gradient with the residual cotangent added. -/
def dxRow (x h g r : Fin 1024 → EReal) (q : Fin 1024) : EReal :=
  h q * g q * Ideal.rsqrt (meanSq x) + x q * meanPart x h g + meanPart x h g * x q + r q

/-- The row's term of the gain's gradient. -/
def dgTerm (x h : Fin 1024 → EReal) (q : Fin 1024) : EReal := x q * Ideal.rsqrt (meanSq x) * h q

/-- The row of the product's cotangent with the transposed weight. -/
def dhRow {n : ℕ} (z : Fin n → EReal) (w : Fin 1024 → Fin n → EReal) (q : Fin 1024) : EReal := ∑ k, z k * w q k

/-- The gradient of a normed row, from the gradient `h` of its norm and the gain. -/
def normGrad (x h g : Fin 1024 → EReal) (q : Fin 1024) : EReal :=
  h q * g q * Ideal.rsqrt (meanSq x) + x q * meanPart x h g + meanPart x h g * x q

/-- A value that starts as the sum over the first `B` rows and grows by the sum over the next `B` at each point holds, after the
last point, the sum over all rows. -/
theorem chain_blocks {N B T last : ℕ} (hT : T = B * (last + 1)) (o : ∀ n, n < N → EReal) (f : Fin T → EReal) (row : ∀ n, n < N → Fin B → Fin T)
    (hrow : ∀ n h p, (row n h p).val = B * n + p.val) (first : ∀ h, o 0 h = ∑ p, f (row 0 h p))
    (next : ∀ n h, o (n + 1) h = o n (Nat.lt_of_succ_lt h) + ∑ p, f (row (n + 1) h p)) (h : last < N) : o last h = ∑ p, f p := by
  have block : ∀ n h, ∑ p, f (row n h p) = ∑ p ∈ Finset.range B, (if h : B * n + p < T then f ⟨_, h⟩ else 0) := by
    intro n h
    rw [Finset.sum_range]
    refine Finset.sum_congr rfl fun p _ => ?_
    have e := hrow n h p
    rw [dif_pos (e ▸ (row n h p).isLt)]
    exact congrArg f (Fin.ext e)
  have upto : ∀ n h, o n h = ∑ p ∈ Finset.range (B * (n + 1)), (if h : p < T then f ⟨_, h⟩ else 0) := by
    intro n
    induction n with
    | zero => intro h; rw [first, block]; simp only [Nat.mul_zero, Nat.zero_add, Nat.mul_one]
    | succ n ih =>
      intro h
      rw [next, block, ih, Nat.mul_succ B (n + 1), Finset.sum_range_add]
  rw [upto, ← hT, Finset.sum_range]
  exact Finset.sum_congr rfl fun p _ => dif_pos p.isLt

/-- The same for eight points of 512 rows. -/
theorem chain_rows {N : ℕ} (hN : N = 8) (o : ∀ n, n < N → EReal) (f : Fin 4096 → EReal) (row : ∀ n, n < N → Fin 512 → Fin 4096)
    (hrow : ∀ n h p, (row n h p).val = 512 * n + p.val) (first : ∀ h, o 0 h = ∑ p, f (row 0 h p))
    (next : ∀ n h, o (n + 1) h = o n (Nat.lt_of_succ_lt h) + ∑ p, f (row (n + 1) h p)) (h : 7 < N) : o 7 h = ∑ p, f p :=
  chain_blocks (B := 512) (T := 4096) (last := 7) (by norm_num) o f row hrow first next h

section Kernel
open Cert.Kernel2Ideal Cert.Kernel2Ideal.Gen

theorem pay6_apply (z : Vec Ideal S1x512x5632 .bf16) (w : Vec Ideal S1x1024x5632 .bf16) (x : Vec Ideal S512x1024 .f32) (g : Vec Ideal S1x1024 .f32)
    (r : Vec Ideal S512x1024 .f32) (p : Fin 512) (q : Fin 1024) :
    k0_pay6 (k0_pay2 z w) x g r (ValueIdx.ix2 p q)
      = dxRow (fun k => x (ValueIdx.ix2 p k)) (dhRow (fun k => z (ValueIdx.ix3 0 p k)) fun j k => w (ValueIdx.ix3 0 j k))
          (fun k => g (ValueIdx.ix2 0 k)) (fun k => r (ValueIdx.ix2 p k)) q := by
  unfold_payloads
  pointwise
  rfl

theorem pay5_apply (z : Vec Ideal S1x512x5632 .bf16) (w : Vec Ideal S1x1024x5632 .bf16) (x : Vec Ideal S512x1024 .f32)
    (o : Vec Ideal S1x1024 .f32) (q : Fin 1024) :
    k0_pay1 (k0_pay5 (k0_pay2 z w) x) (k0_pay8 o) (ValueIdx.ix2 0 q)
      = o (ValueIdx.ix2 0 q) + ∑ p : Fin 512, dgTerm (fun k => x (ValueIdx.ix2 p k)) (dhRow (fun k => z (ValueIdx.ix3 0 p k)) fun j k => w (ValueIdx.ix3 0 j k)) q := by
  unfold_payloads
  pointwise
  rfl

theorem pay7_apply (q : Fin 1024) : k0_pay7 (F := Ideal) (ValueIdx.ix2 0 q) = 0 := by
  unfold_payloads
  pointwise
  first | rfl | trace_state

end Kernel

end Cert.DhRms

end
-- ==== Proof.DhRms.Blocks.lean ====
module

public import proofs.«01_k».proof.Proof.Gen.Kernel2Ideal.Frame
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Cert.Kernel2Ideal Cert.Kernel2Ideal.Gen

namespace Cert.DhRms
variable {F : FTy → Type} [FloatOps F]

theorem hz3 : (![0, 0, 0] : Fin 3 → Nat) = fun _ => 0 := funext fun a => by fin_cases a <;> rfl
/-- Rows `512 t … 512 t + 511` of a whole array of 4096 rows, as the block of one slot. -/
def slab (t : Fin 8) (f : S4096x5632.Idx → Elt F .bf16) : Vec F S1x512x5632 .bf16 :=
  fun i => f (ValueIdx.ix2 ⟨512 * t.val + (i 1).val, by have := t.isLt; have : (i 1).val < 512 := (i 1).isLt; omega⟩ (i 2))

theorem cast_slab (x : Vec F S1x512x5632 .bf16) (p : Fin 512) (k : Fin 5632) :
    shapeCast S512x5632 x shapeCasts_S1x512x5632_S512x5632 (ValueIdx.ix2 p k) = x (ValueIdx.ix3 0 p k) := by
  pointwise
  rfl

theorem src_apply (c : Dev nD) (t : Fin 8) (f : HbBuf0 (F := F) c hbM0_0) (p : Fin 512) (k : Fin 5632) :
    View.read (Elt F) (srcB0_0 t).view f (ValueIdx.ix2 p k) = slab (F := F) t f (ValueIdx.ix3 0 p k) := by
  show f _ = f _
  congr 1
  funext a
  apply Fin.ext
  match a with
  | ⟨0, _⟩ => exact (congrArg (512 * t.val + ·) (Nat.one_mul p.val) : 512 * t.val + 1 * p.val = 512 * t.val + p.val)
  | ⟨1, _⟩ => exact ((Nat.zero_add _).trans (Nat.one_mul k.val) : 0 + 1 * k.val = k.val)

theorem ring_read (c : Dev nD) (s : Fin 3) (t : Fin 8) (f : HbBuf0 (F := F) c hbM0_0) (off : Fin 3 → Nat) (inb)
    (h : off = ![s.val, 0, 0]) :
    View.readAt (Elt F) (View.whole cc0_scratch0) (Rect.unit (s := S3x512x5632) off ![1, 512, 5632] inb).toLoadRect
      ((rslot0_0 s).view.writes (Elt F) (rslot0_0 s).view.junk
            [⟨Rect.whole S512x5632, ReadAs.same.apply (View.read (Elt F) (srcB0_0 t).view f)⟩])
      = slab (F := F) t f := by
  subst h
  have e := View.read_writes_whole (rslot0_0 s).view (rslot0_0 s).view.junk (ReadAs.same.apply (View.read (Elt F) (srcB0_0 t).view f))
  have e2 : ∀ p k, View.readAt (Elt F) (View.whole cc0_scratch0) (Rect.unit (s := S3x512x5632) ![s.val, 0, 0] ![1, 512, 5632] inb).toLoadRect
      ((rslot0_0 s).view.writes (Elt F) (rslot0_0 s).view.junk
            [⟨Rect.whole S512x5632, ReadAs.same.apply (View.read (Elt F) (srcB0_0 t).view f)⟩]) (ValueIdx.ix3 0 p k) = slab (F := F) t f (ValueIdx.ix3 0 p k) := by
    intro p k
    exact (cast_slab _ p k).symm.trans ((congrFun e (ValueIdx.ix2 p k)).trans (src_apply c t f p k))
  funext i
  have hi : i = ValueIdx.ix3 0 (i 1) (i 2) := by
    funext a
    match a with
    | ⟨0, _⟩ => exact Fin.ext (by have : (i 0).val < 1 := (i 0).isLt; show (i 0).val = 0; omega)
    | ⟨1, _⟩ => rfl
    | ⟨2, _⟩ => rfl
  rw [hi]
  exact e2 _ _
theorem hz : (![0, 0] : Fin 2 → Nat) = fun _ => 0 := funext fun a => by fin_cases a <;> rfl

/-- The slot the body computes for point `t` is `t` modulo 3. -/
theorem slot_off : ∀ t : Fin grid0.N, k0_off7 (grid0.coords t) = ![(Fin.ofNat 3 t.val).val, 0, 0] := by decide +kernel

variable (c : Dev nD) (t : Fin cfg0.N) (arg2 : Memref sig .tc .vmem S1x1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
    (x0 : Vec F S1x1024x5632 .bf16) (x1 : Vec F S512x1024 .f32) (x2 : Vec F S1x1024 .f32) (x3 : Vec F S512x1024 .f32) (xo5 : Vec F S1x1024 .f32) (fh0 : HbBuf0 (F := F) c hbM0_0)

theorem out_A_4 (hc0 : cond0_0 (grid0.coords t)) (hc1 : cond0_1 (grid0.coords t)) (hc2 : cond0_2 (grid0.coords t)) :
    out0_A_4 c t arg2 harg2 arg3 harg3 arg4 harg4 arg5 harg5 arg6 harg6 arg7 harg7 hc0 hc1 hc2 x0 x1 x2 x3 fh0 = k0_pay6 (k0_pay2 (slab (F := F) (Ring.bk 8 t.val) fh0) x0) x1 x2 x3 := by
  unfold out0_A_4
  rw [View.read_writes_eq_canon _ _ _ (cover0_A_4 c t arg2 harg2 arg3 harg3 arg4 harg4 arg5 harg5 arg6 harg6 arg7 harg7 hc0 hc1 hc2 x0 x1 x2 x3 fh0)]
  unfold kernelRun0_A
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay6 (k0_pay2 z x0) x1 x2 x3) (ring_read c _ (Ring.bk 8 t.val) fh0 _ (k0_off7_inb _) (slot_off t))

theorem out_A_5 (hc0 : cond0_0 (grid0.coords t)) (hc1 : cond0_1 (grid0.coords t)) (hc2 : cond0_2 (grid0.coords t)) :
    out0_A_5 c t arg2 harg2 arg3 harg3 arg4 harg4 arg5 harg5 arg6 harg6 arg7 harg7 hc0 hc1 hc2 x0 x1 x2 x3 fh0 = k0_pay1 (k0_pay5 (k0_pay2 (slab (F := F) (Ring.bk 8 t.val) fh0) x0) x1) (k0_pay8 k0_pay7) := by
  unfold out0_A_5
  rw [View.read_writes_eq_canon _ _ _ (cover0_A_5 c t arg2 harg2 arg3 harg3 arg4 harg4 arg5 harg5 arg6 harg6 arg7 harg7 hc0 hc1 hc2 x0 x1 x2 x3 fh0)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay1 (k0_pay5 (k0_pay2 z x0) x1) (k0_pay8 k0_pay7)) (ring_read c _ (Ring.bk 8 t.val) fh0 _ (k0_off7_inb _) (slot_off t))

theorem out_B_4 (hc0 : ¬cond0_0 (grid0.coords t)) (hc1 : cond0_1 (grid0.coords t)) (hc2 : ¬cond0_2 (grid0.coords t)) :
    out0_B_4 c t arg2 harg2 arg3 harg3 arg4 harg4 arg5 harg5 arg6 harg6 arg7 harg7 hc0 hc1 hc2 x0 x1 x2 x3 xo5 fh0 = k0_pay6 (k0_pay2 (slab (F := F) (Ring.bk 8 t.val) fh0) x0) x1 x2 x3 := by
  unfold out0_B_4
  rw [View.read_writes_eq_canon _ _ _ (cover0_B_4 c t arg2 harg2 arg3 harg3 arg4 harg4 arg5 harg5 arg6 harg6 arg7 harg7 hc0 hc1 hc2 x0 x1 x2 x3 xo5 fh0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay6 (k0_pay2 z x0) x1 x2 x3) (ring_read c _ (Ring.bk 8 t.val) fh0 _ (k0_off7_inb _) (slot_off t))

theorem out_B_5 (hc0 : ¬cond0_0 (grid0.coords t)) (hc1 : cond0_1 (grid0.coords t)) (hc2 : ¬cond0_2 (grid0.coords t)) :
    out0_B_5 c t arg2 harg2 arg3 harg3 arg4 harg4 arg5 harg5 arg6 harg6 arg7 harg7 hc0 hc1 hc2 x0 x1 x2 x3 xo5 fh0 = k0_pay1 (k0_pay5 (k0_pay2 (slab (F := F) (Ring.bk 8 t.val) fh0) x0) x1) (k0_pay8 xo5) := by
  unfold out0_B_5
  rw [View.read_writes_eq_canon _ _ _ (cover0_B_5 c t arg2 harg2 arg3 harg3 arg4 harg4 arg5 harg5 arg6 harg6 arg7 harg7 hc0 hc1 hc2 x0 x1 x2 x3 xo5 fh0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay1 (k0_pay5 (k0_pay2 z x0) x1) (k0_pay8 xo5)) (ring_read c _ (Ring.bk 8 t.val) fh0 _ (k0_off7_inb _) (slot_off t))

theorem out_C_4 (hc0 : ¬cond0_0 (grid0.coords t)) (hc1 : ¬cond0_1 (grid0.coords t)) (hc2 : ¬cond0_2 (grid0.coords t)) :
    out0_C_4 c t arg2 harg2 arg3 harg3 arg4 harg4 arg5 harg5 arg6 harg6 arg7 harg7 hc0 hc1 hc2 x0 x1 x2 x3 xo5 fh0 = k0_pay6 (k0_pay2 (slab (F := F) (Ring.bk 8 t.val) fh0) x0) x1 x2 x3 := by
  unfold out0_C_4
  rw [View.read_writes_eq_canon _ _ _ (cover0_C_4 c t arg2 harg2 arg3 harg3 arg4 harg4 arg5 harg5 arg6 harg6 arg7 harg7 hc0 hc1 hc2 x0 x1 x2 x3 xo5 fh0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay6 (k0_pay2 z x0) x1 x2 x3) (ring_read c _ (Ring.bk 8 t.val) fh0 _ (k0_off7_inb _) (slot_off t))

theorem out_C_5 (hc0 : ¬cond0_0 (grid0.coords t)) (hc1 : ¬cond0_1 (grid0.coords t)) (hc2 : ¬cond0_2 (grid0.coords t)) :
    out0_C_5 c t arg2 harg2 arg3 harg3 arg4 harg4 arg5 harg5 arg6 harg6 arg7 harg7 hc0 hc1 hc2 x0 x1 x2 x3 xo5 fh0 = k0_pay1 (k0_pay5 (k0_pay2 (slab (F := F) (Ring.bk 8 t.val) fh0) x0) x1) (k0_pay8 xo5) := by
  unfold out0_C_5
  rw [View.read_writes_eq_canon _ _ _ (cover0_C_5 c t arg2 harg2 arg3 harg3 arg4 harg4 arg5 harg5 arg6 harg6 arg7 harg7 hc0 hc1 hc2 x0 x1 x2 x3 xo5 fh0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S512x1024) hz, View.ld_unit_zero (S := S1x1024) hz, View.ld_unit_zero (S := S1x1024x5632) hz3]
  exact congrArg (fun z => k0_pay1 (k0_pay5 (k0_pay2 z x0) x1) (k0_pay8 xo5)) (ring_read c _ (Ring.bk 8 t.val) fh0 _ (k0_off7_inb _) (slot_off t))

end Cert.DhRms
end
-- ==== Proof.DhRms.Kernel.lean ====
module

public import proofs.«01_k».proof.Proof.DhRms.Spec
public import proofs.«01_k».proof.Proof.DhRms.Blocks
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.DhRms

variable (m : (ℓ : Loc nD τ sig) → Buf (Elt Ideal) ℓ) (c : Dev nD)

/-- The arguments, as functions of their indices. -/
abbrev argZ : FVec Ideal S4096x5632 .bf16 := m ((c.tc : Thread nD τ).loc main_arg0)
abbrev argW : FVec Ideal S1x1024x5632 .bf16 := m ((c.tc : Thread nD τ).loc main_arg1)
abbrev argX : FVec Ideal S4096x1024 .f32 := m ((c.tc : Thread nD τ).loc main_arg2)
abbrev argG : FVec Ideal S1x1024 .f32 := m ((c.tc : Thread nD τ).loc main_arg3)
abbrev argR : FVec Ideal S4096x1024 .f32 := m ((c.tc : Thread nD τ).loc main_arg4)

/-- Row `p`'s cotangent of the normed row. -/
def dhAt (p : Fin 4096) : Fin 1024 → EReal :=
  dhRow (fun k => argZ m c (ValueIdx.ix2 p k)) fun j k => argW m c (ValueIdx.ix3 0 j k)

def dxAt (i : S4096x1024.Idx) : EReal :=
  dxRow (fun k => argX m c (ValueIdx.ix2 (i 0) k)) (dhAt m c (i 0)) (fun k => argG m c (ValueIdx.ix2 0 k))
    (fun k => argR m c (ValueIdx.ix2 (i 0) k)) (i 1)

/-- Row `p`'s term of the gain's gradient; zero past the last row. -/
def termAt (q : Fin 1024) (p : ℕ) : EReal :=
  if h : p < 4096 then dgTerm (fun k => argX m c (ValueIdx.ix2 ⟨p, h⟩ k)) (dhAt m c ⟨p, h⟩) q else 0

def dgAt (i : S1x1024.Idx) : EReal := ∑ p : Fin 4096, dgTerm (fun k => argX m c (ValueIdx.ix2 p k)) (dhAt m c p) (i 1)

/-- Row `p` of point `t`'s block is row `512 t + p` of the array. -/
def rowOf (t : Fin cfg0.N) (p : Fin 512) : Fin 4096 := ⟨512 * t.val + p.val, by have : t.val < 8 := lt_of_lt_of_eq t.isLt N_0; have := p.isLt; omega⟩

theorem idx_facts : ∀ t : Fin cfg0.N, (win0_1.index t 0 = t.val ∧ win0_1.index t 1 = 0) ∧ (win0_3.index t 0 = t.val ∧ win0_3.index t 1 = 0)
    ∧ (win0_4.index t 0 = t.val ∧ win0_4.index t 1 = 0) ∧ (win0_0.index t 0 = 0 ∧ win0_0.index t 1 = 0 ∧ win0_0.index t 2 = 0)
    ∧ (win0_2.index t 0 = 0 ∧ win0_2.index t 1 = 0) ∧ (win0_5.index t 0 = 0 ∧ win0_5.index t 1 = 0) ∧ (Ring.bk 8 t.val).val = t.val :=
  (by decide +kernel : ∀ t : Fin grid0.N, _)

theorem iblk0 (t : Fin cfg0.N) (j : Fin 1024) (k : Fin 5632) : iblk m c 0 t (ValueIdx.ix3 0 j k) = argW m c (ValueIdx.ix3 0 j k) := by
  obtain ⟨-, -, -, ⟨h0, h1, h2⟩, -⟩ := idx_facts t
  show V m c main_arg1 _ = _
  rw [V_main_arg1]
  refine congrArg _ (funext fun a => Fin.ext ?_)
  match a with
  | ⟨0, _⟩ => show win0_0.index t 0 * 1 + 1 * 0 = 0; omega
  | ⟨1, _⟩ => show win0_0.index t 1 * 1024 + 1 * j.val = j.val; omega
  | ⟨2, _⟩ => show win0_0.index t 2 * 5632 + 1 * k.val = k.val; omega

theorem iblk1 (t : Fin cfg0.N) (p : Fin 512) (k : Fin 1024) : iblk m c 1 t (ValueIdx.ix2 p k) = argX m c (ValueIdx.ix2 (rowOf t p) k) := by
  obtain ⟨⟨h0, h1⟩, -⟩ := idx_facts t
  show V m c main_arg2 _ = _
  rw [V_main_arg2]
  refine congrArg _ (funext fun a => Fin.ext ?_)
  match a with
  | ⟨0, _⟩ => show win0_1.index t 0 * 512 + 1 * p.val = 512 * t.val + p.val; omega
  | ⟨1, _⟩ => show win0_1.index t 1 * 1024 + 1 * k.val = k.val; omega

theorem iblk2 (t : Fin cfg0.N) (k : Fin 1024) : iblk m c 2 t (ValueIdx.ix2 0 k) = argG m c (ValueIdx.ix2 0 k) := by
  obtain ⟨-, -, -, -, ⟨h0, h1⟩, -⟩ := idx_facts t
  show V m c main_arg3 _ = _
  rw [V_main_arg3]
  refine congrArg _ (funext fun a => Fin.ext ?_)
  match a with
  | ⟨0, _⟩ => show win0_2.index t 0 * 1 + 1 * 0 = 0; omega
  | ⟨1, _⟩ => show win0_2.index t 1 * 1024 + 1 * k.val = k.val; omega

theorem iblk3 (t : Fin cfg0.N) (p : Fin 512) (k : Fin 1024) : iblk m c 3 t (ValueIdx.ix2 p k) = argR m c (ValueIdx.ix2 (rowOf t p) k) := by
  obtain ⟨-, ⟨h0, h1⟩, -⟩ := idx_facts t
  show V m c main_arg4 _ = _
  rw [V_main_arg4]
  refine congrArg _ (funext fun a => Fin.ext ?_)
  match a with
  | ⟨0, _⟩ => show win0_3.index t 0 * 512 + 1 * p.val = 512 * t.val + p.val; omega
  | ⟨1, _⟩ => show win0_3.index t 1 * 1024 + 1 * k.val = k.val; omega

theorem slab_apply (t : Fin cfg0.N) (p : Fin 512) (k : Fin 5632) :
    slab (F := Ideal) (Ring.bk 8 t.val) (V m c main_arg0) (ValueIdx.ix3 0 p k) = argZ m c (ValueIdx.ix2 (rowOf t p) k) := by
  obtain ⟨-, -, -, -, -, -, h⟩ := idx_facts t
  rw [V_main_arg0]
  unfold slab
  refine congrArg (argZ m c) (funext fun a => Fin.ext ?_)
  match a with
  | ⟨0, _⟩ => show 512 * (Ring.bk 8 t.val).val + p.val = 512 * t.val + p.val; omega
  | ⟨1, _⟩ => rfl

/-- The product a point computes, row by row. -/
theorem dh_block (t : Fin cfg0.N) (p : Fin 512) :
    (dhRow (fun k => slab (F := Ideal) (Ring.bk 8 t.val) (V m c main_arg0) (ValueIdx.ix3 0 p k)) fun j k => iblk m c 0 t (ValueIdx.ix3 0 j k))
      = dhAt m c (rowOf t p) := by
  unfold dhAt
  simp only [slab_apply, iblk0]

/-- The cases of a point. -/
theorem outs_dx (t : Fin cfg0.N) :
    (outsAt0 m c t.val t.isLt).1 = k0_pay6 (k0_pay2 (slab (F := Ideal) (Ring.bk 8 t.val) (V m c main_arg0)) (iblk m c 0 t)) (iblk m c 1 t) (iblk m c 2 t) (iblk m c 3 t) := by
  have hN : t.val < 8 := lt_of_lt_of_eq t.isLt N_0
  by_cases h0 : t.val % 8 = 0
  · rw [outsAt0_A m c t h0 (by omega) h0]; dsimp only; rw [out_A_4]
  · by_cases h1 : t.val < 6
    · rw [outsAt0_B m c t h0 h1 h0]; dsimp only; rw [out_B_4]
    · rw [outsAt0_C m c t h0 h1 h0]; dsimp only; rw [out_C_4]

theorem dx_block (t : Fin cfg0.N) (p : Fin 512) (q : Fin 1024) :
    (outsAt0 m c t.val t.isLt).1 (ValueIdx.ix2 p q) = dxAt m c (ValueIdx.ix2 (rowOf t p) q) := by
  rw [outs_dx, pay6_apply, dh_block]
  simp only [iblk1, iblk2, iblk3]
  rfl

theorem dg_step (t : Fin cfg0.N) (o : Vec Ideal S1x1024 .f32) (q : Fin 1024) :
    k0_pay1 (k0_pay5 (k0_pay2 (slab (F := Ideal) (Ring.bk 8 t.val) (V m c main_arg0)) (iblk m c 0 t)) (iblk m c 1 t)) (k0_pay8 o) (ValueIdx.ix2 0 q)
      = o (ValueIdx.ix2 0 q) + ∑ p ∈ Finset.range 512, termAt m c q (512 * t.val + p) := by
  rw [pay5_apply, Finset.sum_range]
  refine congrArg _ (Finset.sum_congr rfl fun p _ => ?_)
  rw [dh_block]
  simp only [iblk1]
  unfold termAt
  rw [dif_pos (show 512 * t.val + p.val < 4096 from (rowOf t p).isLt)]
  rfl

/-- After point `n` the gain's gradient holds the terms of the rows up to the block's end. -/
theorem dg_chain (q : Fin 1024) : ∀ (n : ℕ) (h : n < cfg0.N),
    (outsAt0 m c n h).2 (ValueIdx.ix2 0 q) = ∑ p ∈ Finset.range (512 * (n + 1)), termAt m c q p
  | 0, h => by
    have e := outsAt0_A m c ⟨0, h⟩ (Nat.zero_mod 8) (Nat.succ_pos 5) (Nat.zero_mod 8)
    refine (congrArg (fun o : Vec Ideal S512x1024 .f32 × Vec Ideal S1x1024 .f32 => o.2 (ValueIdx.ix2 0 q)) e).trans ?_
    dsimp only
    rw [out_A_5, dg_step, pay7_apply, zero_add]
    simp only [Nat.mul_zero, Nat.zero_add, Nat.mul_one]
  | n + 1, h => by
    have hN : n + 1 < 8 := lt_of_lt_of_eq h N_0
    have h0 : ¬ (⟨n + 1, h⟩ : Fin cfg0.N).val % 8 = 0 := by dsimp only; omega
    have e : (outsAt0 m c (n + 1) h).2 (ValueIdx.ix2 0 q)
        = (outsAt0 m c n (Nat.lt_of_succ_lt h)).2 (ValueIdx.ix2 0 q) + ∑ p ∈ Finset.range 512, termAt m c q (512 * (n + 1) + p) := by
      by_cases h1 : (⟨n + 1, h⟩ : Fin cfg0.N).val < 6
      · have e := outsAt0_B m c ⟨n + 1, h⟩ h0 h1 h0
        refine (congrArg (fun o : Vec Ideal S512x1024 .f32 × Vec Ideal S1x1024 .f32 => o.2 (ValueIdx.ix2 0 q)) e).trans ?_
        dsimp only
        rw [out_B_5]
        exact dg_step m c ⟨n + 1, h⟩ _ q
      · have e := outsAt0_C m c ⟨n + 1, h⟩ h0 h1 h0
        refine (congrArg (fun o : Vec Ideal S512x1024 .f32 × Vec Ideal S1x1024 .f32 => o.2 (ValueIdx.ix2 0 q)) e).trans ?_
        dsimp only
        rw [out_C_5]
        exact dg_step m c ⟨n + 1, h⟩ _ q
    rw [e, dg_chain q n, show 512 * (n + 1 + 1) = 512 * (n + 1) + 512 from by omega, Finset.sum_range_add]

theorem dg_all (q : Fin 1024) : ∑ p ∈ Finset.range 4096, termAt m c q p = dgAt m c (ValueIdx.ix2 0 q) := by
  rw [Finset.sum_range]
  refine Finset.sum_congr rfl fun p _ => ?_
  unfold termAt
  rw [dif_pos p.isLt]

theorem flush_facts : ∀ t : Fin cfg0.N, win0_4.flush t = true ∧ (win0_5.flush t = true → t.val = 7) ∧ (t.val = 7 → win0_5.flush t = true) :=
  (by decide +kernel : ∀ t : Fin grid0.N, _)

theorem idx2 {a b : ℕ} (i : (⟨2, ![a, b]⟩ : Shape).Idx) : i = ValueIdx.ix2 (i 0) (i 1) := by
  funext k
  match k with
  | ⟨0, _⟩ => rfl
  | ⟨1, _⟩ => rfl

theorem final_dx : (dats m 0 c).arrAt 4 cfg0.N = dxAt m c := by
  refine (dats m 0 c).arrAt_eq_of_cover 4 (dxAt m c) (fun t _ => ?_) fun i => ?_
  · obtain ⟨-, -, ⟨h0, h1⟩, -⟩ := idx_facts t
    rw [Value.flushed4]
    funext i
    obtain ⟨p, q, rfl⟩ : ∃ (p : Fin 512) (q : Fin 1024), i = ValueIdx.ix2 p q := ⟨i 0, i 1, idx2 i⟩
    refine (dx_block m c t p q).trans (congrArg (dxAt m c) (funext fun a => Fin.ext ?_))
    match a with
    | ⟨0, _⟩ => show 512 * t.val + p.val = win0_4.index t 0 * 512 + 1 * p.val; omega
    | ⟨1, _⟩ => show q.val = win0_4.index t 1 * 1024 + 1 * q.val; omega
  · have hi0 : (i 0 : ℕ) < 4096 := (i 0).isLt
    have hi1 : (i 1 : ℕ) < 1024 := (i 1).isLt
    have ht : (i 0 : ℕ) / 512 < cfg0.N := by rw [show cfg0.N = 8 from N_0]; omega
    obtain ⟨-, -, ⟨h0, h1⟩, -⟩ := idx_facts ⟨_, ht⟩
    dsimp only at h0
    refine ⟨⟨_, ht⟩, (flush_facts _).1, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 512 ≤ (i 0 : ℕ) ∧ (i 0 : ℕ) < win0_4.index ⟨_, ht⟩ 0 * 512 + 512; omega
    | ⟨1, _⟩ => show win0_4.index ⟨_, ht⟩ 1 * 1024 ≤ (i 1 : ℕ) ∧ (i 1 : ℕ) < win0_4.index ⟨_, ht⟩ 1 * 1024 + 1024; omega

theorem final_dg : (dats m 0 c).arrAt 5 cfg0.N = dgAt m c := by
  refine (dats m 0 c).arrAt_eq_of_cover 5 (dgAt m c) (fun t hf => ?_) fun i => ?_
  · obtain ⟨-, -, -, -, -, ⟨h0, h1⟩, -⟩ := idx_facts t
    have h7 : t.val = 7 := (flush_facts t).2.1 hf
    rw [Value.flushed5]
    funext i
    obtain ⟨p, q, rfl⟩ : ∃ (p : Fin 1) (q : Fin 1024), i = ValueIdx.ix2 p q := ⟨i 0, i 1, idx2 i⟩
    obtain rfl : p = 0 := Subsingleton.elim _ _
    refine (dg_chain m c q t.val t.isLt).trans ?_
    rw [h7]
    refine (dg_all m c q).trans (congrArg (dgAt m c) (funext fun a => Fin.ext ?_))
    match a with
    | ⟨0, _⟩ => show 0 = win0_5.index t 0 * 1 + 1 * 0; omega
    | ⟨1, _⟩ => show q.val = win0_5.index t 1 * 1024 + 1 * q.val; omega
  · have hi0 : (i 0 : ℕ) < 1 := (i 0).isLt
    have hi1 : (i 1 : ℕ) < 1024 := (i 1).isLt
    have ht : 7 < cfg0.N := by rw [show cfg0.N = 8 from N_0]; omega
    obtain ⟨-, -, -, -, -, ⟨h0, h1⟩, -⟩ := idx_facts ⟨7, ht⟩
    refine ⟨⟨7, ht⟩, (flush_facts _).2.2 rfl, ?_⟩
    show i ∈ ((View.whole main_v0_1).slice (win0_5.rect ⟨7, ht⟩)).set
    rw [View.set_slice_whole, Rect.mem_set_unit]
    intro a
    match a with
    | ⟨0, _⟩ => show win0_5.index ⟨7, ht⟩ 0 * 1 ≤ (i 0 : ℕ) ∧ (i 0 : ℕ) < win0_5.index ⟨7, ht⟩ 0 * 1 + 1; omega
    | ⟨1, _⟩ => show win0_5.index ⟨7, ht⟩ 1 * 1024 ≤ (i 1 : ℕ) ∧ (i 1 : ℕ) < win0_5.index ⟨7, ht⟩ 1 * 1024 + 1024; omega

end Cert.DhRms

end
-- ==== Proof.DhRms.Reference.lean ====
module

public import proofs.«01_k».proof.Proof.DhRms.Spec
public import proofs.«01_k».proof.Proof.Gen.Reference2Ideal.Read

@[expose] public section

set_option maxRecDepth 16384

noncomputable section

open Idealize.ShloMosaic Idealize.SL.Sem
open Cert.Reference2Ideal Cert.Reference2Ideal.Read

namespace Cert.DhRms

variable (z : FVec Ideal S4096x5632 .bf16) (w : FVec Ideal S1x1024x5632 .bf16) (x : FVec Ideal S4096x1024 .f32) (g : FVec Ideal S1x1024 .f32)
  (r : FVec Ideal S4096x1024 .f32)

theorem ref_dx (p : Fin 4096) (q : Fin 1024) :
    val_main_v42 (F := Ideal) z w x g r (ValueIdx.ix2 p q)
      = dxRow (fun k => x (ValueIdx.ix2 p k)) (dhRow (fun k => z (ValueIdx.ix2 p k)) fun j k => w (ValueIdx.ix3 0 j k))
          (fun k => g (ValueIdx.ix2 0 k)) (fun k => r (ValueIdx.ix2 p k)) q := by
  unfold val_main_v42 val_main_v41 val_main_v40 val_main_v39 val_main_v38 val_main_v37 val_main_v36 val_main_v35 val_main_v34 val_main_v33 val_main_v32 val_main_v31 val_main_v30 val_main_v29 val_main_v28 val_main_v26 val_main_v25 val_main_v21 val_main_v20 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  pointwise
  have e : ∀ a b c d : EReal, d + a + b + c = a + b + c + d := fun a b c d => by ac_rfl
  exact e _ _ _ _

theorem ref_dg (q : Fin 1024) :
    val_main_v43 (F := Ideal) z w x (ValueIdx.ix2 0 q)
      = ∑ p : Fin 4096, dgTerm (fun k => x (ValueIdx.ix2 p k)) (dhRow (fun k => z (ValueIdx.ix2 p k)) fun j k => w (ValueIdx.ix3 0 j k)) q := by
  unfold val_main_v43 val_main_v27 val_main_v24 val_main_v23 val_main_v22 val_main_v15 val_main_v14 val_main_v21 val_main_v20 val_main_v10 val_main_v9 val_main_v8 val_main_v7 val_main_v6 val_main_v5 val_main_v4 val_main_v3 val_main_v1 val_main_v0 val_main_cst val_main_cst_0 val_main_cst_1 val_main_cst_3 val_main_cst_4
  pointwise
  exact Fin.sum_univ_one _

end Cert.DhRms

end
-- ==== Proof.DhRms.lean ====
module

public import proofs.«01_k».proof.Defs
public import proofs.«01_k».proof.Proof.DhRms.Kernel
public import proofs.«01_k».proof.Proof.DhRms.Reference
public import proofs.«01_k».proof.Proof.Gen.Kernel2.Frame
public import proofs.«01_k».proof.Proof.Gen.Reference2Ideal.Run
public import Idealize.ShloMosaic.Lib.Quiescent

@[expose] public section

noncomputable section

open Idealize.ShloMosaic Idealize.ShloMosaic.TcCoe Idealize.SL.Sem

/-! ## The claims about the backward call of a normed projection -/

namespace Cert.DhRms

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference leaves its arguments unchanged; it declares no semaphore. -/
theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => dxAt m c, fun c => dgAt m c, ?_, ?_⟩
  · refine (θ_run Cert.Kernel2Ideal.defs _ _).mono (fun _ h c => ?_) (Cert.Kernel2Ideal.Value.run_blocks (F := Ideal) m ρ)
    exact ⟨(h c).1.trans (final_dx m c), (h c).2.1.trans (final_dg m c), (h c).2.2⟩
  · refine (θ_run Cert.Reference2Ideal.defs _ _).mono (fun _ h c => ?_) (Cert.Reference2Ideal.Value.run (F := Ideal) m' ρ')
    obtain ⟨a0, a1, a2, a3, a4⟩ := hagree c
    refine ⟨(h c).1.trans ?_, (h c).2.1.trans ?_, (h c).2.2⟩
    · rw [Cert.Reference2Ideal.Read.val_main_v42_eq, a0, a1, a2, a3, a4]
      funext i
      obtain ⟨p, q, rfl⟩ : ∃ (p : Fin 4096) (q : Fin 1024), i = ValueIdx.ix2 p q := ⟨i 0, i 1, idx2 i⟩
      exact ref_dx _ _ _ _ _ p q
    · rw [Cert.Reference2Ideal.Read.val_main_v43_eq, a0, a1, a2]
      funext i
      obtain ⟨p, q, rfl⟩ : ∃ (p : Fin 1) (q : Fin 1024), i = ValueIdx.ix2 p q := ⟨i 0, i 1, idx2 i⟩
      obtain rfl : p = 0 := Subsingleton.elim _ _
      exact ref_dg _ _ _ q

end Cert.DhRms

end
-- ==== Proof.FfnDa.Spec.lean ====
module

public import proofs.«01_k».proof.Proof.Gen.Kernel3Ideal.Skeleton
public import Idealize.ShloMosaic.Lib.Pointwise

@[expose] public section

set_option maxRecDepth 16384

noncomputable section

open Idealize.ShloMosaic Idealize.SL.Sem

namespace Cert.FfnDa

/-! ## The gradient of the gated half step, one element at a time, over the extended reals -/

/-- The sigmoid, as the kernel writes it. -/
def logi (g : EReal) : EReal :=
  Ideal.div 1 (1 + Ideal.exp (0 - g))

/-- The gradient of the gated activation: a row of the halved cotangent against a row of the weight. -/
def daOf (d w : Fin 1024 → EReal) : EReal := ∑ j, d j * Ideal.ofBits .f32 0x3F000000#32 * w j

/-- The gate's gradient. -/
def gateG (a u g : EReal) : EReal := a * u * (logi g + g * logi g * (1 - logi g))

/-- The other factor's gradient. -/
def gateU (a g : EReal) : EReal := a * (g * logi g)

section Kernel
open Cert.Kernel3Ideal Cert.Kernel3Ideal.Gen

variable (x : Vec Ideal S512x1024 .f32) (w : Vec Ideal S1x1408x1024 .bf16) (g u : Vec Ideal S512x1408 .bf16) (p : Fin 512) (q : Fin 1408)

theorem pay12_apply : k0_pay12 (k0_pay7 x) w g u (ValueIdx.ix2 p q)
    = gateG (daOf (fun j => x (ValueIdx.ix2 p j)) fun j => w (ValueIdx.ix3 0 q j)) (u (ValueIdx.ix2 p q)) (g (ValueIdx.ix2 p q)) := by
  unfold_payloads
  pointwise
  rfl

theorem pay13_apply : k0_pay13 (k0_pay7 x) w g (ValueIdx.ix2 p q)
    = gateU (daOf (fun j => x (ValueIdx.ix2 p j)) fun j => w (ValueIdx.ix3 0 q j)) (g (ValueIdx.ix2 p q)) := by
  unfold_payloads
  pointwise
  rfl

theorem pay5_apply : k0_pay5 (k0_pay14 (k0_pay7 x) w) g u (ValueIdx.ix2 p q)
    = gateG (daOf (fun j => x (ValueIdx.ix2 p j)) fun j => w (ValueIdx.ix3 0 q j)) (u (ValueIdx.ix2 p q)) (g (ValueIdx.ix2 p q)) := by
  unfold_payloads
  pointwise
  rfl

theorem pay6_apply : k0_pay6 (k0_pay14 (k0_pay7 x) w) g (ValueIdx.ix2 p q)
    = gateU (daOf (fun j => x (ValueIdx.ix2 p j)) fun j => w (ValueIdx.ix3 0 q j)) (g (ValueIdx.ix2 p q)) := by
  unfold_payloads
  pointwise
  rfl

end Kernel

end Cert.FfnDa

end
-- ==== Proof.FfnDa.Blocks.lean ====
module

public import proofs.«01_k».proof.Proof.FfnDa.Spec
public import proofs.«01_k».proof.Proof.Gen.Kernel3Ideal.Frame
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Cert.Kernel3Ideal Cert.Kernel3Ideal.Gen

namespace Cert.FfnDa

theorem hz : (![0, 0] : Fin 2 → Nat) = fun _ => 0 := funext fun a => by fin_cases a <;> rfl

/-- The block a point leaves, from its rows of the cotangent, the weight and its rows of the gate and of the other factor. -/
def blockOf (x : Vec Ideal S512x1024 .f32) (w : Vec Ideal S1x2816x1024 .bf16) (g u : S512x2816.Idx → EReal) (y : S512x5632.Idx) : EReal :=
  if h : (y 1).val < 2816 then
    gateG (daOf (fun j => x (ValueIdx.ix2 (y 0) j)) fun j => w (ValueIdx.ix3 0 ⟨(y 1).val, h⟩ j)) (u (ValueIdx.ix2 (y 0) ⟨(y 1).val, h⟩))
      (g (ValueIdx.ix2 (y 0) ⟨(y 1).val, h⟩))
  else
    have h' : (y 1).val - 2816 < 2816 := by have : (y 1).val < 5632 := (y 1).isLt; omega
    gateU (daOf (fun j => x (ValueIdx.ix2 (y 0) j)) fun j => w (ValueIdx.ix3 0 ⟨(y 1).val - 2816, h'⟩ j))
      (g (ValueIdx.ix2 (y 0) ⟨(y 1).val - 2816, h'⟩))

variable (x : Vec Ideal S512x1024 .f32) (w : Vec Ideal S1x2816x1024 .bf16) (g u : S512x2816.Idx → EReal)

theorem blockOf_left (y : S512x5632.Idx) (p : Fin 512) (k : Fin 2816) (h0 : (y 0).val = p.val) (h1 : (y 1).val = k.val) :
    blockOf x w g u y = gateG (daOf (fun j => x (ValueIdx.ix2 p j)) fun j => w (ValueIdx.ix3 0 k j)) (u (ValueIdx.ix2 p k)) (g (ValueIdx.ix2 p k)) := by
  have hk : k.val < 5632 := Nat.lt_trans k.isLt (by decide)
  obtain rfl : y = ValueIdx.ix2 p ⟨k.val, hk⟩ := by
    funext a
    match a with
    | ⟨0, _⟩ => exact Fin.ext h0
    | ⟨1, _⟩ => exact Fin.ext h1
  unfold blockOf
  rw [dif_pos (show k.val < 2816 from k.isLt)]

theorem blockOf_right (y : S512x5632.Idx) (p : Fin 512) (k : Fin 2816) (h0 : (y 0).val = p.val) (h1 : (y 1).val = k.val + 2816) :
    blockOf x w g u y = gateU (daOf (fun j => x (ValueIdx.ix2 p j)) fun j => w (ValueIdx.ix3 0 k j)) (g (ValueIdx.ix2 p k)) := by
  have hk : k.val + 2816 < 5632 := Nat.add_lt_add_right k.isLt 2816
  obtain rfl : y = ValueIdx.ix2 p ⟨k.val + 2816, hk⟩ := by
    funext a
    match a with
    | ⟨0, _⟩ => exact Fin.ext h0
    | ⟨1, _⟩ => exact Fin.ext h1
  unfold blockOf
  rw [dif_neg (show ¬ k.val + 2816 < 2816 by omega)]
  have hk : (⟨k.val + 2816 - 2816, by have := k.isLt; omega⟩ : Fin 2816) = k := Fin.ext (by dsimp only; omega)
  exact congrArg (fun k' : Fin 2816 => gateU (daOf (fun j => x (ValueIdx.ix2 p j)) fun j => w (ValueIdx.ix3 0 k' j)) (g (ValueIdx.ix2 p k'))) hk

/-- Columns `o … o + 1407` of a slab, read after the slot was filled whole. -/
theorem slot_read {sp : Space} (v : View sig .tc sp S512x2816 .bf16) (Z : S512x2816.Idx → EReal) (o : ℕ) (inb) (p : Fin 512) (q : Fin 1408) (k : Fin 2816)
    (hk : k.val = o + q.val) :
    v.readCov (Val := Elt Ideal) [⟨Rect.whole S512x2816, Z⟩] (Rect.unit (s := S512x2816) ![0, o] ![512, 1408] inb).toLoadRect (ValueIdx.ix2 p q) = Z (ValueIdx.ix2 p k) := by
  have e := View.readCov_fill (Val := Elt Ideal) (e := .bf16) v (off := fun _ => 0) (fun a => by simp) Z [] (Rect.unit (s := S512x2816) ![0, o] ![512, 1408] inb) (fun _ => rfl)
  refine (congrFun e (ValueIdx.ix2 p q)).trans (congrArg Z (funext fun a => Fin.ext ?_))
  match a with
  | ⟨0, _⟩ => show 0 + 1 * p.val = p.val; omega
  | ⟨1, _⟩ => show o + 1 * q.val = k.val; omega

/-- Rows `o … o + 1407` of the weight. -/
theorem w_read (o : ℕ) (inb) (q : Fin 1408) (j : Fin 1024) (k : Fin 2816) (hk : k.val = o + q.val) :
    View.ld w (Rect.unit (s := S1x2816x1024) ![0, o, 0] ![1, 1408, 1024] inb) (ValueIdx.ix3 0 q j) = w (ValueIdx.ix3 0 k j) := by
  refine congrArg w (funext fun a => Fin.ext ?_)
  match a with
  | ⟨0, _⟩ => rfl
  | ⟨1, _⟩ => show o + 1 * q.val = k.val; omega
  | ⟨2, _⟩ => show 0 + 1 * j.val = j.val; omega

theorem idx2 {a b : ℕ} (i : (⟨2, ![a, b]⟩ : Shape).Idx) : i = ValueIdx.ix2 (i 0) (i 1) := by
  funext k
  match k with
  | ⟨0, _⟩ => rfl
  | ⟨1, _⟩ => rfl

/-- The four stores of a point's body are blocks of `blockOf`. -/
theorem pieces {sp : Space} (v1 v2 : View sig .tc sp S512x2816 .bf16) :
    View.PiecesOf (Val := Elt Ideal) (s := S512x5632) (e := .bf16) (blockOf x w g u)
      [⟨Rect.unit ![0, 4224] ![512, 1408] inb_S512x5632_S512x1408_0_4224,
          k0_pay6 (k0_pay14 (k0_pay7 x) (View.ld w (Rect.unit ![0, 1408, 0] ![1, 1408, 1024] inb_S1x2816x1024_S1x1408x1024_0_1408_0)))
            (v1.readCov [⟨Rect.whole S512x2816, g⟩] (Rect.unit ![0, 1408] ![512, 1408] inb_S512x2816_S512x1408_0_1408).toLoadRect)⟩,
       ⟨Rect.unit ![0, 1408] ![512, 1408] inb_S512x5632_S512x1408_0_1408,
          k0_pay5 (k0_pay14 (k0_pay7 x) (View.ld w (Rect.unit ![0, 1408, 0] ![1, 1408, 1024] inb_S1x2816x1024_S1x1408x1024_0_1408_0)))
            (v1.readCov [⟨Rect.whole S512x2816, g⟩] (Rect.unit ![0, 1408] ![512, 1408] inb_S512x2816_S512x1408_0_1408).toLoadRect)
            (v2.readCov [⟨Rect.whole S512x2816, u⟩] (Rect.unit ![0, 1408] ![512, 1408] inb_S512x2816_S512x1408_0_1408).toLoadRect)⟩,
       ⟨Rect.unit ![0, 2816] ![512, 1408] inb_S512x5632_S512x1408_0_2816,
          k0_pay13 (k0_pay7 x) (View.ld w (Rect.unit ![0, 0, 0] ![1, 1408, 1024] inb_S1x2816x1024_S1x1408x1024_0_0_0))
            (v1.readCov [⟨Rect.whole S512x2816, g⟩] (Rect.unit ![0, 0] ![512, 1408] inb_S512x2816_S512x1408_0_0).toLoadRect)⟩,
       ⟨Rect.unit ![0, 0] ![512, 1408] inb_S512x5632_S512x1408_0_0,
          k0_pay12 (k0_pay7 x) (View.ld w (Rect.unit ![0, 0, 0] ![1, 1408, 1024] inb_S1x2816x1024_S1x1408x1024_0_0_0))
            (v1.readCov [⟨Rect.whole S512x2816, g⟩] (Rect.unit ![0, 0] ![512, 1408] inb_S512x2816_S512x1408_0_0).toLoadRect)
            (v2.readCov [⟨Rect.whole S512x2816, u⟩] (Rect.unit ![0, 0] ![512, 1408] inb_S512x2816_S512x1408_0_0).toLoadRect)⟩] := by
  refine ⟨fun i => ?_, fun i => ?_, fun i => ?_, fun i => ?_, trivial⟩ <;>
    obtain ⟨p, q, rfl⟩ : ∃ (p : Fin 512) (q : Fin 1408), i = ValueIdx.ix2 p q := ⟨i 0, i 1, idx2 i⟩
  · refine (pay6_apply ..).trans (.trans ?_ (blockOf_right x w g u _ p ⟨1408 + q.val, by have := q.isLt; omega⟩ ?_ ?_).symm)
    · rw [slot_read v1 g 1408 _ p q ⟨1408 + q.val, by have := q.isLt; omega⟩ rfl]
      simp only [w_read w 1408 _ q _ ⟨1408 + q.val, by have := q.isLt; omega⟩ rfl]
    · show 0 + 1 * p.val = p.val; omega
    · show 4224 + 1 * q.val = 1408 + q.val + 2816; omega
  · refine (pay5_apply ..).trans (.trans ?_ (blockOf_left x w g u _ p ⟨1408 + q.val, by have := q.isLt; omega⟩ ?_ ?_).symm)
    · rw [slot_read v1 g 1408 _ p q ⟨1408 + q.val, by have := q.isLt; omega⟩ rfl, slot_read v2 u 1408 _ p q ⟨1408 + q.val, by have := q.isLt; omega⟩ rfl]
      simp only [w_read w 1408 _ q _ ⟨1408 + q.val, by have := q.isLt; omega⟩ rfl]
    · show 0 + 1 * p.val = p.val; omega
    · show 1408 + 1 * q.val = 1408 + q.val; omega
  · refine (pay13_apply ..).trans (.trans ?_ (blockOf_right x w g u _ p ⟨q.val, by have := q.isLt; omega⟩ ?_ ?_).symm)
    · rw [slot_read v1 g 0 _ p q ⟨q.val, by have := q.isLt; omega⟩ (Nat.zero_add _).symm]
      simp only [w_read w 0 _ q _ ⟨q.val, by have := q.isLt; omega⟩ (Nat.zero_add _).symm]
    · show 0 + 1 * p.val = p.val; omega
    · show 2816 + 1 * q.val = q.val + 2816; omega
  · refine (pay12_apply ..).trans (.trans ?_ (blockOf_left x w g u _ p ⟨q.val, by have := q.isLt; omega⟩ ?_ ?_).symm)
    · rw [slot_read v1 g 0 _ p q ⟨q.val, by have := q.isLt; omega⟩ (Nat.zero_add _).symm, slot_read v2 u 0 _ p q ⟨q.val, by have := q.isLt; omega⟩ (Nat.zero_add _).symm]
      simp only [w_read w 0 _ q _ ⟨q.val, by have := q.isLt; omega⟩ (Nat.zero_add _).symm]
    · show 0 + 1 * p.val = p.val; omega
    · show 0 + 1 * q.val = q.val; omega

variable (c : Dev nD) (t : Fin cfg0.N) (arg1 : Memref sig .tc .vmem S512x1024 .f32) (harg1 : arg1.IsWhole) (arg2 : Memref sig .tc .vmem S1x2816x1024 .bf16) (harg2 : arg2.IsWhole) (arg5 : Memref sig .tc .vmem S512x5632 .bf16) (harg5 : arg5.IsWhole)
  (fh0 : HbBuf0 (F := Ideal) c hbM0_0) (fh1 : HbBuf0 (F := Ideal) c hbM0_1)

/-- Point `t`'s rows of the gate and of the other factor. -/
abbrev gRows : S512x2816.Idx → EReal := View.read (Elt Ideal) (srcB0_0 (Ring.bk 8 t.val)).view fh0
abbrev uRows : S512x2816.Idx → EReal := View.read (Elt Ideal) (srcB0_1 (Ring.bk 8 t.val)).view fh1

theorem out_A (hc0 : cond0_0 (grid0.coords t)) (hc1 : cond0_1 (grid0.coords t)) :
    out0_A_2 c t arg1 harg1 arg2 harg2 arg5 harg5 hc0 hc1 x w fh0 fh1 = blockOf x w (gRows c t fh0) (uRows c t fh1) := by
  funext y
  unfold out0_A_2
  rw [View.read_writes_eq_canon _ _ _ (cover0_A_2 c t arg1 harg1 arg2 harg2 arg5 harg5 hc0 hc1 x w fh0 fh1)]
  refine View.canon_apply_of_pieces _ _ ?_ _ (cover0_A_2 c t arg1 harg1 arg2 harg2 arg5 harg5 hc0 hc1 x w fh0 fh1 y)
  unfold kernelRun0_A
  dsimp only
  sl_unfold_words
  simp only [View.readAt_eq_ld, harg1.read_unread, harg2.read_unread, View.ld_unit_zero (S := S512x1024) hz]
  exact View.PiecesOf.mem (pieces x w _ _ (rslot0_0 (Fin.ofNat 3 t.val)).view (rslot0_1 (Fin.ofNat 3 t.val)).view)

theorem out_B (hc0 : ¬cond0_0 (grid0.coords t)) (hc1 : cond0_1 (grid0.coords t)) :
    out0_B_2 c t arg1 harg1 arg2 harg2 arg5 harg5 hc0 hc1 x w fh0 fh1 = blockOf x w (gRows c t fh0) (uRows c t fh1) := by
  funext y
  unfold out0_B_2
  rw [View.read_writes_eq_canon _ _ _ (cover0_B_2 c t arg1 harg1 arg2 harg2 arg5 harg5 hc0 hc1 x w fh0 fh1)]
  refine View.canon_apply_of_pieces _ _ ?_ _ (cover0_B_2 c t arg1 harg1 arg2 harg2 arg5 harg5 hc0 hc1 x w fh0 fh1 y)
  unfold kernelRun0_B
  dsimp only
  sl_unfold_words
  simp only [View.readAt_eq_ld, harg1.read_unread, harg2.read_unread, View.ld_unit_zero (S := S512x1024) hz]
  exact View.PiecesOf.mem (pieces x w _ _ (rslot0_0 (Fin.ofNat 3 t.val)).view (rslot0_1 (Fin.ofNat 3 t.val)).view)

theorem out_C (hc0 : ¬cond0_0 (grid0.coords t)) (hc1 : ¬cond0_1 (grid0.coords t)) :
    out0_C_2 c t arg1 harg1 arg2 harg2 arg5 harg5 hc0 hc1 x w fh0 fh1 = blockOf x w (gRows c t fh0) (uRows c t fh1) := by
  funext y
  unfold out0_C_2
  rw [View.read_writes_eq_canon _ _ _ (cover0_C_2 c t arg1 harg1 arg2 harg2 arg5 harg5 hc0 hc1 x w fh0 fh1)]
  refine View.canon_apply_of_pieces _ _ ?_ _ (cover0_C_2 c t arg1 harg1 arg2 harg2 arg5 harg5 hc0 hc1 x w fh0 fh1 y)
  unfold kernelRun0_C
  dsimp only
  sl_unfold_words
  simp only [View.readAt_eq_ld, harg1.read_unread, harg2.read_unread, View.ld_unit_zero (S := S512x1024) hz]
  exact View.PiecesOf.mem (pieces x w _ _ (rslot0_0 (Fin.ofNat 3 t.val)).view (rslot0_1 (Fin.ofNat 3 t.val)).view)

end Cert.FfnDa

end
-- ==== Proof.FfnDa.Kernel.lean ====
module

public import proofs.«01_k».proof.Proof.FfnDa.Blocks
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.FfnDa

variable (m : (ℓ : Loc nD τ sig) → Buf (Elt Ideal) ℓ) (c : Dev nD)

/-- The arguments, as functions of their indices. -/
abbrev argD : FVec Ideal S4096x1024 .f32 := m ((c.tc : Thread nD τ).loc main_arg0)
abbrev argW : FVec Ideal S1x2816x1024 .bf16 := m ((c.tc : Thread nD τ).loc main_arg1)
abbrev argG : FVec Ideal S4096x2816 .bf16 := m ((c.tc : Thread nD τ).loc main_arg2)
abbrev argU : FVec Ideal S4096x2816 .bf16 := m ((c.tc : Thread nD τ).loc main_arg3)

def daAtK (p : Fin 4096) (k : Fin 2816) : EReal :=
  daOf (fun j => argD m c (ValueIdx.ix2 p j)) fun j => argW m c (ValueIdx.ix3 0 k j)

/-- What the kernel leaves: the gate's gradient in the left half of the columns, the other factor's in the right half. -/
def dzAt (i : S4096x5632.Idx) : EReal :=
  if h : (i 1).val < 2816 then
    gateG (daAtK m c (i 0) ⟨(i 1).val, h⟩) (argU m c (ValueIdx.ix2 (i 0) ⟨(i 1).val, h⟩)) (argG m c (ValueIdx.ix2 (i 0) ⟨(i 1).val, h⟩))
  else
    have h' : (i 1).val - 2816 < 2816 := by have : (i 1).val < 5632 := (i 1).isLt; omega
    gateU (daAtK m c (i 0) ⟨(i 1).val - 2816, h'⟩) (argG m c (ValueIdx.ix2 (i 0) ⟨(i 1).val - 2816, h'⟩))

theorem dzAt_left (p : Fin 4096) (q : Fin 5632) (h : q.val < 2816) :
    dzAt m c (ValueIdx.ix2 p q) = gateG (daAtK m c p ⟨q.val, h⟩) (argU m c (ValueIdx.ix2 p ⟨q.val, h⟩)) (argG m c (ValueIdx.ix2 p ⟨q.val, h⟩)) := by
  unfold dzAt
  rw [dif_pos (show ((ValueIdx.ix2 p q : S4096x5632.Idx) 1).val < 2816 from h)]

theorem dzAt_right (p : Fin 4096) (q : Fin 5632) (h : ¬ q.val < 2816) (h' : q.val - 2816 < 2816) :
    dzAt m c (ValueIdx.ix2 p q) = gateU (daAtK m c p ⟨q.val - 2816, h'⟩) (argG m c (ValueIdx.ix2 p ⟨q.val - 2816, h'⟩)) := by
  unfold dzAt
  rw [dif_neg (show ¬ ((ValueIdx.ix2 p q : S4096x5632.Idx) 1).val < 2816 from h)]

/-- Row `p` of point `t`'s block is row `512 t + p` of the array. -/
def rowOf (t : Fin cfg0.N) (p : Fin 512) : Fin 4096 := ⟨512 * t.val + p.val, by have : t.val < 8 := lt_of_lt_of_eq t.isLt N_0; have := p.isLt; omega⟩

theorem idx_facts : ∀ t : Fin cfg0.N, (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 0) ∧ (Ring.bk 8 t.val).val = t.val ∧ win0_2.flush t = true :=
  (by decide +kernel : ∀ t : Fin grid0.N, _)

theorem iblk0 (t : Fin cfg0.N) (p : Fin 512) (k : Fin 1024) : iblk m c 0 t (ValueIdx.ix2 p k) = argD m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = 512 * t.val + p.val; omega
  | ⟨1, _⟩ => show win0_0.index t 1 * 1024 + 1 * k.val = k.val; omega

theorem iblk1 (t : Fin cfg0.N) (k : Fin 2816) (j : Fin 1024) : iblk m c 1 t (ValueIdx.ix3 0 k j) = argW m c (ValueIdx.ix3 0 k j) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 2816 + 1 * k.val = k.val; omega
  | ⟨2, _⟩ => show win0_1.index t 2 * 1024 + 1 * j.val = j.val; omega

theorem gRows_apply (t : Fin cfg0.N) (p : Fin 512) (k : Fin 2816) :
    gRows c t (V m c main_arg2) (ValueIdx.ix2 p k) = argG m c (ValueIdx.ix2 (rowOf t p) k) := by
  obtain ⟨-, -, -, h, -⟩ := idx_facts t
  rw [V_main_arg2]
  show argG m c _ = _
  refine congrArg (argG m c) (funext fun a => Fin.ext ?_)
  match a with
  | ⟨0, _⟩ => show 512 * (Ring.bk 8 t.val).val + 1 * p.val = 512 * t.val + p.val; omega
  | ⟨1, _⟩ => show 0 + 1 * k.val = k.val; omega

theorem uRows_apply (t : Fin cfg0.N) (p : Fin 512) (k : Fin 2816) :
    uRows c t (V m c main_arg3) (ValueIdx.ix2 p k) = argU m c (ValueIdx.ix2 (rowOf t p) k) := by
  obtain ⟨-, -, -, h, -⟩ := idx_facts t
  rw [V_main_arg3]
  show argU m c _ = _
  refine congrArg (argU m c) (funext fun a => Fin.ext ?_)
  match a with
  | ⟨0, _⟩ => show 512 * (Ring.bk 8 t.val).val + 1 * p.val = 512 * t.val + p.val; omega
  | ⟨1, _⟩ => show 0 + 1 * k.val = k.val; omega

/-- The cases of a point. -/
theorem outs_dz (t : Fin cfg0.N) :
    outsAt0 m c t.val t.isLt = blockOf (iblk m c 0 t) (iblk m c 1 t) (gRows c t (V m c main_arg2)) (uRows c t (V m c main_arg3)) := by
  have hN : t.val < 8 := lt_of_lt_of_eq t.isLt N_0
  by_cases h0 : t.val % 8 = 0
  · rw [outsAt0_A m c t h0 (by omega), out_A]
  · by_cases h1 : t.val < 6
    · rw [outsAt0_B m c t h0 h1, out_B]
    · rw [outsAt0_C m c t h0 h1, out_C]

theorem dz_block (t : Fin cfg0.N) (p : Fin 512) (q : Fin 5632) :
    outsAt0 m c t.val t.isLt (ValueIdx.ix2 p q) = dzAt m c (ValueIdx.ix2 (rowOf t p) q) := by
  rw [outs_dz]
  by_cases hq : q.val < 2816
  · rw [blockOf_left _ _ _ _ _ p ⟨q.val, hq⟩ rfl rfl, dzAt_left m c _ q hq]
    simp only [iblk0, iblk1, gRows_apply, uRows_apply]
    rfl
  · rw [blockOf_right _ _ _ _ _ p ⟨q.val - 2816, by have := q.isLt; omega⟩ rfl (show q.val = q.val - 2816 + 2816 by omega), dzAt_right m c _ q hq (by have := q.isLt; omega)]
    simp only [iblk0, iblk1, gRows_apply]
    rfl

theorem final_dz : (dats m 0 c).arrAt 2 cfg0.N = dzAt m c := by
  refine (dats m 0 c).arrAt_eq_of_cover 2 (dzAt m c) (fun t _ => ?_) fun i => ?_
  · obtain ⟨-, -, ⟨h0, h1⟩, -⟩ := idx_facts t
    rw [Value.flushed2]
    funext i
    obtain ⟨p, q, rfl⟩ : ∃ (p : Fin 512) (q : Fin 5632), i = ValueIdx.ix2 p q := ⟨i 0, i 1, idx2 i⟩
    refine (dz_block m c t p q).trans (congrArg (dzAt m c) (funext fun a => Fin.ext ?_))
    match a with
    | ⟨0, _⟩ => show 512 * t.val + p.val = win0_2.index t 0 * 512 + 1 * p.val; omega
    | ⟨1, _⟩ => show q.val = win0_2.index t 1 * 5632 + 1 * q.val; omega
  · have hi0 : (i 0 : ℕ) < 4096 := (i 0).isLt
    have hi1 : (i 1 : ℕ) < 5632 := (i 1).isLt
    have ht : (i 0 : ℕ) / 512 < cfg0.N := by rw [show cfg0.N = 8 from N_0]; omega
    obtain ⟨-, -, ⟨h0, h1⟩, -, hf⟩ := idx_facts ⟨_, ht⟩
    dsimp only at h0
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 512 ≤ (i 0 : ℕ) ∧ (i 0 : ℕ) < win0_2.index ⟨_, ht⟩ 0 * 512 + 512; omega
    | ⟨1, _⟩ => show win0_2.index ⟨_, ht⟩ 1 * 5632 ≤ (i 1 : ℕ) ∧ (i 1 : ℕ) < win0_2.index ⟨_, ht⟩ 1 * 5632 + 5632; omega

end Cert.FfnDa

end
-- ==== Proof.FfnDa.Real.lean ====
module

public import proofs.«01_k».proof.Proof.FfnDa.Spec
public import proofs.«01_k».proof.Pre_finite3
public import Idealize.ShloMosaic.Lib.ReduceAll

@[expose] public section

set_option maxRecDepth 16384

noncomputable section

open Idealize.ShloMosaic Idealize.SL.Sem

namespace Cert.FfnDa

/-! ## Where the gate's gradient may be multiplied out -/

/-- A value that is a real number. -/
def IsReal (x : EReal) : Prop := ∃ r : ℝ, x = r

theorem IsReal.mul {a b : EReal} : IsReal a → IsReal b → IsReal (a * b)
  | ⟨x, hx⟩, ⟨y, hy⟩ => ⟨x * y, by rw [hx, hy, EReal.coe_mul]⟩

theorem IsReal.add {a b : EReal} : IsReal a → IsReal b → IsReal (a + b)
  | ⟨x, hx⟩, ⟨y, hy⟩ => ⟨x + y, by rw [hx, hy, EReal.coe_add]⟩

theorem IsReal.sum {n : ℕ} {f : Fin n → EReal} (h : ∀ i, IsReal (f i)) : IsReal (∑ i, f i) :=
  Finset.sum_induction f IsReal (fun _ _ => IsReal.add) ⟨0, rfl⟩ fun i _ => h i

theorem isReal_half : IsReal (Ideal.ofBits .f32 0x3F000000#32) := by
  simp [Ideal.ofBits, Ideal.ieee]
  exact ⟨_, rfl⟩

theorem IsReal.mul_add {a b c : EReal} : IsReal a → IsReal b → IsReal c → a * (b + c) = a * b + a * c
  | ⟨x, hx⟩, ⟨y, hy⟩, ⟨z, hz⟩ => by
    subst hx hy hz
    rw [← EReal.coe_add, ← EReal.coe_mul, ← EReal.coe_mul, ← EReal.coe_mul, ← EReal.coe_add, _root_.mul_add]

theorem div_real (x : ℝ) (y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem logi_real (r : ℝ) : logi r = ((1 / (1 + Real.exp (0 - r)) : ℝ) : EReal) := by
  have e : Ideal.exp (0 - (r : EReal)) = ((Real.exp (0 - r) : ℝ) : EReal) := by
    rw [show (0 : EReal) - r = ((0 - r : ℝ) : EReal) from (EReal.coe_sub 0 r).symm]
    rfl
  unfold logi
  rw [e, show (1 : EReal) + (Real.exp (0 - r) : ℝ) = ((1 + Real.exp (0 - r) : ℝ) : EReal) from (EReal.coe_add 1 _).symm]
  exact div_real 1 _ (by have := Real.exp_pos (0 - r); linarith)

theorem logi_top : logi ⊤ = 1 := by
  unfold logi
  have e : Ideal.exp (0 - ⊤) = 0 := by rw [sub_eq_add_neg, zero_add, EReal.neg_top]; rfl
  rw [e, add_zero]
  exact (div_real 1 1 one_ne_zero).trans (by norm_num)

theorem logi_bot : logi ⊥ = 0 := by
  unfold logi
  have e : Ideal.exp (0 - ⊥) = ⊤ := by rw [sub_eq_add_neg, zero_add, EReal.neg_bot]; rfl
  rw [e, show (1 : EReal) + ⊤ = ⊤ from EReal.coe_add_top 1]
  unfold Ideal.div
  rw [if_neg EReal.top_ne_zero, EReal.inv_top, mul_zero]

/-- The two terms of the activation's derivative are real, at the infinities too. -/
theorem isReal_logi (g : EReal) : IsReal (logi g) ∧ IsReal (g * logi g * (1 - logi g)) := by
  induction g with
  | bot => rw [logi_bot, mul_zero, zero_mul]; exact ⟨⟨0, rfl⟩, ⟨0, rfl⟩⟩
  | top =>
    have e : (1 : EReal) - 1 = 0 := by rw [← EReal.coe_one, ← EReal.coe_sub, sub_self, EReal.coe_zero]
    rw [logi_top, e, mul_zero]
    exact ⟨⟨1, rfl⟩, ⟨0, rfl⟩⟩
  | coe r =>
    rw [logi_real]
    refine ⟨⟨_, rfl⟩, ⟨r * (1 / (1 + Real.exp (0 - r))) * (1 - 1 / (1 + Real.exp (0 - r))), ?_⟩⟩
    rw [EReal.coe_mul, EReal.coe_mul, EReal.coe_sub, EReal.coe_one]

/-- The gate's gradient as differentiation writes it. -/
theorem gateG_eq {a u : EReal} (ha : IsReal a) (hu : IsReal u) (g : EReal) :
    gateG a u g = a * u * logi g + g * (a * u) * (logi g * (1 - logi g)) := by
  unfold gateG
  rw [(ha.mul hu).mul_add (isReal_logi g).1 (isReal_logi g).2]
  have e : a * u * (g * logi g * (1 - logi g)) = g * (a * u) * (logi g * (1 - logi g)) := by ac_rfl
  rw [e]

theorem isReal_daOf {d w : Fin 1024 → EReal} (hd : ∀ j, IsReal (d j)) (hw : ∀ j, IsReal (w j)) : IsReal (daOf d w) :=
  IsReal.sum fun j => ((hd j).mul isReal_half).mul (hw j)

/-! ## What the precondition says -/

instance pre_facts : Cert.Pre_finite3.Facts where
  bcast_S_S4096x1024 := by decide
  reducesTo_S4096x1024_S_d0_1 := by decide
  h_S_ := by decide
  bitsLt_bf16_f32 := by decide
  bcast_S_S1x2816x1024 := by decide
  reducesTo_S1x2816x1024_S_d0_1_2 := by decide
  bcast_S_S4096x2816 := by decide
  reducesTo_S4096x2816_S_d0_1 := by decide

/-- A magnitude below infinity is a real number's. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      unfold Ideal.cmp
      dsimp only
      rw [decide_eq_false hn]
      rfl
    rw [this] at h
    exact absurd h (by decide)
  induction x with
  | bot => exact absurd hlt (by simp)
  | top => exact absurd hlt (by simp)
  | coe r => exact ⟨r, rfl⟩

theorem and_one (a b : BitVec 1) (h : IntOp.andi a b = 1#1) : a = 1#1 ∧ b = 1#1 := by
  revert h
  revert a b
  decide

theorem pre_real (d : FVec Ideal Cert.Pre_finite3.S4096x1024 .f32) (w : FVec Ideal Cert.Pre_finite3.S1x2816x1024 .bf16)
    (g u : FVec Ideal Cert.Pre_finite3.S4096x2816 .bf16) (j : Cert.Pre_finite3.S_.Idx)
    (h : Cert.Pre_finite3.fn (F := Ideal) d w g u j = 1#1) : (∀ i, IsReal (d i)) ∧ (∀ i, IsReal (w i)) ∧ ∀ i, IsReal (u i) := by
  haveI : Subsingleton Cert.Pre_finite3.S_.Idx := ⟨fun a b => funext fun k => k.elim0⟩
  obtain ⟨h', h3⟩ := and_one _ _ h
  obtain ⟨h1, h2⟩ := and_one _ _ h'
  exact ⟨fun i => isReal_of_lt _ (Host.reduce_andi_all _ _ _ _ j h1 i), fun i => isReal_of_lt _ (Host.reduce_andi_all _ _ _ _ j h2 i),
    fun i => isReal_of_lt _ (Host.reduce_andi_all _ _ _ _ j h3 i)⟩

end Cert.FfnDa

end
-- ==== Proof.FfnDa.Reference.lean ====
module

public import proofs.«01_k».proof.Proof.FfnDa.Real
public import proofs.«01_k».proof.Proof.Gen.Reference3Ideal.Read
public import Idealize.ShloMosaic.Lib.Pipeline.Value

@[expose] public section

set_option maxRecDepth 16384

noncomputable section

open Idealize.ShloMosaic Idealize.SL.Sem
open Cert.Reference3Ideal Cert.Reference3Ideal.Read

namespace Cert.FfnDa

variable (d : FVec Ideal S4096x1024 .f32) (w : FVec Ideal S1x2816x1024 .bf16) (g u : FVec Ideal S4096x2816 .bf16) (p : Fin 4096) (k : Fin 2816)

/-- The gradient of the gated activation at a row and a column. -/
def daAt : EReal := daOf (fun j => d (ValueIdx.ix2 p j)) fun j => w (ValueIdx.ix3 0 k j)

theorem ref_da : val_main_v11 (F := Ideal) d w (ValueIdx.ix2 p k) = daAt d w p k := by
  unfold val_main_v11 val_main_v10 val_main_v9 val_main_v1 val_main_v0 val_main_cst_0
  pointwise
  exact Finset.sum_congr rfl fun j _ => congrArg (· * _) (mul_comm _ _)

theorem neg_eq (x : EReal) : 0 - x = -x := by rw [sub_eq_add_neg, zero_add]

theorem ref_logi : val_main_v4_2 (F := Ideal) g (ValueIdx.ix2 p k) = logi (g (ValueIdx.ix2 p k)) := by
  unfold val_main_v4_2 val_main_call0_v4 val_main_call0_cst_0 val_main_call0_v3 val_main_call0_v2 val_main_call0_cst val_main_call0_v1 val_main_call0_v0 val_main_v2
  unfold logi
  rw [neg_eq]
  pointwise

/-- The columns of the gate. -/
theorem ref_gate : val_main_v14 (F := Ideal) d w g u (ValueIdx.ix2 p k)
    = daAt d w p k * u (ValueIdx.ix2 p k) * logi (g (ValueIdx.ix2 p k))
      + g (ValueIdx.ix2 p k) * (daAt d w p k * u (ValueIdx.ix2 p k)) * (logi (g (ValueIdx.ix2 p k)) * (1 - logi (g (ValueIdx.ix2 p k)))) := by
  unfold val_main_v14 val_main_call1_v2 val_main_call1_v1 val_main_call1_v0 val_main_v13 val_main_v4_1 val_main_call0_v7 val_main_call0_v6 val_main_call0_cst_1 val_main_v3 val_main_v2
  pointwise
  rw [ref_da, ref_logi]

/-- The columns of the other factor. -/
theorem ref_up : val_main_v12 (F := Ideal) d w g (ValueIdx.ix2 p k) = gateU (daAt d w p k) (g (ValueIdx.ix2 p k)) := by
  unfold val_main_v12 val_main_v4_0 val_main_v2
  pointwise
  rw [ref_da, ref_logi]
  exact mul_comm _ _

/-- The reference's result where the precondition holds, at a column of either half. -/
theorem ref_left (hd : ∀ i, IsReal (d i)) (hw : ∀ i, IsReal (w i)) (hu : ∀ i, IsReal (u i)) (q : Fin 5632) (hq : q.val = k.val) :
    val_main_v16 (F := Ideal) d w g u (ValueIdx.ix2 p q) = gateG (daAt d w p k) (u (ValueIdx.ix2 p k)) (g (ValueIdx.ix2 p k)) := by
  unfold val_main_v16 val_main_v15
  refine (concatenate_pair_apply_left (t := S4096x5632) (s₁ := S4096x2816) (s₂ := S4096x2816) 1 (val_main_v14 (F := Ideal) d w g u) (val_main_v12 (F := Ideal) d w g) Gen.concatenates_S4096x2816_S4096x2816_S4096x5632_d1 (ValueIdx.ix2 p q) rfl (ValueIdx.ix2 p k) fun b => ?_).trans ?_
  · match b with
    | ⟨0, _⟩ => rfl
    | ⟨1, _⟩ => exact hq.symm
  · exact (ref_gate d w g u p k).trans (gateG_eq (isReal_daOf (fun _ => hd _) fun _ => hw _) (hu _) _).symm

theorem ref_right (q : Fin 5632) (hq : q.val = k.val + 2816) :
    val_main_v16 (F := Ideal) d w g u (ValueIdx.ix2 p q) = gateU (daAt d w p k) (g (ValueIdx.ix2 p k)) := by
  unfold val_main_v16 val_main_v15
  refine (concatenate_pair_apply_right (t := S4096x5632) (s₁ := S4096x2816) (s₂ := S4096x2816) 1 (val_main_v14 (F := Ideal) d w g u) (val_main_v12 (F := Ideal) d w g) Gen.concatenates_S4096x2816_S4096x2816_S4096x5632_d1 (ValueIdx.ix2 p q) rfl rfl (ValueIdx.ix2 p k) (fun b hb => ?_) hq.symm).trans (ref_up d w g p k)
  match b with
  | ⟨0, _⟩ => rfl
  | ⟨1, _⟩ => exact absurd rfl hb

end Cert.FfnDa

end
-- ==== Proof.FfnDa.lean ====
module

public import proofs.«01_k».proof.Defs
public import proofs.«01_k».proof.Proof.FfnDa.Kernel
public import proofs.«01_k».proof.Proof.FfnDa.Reference
public import proofs.«01_k».proof.Proof.Gen.Kernel3.Frame
public import proofs.«01_k».proof.Proof.Gen.Reference3Ideal.Run
public import Idealize.ShloMosaic.Lib.Quiescent

@[expose] public section

noncomputable section

open Idealize.ShloMosaic Idealize.ShloMosaic.TcCoe Idealize.SL.Sem

/-! ## The claims about the backward call of the gated half step -/

namespace Cert.FfnDa

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_pre : Cert.quiescent_Kernel3Ideal_pre_finite3 := fun m ρ _ => Cert.Kernel3Ideal.Gen.frame m ρ

/-- The reference leaves its arguments unchanged; it declares no semaphore. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_reference_pre : Cert.quiescent_Reference3Ideal_pre_finite3 := fun m ρ _ => frame_reference m ρ trivial

theorem algebraic : Cert.algebraic_Kernel3Ideal_Reference3Ideal_pre_finite3 := by
  intro m ρ m' ρ' hpre hagree
  refine ⟨fun c => dzAt m c, ?_, ?_⟩
  · refine (θ_run Cert.Kernel3Ideal.defs _ _).mono (fun _ h c => ?_) (Cert.Kernel3Ideal.Value.run_blocks (F := Ideal) m ρ)
    exact ⟨(h c).1.trans (final_dz m c), (h c).2⟩
  · refine (θ_run Cert.Reference3Ideal.defs _ _).mono (fun _ h c => ?_) (Cert.Reference3Ideal.Value.run (F := Ideal) m' ρ')
    obtain ⟨a0, a1, a2, a3⟩ := hagree c
    refine ⟨(h c).1.trans ?_, (h c).2⟩
    rw [Cert.Reference3Ideal.Read.val_main_v16_eq, a0, a1, a2, a3]
    obtain ⟨hd, hw, hu⟩ := pre_real _ _ _ _ _ (congrFun (hpre c) fun k => k.elim0)
    funext i
    obtain ⟨p, q, rfl⟩ : ∃ (p : Fin 4096) (q : Fin 5632), i = ValueIdx.ix2 p q := ⟨i 0, i 1, idx2 i⟩
    by_cases hq : q.val < 2816
    · exact (ref_left _ _ _ _ p ⟨q.val, hq⟩ hd hw hu q rfl).trans (dzAt_left m c p q hq).symm
    · exact (ref_right _ _ _ _ p ⟨q.val - 2816, by have := q.isLt; omega⟩ q (show q.val = q.val - 2816 + 2816 by omega)).trans (dzAt_right m c p q hq (by have := q.isLt; omega)).symm

end Cert.FfnDa

end
-- ==== Proof.FfnIn.Kernel.lean ====
module

public import proofs.«01_k».proof.Proof.Gen.Kernel4Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Cert.Kernel4Ideal Cert.Kernel4Ideal.Gen

namespace Cert.FfnIn

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-- A row against a column. -/
def prod (h w : Fin 1024 → EReal) : EReal := ∑ j, h j * w j

/-- The gated activation. -/
def act (g u : EReal) : EReal := g * Ideal.div 1 (1 + Ideal.exp (-g)) * u

/-- Column `q` of the weight's gate half and of its other half. -/
def gateCol (q : Fin 2816) : Fin 5632 := ⟨q.val, Nat.lt_trans q.isLt (by decide)⟩
def upCol (q : Fin 2816) : Fin 5632 := ⟨2816 + q.val, Nat.add_lt_add_left q.isLt 2816⟩

section Blocks
variable (x : Vec Ideal S1024x1024 .bf16) (v w : Vec Ideal S1x1024x2816 .bf16) (p : Fin 1024) (q : Fin 2816)

theorem out_gate : out0_3 x v w (ValueIdx.ix2 p q) = prod (fun j => x (ValueIdx.ix2 p j)) fun j => v (ValueIdx.ix3 0 j q) := by
  unfold out0_3
  rw [View.canon_unit_zero hz2]
  simp only [View.ld_unit_zero (S := S1024x1024) hz2, View.ld_unit_zero (S := S1x1024x2816) hz3]
  unfold_payloads
  pointwise
  rfl

theorem out_up : out0_4 x v w (ValueIdx.ix2 p q) = prod (fun j => x (ValueIdx.ix2 p j)) fun j => w (ValueIdx.ix3 0 j q) := by
  unfold out0_4
  rw [View.canon_unit_zero hz2]
  simp only [View.ld_unit_zero (S := S1024x1024) hz2, View.ld_unit_zero (S := S1x1024x2816) hz3]
  unfold_payloads
  pointwise
  rfl

theorem out_act : out0_5 x v w (ValueIdx.ix2 p q)
    = act (prod (fun j => x (ValueIdx.ix2 p j)) fun j => v (ValueIdx.ix3 0 j q)) (prod (fun j => x (ValueIdx.ix2 p j)) fun j => w (ValueIdx.ix3 0 j q)) := by
  unfold out0_5
  rw [View.canon_unit_zero hz2]
  simp only [View.ld_unit_zero (S := S1024x1024) hz2, View.ld_unit_zero (S := S1x1024x2816) hz3]
  unfold_payloads
  pointwise
  rfl

end Blocks

variable (m : (ℓ : Loc nD τ sig) → Buf (Elt Ideal) ℓ) (c : Dev nD)

abbrev argH : FVec Ideal S4096x1024 .bf16 := m ((c.tc : Thread nD τ).loc main_arg0)
abbrev argW : FVec Ideal S1x1024x5632 .bf16 := m ((c.tc : Thread nD τ).loc main_arg1)

/-- The gate, the other factor and the gated activation. -/
def gateAt (i : S4096x2816.Idx) : EReal := prod (fun j => argH m c (ValueIdx.ix2 (i 0) j)) fun j => argW m c (ValueIdx.ix3 0 j (gateCol (i 1)))
def upAt (i : S4096x2816.Idx) : EReal := prod (fun j => argH m c (ValueIdx.ix2 (i 0) j)) fun j => argW m c (ValueIdx.ix3 0 j (upCol (i 1)))
def actAt (i : S4096x2816.Idx) : EReal := act (gateAt m c i) (upAt m c i)

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = 0 ∧ win0_2.index t 1 = 0 ∧ win0_2.index t 2 = 1) :=
  (by decide +kernel : ∀ t : Fin grid0.N, _)

theorem out_facts : ∀ t : Fin cfg0.N, (win0_3.index t 0 = t.val ∧ win0_3.index t 1 = 0 ∧ win0_3.flush t = true)
    ∧ (win0_4.index t 0 = t.val ∧ win0_4.index t 1 = 0 ∧ win0_4.flush t = true) ∧ (win0_5.index t 0 = t.val ∧ win0_5.index t 1 = 0 ∧ win0_5.flush t = true) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p k : Fin 1024) : iblk m c 0 t (ValueIdx.ix2 p k) = argH m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 1024 + 1 * k.val = k.val; omega

theorem iblk1 (t : Fin cfg0.N) (j : Fin 1024) (q : Fin 2816) : iblk m c 1 t (ValueIdx.ix3 0 j q) = argW m c (ValueIdx.ix3 0 j (gateCol q)) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * j.val = j.val; omega
  | ⟨2, _⟩ => show win0_1.index t 2 * 2816 + 1 * q.val = q.val; omega

theorem iblk2 (t : Fin cfg0.N) (j : Fin 1024) (q : Fin 2816) : iblk m c 2 t (ValueIdx.ix3 0 j q) = argW m c (ValueIdx.ix3 0 j (upCol q)) := by
  obtain ⟨-, -, h0, h1, h2⟩ := idx_facts t
  show V m c main_arg1 _ = _
  rw [V_main_arg1]
  refine congrArg _ (funext fun a => Fin.ext ?_)
  match a with
  | ⟨0, _⟩ => show win0_2.index t 0 * 1 + 1 * 0 = 0; omega
  | ⟨1, _⟩ => show win0_2.index t 1 * 1024 + 1 * j.val = j.val; omega
  | ⟨2, _⟩ => show win0_2.index t 2 * 2816 + 1 * q.val = 2816 + q.val; omega

/-- A row block's place in an array of 4096 rows. -/
theorem row_emb (f : S4096x2816.Idx → EReal) (t : Fin cfg0.N) (p : Fin 1024) (q : Fin 2816) (i : S4096x2816.Idx) (n0 n1 : ℕ) (h0 : n0 = t.val) (h1 : n1 = 0)
    (e0 : (i 0).val = n0 * 1024 + 1 * p.val) (e1 : (i 1).val = n1 * 2816 + 1 * q.val) : f (ValueIdx.ix2 (rowOf t p) q) = f i := by
  refine congrArg f (funext fun a => Fin.ext ?_)
  match a with
  | ⟨0, _⟩ => show 1024 * t.val + p.val = (i 0).val; omega
  | ⟨1, _⟩ => show q.val = (i 1).val; omega

theorem row_point (i : S4096x2816.Idx) : ∃ t : Fin cfg0.N, 1024 * t.val ≤ (i 0).val ∧ (i 0).val < 1024 * t.val + 1024 ∧ (i 1).val < 2816 := by
  have hi0 : (i 0 : ℕ) < 4096 := (i 0).isLt
  have hi1 : (i 1 : ℕ) < 2816 := (i 1).isLt
  refine ⟨⟨(i 0 : ℕ) / 1024, by rw [show cfg0.N = 4 from N_0]; omega⟩, ?_⟩
  dsimp only
  omega

theorem final_gate : (dats m 0 c).arrAt 3 cfg0.N = gateAt m c := by
  refine (dats m 0 c).arrAt_eq_of_cover 3 (gateAt m c) (fun t _ => ?_) fun i => ?_
  · rw [Value.flushed3]
    funext i
    obtain ⟨p, q, rfl⟩ : ∃ (p : Fin 1024) (q : Fin 2816), i = ValueIdx.ix2 p q := ⟨i 0, i 1, idx2 i⟩
    refine (out_gate _ _ _ p q).trans (.trans ?_ (row_emb (gateAt m c) t p q _ _ _ (out_facts t).1.1 (out_facts t).1.2.1 rfl rfl))
    simp only [iblk0, iblk1]
    rfl
  · obtain ⟨t, h⟩ := row_point i
    obtain ⟨⟨h0, h1, hf⟩, -⟩ := out_facts t
    refine ⟨t, hf, ?_⟩
    show i ∈ ((View.whole main_v0_0).slice (win0_3.rect t)).set
    rw [View.set_slice_whole, Rect.mem_set_unit]
    intro a
    match a with
    | ⟨0, _⟩ => show win0_3.index t 0 * 1024 ≤ (i 0 : ℕ) ∧ (i 0 : ℕ) < win0_3.index t 0 * 1024 + 1024; omega
    | ⟨1, _⟩ => show win0_3.index t 1 * 2816 ≤ (i 1 : ℕ) ∧ (i 1 : ℕ) < win0_3.index t 1 * 2816 + 2816; omega

theorem final_up : (dats m 0 c).arrAt 4 cfg0.N = upAt m c := by
  refine (dats m 0 c).arrAt_eq_of_cover 4 (upAt m c) (fun t _ => ?_) fun i => ?_
  · rw [Value.flushed4]
    funext i
    obtain ⟨p, q, rfl⟩ : ∃ (p : Fin 1024) (q : Fin 2816), i = ValueIdx.ix2 p q := ⟨i 0, i 1, idx2 i⟩
    refine (out_up _ _ _ p q).trans (.trans ?_ (row_emb (upAt m c) t p q _ _ _ (out_facts t).2.1.1 (out_facts t).2.1.2.1 rfl rfl))
    simp only [iblk0, iblk2]
    rfl
  · obtain ⟨t, h⟩ := row_point i
    obtain ⟨-, ⟨h0, h1, hf⟩, -⟩ := out_facts t
    refine ⟨t, hf, ?_⟩
    show i ∈ ((View.whole main_v0_1).slice (win0_4.rect t)).set
    rw [View.set_slice_whole, Rect.mem_set_unit]
    intro a
    match a with
    | ⟨0, _⟩ => show win0_4.index t 0 * 1024 ≤ (i 0 : ℕ) ∧ (i 0 : ℕ) < win0_4.index t 0 * 1024 + 1024; omega
    | ⟨1, _⟩ => show win0_4.index t 1 * 2816 ≤ (i 1 : ℕ) ∧ (i 1 : ℕ) < win0_4.index t 1 * 2816 + 2816; omega

theorem final_act : (dats m 0 c).arrAt 5 cfg0.N = actAt m c := by
  refine (dats m 0 c).arrAt_eq_of_cover 5 (actAt m c) (fun t _ => ?_) fun i => ?_
  · rw [Value.flushed5]
    funext i
    obtain ⟨p, q, rfl⟩ : ∃ (p : Fin 1024) (q : Fin 2816), i = ValueIdx.ix2 p q := ⟨i 0, i 1, idx2 i⟩
    refine (out_act _ _ _ p q).trans (.trans ?_ (row_emb (actAt m c) t p q _ _ _ (out_facts t).2.2.1 (out_facts t).2.2.2.1 rfl rfl))
    simp only [iblk0, iblk1, iblk2]
    rfl
  · obtain ⟨t, h⟩ := row_point i
    obtain ⟨-, -, h0, h1, hf⟩ := out_facts t
    refine ⟨t, hf, ?_⟩
    show i ∈ ((View.whole main_v0_2).slice (win0_5.rect t)).set
    rw [View.set_slice_whole, Rect.mem_set_unit]
    intro a
    match a with
    | ⟨0, _⟩ => show win0_5.index t 0 * 1024 ≤ (i 0 : ℕ) ∧ (i 0 : ℕ) < win0_5.index t 0 * 1024 + 1024; omega
    | ⟨1, _⟩ => show win0_5.index t 1 * 2816 ≤ (i 1 : ℕ) ∧ (i 1 : ℕ) < win0_5.index t 1 * 2816 + 2816; omega

end Cert.FfnIn

end
-- ==== Proof.FfnIn.lean ====
module

public import proofs.«01_k».proof.Defs
public import proofs.«01_k».proof.Proof.FfnIn.Kernel
public import proofs.«01_k».proof.Proof.Gen.Kernel4.Frame
public import proofs.«01_k».proof.Proof.Gen.Reference4Ideal.Run
public import proofs.«01_k».proof.Proof.Gen.Reference4Ideal.Read
public import Idealize.ShloMosaic.Lib.Quiescent

@[expose] public section

noncomputable section

open Idealize.ShloMosaic Idealize.ShloMosaic.TcCoe Idealize.SL.Sem

/-! ## The claims about the gated half step's first call -/

namespace Cert.FfnIn

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference leaves its arguments unchanged; it declares no semaphore. -/
theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

section
open Cert.Reference4Ideal Cert.Reference4Ideal.Read

variable (h : FVec Ideal S4096x1024 .bf16) (w : FVec Ideal S1x1024x5632 .bf16) (p : Fin 4096) (q : Fin 2816)

theorem ref_gate : val_main_v4 (F := Ideal) h w (ValueIdx.ix2 p q)
    = prod (fun j => h (ValueIdx.ix2 p j)) fun j => w (ValueIdx.ix3 0 j (gateCol q)) := by
  unfold val_main_v4 val_main_v3 val_main_v2 val_main_v1 val_main_v0
  pointwise
  rfl

theorem ref_up : val_main_v5 (F := Ideal) h w (ValueIdx.ix2 p q)
    = prod (fun j => h (ValueIdx.ix2 p j)) fun j => w (ValueIdx.ix3 0 j (upCol q)) := by
  unfold val_main_v5 val_main_v3 val_main_v2 val_main_v1 val_main_v0
  pointwise
  rfl

theorem ref_act : val_main_v10 (F := Ideal) h w (ValueIdx.ix2 p q)
    = act (prod (fun j => h (ValueIdx.ix2 p j)) fun j => w (ValueIdx.ix3 0 j (gateCol q)))
        (prod (fun j => h (ValueIdx.ix2 p j)) fun j => w (ValueIdx.ix3 0 j (upCol q))) := by
  unfold val_main_v10 val_main_v7 val_main_v6 val_main_call0_v5 val_main_call0_v4 val_main_call0_cst_0 val_main_call0_v3 val_main_call0_v2 val_main_call0_cst val_main_call0_v1 val_main_call0_v0
  pointwise
  rw [ref_gate, ref_up]
  rfl

end

theorem algebraic : Cert.algebraic_Kernel4Ideal_Reference4Ideal := by
  intro m ρ m' ρ' _ hagree
  refine ⟨fun c => gateAt m c, fun c => upAt m c, fun c => actAt m c, ?_, ?_⟩
  · refine (θ_run Cert.Kernel4Ideal.defs _ _).mono (fun _ h c => ?_) (Cert.Kernel4Ideal.Value.run_blocks (F := Ideal) m ρ)
    exact ⟨(h c).1.trans (final_gate m c), (h c).2.1.trans (final_up m c), (h c).2.2.1.trans (final_act m c), (h c).2.2.2⟩
  · refine (θ_run Cert.Reference4Ideal.defs _ _).mono (fun _ h c => ?_) (Cert.Reference4Ideal.Value.run (F := Ideal) m' ρ')
    obtain ⟨a0, a1⟩ := hagree c
    refine ⟨(h c).1.trans ?_, (h c).2.1.trans ?_, (h c).2.2.1.trans ?_, (h c).2.2.2⟩
    · rw [Cert.Reference4Ideal.Read.val_main_v8_eq, a0, a1]
      funext i
      obtain ⟨p, q, rfl⟩ : ∃ (p : Fin 4096) (q : Fin 2816), i = ValueIdx.ix2 p q := ⟨i 0, i 1, idx2 i⟩
      exact ref_gate _ _ p q
    · rw [Cert.Reference4Ideal.Read.val_main_v9_eq, a0, a1]
      funext i
      obtain ⟨p, q, rfl⟩ : ∃ (p : Fin 4096) (q : Fin 2816), i = ValueIdx.ix2 p q := ⟨i 0, i 1, idx2 i⟩
      exact ref_up _ _ p q
    · rw [Cert.Reference4Ideal.Read.val_main_v10_eq, a0, a1]
      funext i
      obtain ⟨p, q, rfl⟩ : ∃ (p : Fin 4096) (q : Fin 2816), i = ValueIdx.ix2 p q := ⟨i 0, i 1, idx2 i⟩
      exact ref_act _ _ p q

end Cert.FfnIn

end
-- ==== Proof.FfnOut.Kernel.lean ====
module

public import proofs.«01_k».proof.Proof.Gen.Kernel5Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Cert.Kernel5Ideal Cert.Kernel5Ideal.Gen

namespace Cert.FfnOut

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-- A row of the residual plus half a row of the product. -/
def addHalf (a : Fin 2816 → EReal) (w : Fin 2816 → Fin 1024 → EReal) (x : Fin 1024 → EReal) (q : Fin 1024) : EReal :=
  x q + (∑ j, a j * w j q) * Ideal.ofBits .f32 0x3F000000#32

/-- A row divided by its root mean square, times the gain. -/
def normed (y g : Fin 1024 → EReal) (q : Fin 1024) : EReal :=
  y q * Ideal.rsqrt (Ideal.div (∑ k, y k * y k) (Ideal.ofBits .f32 0x44800000#32) + Ideal.ofBits .f32 0x358637BD#32) * g q

section Blocks
variable (a : Vec Ideal S1024x2816 .bf16) (w : Vec Ideal S1x2816x1024 .bf16) (x : Vec Ideal S1024x1024 .f32) (g : Vec Ideal S1x1024 .f32) (p q : Fin 1024)

theorem out_sum : out0_4 a w x g (ValueIdx.ix2 p q)
    = addHalf (fun j => a (ValueIdx.ix2 p j)) (fun j k => w (ValueIdx.ix3 0 j k)) (fun k => x (ValueIdx.ix2 p k)) q := by
  unfold out0_4
  rw [View.canon_unit_zero hz2]
  simp only [View.ld_unit_zero (S := S1024x1024) hz2, View.ld_unit_zero (S := S1024x2816) hz2, View.ld_unit_zero (S := S1x2816x1024) hz3]
  unfold_payloads
  pointwise
  rfl

theorem out_norm : out0_5 a w x g (ValueIdx.ix2 p q)
    = normed (addHalf (fun j => a (ValueIdx.ix2 p j)) (fun j k => w (ValueIdx.ix3 0 j k)) fun k => x (ValueIdx.ix2 p k)) (fun k => g (ValueIdx.ix2 0 k)) q := by
  unfold out0_5
  rw [View.canon_unit_zero hz2]
  simp only [View.ld_unit_zero (S := S1024x1024) hz2, View.ld_unit_zero (S := S1024x2816) hz2, View.ld_unit_zero (S := S1x2816x1024) hz3, View.ld_unit_zero (S := S1x1024) hz2]
  unfold_payloads
  pointwise
  rfl

end Blocks

variable (m : (ℓ : Loc nD τ sig) → Buf (Elt Ideal) ℓ) (c : Dev nD)

abbrev argA : FVec Ideal S4096x2816 .bf16 := m ((c.tc : Thread nD τ).loc main_arg0)
abbrev argW : FVec Ideal S1x2816x1024 .bf16 := m ((c.tc : Thread nD τ).loc main_arg1)
abbrev argX : FVec Ideal S4096x1024 .f32 := m ((c.tc : Thread nD τ).loc main_arg2)
abbrev argG : FVec Ideal S1x1024 .f32 := m ((c.tc : Thread nD τ).loc main_arg3)

/-- A row of the new residual stream. -/
def rowAt (p : Fin 4096) : Fin 1024 → EReal :=
  addHalf (fun j => argA m c (ValueIdx.ix2 p j)) (fun j k => argW m c (ValueIdx.ix3 0 j k)) fun k => argX m c (ValueIdx.ix2 p k)

def sumAt (i : S4096x1024.Idx) : EReal := rowAt m c (i 0) (i 1)
def normAt (i : S4096x1024.Idx) : EReal := normed (rowAt m c (i 0)) (fun k => argG m c (ValueIdx.ix2 0 k)) (i 1)

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = t.val ∧ win0_2.index t 1 = 0) ∧ (win0_3.index t 0 = 0 ∧ win0_3.index t 1 = 0) :=
  (by decide +kernel : ∀ t : Fin grid0.N, _)

theorem out_facts : ∀ t : Fin cfg0.N, (win0_4.index t 0 = t.val ∧ win0_4.index t 1 = 0 ∧ win0_4.flush t = true)
    ∧ (win0_5.index t 0 = t.val ∧ win0_5.index t 1 = 0 ∧ win0_5.flush t = true) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p : Fin 1024) (k : Fin 2816) : iblk m c 0 t (ValueIdx.ix2 p k) = argA m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 2816 + 1 * k.val = k.val; omega

theorem iblk1 (t : Fin cfg0.N) (j : Fin 2816) (q : Fin 1024) : iblk m c 1 t (ValueIdx.ix3 0 j q) = argW m c (ValueIdx.ix3 0 j q) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 2816 + 1 * j.val = j.val; omega
  | ⟨2, _⟩ => show win0_1.index t 2 * 1024 + 1 * q.val = q.val; omega

theorem iblk2 (t : Fin cfg0.N) (p k : Fin 1024) : iblk m c 2 t (ValueIdx.ix2 p k) = argX m c (ValueIdx.ix2 (rowOf t p) k) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 1024 + 1 * p.val = 1024 * t.val + p.val; omega
  | ⟨1, _⟩ => show win0_2.index t 1 * 1024 + 1 * k.val = k.val; omega

theorem iblk3 (t : Fin cfg0.N) (k : Fin 1024) : iblk m c 3 t (ValueIdx.ix2 0 k) = argG m c (ValueIdx.ix2 0 k) := by
  obtain ⟨-, -, -, h0, h1⟩ := idx_facts t
  show V m c main_arg3 _ = _
  rw [V_main_arg3]
  refine congrArg _ (funext fun a => Fin.ext ?_)
  match a with
  | ⟨0, _⟩ => show win0_3.index t 0 * 1 + 1 * 0 = 0; omega
  | ⟨1, _⟩ => show win0_3.index t 1 * 1024 + 1 * k.val = k.val; omega

/-- A row block's place in an array of 4096 rows. -/
theorem row_emb (f : S4096x1024.Idx → EReal) (t : Fin cfg0.N) (p q : Fin 1024) (i : S4096x1024.Idx) (n0 n1 : ℕ) (h0 : n0 = t.val) (h1 : n1 = 0)
    (e0 : (i 0).val = n0 * 1024 + 1 * p.val) (e1 : (i 1).val = n1 * 1024 + 1 * q.val) : f (ValueIdx.ix2 (rowOf t p) q) = f i := by
  refine congrArg f (funext fun a => Fin.ext ?_)
  match a with
  | ⟨0, _⟩ => show 1024 * t.val + p.val = (i 0).val; omega
  | ⟨1, _⟩ => show q.val = (i 1).val; omega

theorem row_point (i : S4096x1024.Idx) : ∃ t : Fin cfg0.N, 1024 * t.val ≤ (i 0).val ∧ (i 0).val < 1024 * t.val + 1024 ∧ (i 1).val < 1024 := by
  have hi0 : (i 0 : ℕ) < 4096 := (i 0).isLt
  have hi1 : (i 1 : ℕ) < 1024 := (i 1).isLt
  refine ⟨⟨(i 0 : ℕ) / 1024, by rw [show cfg0.N = 4 from N_0]; omega⟩, ?_⟩
  dsimp only
  omega

theorem final_sum : (dats m 0 c).arrAt 4 cfg0.N = sumAt m c := by
  refine (dats m 0 c).arrAt_eq_of_cover 4 (sumAt m c) (fun t _ => ?_) fun i => ?_
  · rw [Value.flushed4]
    funext i
    obtain ⟨p, q, rfl⟩ : ∃ p q : Fin 1024, i = ValueIdx.ix2 p q := ⟨i 0, i 1, idx2 i⟩
    refine (out_sum _ _ _ _ p q).trans (.trans ?_ (row_emb (sumAt m c) t p q _ _ _ (out_facts t).1.1 (out_facts t).1.2.1 rfl rfl))
    simp only [iblk0, iblk1, iblk2]
    rfl
  · obtain ⟨t, h⟩ := row_point i
    obtain ⟨⟨h0, h1, hf⟩, -⟩ := out_facts t
    refine ⟨t, hf, ?_⟩
    show i ∈ ((View.whole main_v0_0).slice (win0_4.rect t)).set
    rw [View.set_slice_whole, Rect.mem_set_unit]
    intro a
    match a with
    | ⟨0, _⟩ => show win0_4.index t 0 * 1024 ≤ (i 0 : ℕ) ∧ (i 0 : ℕ) < win0_4.index t 0 * 1024 + 1024; omega
    | ⟨1, _⟩ => show win0_4.index t 1 * 1024 ≤ (i 1 : ℕ) ∧ (i 1 : ℕ) < win0_4.index t 1 * 1024 + 1024; omega

theorem final_norm : (dats m 0 c).arrAt 5 cfg0.N = normAt m c := by
  refine (dats m 0 c).arrAt_eq_of_cover 5 (normAt m c) (fun t _ => ?_) fun i => ?_
  · rw [Value.flushed5]
    funext i
    obtain ⟨p, q, rfl⟩ : ∃ p q : Fin 1024, i = ValueIdx.ix2 p q := ⟨i 0, i 1, idx2 i⟩
    refine (out_norm _ _ _ _ p q).trans (.trans ?_ (row_emb (normAt m c) t p q _ _ _ (out_facts t).2.1 (out_facts t).2.2.1 rfl rfl))
    simp only [iblk0, iblk1, iblk2, iblk3]
    rfl
  · obtain ⟨t, h⟩ := row_point i
    obtain ⟨-, h0, h1, hf⟩ := out_facts t
    refine ⟨t, hf, ?_⟩
    show i ∈ ((View.whole main_v0_1).slice (win0_5.rect t)).set
    rw [View.set_slice_whole, Rect.mem_set_unit]
    intro a
    match a with
    | ⟨0, _⟩ => show win0_5.index t 0 * 1024 ≤ (i 0 : ℕ) ∧ (i 0 : ℕ) < win0_5.index t 0 * 1024 + 1024; omega
    | ⟨1, _⟩ => show win0_5.index t 1 * 1024 ≤ (i 1 : ℕ) ∧ (i 1 : ℕ) < win0_5.index t 1 * 1024 + 1024; omega

end Cert.FfnOut

end
-- ==== Proof.FfnOut.lean ====
module

public import proofs.«01_k».proof.Defs
public import proofs.«01_k».proof.Proof.FfnOut.Kernel
public import proofs.«01_k».proof.Proof.Gen.Kernel5.Frame
public import proofs.«01_k».proof.Proof.Gen.Reference5Ideal.Run
public import proofs.«01_k».proof.Proof.Gen.Reference5Ideal.Read
public import Idealize.ShloMosaic.Lib.Quiescent

@[expose] public section

noncomputable section

open Idealize.ShloMosaic Idealize.ShloMosaic.TcCoe Idealize.SL.Sem

/-! ## The claims about the gated half step's second call -/

namespace Cert.FfnOut

theorem frame_kernel : Cert.quiescent_Kernel5 := fun m ρ _ => Cert.Kernel5.Gen.frame m ρ

theorem frame_ideal : Cert.quiescent_Kernel5Ideal := fun m ρ _ => Cert.Kernel5Ideal.Gen.frame m ρ

/-- The reference leaves its arguments unchanged; it declares no semaphore. -/
theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

section
open Cert.Reference5Ideal Cert.Reference5Ideal.Read

variable (a : FVec Ideal S4096x2816 .bf16) (w : FVec Ideal S1x2816x1024 .bf16) (x : FVec Ideal S4096x1024 .f32) (g : FVec Ideal S1x1024 .f32) (p : Fin 4096) (q : Fin 1024)

theorem ref_sum : val_main_v6 (F := Ideal) a w x (ValueIdx.ix2 p q)
    = addHalf (fun j => a (ValueIdx.ix2 p j)) (fun j k => w (ValueIdx.ix3 0 j k)) (fun k => x (ValueIdx.ix2 p k)) q := by
  unfold val_main_v6 val_main_v5 val_main_v4 val_main_cst val_main_v3 val_main_v2 val_main_v1 val_main_v0
  pointwise
  exact congrArg (x (ValueIdx.ix2 p q) + ·) (mul_comm _ _)

theorem ref_norm : val_main_v21 (F := Ideal) a w x g (ValueIdx.ix2 p q)
    = normed (addHalf (fun j => a (ValueIdx.ix2 p j)) (fun j k => w (ValueIdx.ix3 0 j k)) fun k => x (ValueIdx.ix2 p k)) (fun k => g (ValueIdx.ix2 0 k)) q := by
  unfold val_main_v21 val_main_v20 val_main_v19 val_main_v18 val_main_v17 val_main_v16 val_main_v15 val_main_v14 val_main_v13 val_main_cst_2 val_main_v12 val_main_v11 val_main_cst_1 val_main_v10 val_main_v9 val_main_cst_0 val_main_v8 val_main_v7
  pointwise
  unfold normed
  simp only [← ref_sum]
  rfl

end

theorem algebraic : Cert.algebraic_Kernel5Ideal_Reference5Ideal := by
  intro m ρ m' ρ' _ hagree
  refine ⟨fun c => sumAt m c, fun c => normAt m c, ?_, ?_⟩
  · refine (θ_run Cert.Kernel5Ideal.defs _ _).mono (fun _ h c => ?_) (Cert.Kernel5Ideal.Value.run_blocks (F := Ideal) m ρ)
    exact ⟨(h c).1.trans (final_sum m c), (h c).2.1.trans (final_norm m c), (h c).2.2⟩
  · refine (θ_run Cert.Reference5Ideal.defs _ _).mono (fun _ h c => ?_) (Cert.Reference5Ideal.Value.run (F := Ideal) m' ρ')
    obtain ⟨a0, a1, a2, a3⟩ := hagree c
    refine ⟨(h c).1.trans ?_, (h c).2.1.trans ?_, (h c).2.2⟩
    · rw [Cert.Reference5Ideal.Read.val_main_v6_eq, a0, a1, a2]
      funext i
      obtain ⟨p, q, rfl⟩ : ∃ (p : Fin 4096) (q : Fin 1024), i = ValueIdx.ix2 p q := ⟨i 0, i 1, idx2 i⟩
      exact ref_sum _ _ _ p q
    · rw [Cert.Reference5Ideal.Read.val_main_v21_eq, a0, a1, a2, a3]
      funext i
      obtain ⟨p, q, rfl⟩ : ∃ (p : Fin 4096) (q : Fin 1024), i = ValueIdx.ix2 p q := ⟨i 0, i 1, idx2 i⟩
      exact ref_norm _ _ _ _ p q

end Cert.FfnOut

end
-- ==== Proof.MixIn.Kernel.lean ====
module

public import proofs.«01_k».proof.Proof.Gen.Kernel6Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Cert.Kernel6Ideal Cert.Kernel6Ideal.Gen

namespace Cert.MixIn

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-- A block of the product, from the blocks of its factors. -/
theorem out_apply (x : Vec Ideal S2048x1024 .bf16) (w : Vec Ideal S1x1024x512 .bf16) (p : Fin 2048) (q : Fin 512) :
    out0_2 x w (ValueIdx.ix2 p q) = ∑ j : Fin 1024, x (ValueIdx.ix2 p j) * w (ValueIdx.ix3 0 j q) := by
  unfold out0_2
  rw [View.canon_unit_zero hz2]
  simp only [View.ld_unit_zero (S := S2048x1024) hz2, View.ld_unit_zero (S := S1x1024x512) hz3]
  unfold_payloads
  pointwise
  rfl

variable (m : (ℓ : Loc nD τ sig) → Buf (Elt Ideal) ℓ) (c : Dev nD)

abbrev argH : FVec Ideal S4096x1024 .bf16 := m ((c.tc : Thread nD τ).loc main_arg0)
abbrev argW : FVec Ideal S1x1024x5120 .bf16 := m ((c.tc : Thread nD τ).loc main_arg1)

/-- The projection. -/
def zAt (i : S4096x5120.Idx) : EReal := ∑ j : Fin 1024, argH m c (ValueIdx.ix2 (i 0) j) * argW m c (ValueIdx.ix3 0 j (i 1))

theorem idx_facts : ∀ t : Fin cfg0.N, (win0_0.index t 0 = t.val / 10 ∧ win0_0.index t 1 = 0) ∧ (win0_1.index t 0 = 0 ∧ win0_1.index t 1 = 0 ∧ win0_1.index t 2 = t.val % 10)
    ∧ (win0_2.index t 0 = t.val / 10 ∧ win0_2.index t 1 = t.val % 10) ∧ win0_2.flush t = true :=
  (by decide +kernel : ∀ t : Fin grid0.N, _)

def rowOf (t : Fin cfg0.N) (p : Fin 2048) : Fin 4096 := ⟨2048 * (t.val / 10) + p.val, by have : t.val < 20 := lt_of_lt_of_eq t.isLt N_0; have := p.isLt; omega⟩
def colOf (t : Fin cfg0.N) (q : Fin 512) : Fin 5120 := ⟨512 * (t.val % 10) + q.val, by have := q.isLt; omega⟩

theorem iblk0 (t : Fin cfg0.N) (p : Fin 2048) (k : Fin 1024) : iblk m c 0 t (ValueIdx.ix2 p k) = argH m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 2048 + 1 * p.val = 2048 * (t.val / 10) + p.val; omega
  | ⟨1, _⟩ => show win0_0.index t 1 * 1024 + 1 * k.val = k.val; omega

theorem iblk1 (t : Fin cfg0.N) (j : Fin 1024) (q : Fin 512) : iblk m c 1 t (ValueIdx.ix3 0 j q) = argW m c (ValueIdx.ix3 0 j (colOf t q)) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * j.val = j.val; omega
  | ⟨2, _⟩ => show win0_1.index t 2 * 512 + 1 * q.val = 512 * (t.val % 10) + q.val; omega

theorem final_z : (dats m 0 c).arrAt 2 cfg0.N = zAt m c := by
  refine (dats m 0 c).arrAt_eq_of_cover 2 (zAt m c) (fun t _ => ?_) fun i => ?_
  · obtain ⟨-, -, ⟨h0, h1⟩, -⟩ := idx_facts t
    rw [Value.flushed2]
    funext i
    obtain ⟨p, q, rfl⟩ : ∃ (p : Fin 2048) (q : Fin 512), i = ValueIdx.ix2 p q := ⟨i 0, i 1, idx2 i⟩
    have e : out0_2 (iblk m c 0 t) (iblk m c 1 t) (ValueIdx.ix2 p q) = zAt m c (ValueIdx.ix2 (rowOf t p) (colOf t q)) := by
      rw [out_apply]
      simp only [iblk0, iblk1]
      rfl
    refine e.trans (congrArg (zAt m c) (funext fun a => Fin.ext ?_))
    match a with
    | ⟨0, _⟩ => show 2048 * (t.val / 10) + p.val = win0_2.index t 0 * 2048 + 1 * p.val; omega
    | ⟨1, _⟩ => show 512 * (t.val % 10) + q.val = win0_2.index t 1 * 512 + 1 * q.val; omega
  · have hi0 : (i 0 : ℕ) < 4096 := (i 0).isLt
    have hi1 : (i 1 : ℕ) < 5120 := (i 1).isLt
    have ht : 10 * ((i 0 : ℕ) / 2048) + (i 1 : ℕ) / 512 < cfg0.N := by rw [show cfg0.N = 20 from N_0]; omega
    obtain ⟨-, -, ⟨h0, h1⟩, hf⟩ := idx_facts ⟨_, ht⟩
    dsimp only at h0 h1
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : ℕ) ∧ (i 0 : ℕ) < win0_2.index ⟨_, ht⟩ 0 * 2048 + 2048; omega
    | ⟨1, _⟩ => show win0_2.index ⟨_, ht⟩ 1 * 512 ≤ (i 1 : ℕ) ∧ (i 1 : ℕ) < win0_2.index ⟨_, ht⟩ 1 * 512 + 512; omega

end Cert.MixIn

end
-- ==== Proof.MixIn.lean ====
module

public import proofs.«01_k».proof.Defs
public import proofs.«01_k».proof.Proof.MixIn.Kernel
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

noncomputable section

open Idealize.ShloMosaic Idealize.ShloMosaic.TcCoe Idealize.SL.Sem

/-! ## The claims about the mixer's input projection -/

namespace Cert.MixIn

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference leaves its arguments unchanged; it declares no semaphore. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

section
open Cert.Reference6Ideal Cert.Reference6Ideal.Read

theorem ref_z (h : FVec Ideal S4096x1024 .bf16) (w : FVec Ideal S1x1024x5120 .bf16) (p : Fin 4096) (q : Fin 5120) :
    val_main_v3 (F := Ideal) h w (ValueIdx.ix2 p q) = ∑ j : Fin 1024, h (ValueIdx.ix2 p j) * w (ValueIdx.ix3 0 j q) := by
  unfold val_main_v3 val_main_v2 val_main_v1 val_main_v0
  pointwise
  rfl

end

theorem algebraic : Cert.algebraic_Kernel6Ideal_Reference6Ideal := by
  intro m ρ m' ρ' _ hagree
  refine ⟨fun c => zAt m c, ?_, ?_⟩
  · refine (θ_run Cert.Kernel6Ideal.defs _ _).mono (fun _ h c => ?_) (Cert.Kernel6Ideal.Value.run_blocks (F := Ideal) m ρ)
    exact ⟨(h c).1.trans (final_z m c), (h c).2⟩
  · refine (θ_run Cert.Reference6Ideal.defs _ _).mono (fun _ h c => ?_) (Cert.Reference6Ideal.Value.run (F := Ideal) m' ρ')
    obtain ⟨a0, a1⟩ := hagree c
    refine ⟨(h c).1.trans ?_, (h c).2⟩
    rw [Cert.Reference6Ideal.Read.val_main_v3_eq, a0, a1]
    funext i
    obtain ⟨p, q, rfl⟩ : ∃ (p : Fin 4096) (q : Fin 5120), i = ValueIdx.ix2 p q := ⟨i 0, i 1, idx2 i⟩
    exact ref_z _ _ p q

end Cert.MixIn

end
-- ==== Proof.MixOut.Kernel.lean ====
module

public import proofs.«01_k».proof.Proof.Gen.Kernel7Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Cert.Kernel7Ideal Cert.Kernel7Ideal.Gen

namespace Cert.MixOut

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-- A row of the residual plus a row of the product. -/
def addRow {n : ℕ} (a : Fin n → EReal) (w : Fin n → Fin 1024 → EReal) (x : Fin 1024 → EReal) (q : Fin 1024) : EReal :=
  x q + ∑ j, a j * w j q

/-- A row divided by its root mean square, times the gain. -/
def normed (y g : Fin 1024 → EReal) (q : Fin 1024) : EReal :=
  y q * Ideal.rsqrt (Ideal.div (∑ k, y k * y k) (Ideal.ofBits .f32 0x44800000#32) + Ideal.ofBits .f32 0x358637BD#32) * g q

section Blocks
variable (a : Vec Ideal S1024x3072 .bf16) (w : Vec Ideal S1x3072x1024 .bf16) (x : Vec Ideal S1024x1024 .f32) (g : Vec Ideal S1x1024 .f32) (p q : Fin 1024)

theorem out_sum : out0_4 a w x g (ValueIdx.ix2 p q)
    = addRow (fun j => a (ValueIdx.ix2 p j)) (fun j k => w (ValueIdx.ix3 0 j k)) (fun k => x (ValueIdx.ix2 p k)) q := by
  unfold out0_4
  rw [View.canon_unit_zero hz2]
  simp only [View.ld_unit_zero (S := S1024x1024) hz2, View.ld_unit_zero (S := S1024x3072) hz2, View.ld_unit_zero (S := S1x3072x1024) hz3]
  unfold_payloads
  pointwise
  rfl

theorem out_norm : out0_5 a w x g (ValueIdx.ix2 p q)
    = normed (addRow (fun j => a (ValueIdx.ix2 p j)) (fun j k => w (ValueIdx.ix3 0 j k)) fun k => x (ValueIdx.ix2 p k)) (fun k => g (ValueIdx.ix2 0 k)) q := by
  unfold out0_5
  rw [View.canon_unit_zero hz2]
  simp only [View.ld_unit_zero (S := S1024x1024) hz2, View.ld_unit_zero (S := S1024x3072) hz2, View.ld_unit_zero (S := S1x3072x1024) hz3, View.ld_unit_zero (S := S1x1024) hz2]
  unfold_payloads
  pointwise
  rfl

end Blocks

variable (m : (ℓ : Loc nD τ sig) → Buf (Elt Ideal) ℓ) (c : Dev nD)

abbrev argA : FVec Ideal S4096x3072 .bf16 := m ((c.tc : Thread nD τ).loc main_arg0)
abbrev argW : FVec Ideal S1x3072x1024 .bf16 := m ((c.tc : Thread nD τ).loc main_arg1)
abbrev argX : FVec Ideal S4096x1024 .f32 := m ((c.tc : Thread nD τ).loc main_arg2)
abbrev argG : FVec Ideal S1x1024 .f32 := m ((c.tc : Thread nD τ).loc main_arg3)

/-- A row of the new residual stream. -/
def rowAt (p : Fin 4096) : Fin 1024 → EReal :=
  addRow (fun j => argA m c (ValueIdx.ix2 p j)) (fun j k => argW m c (ValueIdx.ix3 0 j k)) fun k => argX m c (ValueIdx.ix2 p k)

def sumAt (i : S4096x1024.Idx) : EReal := rowAt m c (i 0) (i 1)
def normAt (i : S4096x1024.Idx) : EReal := normed (rowAt m c (i 0)) (fun k => argG m c (ValueIdx.ix2 0 k)) (i 1)

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = t.val ∧ win0_2.index t 1 = 0) ∧ (win0_3.index t 0 = 0 ∧ win0_3.index t 1 = 0) :=
  (by decide +kernel : ∀ t : Fin grid0.N, _)

theorem out_facts : ∀ t : Fin cfg0.N, (win0_4.index t 0 = t.val ∧ win0_4.index t 1 = 0 ∧ win0_4.flush t = true)
    ∧ (win0_5.index t 0 = t.val ∧ win0_5.index t 1 = 0 ∧ win0_5.flush t = true) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p : Fin 1024) (k : Fin 3072) : iblk m c 0 t (ValueIdx.ix2 p k) = argA m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 3072 + 1 * k.val = k.val; omega

theorem iblk1 (t : Fin cfg0.N) (j : Fin 3072) (q : Fin 1024) : iblk m c 1 t (ValueIdx.ix3 0 j q) = argW m c (ValueIdx.ix3 0 j q) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 3072 + 1 * j.val = j.val; omega
  | ⟨2, _⟩ => show win0_1.index t 2 * 1024 + 1 * q.val = q.val; omega

theorem iblk2 (t : Fin cfg0.N) (p k : Fin 1024) : iblk m c 2 t (ValueIdx.ix2 p k) = argX m c (ValueIdx.ix2 (rowOf t p) k) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 1024 + 1 * p.val = 1024 * t.val + p.val; omega
  | ⟨1, _⟩ => show win0_2.index t 1 * 1024 + 1 * k.val = k.val; omega

theorem iblk3 (t : Fin cfg0.N) (k : Fin 1024) : iblk m c 3 t (ValueIdx.ix2 0 k) = argG m c (ValueIdx.ix2 0 k) := by
  obtain ⟨-, -, -, h0, h1⟩ := idx_facts t
  show V m c main_arg3 _ = _
  rw [V_main_arg3]
  refine congrArg _ (funext fun a => Fin.ext ?_)
  match a with
  | ⟨0, _⟩ => show win0_3.index t 0 * 1 + 1 * 0 = 0; omega
  | ⟨1, _⟩ => show win0_3.index t 1 * 1024 + 1 * k.val = k.val; omega

/-- A row block's place in an array of 4096 rows. -/
theorem row_emb (f : S4096x1024.Idx → EReal) (t : Fin cfg0.N) (p q : Fin 1024) (i : S4096x1024.Idx) (n0 n1 : ℕ) (h0 : n0 = t.val) (h1 : n1 = 0)
    (e0 : (i 0).val = n0 * 1024 + 1 * p.val) (e1 : (i 1).val = n1 * 1024 + 1 * q.val) : f (ValueIdx.ix2 (rowOf t p) q) = f i := by
  refine congrArg f (funext fun a => Fin.ext ?_)
  match a with
  | ⟨0, _⟩ => show 1024 * t.val + p.val = (i 0).val; omega
  | ⟨1, _⟩ => show q.val = (i 1).val; omega

theorem row_point (i : S4096x1024.Idx) : ∃ t : Fin cfg0.N, 1024 * t.val ≤ (i 0).val ∧ (i 0).val < 1024 * t.val + 1024 ∧ (i 1).val < 1024 := by
  have hi0 : (i 0 : ℕ) < 4096 := (i 0).isLt
  have hi1 : (i 1 : ℕ) < 1024 := (i 1).isLt
  refine ⟨⟨(i 0 : ℕ) / 1024, by rw [show cfg0.N = 4 from N_0]; omega⟩, ?_⟩
  dsimp only
  omega

theorem final_sum : (dats m 0 c).arrAt 4 cfg0.N = sumAt m c := by
  refine (dats m 0 c).arrAt_eq_of_cover 4 (sumAt m c) (fun t _ => ?_) fun i => ?_
  · rw [Value.flushed4]
    funext i
    obtain ⟨p, q, rfl⟩ : ∃ p q : Fin 1024, i = ValueIdx.ix2 p q := ⟨i 0, i 1, idx2 i⟩
    refine (out_sum _ _ _ _ p q).trans (.trans ?_ (row_emb (sumAt m c) t p q _ _ _ (out_facts t).1.1 (out_facts t).1.2.1 rfl rfl))
    simp only [iblk0, iblk1, iblk2]
    rfl
  · obtain ⟨t, h⟩ := row_point i
    obtain ⟨⟨h0, h1, hf⟩, -⟩ := out_facts t
    refine ⟨t, hf, ?_⟩
    show i ∈ ((View.whole main_v0_0).slice (win0_4.rect t)).set
    rw [View.set_slice_whole, Rect.mem_set_unit]
    intro a
    match a with
    | ⟨0, _⟩ => show win0_4.index t 0 * 1024 ≤ (i 0 : ℕ) ∧ (i 0 : ℕ) < win0_4.index t 0 * 1024 + 1024; omega
    | ⟨1, _⟩ => show win0_4.index t 1 * 1024 ≤ (i 1 : ℕ) ∧ (i 1 : ℕ) < win0_4.index t 1 * 1024 + 1024; omega

theorem final_norm : (dats m 0 c).arrAt 5 cfg0.N = normAt m c := by
  refine (dats m 0 c).arrAt_eq_of_cover 5 (normAt m c) (fun t _ => ?_) fun i => ?_
  · rw [Value.flushed5]
    funext i
    obtain ⟨p, q, rfl⟩ : ∃ p q : Fin 1024, i = ValueIdx.ix2 p q := ⟨i 0, i 1, idx2 i⟩
    refine (out_norm _ _ _ _ p q).trans (.trans ?_ (row_emb (normAt m c) t p q _ _ _ (out_facts t).2.1 (out_facts t).2.2.1 rfl rfl))
    simp only [iblk0, iblk1, iblk2, iblk3]
    rfl
  · obtain ⟨t, h⟩ := row_point i
    obtain ⟨-, h0, h1, hf⟩ := out_facts t
    refine ⟨t, hf, ?_⟩
    show i ∈ ((View.whole main_v0_1).slice (win0_5.rect t)).set
    rw [View.set_slice_whole, Rect.mem_set_unit]
    intro a
    match a with
    | ⟨0, _⟩ => show win0_5.index t 0 * 1024 ≤ (i 0 : ℕ) ∧ (i 0 : ℕ) < win0_5.index t 0 * 1024 + 1024; omega
    | ⟨1, _⟩ => show win0_5.index t 1 * 1024 ≤ (i 1 : ℕ) ∧ (i 1 : ℕ) < win0_5.index t 1 * 1024 + 1024; omega

end Cert.MixOut

end
-- ==== Proof.MixOut.lean ====
module

public import proofs.«01_k».proof.Defs
public import proofs.«01_k».proof.Proof.MixOut.Kernel
public import proofs.«01_k».proof.Proof.Gen.Kernel7.Frame
public import proofs.«01_k».proof.Proof.Gen.Reference7Ideal.Run
public import proofs.«01_k».proof.Proof.Gen.Reference7Ideal.Read
public import Idealize.ShloMosaic.Lib.Quiescent

@[expose] public section

noncomputable section

open Idealize.ShloMosaic Idealize.ShloMosaic.TcCoe Idealize.SL.Sem

/-! ## The claims about the second mixer's output projection -/

namespace Cert.MixOut

theorem frame_kernel : Cert.quiescent_Kernel7 := fun m ρ _ => Cert.Kernel7.Gen.frame m ρ

theorem frame_ideal : Cert.quiescent_Kernel7Ideal := fun m ρ _ => Cert.Kernel7Ideal.Gen.frame m ρ

/-- The reference leaves its arguments unchanged; it declares no semaphore. -/
theorem frame_reference : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

section
open Cert.Reference7Ideal Cert.Reference7Ideal.Read

variable (a : FVec Ideal S4096x3072 .bf16) (w : FVec Ideal S1x3072x1024 .bf16) (x : FVec Ideal S4096x1024 .f32) (g : FVec Ideal S1x1024 .f32) (p : Fin 4096) (q : Fin 1024)

theorem ref_sum : val_main_v4 (F := Ideal) a w x (ValueIdx.ix2 p q)
    = addRow (fun j => a (ValueIdx.ix2 p j)) (fun j k => w (ValueIdx.ix3 0 j k)) (fun k => x (ValueIdx.ix2 p k)) q := by
  unfold val_main_v4 val_main_v3 val_main_v2 val_main_v1 val_main_v0
  pointwise
  rfl

theorem ref_norm : val_main_v19 (F := Ideal) a w x g (ValueIdx.ix2 p q)
    = normed (addRow (fun j => a (ValueIdx.ix2 p j)) (fun j k => w (ValueIdx.ix3 0 j k)) fun k => x (ValueIdx.ix2 p k)) (fun k => g (ValueIdx.ix2 0 k)) q := by
  unfold val_main_v19 val_main_v18 val_main_v17 val_main_v16 val_main_v15 val_main_v14 val_main_v13 val_main_v12 val_main_v11 val_main_cst_1 val_main_v10 val_main_v9 val_main_cst_0 val_main_v8 val_main_v7 val_main_cst val_main_v6 val_main_v5
  pointwise
  unfold normed
  simp only [← ref_sum]
  rfl

end

theorem algebraic : Cert.algebraic_Kernel7Ideal_Reference7Ideal := by
  intro m ρ m' ρ' _ hagree
  refine ⟨fun c => sumAt m c, fun c => normAt m c, ?_, ?_⟩
  · refine (θ_run Cert.Kernel7Ideal.defs _ _).mono (fun _ h c => ?_) (Cert.Kernel7Ideal.Value.run_blocks (F := Ideal) m ρ)
    exact ⟨(h c).1.trans (final_sum m c), (h c).2.1.trans (final_norm m c), (h c).2.2⟩
  · refine (θ_run Cert.Reference7Ideal.defs _ _).mono (fun _ h c => ?_) (Cert.Reference7Ideal.Value.run (F := Ideal) m' ρ')
    obtain ⟨a0, a1, a2, a3⟩ := hagree c
    refine ⟨(h c).1.trans ?_, (h c).2.1.trans ?_, (h c).2.2⟩
    · rw [Cert.Reference7Ideal.Read.val_main_v4_eq, a0, a1, a2]
      funext i
      obtain ⟨p, q, rfl⟩ : ∃ (p : Fin 4096) (q : Fin 1024), i = ValueIdx.ix2 p q := ⟨i 0, i 1, idx2 i⟩
      exact ref_sum _ _ _ p q
    · rw [Cert.Reference7Ideal.Read.val_main_v19_eq, a0, a1, a2, a3]
      funext i
      obtain ⟨p, q, rfl⟩ : ∃ (p : Fin 4096) (q : Fin 1024), i = ValueIdx.ix2 p q := ⟨i 0, i 1, idx2 i⟩
      exact ref_norm _ _ _ _ p q

end Cert.MixOut

end
-- ==== Proof.MixDcat.Kernel.lean ====
module

public import proofs.«01_k».proof.Proof.Gen.Kernel8Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Cert.Kernel8Ideal Cert.Kernel8Ideal.Gen

namespace Cert.MixDcat

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-- A block of the product, from the blocks of its factors. -/
theorem out_apply (x : Vec Ideal S2048x1024 .f32) (w : Vec Ideal S1x1024x1024 .bf16) (p : Fin 2048) (q : Fin 1024) :
    out0_2 x w (ValueIdx.ix2 p q) = ∑ j : Fin 1024, x (ValueIdx.ix2 p j) * w (ValueIdx.ix3 0 q j) := by
  unfold out0_2
  rw [View.canon_unit_zero hz2]
  simp only [View.ld_unit_zero (S := S2048x1024) hz2, View.ld_unit_zero (S := S1x1024x1024) hz3]
  unfold_payloads
  pointwise
  rfl

variable (m : (ℓ : Loc nD τ sig) → Buf (Elt Ideal) ℓ) (c : Dev nD)

abbrev argD : FVec Ideal S4096x1024 .f32 := m ((c.tc : Thread nD τ).loc main_arg0)
abbrev argW : FVec Ideal S1x3072x1024 .bf16 := m ((c.tc : Thread nD τ).loc main_arg1)

/-- The gradient of the projection's input. -/
def dcatAt (i : S4096x3072.Idx) : EReal := ∑ j : Fin 1024, argD m c (ValueIdx.ix2 (i 0) j) * argW m c (ValueIdx.ix3 0 (i 1) j)

theorem idx_facts : ∀ t : Fin cfg0.N, (win0_0.index t 0 = t.val / 3 ∧ win0_0.index t 1 = 0) ∧ (win0_1.index t 0 = 0 ∧ win0_1.index t 1 = t.val % 3 ∧ win0_1.index t 2 = 0)
    ∧ (win0_2.index t 0 = t.val / 3 ∧ win0_2.index t 1 = t.val % 3) ∧ win0_2.flush t = true :=
  (by decide +kernel : ∀ t : Fin grid0.N, _)

def rowOf (t : Fin cfg0.N) (p : Fin 2048) : Fin 4096 := ⟨2048 * (t.val / 3) + p.val, by have : t.val < 6 := lt_of_lt_of_eq t.isLt N_0; have := p.isLt; omega⟩
def colOf (t : Fin cfg0.N) (q : Fin 1024) : Fin 3072 := ⟨1024 * (t.val % 3) + q.val, by have := q.isLt; omega⟩

theorem iblk0 (t : Fin cfg0.N) (p : Fin 2048) (k : Fin 1024) : iblk m c 0 t (ValueIdx.ix2 p k) = argD m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 2048 + 1 * p.val = 2048 * (t.val / 3) + p.val; omega
  | ⟨1, _⟩ => show win0_0.index t 1 * 1024 + 1 * k.val = k.val; omega

theorem iblk1 (t : Fin cfg0.N) (q : Fin 1024) (j : Fin 1024) : iblk m c 1 t (ValueIdx.ix3 0 q j) = argW m c (ValueIdx.ix3 0 (colOf t q) j) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * q.val = 1024 * (t.val % 3) + q.val; omega
  | ⟨2, _⟩ => show win0_1.index t 2 * 1024 + 1 * j.val = j.val; omega

theorem final_dcat : (dats m 0 c).arrAt 2 cfg0.N = dcatAt m c := by
  refine (dats m 0 c).arrAt_eq_of_cover 2 (dcatAt m c) (fun t _ => ?_) fun i => ?_
  · obtain ⟨-, -, ⟨h0, h1⟩, -⟩ := idx_facts t
    rw [Value.flushed2]
    funext i
    obtain ⟨p, q, rfl⟩ : ∃ (p : Fin 2048) (q : Fin 1024), i = ValueIdx.ix2 p q := ⟨i 0, i 1, idx2 i⟩
    have e : out0_2 (iblk m c 0 t) (iblk m c 1 t) (ValueIdx.ix2 p q) = dcatAt m c (ValueIdx.ix2 (rowOf t p) (colOf t q)) := by
      rw [out_apply]
      simp only [iblk0, iblk1]
      rfl
    refine e.trans (congrArg (dcatAt m c) (funext fun a => Fin.ext ?_))
    match a with
    | ⟨0, _⟩ => show 2048 * (t.val / 3) + p.val = win0_2.index t 0 * 2048 + 1 * p.val; omega
    | ⟨1, _⟩ => show 1024 * (t.val % 3) + q.val = win0_2.index t 1 * 1024 + 1 * q.val; omega
  · have hi0 : (i 0 : ℕ) < 4096 := (i 0).isLt
    have hi1 : (i 1 : ℕ) < 3072 := (i 1).isLt
    have ht : 3 * ((i 0 : ℕ) / 2048) + (i 1 : ℕ) / 1024 < cfg0.N := by rw [show cfg0.N = 6 from N_0]; omega
    obtain ⟨-, -, ⟨h0, h1⟩, hf⟩ := idx_facts ⟨_, ht⟩
    dsimp only at h0 h1
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : ℕ) ∧ (i 0 : ℕ) < win0_2.index ⟨_, ht⟩ 0 * 2048 + 2048; omega
    | ⟨1, _⟩ => show win0_2.index ⟨_, ht⟩ 1 * 1024 ≤ (i 1 : ℕ) ∧ (i 1 : ℕ) < win0_2.index ⟨_, ht⟩ 1 * 1024 + 1024; omega

end Cert.MixDcat

end
-- ==== Proof.MixDcat.lean ====
module

public import proofs.«01_k».proof.Defs
public import proofs.«01_k».proof.Proof.MixDcat.Kernel
public import proofs.«01_k».proof.Proof.Gen.Kernel8.Frame
public import proofs.«01_k».proof.Proof.Gen.Reference8Ideal.Run
public import proofs.«01_k».proof.Proof.Gen.Reference8Ideal.Read
public import Idealize.ShloMosaic.Lib.Quiescent

@[expose] public section

noncomputable section

open Idealize.ShloMosaic Idealize.ShloMosaic.TcCoe Idealize.SL.Sem

/-! ## The claims about the gradient of the second mixer's output projection -/

namespace Cert.MixDcat

theorem frame_kernel : Cert.quiescent_Kernel8 := fun m ρ _ => Cert.Kernel8.Gen.frame m ρ

theorem frame_ideal : Cert.quiescent_Kernel8Ideal := fun m ρ _ => Cert.Kernel8Ideal.Gen.frame m ρ

/-- The reference leaves its arguments unchanged; it declares no semaphore. -/
theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

section
open Cert.Reference8Ideal Cert.Reference8Ideal.Read

theorem ref_dcat (h : FVec Ideal S4096x1024 .f32) (w : FVec Ideal S1x3072x1024 .bf16) (p : Fin 4096) (q : Fin 3072) :
    val_main_v4 (F := Ideal) h w (ValueIdx.ix2 p q) = ∑ j : Fin 1024, h (ValueIdx.ix2 p j) * w (ValueIdx.ix3 0 q j) := by
  unfold val_main_v4 val_main_v1 val_main_v0
  pointwise
  rfl

end

theorem algebraic : Cert.algebraic_Kernel8Ideal_Reference8Ideal := by
  intro m ρ m' ρ' _ hagree
  refine ⟨fun c => dcatAt m c, ?_, ?_⟩
  · refine (θ_run Cert.Kernel8Ideal.defs _ _).mono (fun _ h c => ?_) (Cert.Kernel8Ideal.Value.run_blocks (F := Ideal) m ρ)
    exact ⟨(h c).1.trans (final_dcat m c), (h c).2⟩
  · refine (θ_run Cert.Reference8Ideal.defs _ _).mono (fun _ h c => ?_) (Cert.Reference8Ideal.Value.run (F := Ideal) m' ρ')
    obtain ⟨a0, a1⟩ := hagree c
    refine ⟨(h c).1.trans ?_, (h c).2⟩
    rw [Cert.Reference8Ideal.Read.val_main_v4_eq, a0, a1]
    funext i
    obtain ⟨p, q, rfl⟩ : ∃ (p : Fin 4096) (q : Fin 3072), i = ValueIdx.ix2 p q := ⟨i 0, i 1, idx2 i⟩
    exact ref_dcat _ _ p q

end Cert.MixDcat

end
-- ==== Proof.Adam.Spec.lean ====
module

public import Idealize.ShloMosaic.Lib.Pointwise

@[expose] public section

noncomputable section

open Idealize.ShloMosaic

/-! ## One step of the optimiser, for one weight -/

namespace Cert.Adam

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The change of the weight: the first moment over the root of the second, both corrected for their start, and the decay. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

theorem idx2 {a b : ℕ} (i : (⟨2, ![a, b]⟩ : Shape).Idx) : i = ValueIdx.ix2 (i 0) (i 1) := by
  funext k
  match k with
  | ⟨0, _⟩ => rfl
  | ⟨1, _⟩ => rfl

theorem hz2 : (![0, 0] : Fin 2 → Nat) = fun _ => 0 := funext fun a => by fin_cases a <;> rfl

/-- An entry of block `t` of `b` whole rows, at its place in the whole array. -/
theorem row_emb {R C b : ℕ} (f : (⟨2, ![R, C]⟩ : Shape).Idx → EReal) {r : Fin R} {t : ℕ} {p : Fin b} {q : Fin C} (hr : r.val = b * t + p.val)
    {i : (⟨2, ![R, C]⟩ : Shape).Idx} {n0 n1 : ℕ} (h0 : n0 = t) (h1 : n1 = 0)
    (e0 : (i 0).val = n0 * b + 1 * p.val) (e1 : (i 1).val = n1 * C + 1 * q.val) : f i = f (ValueIdx.ix2 r q) := by
  refine congrArg f (funext fun a => Fin.ext ?_)
  match a with
  | ⟨0, _⟩ => show (i 0).val = r.val; rw [e0, hr, h0, Nat.mul_comm]; omega
  | ⟨1, _⟩ => show (i 1).val = q.val; rw [e1, h1]; omega

/-- The row block that holds a row. -/
theorem row_point {R C : ℕ} (b N : ℕ) (hb : 0 < b) (hN : b * N = R) (i : (⟨2, ![R, C]⟩ : Shape).Idx) : (i 0).val / b < N ∧ b * ((i 0).val / b) ≤ (i 0).val
    ∧ (i 0).val < b * ((i 0).val / b) + b ∧ (i 1).val < C := by
  have h0 : (i 0).val < R := (i 0).isLt
  refine ⟨Nat.div_lt_of_lt_mul (hN ▸ h0), Nat.mul_div_le _ _, ?_, (i 1).isLt⟩
  have := Nat.lt_mul_div_succ (i 0).val hb
  rwa [Nat.mul_succ] at this

/-- An index lies in the rectangle of its row block. -/
theorem mem_rows {i o s : Fin 2 → ℕ} {n0 n1 t b C : ℕ} (h : b * t ≤ i 0 ∧ i 0 < b * t + b ∧ i 1 < C) (h0 : n0 = t) (h1 : n1 = 0)
    (o0 : o 0 = n0 * b) (o1 : o 1 = n1 * C) (s0 : s 0 = b) (s1 : s 1 = C) (a : Fin 2) : o a ≤ i a ∧ i a < o a + s a := by
  match a with
  | ⟨0, _⟩ => show o 0 ≤ i 0 ∧ i 0 < o 0 + s 0; rw [o0, s0, h0, Nat.mul_comm]; omega
  | ⟨1, _⟩ => show o 1 ≤ i 1 ∧ i 1 < o 1 + s 1; rw [o1, s1, h1]; omega

end Cert.Adam

end
-- ==== Proof.AdamSmall.lean ====
module

public import proofs.«01_k».proof.Defs
public import proofs.«01_k».proof.Proof.Adam.Spec
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the small weights, packed into one array -/

namespace Cert.AdamSmall

theorem frame_kernel : Cert.quiescent_Kernel9 := fun m ρ _ => Cert.Kernel9.Gen.frame m ρ

theorem frame_ideal : Cert.quiescent_Kernel9Ideal := fun m ρ _ => Cert.Kernel9Ideal.Gen.frame m ρ

/-- The reference leaves its arguments unchanged; it declares no semaphore. -/
theorem frame_reference : Cert.quiescent_Reference9Ideal := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)

section
open Cert.Reference9Ideal Cert.Reference9Ideal.Read
variable (w g m v : FVec Ideal S208x1024 .f32) (p : Fin 208) (q : Fin 1024)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel9Ideal_Reference9Ideal := by
  intro m ρ m' ρ' _ hagree
  refine ⟨_, _, _, Cert.Kernel9Ideal.Value.run (F := Ideal) m ρ, ?_⟩
  refine (θ_run Cert.Reference9Ideal.defs _ _).mono (fun _ h c => ?_) (Cert.Reference9Ideal.Value.run (F := Ideal) m' ρ')
  obtain ⟨a0, a1, a2, a3⟩ := hagree c
  refine ⟨(h c).1.trans ?_, (h c).2.1.trans ?_, (h c).2.2.1.trans ?_, (h c).2.2.2⟩
  · rw [Cert.Reference9Ideal.Read.val_main_v23_eq, a0, a1, a2, a3]
    funext i
    obtain ⟨p, q, rfl⟩ : ∃ (p : Fin 208) (q : Fin 1024), i = ValueIdx.ix2 p q := ⟨i 0, i 1, Adam.idx2 i⟩
    exact ref_delta _ _ _ _ p q
  · rw [Cert.Reference9Ideal.Read.val_main_v4_eq, a1, a2]
    funext i
    obtain ⟨p, q, rfl⟩ : ∃ (p : Fin 208) (q : Fin 1024), i = ValueIdx.ix2 p q := ⟨i 0, i 1, Adam.idx2 i⟩
    exact ref_m _ _ p q
  · rw [Cert.Reference9Ideal.Read.val_main_v10_eq, a1, a3]
    funext i
    obtain ⟨p, q, rfl⟩ : ∃ (p : Fin 208) (q : Fin 1024), i = ValueIdx.ix2 p q := ⟨i 0, i 1, Adam.idx2 i⟩
    exact ref_v _ _ p q

end Cert.AdamSmall

end
-- ==== Proof.AdamFfnIn.lean ====
module

public import proofs.«01_k».proof.Defs
public import proofs.«01_k».proof.Proof.Adam.Spec
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the feed-forward layers' first weights -/

namespace Cert.AdamFfnIn

theorem frame_kernel : Cert.quiescent_Kernel10 := fun m ρ _ => Cert.Kernel10.Gen.frame m ρ

theorem frame_ideal : Cert.quiescent_Kernel10Ideal := fun m ρ _ => Cert.Kernel10Ideal.Gen.frame m ρ

/-- The reference leaves its arguments unchanged; it declares no semaphore. -/
theorem frame_reference : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

section
open Cert.Kernel10Ideal Cert.Kernel10Ideal.Gen

section Blocks
variable (w g m v : Vec Ideal S256x1408 .f32) (p : Fin 256) (q : Fin 1408)

theorem out_grad : out0_4 w g m v (ValueIdx.ix2 p q) = g (ValueIdx.ix2 p q) := by
  unfold out0_4
  rw [View.canon_unit_zero Adam.hz2]
  exact congrFun (View.ld_unit_zero (S := S256x1408) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S256x1408) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S256x1408) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S256x1408) Adam.hz2]
  unfold_payloads
  pointwise
  rfl

end Blocks

variable (m : (ℓ : Loc nD τ sig) → Buf (Elt Ideal) ℓ) (c : Dev nD)

abbrev argW : FVec Ideal S2048x1408 .f32 := m ((c.tc : Thread nD τ).loc main_arg0)
abbrev argG : FVec Ideal S2048x1408 .f32 := m ((c.tc : Thread nD τ).loc main_arg1)
abbrev argM : FVec Ideal S2048x1408 .f32 := m ((c.tc : Thread nD τ).loc main_arg2)
abbrev argV : FVec Ideal S2048x1408 .f32 := m ((c.tc : Thread nD τ).loc main_arg3)

def deltaAt (i : S2048x1408.Idx) : EReal := Adam.delta (argW m c i) (argG m c i) (argM m c i) (argV m c i)
def mAt (i : S2048x1408.Idx) : EReal := Adam.newM (argG m c i) (argM m c i)
def vAt (i : S2048x1408.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 256) : Fin 2048 := ⟨256 * t.val + p.val, by have : t.val < 8 := lt_of_lt_of_eq t.isLt N_0; have := p.isLt; omega⟩

/-- The row block that holds an index. -/
theorem row_point (i : S2048x1408.Idx) : ∃ t : Fin cfg0.N, 256 * t.val ≤ (i 0).val ∧ (i 0).val < 256 * t.val + 256 ∧ (i 1).val < 1408 :=
  let h := Adam.row_point 256 8 (by decide) (by decide) i
  ⟨⟨_, lt_of_lt_of_eq h.1 N_0.symm⟩, h.2⟩

theorem iblk0 (t : Fin cfg0.N) (p : Fin 256) (q : Fin 1408) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 256) (q : Fin 1408) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 256) (q : Fin 1408) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 256) (q : Fin 1408) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 256) (q : Fin 1408), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 256) (q : Fin 1408), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 256) (q : Fin 1408), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 256) (q : Fin 1408), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference10Ideal Cert.Reference10Ideal.Read
variable (w g m v : FVec Ideal S2048x1408 .f32) (p : Fin 2048) (q : Fin 1408)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel10Ideal_Reference10Ideal := by
  intro m ρ m' ρ' _ hagree
  refine ⟨fun c => argG m c, fun c => deltaAt m c, fun c => mAt m c, fun c => vAt m c, ?_, ?_⟩
  · refine (θ_run Cert.Kernel10Ideal.defs _ _).mono (fun _ h c => ?_) (Cert.Kernel10Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference10Ideal.defs _ _).mono (fun _ h c => ?_) (Cert.Reference10Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference10Ideal.Read.val_main_v23_eq, a0, a1, a2, a3]
      funext i
      obtain ⟨p, q, rfl⟩ : ∃ (p : Fin 2048) (q : Fin 1408), i = ValueIdx.ix2 p q := ⟨i 0, i 1, Adam.idx2 i⟩
      exact ref_delta _ _ _ _ p q
    · rw [Cert.Reference10Ideal.Read.val_main_v4_eq, a1, a2]
      funext i
      obtain ⟨p, q, rfl⟩ : ∃ (p : Fin 2048) (q : Fin 1408), i = ValueIdx.ix2 p q := ⟨i 0, i 1, Adam.idx2 i⟩
      exact ref_m _ _ p q
    · rw [Cert.Reference10Ideal.Read.val_main_v10_eq, a1, a3]
      funext i
      obtain ⟨p, q, rfl⟩ : ∃ (p : Fin 2048) (q : Fin 1408), i = ValueIdx.ix2 p q := ⟨i 0, i 1, Adam.idx2 i⟩
      exact ref_v _ _ p q

end Cert.AdamFfnIn

end
-- ==== Proof.AdamFfnOut.lean ====
module

public import proofs.«01_k».proof.Defs
public import proofs.«01_k».proof.Proof.Adam.Spec
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the feed-forward layers' second weights -/

namespace Cert.AdamFfnOut

theorem frame_kernel : Cert.quiescent_Kernel11 := fun m ρ _ => Cert.Kernel11.Gen.frame m ρ

theorem frame_ideal : Cert.quiescent_Kernel11Ideal := fun m ρ _ => Cert.Kernel11Ideal.Gen.frame m ρ

/-- The reference leaves its arguments unchanged; it declares no semaphore. -/
theorem frame_reference : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

section
open Cert.Kernel11Ideal Cert.Kernel11Ideal.Gen

section Blocks
variable (w g m v : Vec Ideal S176x1024 .f32) (p : Fin 176) (q : Fin 1024)

theorem out_grad : out0_4 w g m v (ValueIdx.ix2 p q) = g (ValueIdx.ix2 p q) := by
  unfold out0_4
  rw [View.canon_unit_zero Adam.hz2]
  exact congrFun (View.ld_unit_zero (S := S176x1024) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S176x1024) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S176x1024) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S176x1024) Adam.hz2]
  unfold_payloads
  pointwise
  rfl

end Blocks

variable (m : (ℓ : Loc nD τ sig) → Buf (Elt Ideal) ℓ) (c : Dev nD)

abbrev argW : FVec Ideal S1408x1024 .f32 := m ((c.tc : Thread nD τ).loc main_arg0)
abbrev argG : FVec Ideal S1408x1024 .f32 := m ((c.tc : Thread nD τ).loc main_arg1)
abbrev argM : FVec Ideal S1408x1024 .f32 := m ((c.tc : Thread nD τ).loc main_arg2)
abbrev argV : FVec Ideal S1408x1024 .f32 := m ((c.tc : Thread nD τ).loc main_arg3)

def deltaAt (i : S1408x1024.Idx) : EReal := Adam.delta (argW m c i) (argG m c i) (argM m c i) (argV m c i)
def mAt (i : S1408x1024.Idx) : EReal := Adam.newM (argG m c i) (argM m c i)
def vAt (i : S1408x1024.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 176) : Fin 1408 := ⟨176 * t.val + p.val, by have : t.val < 8 := lt_of_lt_of_eq t.isLt N_0; have := p.isLt; omega⟩

/-- The row block that holds an index. -/
theorem row_point (i : S1408x1024.Idx) : ∃ t : Fin cfg0.N, 176 * t.val ≤ (i 0).val ∧ (i 0).val < 176 * t.val + 176 ∧ (i 1).val < 1024 :=
  let h := Adam.row_point 176 8 (by decide) (by decide) i
  ⟨⟨_, lt_of_lt_of_eq h.1 N_0.symm⟩, h.2⟩

theorem iblk0 (t : Fin cfg0.N) (p : Fin 176) (q : Fin 1024) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 176) (q : Fin 1024) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 176) (q : Fin 1024) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 176) (q : Fin 1024) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 176) (q : Fin 1024), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 176) (q : Fin 1024), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 176) (q : Fin 1024), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 176) (q : Fin 1024), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference11Ideal Cert.Reference11Ideal.Read
variable (w g m v : FVec Ideal S1408x1024 .f32) (p : Fin 1408) (q : Fin 1024)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel11Ideal_Reference11Ideal := by
  intro m ρ m' ρ' _ hagree
  refine ⟨fun c => argG m c, fun c => deltaAt m c, fun c => mAt m c, fun c => vAt m c, ?_, ?_⟩
  · refine (θ_run Cert.Kernel11Ideal.defs _ _).mono (fun _ h c => ?_) (Cert.Kernel11Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference11Ideal.defs _ _).mono (fun _ h c => ?_) (Cert.Reference11Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference11Ideal.Read.val_main_v23_eq, a0, a1, a2, a3]
      funext i
      obtain ⟨p, q, rfl⟩ : ∃ (p : Fin 1408) (q : Fin 1024), i = ValueIdx.ix2 p q := ⟨i 0, i 1, Adam.idx2 i⟩
      exact ref_delta _ _ _ _ p q
    · rw [Cert.Reference11Ideal.Read.val_main_v4_eq, a1, a2]
      funext i
      obtain ⟨p, q, rfl⟩ : ∃ (p : Fin 1408) (q : Fin 1024), i = ValueIdx.ix2 p q := ⟨i 0, i 1, Adam.idx2 i⟩
      exact ref_m _ _ p q
    · rw [Cert.Reference11Ideal.Read.val_main_v10_eq, a1, a3]
      funext i
      obtain ⟨p, q, rfl⟩ : ∃ (p : Fin 1408) (q : Fin 1024), i = ValueIdx.ix2 p q := ⟨i 0, i 1, Adam.idx2 i⟩
      exact ref_v _ _ p q

end Cert.AdamFfnOut

end
-- ==== Proof.AdamMixIn.lean ====
module

public import proofs.«01_k».proof.Defs
public import proofs.«01_k».proof.Proof.Adam.Spec
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the mixers' first weights -/

namespace Cert.AdamMixIn

theorem frame_kernel : Cert.quiescent_Kernel12 := fun m ρ _ => Cert.Kernel12.Gen.frame m ρ

theorem frame_ideal : Cert.quiescent_Kernel12Ideal := fun m ρ _ => Cert.Kernel12Ideal.Gen.frame m ρ

/-- The reference leaves its arguments unchanged; it declares no semaphore. -/
theorem frame_reference : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

section
open Cert.Kernel12Ideal Cert.Kernel12Ideal.Gen

section Blocks
variable (w g m v : Vec Ideal S256x1280 .f32) (p : Fin 256) (q : Fin 1280)

theorem out_grad : out0_4 w g m v (ValueIdx.ix2 p q) = g (ValueIdx.ix2 p q) := by
  unfold out0_4
  rw [View.canon_unit_zero Adam.hz2]
  exact congrFun (View.ld_unit_zero (S := S256x1280) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S256x1280) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S256x1280) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S256x1280) Adam.hz2]
  unfold_payloads
  pointwise
  rfl

end Blocks

variable (m : (ℓ : Loc nD τ sig) → Buf (Elt Ideal) ℓ) (c : Dev nD)

abbrev argW : FVec Ideal S1024x1280 .f32 := m ((c.tc : Thread nD τ).loc main_arg0)
abbrev argG : FVec Ideal S1024x1280 .f32 := m ((c.tc : Thread nD τ).loc main_arg1)
abbrev argM : FVec Ideal S1024x1280 .f32 := m ((c.tc : Thread nD τ).loc main_arg2)
abbrev argV : FVec Ideal S1024x1280 .f32 := m ((c.tc : Thread nD τ).loc main_arg3)

def deltaAt (i : S1024x1280.Idx) : EReal := Adam.delta (argW m c i) (argG m c i) (argM m c i) (argV m c i)
def mAt (i : S1024x1280.Idx) : EReal := Adam.newM (argG m c i) (argM m c i)
def vAt (i : S1024x1280.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 256) : Fin 1024 := ⟨256 * t.val + p.val, by have : t.val < 4 := lt_of_lt_of_eq t.isLt N_0; have := p.isLt; omega⟩

/-- The row block that holds an index. -/
theorem row_point (i : S1024x1280.Idx) : ∃ t : Fin cfg0.N, 256 * t.val ≤ (i 0).val ∧ (i 0).val < 256 * t.val + 256 ∧ (i 1).val < 1280 :=
  let h := Adam.row_point 256 4 (by decide) (by decide) i
  ⟨⟨_, lt_of_lt_of_eq h.1 N_0.symm⟩, h.2⟩

theorem iblk0 (t : Fin cfg0.N) (p : Fin 256) (q : Fin 1280) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 256) (q : Fin 1280) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 256) (q : Fin 1280) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 256) (q : Fin 1280) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 256) (q : Fin 1280), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 256) (q : Fin 1280), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 256) (q : Fin 1280), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 256) (q : Fin 1280), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference12Ideal Cert.Reference12Ideal.Read
variable (w g m v : FVec Ideal S1024x1280 .f32) (p : Fin 1024) (q : Fin 1280)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel12Ideal_Reference12Ideal := by
  intro m ρ m' ρ' _ hagree
  refine ⟨fun c => argG m c, fun c => deltaAt m c, fun c => mAt m c, fun c => vAt m c, ?_, ?_⟩
  · refine (θ_run Cert.Kernel12Ideal.defs _ _).mono (fun _ h c => ?_) (Cert.Kernel12Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference12Ideal.defs _ _).mono (fun _ h c => ?_) (Cert.Reference12Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference12Ideal.Read.val_main_v23_eq, a0, a1, a2, a3]
      funext i
      obtain ⟨p, q, rfl⟩ : ∃ (p : Fin 1024) (q : Fin 1280), i = ValueIdx.ix2 p q := ⟨i 0, i 1, Adam.idx2 i⟩
      exact ref_delta _ _ _ _ p q
    · rw [Cert.Reference12Ideal.Read.val_main_v4_eq, a1, a2]
      funext i
      obtain ⟨p, q, rfl⟩ : ∃ (p : Fin 1024) (q : Fin 1280), i = ValueIdx.ix2 p q := ⟨i 0, i 1, Adam.idx2 i⟩
      exact ref_m _ _ p q
    · rw [Cert.Reference12Ideal.Read.val_main_v10_eq, a1, a3]
      funext i
      obtain ⟨p, q, rfl⟩ : ∃ (p : Fin 1024) (q : Fin 1280), i = ValueIdx.ix2 p q := ⟨i 0, i 1, Adam.idx2 i⟩
      exact ref_v _ _ p q

end Cert.AdamMixIn

end
-- ==== Proof.AdamKv.lean ====
module

public import proofs.«01_k».proof.Defs
public import proofs.«01_k».proof.Proof.Adam.Spec
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the memory's weights -/

namespace Cert.AdamKv

theorem frame_kernel : Cert.quiescent_Kernel13 := fun m ρ _ => Cert.Kernel13.Gen.frame m ρ

theorem frame_ideal : Cert.quiescent_Kernel13Ideal := fun m ρ _ => Cert.Kernel13Ideal.Gen.frame m ρ

/-- The reference leaves its arguments unchanged; it declares no semaphore. -/
theorem frame_reference : Cert.quiescent_Reference13Ideal := fun m ρ _ =>
  (θ_run Cert.Reference13Ideal.defs _ _).mono (fun r h => ⟨fun c => (h c).2.2.2.2,
      Idealize.ShloMosaic.sem_eq_zero_of_no_sems (by decide) r.2⟩)
    (Cert.Reference13Ideal.Value.run (F := Ideal) m ρ)

section
open Cert.Kernel13Ideal Cert.Kernel13Ideal.Gen

section Blocks
variable (w g m v : Vec Ideal S256x512 .f32) (p : Fin 256) (q : Fin 512)

theorem out_grad : out0_4 w g m v (ValueIdx.ix2 p q) = g (ValueIdx.ix2 p q) := by
  unfold out0_4
  rw [View.canon_unit_zero Adam.hz2]
  exact congrFun (View.ld_unit_zero (S := S256x512) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S256x512) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S256x512) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S256x512) Adam.hz2]
  unfold_payloads
  pointwise
  rfl

end Blocks

variable (m : (ℓ : Loc nD τ sig) → Buf (Elt Ideal) ℓ) (c : Dev nD)

abbrev argW : FVec Ideal S2048x512 .f32 := m ((c.tc : Thread nD τ).loc main_arg0)
abbrev argG : FVec Ideal S2048x512 .f32 := m ((c.tc : Thread nD τ).loc main_arg1)
abbrev argM : FVec Ideal S2048x512 .f32 := m ((c.tc : Thread nD τ).loc main_arg2)
abbrev argV : FVec Ideal S2048x512 .f32 := m ((c.tc : Thread nD τ).loc main_arg3)

def deltaAt (i : S2048x512.Idx) : EReal := Adam.delta (argW m c i) (argG m c i) (argM m c i) (argV m c i)
def mAt (i : S2048x512.Idx) : EReal := Adam.newM (argG m c i) (argM m c i)
def vAt (i : S2048x512.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 256) : Fin 2048 := ⟨256 * t.val + p.val, by have : t.val < 8 := lt_of_lt_of_eq t.isLt N_0; have := p.isLt; omega⟩

/-- The row block that holds an index. -/
theorem row_point (i : S2048x512.Idx) : ∃ t : Fin cfg0.N, 256 * t.val ≤ (i 0).val ∧ (i 0).val < 256 * t.val + 256 ∧ (i 1).val < 512 :=
  let h := Adam.row_point 256 8 (by decide) (by decide) i
  ⟨⟨_, lt_of_lt_of_eq h.1 N_0.symm⟩, h.2⟩

theorem iblk0 (t : Fin cfg0.N) (p : Fin 256) (q : Fin 512) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 256) (q : Fin 512) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 256) (q : Fin 512) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 256) (q : Fin 512) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 256) (q : Fin 512), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 256) (q : Fin 512), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 256) (q : Fin 512), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 256) (q : Fin 512), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference13Ideal Cert.Reference13Ideal.Read
variable (w g m v : FVec Ideal S2048x512 .f32) (p : Fin 2048) (q : Fin 512)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel13Ideal_Reference13Ideal := by
  intro m ρ m' ρ' _ hagree
  refine ⟨fun c => argG m c, fun c => deltaAt m c, fun c => mAt m c, fun c => vAt m c, ?_, ?_⟩
  · refine (θ_run Cert.Kernel13Ideal.defs _ _).mono (fun _ h c => ?_) (Cert.Kernel13Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference13Ideal.defs _ _).mono (fun _ h c => ?_) (Cert.Reference13Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference13Ideal.Read.val_main_v23_eq, a0, a1, a2, a3]
      funext i
      obtain ⟨p, q, rfl⟩ : ∃ (p : Fin 2048) (q : Fin 512), i = ValueIdx.ix2 p q := ⟨i 0, i 1, Adam.idx2 i⟩
      exact ref_delta _ _ _ _ p q
    · rw [Cert.Reference13Ideal.Read.val_main_v4_eq, a1, a2]
      funext i
      obtain ⟨p, q, rfl⟩ : ∃ (p : Fin 2048) (q : Fin 512), i = ValueIdx.ix2 p q := ⟨i 0, i 1, Adam.idx2 i⟩
      exact ref_m _ _ p q
    · rw [Cert.Reference13Ideal.Read.val_main_v10_eq, a1, a3]
      funext i
      obtain ⟨p, q, rfl⟩ : ∃ (p : Fin 2048) (q : Fin 512), i = ValueIdx.ix2 p q := ⟨i 0, i 1, Adam.idx2 i⟩
      exact ref_v _ _ p q

end Cert.AdamKv

end
-- ==== Proof.AdamHgrnOut.lean ====
module

public import proofs.«01_k».proof.Defs
public import proofs.«01_k».proof.Proof.Adam.Spec
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of the recurrence's second weights -/

namespace Cert.AdamHgrnOut

theorem frame_kernel : Cert.quiescent_Kernel14 := fun m ρ _ => Cert.Kernel14.Gen.frame m ρ

theorem frame_ideal : Cert.quiescent_Kernel14Ideal := fun m ρ _ => Cert.Kernel14Ideal.Gen.frame m ρ

/-- The reference leaves its arguments unchanged; it declares no semaphore. -/
theorem frame_reference : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

section
open Cert.Kernel14Ideal Cert.Kernel14Ideal.Gen

section Blocks
variable (w g m v : Vec Ideal S256x1024 .f32) (p : Fin 256) (q : Fin 1024)

theorem out_grad : out0_4 w g m v (ValueIdx.ix2 p q) = g (ValueIdx.ix2 p q) := by
  unfold out0_4
  rw [View.canon_unit_zero Adam.hz2]
  exact congrFun (View.ld_unit_zero (S := S256x1024) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S256x1024) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S256x1024) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S256x1024) Adam.hz2]
  unfold_payloads
  pointwise
  rfl

end Blocks

variable (m : (ℓ : Loc nD τ sig) → Buf (Elt Ideal) ℓ) (c : Dev nD)

abbrev argW : FVec Ideal S512x1024 .f32 := m ((c.tc : Thread nD τ).loc main_arg0)
abbrev argG : FVec Ideal S512x1024 .f32 := m ((c.tc : Thread nD τ).loc main_arg1)
abbrev argM : FVec Ideal S512x1024 .f32 := m ((c.tc : Thread nD τ).loc main_arg2)
abbrev argV : FVec Ideal S512x1024 .f32 := m ((c.tc : Thread nD τ).loc main_arg3)

def deltaAt (i : S512x1024.Idx) : EReal := Adam.delta (argW m c i) (argG m c i) (argM m c i) (argV m c i)
def mAt (i : S512x1024.Idx) : EReal := Adam.newM (argG m c i) (argM m c i)
def vAt (i : S512x1024.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 256) : Fin 512 := ⟨256 * t.val + p.val, by have : t.val < 2 := lt_of_lt_of_eq t.isLt N_0; have := p.isLt; omega⟩

/-- The row block that holds an index. -/
theorem row_point (i : S512x1024.Idx) : ∃ t : Fin cfg0.N, 256 * t.val ≤ (i 0).val ∧ (i 0).val < 256 * t.val + 256 ∧ (i 1).val < 1024 :=
  let h := Adam.row_point 256 2 (by decide) (by decide) i
  ⟨⟨_, lt_of_lt_of_eq h.1 N_0.symm⟩, h.2⟩

theorem iblk0 (t : Fin cfg0.N) (p : Fin 256) (q : Fin 1024) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 256) (q : Fin 1024) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 256) (q : Fin 1024) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 256) (q : Fin 1024) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 256) (q : Fin 1024), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 256) (q : Fin 1024), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 256) (q : Fin 1024), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 256) (q : Fin 1024), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference14Ideal Cert.Reference14Ideal.Read
variable (w g m v : FVec Ideal S512x1024 .f32) (p : Fin 512) (q : Fin 1024)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel14Ideal_Reference14Ideal := by
  intro m ρ m' ρ' _ hagree
  refine ⟨fun c => argG m c, fun c => deltaAt m c, fun c => mAt m c, fun c => vAt m c, ?_, ?_⟩
  · refine (θ_run Cert.Kernel14Ideal.defs _ _).mono (fun _ h c => ?_) (Cert.Kernel14Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference14Ideal.defs _ _).mono (fun _ h c => ?_) (Cert.Reference14Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference14Ideal.Read.val_main_v23_eq, a0, a1, a2, a3]
      funext i
      obtain ⟨p, q, rfl⟩ : ∃ (p : Fin 512) (q : Fin 1024), i = ValueIdx.ix2 p q := ⟨i 0, i 1, Adam.idx2 i⟩
      exact ref_delta _ _ _ _ p q
    · rw [Cert.Reference14Ideal.Read.val_main_v4_eq, a1, a2]
      funext i
      obtain ⟨p, q, rfl⟩ : ∃ (p : Fin 512) (q : Fin 1024), i = ValueIdx.ix2 p q := ⟨i 0, i 1, Adam.idx2 i⟩
      exact ref_m _ _ p q
    · rw [Cert.Reference14Ideal.Read.val_main_v10_eq, a1, a3]
      funext i
      obtain ⟨p, q, rfl⟩ : ∃ (p : Fin 512) (q : Fin 1024), i = ValueIdx.ix2 p q := ⟨i 0, i 1, Adam.idx2 i⟩
      exact ref_v _ _ p q

end Cert.AdamHgrnOut

end
-- ==== Proof.AdamGmlpOut.lean ====
module

public import proofs.«01_k».proof.Defs
public import proofs.«01_k».proof.Proof.Adam.Spec
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The optimiser's step of spatial gating's second weights -/

namespace Cert.AdamGmlpOut

theorem frame_kernel : Cert.quiescent_Kernel15 := fun m ρ _ => Cert.Kernel15.Gen.frame m ρ

theorem frame_ideal : Cert.quiescent_Kernel15Ideal := fun m ρ _ => Cert.Kernel15Ideal.Gen.frame m ρ

/-- The reference leaves its arguments unchanged; it declares no semaphore. -/
theorem frame_reference : Cert.quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run (F := Ideal) m ρ)

section
open Cert.Kernel15Ideal Cert.Kernel15Ideal.Gen

section Blocks
variable (w g m v : Vec Ideal S256x1024 .f32) (p : Fin 256) (q : Fin 1024)

theorem out_grad : out0_4 w g m v (ValueIdx.ix2 p q) = g (ValueIdx.ix2 p q) := by
  unfold out0_4
  rw [View.canon_unit_zero Adam.hz2]
  exact congrFun (View.ld_unit_zero (S := S256x1024) Adam.hz2 _ g) _

theorem out_delta : out0_5 w g m v (ValueIdx.ix2 p q)
    = Adam.delta (w (ValueIdx.ix2 p q)) (g (ValueIdx.ix2 p q)) (m (ValueIdx.ix2 p q)) (v (ValueIdx.ix2 p q)) := by
  unfold out0_5
  rw [View.canon_unit_zero Adam.hz2]
  simp only [View.ld_unit_zero (S := S256x1024) Adam.hz2]
  unfold_payloads
  pointwise
  rfl

theorem out_m : out0_6 w g m v (ValueIdx.ix2 p q) = Adam.newM (g (ValueIdx.ix2 p q)) (m (ValueIdx.ix2 p q)) := by
  unfold out0_6
  rw [View.canon_unit_zero Adam.hz2]
  simp only [View.ld_unit_zero (S := S256x1024) Adam.hz2]
  unfold_payloads
  pointwise
  rfl

theorem out_v : out0_7 w g m v (ValueIdx.ix2 p q) = Adam.newV (g (ValueIdx.ix2 p q)) (v (ValueIdx.ix2 p q)) := by
  unfold out0_7
  rw [View.canon_unit_zero Adam.hz2]
  simp only [View.ld_unit_zero (S := S256x1024) Adam.hz2]
  unfold_payloads
  pointwise
  rfl

end Blocks

variable (m : (ℓ : Loc nD τ sig) → Buf (Elt Ideal) ℓ) (c : Dev nD)

abbrev argW : FVec Ideal S768x1024 .f32 := m ((c.tc : Thread nD τ).loc main_arg0)
abbrev argG : FVec Ideal S768x1024 .f32 := m ((c.tc : Thread nD τ).loc main_arg1)
abbrev argM : FVec Ideal S768x1024 .f32 := m ((c.tc : Thread nD τ).loc main_arg2)
abbrev argV : FVec Ideal S768x1024 .f32 := m ((c.tc : Thread nD τ).loc main_arg3)

def deltaAt (i : S768x1024.Idx) : EReal := Adam.delta (argW m c i) (argG m c i) (argM m c i) (argV m c i)
def mAt (i : S768x1024.Idx) : EReal := Adam.newM (argG m c i) (argM m c i)
def vAt (i : S768x1024.Idx) : EReal := Adam.newV (argG m c i) (argV m c i)

/-- Grid point `t` of window `n` is at row block `t`. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem out_facts : ∀ t : Fin cfg0.N, (win0_4.index t 0 = t.val ∧ win0_4.index t 1 = 0 ∧ win0_4.flush t = true) ∧ (win0_5.index t 0 = t.val ∧ win0_5.index t 1 = 0 ∧ win0_5.flush t = true)
    ∧ (win0_6.index t 0 = t.val ∧ win0_6.index t 1 = 0 ∧ win0_6.flush t = true) ∧ (win0_7.index t 0 = t.val ∧ win0_7.index t 1 = 0 ∧ win0_7.flush t = true) :=
  (by decide +kernel : ∀ t : Fin grid0.N, _)

def rowOf (t : Fin cfg0.N) (p : Fin 256) : Fin 768 := ⟨256 * t.val + p.val, by have : t.val < 3 := lt_of_lt_of_eq t.isLt N_0; have := p.isLt; omega⟩

/-- The row block that holds an index. -/
theorem row_point (i : S768x1024.Idx) : ∃ t : Fin cfg0.N, 256 * t.val ≤ (i 0).val ∧ (i 0).val < 256 * t.val + 256 ∧ (i 1).val < 1024 :=
  let h := Adam.row_point 256 3 (by decide) (by decide) i
  ⟨⟨_, lt_of_lt_of_eq h.1 N_0.symm⟩, h.2⟩

theorem iblk0 (t : Fin cfg0.N) (p : Fin 256) (q : Fin 1024) : iblk m c 0 t (ValueIdx.ix2 p q) = argW m c (ValueIdx.ix2 (rowOf t p) q) := by
  show V m c main_arg0 _ = _
  rw [V_main_arg0]
  exact Adam.row_emb (argW m c) (r := rowOf t p) (q := q) rfl (idx_facts t).1.1 (idx_facts t).1.2 rfl rfl

theorem iblk1 (t : Fin cfg0.N) (p : Fin 256) (q : Fin 1024) : iblk m c 1 t (ValueIdx.ix2 p q) = argG m c (ValueIdx.ix2 (rowOf t p) q) := by
  show V m c main_arg1 _ = _
  rw [V_main_arg1]
  exact Adam.row_emb (argG m c) (r := rowOf t p) (q := q) rfl (idx_facts t).2.1.1 (idx_facts t).2.1.2 rfl rfl

theorem iblk2 (t : Fin cfg0.N) (p : Fin 256) (q : Fin 1024) : iblk m c 2 t (ValueIdx.ix2 p q) = argM m c (ValueIdx.ix2 (rowOf t p) q) := by
  show V m c main_arg2 _ = _
  rw [V_main_arg2]
  exact Adam.row_emb (argM m c) (r := rowOf t p) (q := q) rfl (idx_facts t).2.2.1.1 (idx_facts t).2.2.1.2 rfl rfl

theorem iblk3 (t : Fin cfg0.N) (p : Fin 256) (q : Fin 1024) : iblk m c 3 t (ValueIdx.ix2 p q) = argV m c (ValueIdx.ix2 (rowOf t p) q) := by
  show V m c main_arg3 _ = _
  rw [V_main_arg3]
  exact Adam.row_emb (argV m c) (r := rowOf t p) (q := q) rfl (idx_facts t).2.2.2.1 (idx_facts t).2.2.2.2 rfl rfl

theorem final_grad : (dats m 0 c).arrAt 4 cfg0.N = argG m c := by
  refine (dats m 0 c).arrAt_eq_of_cover 4 (argG m c) (fun t _ => ?_) fun i => ?_
  · rw [Value.flushed4]
    funext i
    obtain ⟨p, q, rfl⟩ : ∃ (p : Fin 256) (q : Fin 1024), i = ValueIdx.ix2 p q := ⟨i 0, i 1, Adam.idx2 i⟩
    refine (out_grad _ _ _ _ p q).trans (.trans ?_ (Adam.row_emb (argG m c) (r := rowOf t p) (q := q) rfl (out_facts t).1.1 (out_facts t).1.2.1 rfl rfl).symm)
    exact iblk1 m c t p q
  · obtain ⟨t, h⟩ := row_point i
    obtain ⟨h0, h1, hf⟩ := (out_facts t).1
    refine ⟨t, hf, ?_⟩
    show i ∈ ((View.whole main_v0_0).slice (win0_4.rect t)).set
    rw [View.set_slice_whole, Rect.mem_set_unit]
    exact Adam.mem_rows h h0 h1 rfl rfl rfl rfl

theorem final_delta : (dats m 0 c).arrAt 5 cfg0.N = deltaAt m c := by
  refine (dats m 0 c).arrAt_eq_of_cover 5 (deltaAt m c) (fun t _ => ?_) fun i => ?_
  · rw [Value.flushed5]
    funext i
    obtain ⟨p, q, rfl⟩ : ∃ (p : Fin 256) (q : Fin 1024), i = ValueIdx.ix2 p q := ⟨i 0, i 1, Adam.idx2 i⟩
    refine (out_delta _ _ _ _ p q).trans (.trans ?_ (Adam.row_emb (deltaAt m c) (r := rowOf t p) (q := q) rfl (out_facts t).2.1.1 (out_facts t).2.1.2.1 rfl rfl).symm)
    simp only [iblk0, iblk1, iblk2, iblk3]; rfl
  · obtain ⟨t, h⟩ := row_point i
    obtain ⟨h0, h1, hf⟩ := (out_facts t).2.1
    refine ⟨t, hf, ?_⟩
    show i ∈ ((View.whole main_v0_1).slice (win0_5.rect t)).set
    rw [View.set_slice_whole, Rect.mem_set_unit]
    exact Adam.mem_rows h h0 h1 rfl rfl rfl rfl

theorem final_m : (dats m 0 c).arrAt 6 cfg0.N = mAt m c := by
  refine (dats m 0 c).arrAt_eq_of_cover 6 (mAt m c) (fun t _ => ?_) fun i => ?_
  · rw [Value.flushed6]
    funext i
    obtain ⟨p, q, rfl⟩ : ∃ (p : Fin 256) (q : Fin 1024), i = ValueIdx.ix2 p q := ⟨i 0, i 1, Adam.idx2 i⟩
    refine (out_m _ _ _ _ p q).trans (.trans ?_ (Adam.row_emb (mAt m c) (r := rowOf t p) (q := q) rfl (out_facts t).2.2.1.1 (out_facts t).2.2.1.2.1 rfl rfl).symm)
    simp only [iblk0, iblk1, iblk2, iblk3]; rfl
  · obtain ⟨t, h⟩ := row_point i
    obtain ⟨h0, h1, hf⟩ := (out_facts t).2.2.1
    refine ⟨t, hf, ?_⟩
    show i ∈ ((View.whole main_v0_2).slice (win0_6.rect t)).set
    rw [View.set_slice_whole, Rect.mem_set_unit]
    exact Adam.mem_rows h h0 h1 rfl rfl rfl rfl

theorem final_v : (dats m 0 c).arrAt 7 cfg0.N = vAt m c := by
  refine (dats m 0 c).arrAt_eq_of_cover 7 (vAt m c) (fun t _ => ?_) fun i => ?_
  · rw [Value.flushed7]
    funext i
    obtain ⟨p, q, rfl⟩ : ∃ (p : Fin 256) (q : Fin 1024), i = ValueIdx.ix2 p q := ⟨i 0, i 1, Adam.idx2 i⟩
    refine (out_v _ _ _ _ p q).trans (.trans ?_ (Adam.row_emb (vAt m c) (r := rowOf t p) (q := q) rfl (out_facts t).2.2.2.1 (out_facts t).2.2.2.2.1 rfl rfl).symm)
    simp only [iblk0, iblk1, iblk2, iblk3]; rfl
  · obtain ⟨t, h⟩ := row_point i
    obtain ⟨h0, h1, hf⟩ := (out_facts t).2.2.2
    refine ⟨t, hf, ?_⟩
    show i ∈ ((View.whole main_v0_3).slice (win0_7.rect t)).set
    rw [View.set_slice_whole, Rect.mem_set_unit]
    exact Adam.mem_rows h h0 h1 rfl rfl rfl rfl

end

section
open Cert.Reference15Ideal Cert.Reference15Ideal.Read
variable (w g m v : FVec Ideal S768x1024 .f32) (p : Fin 768) (q : Fin 1024)

theorem ref_m : val_main_v4 (F := Ideal) g m (ValueIdx.ix2 p q) = Adam.newM (g (ValueIdx.ix2 p q)) (m (ValueIdx.ix2 p q)) := by
  unfold val_main_v4 val_main_v3 val_main_v2 val_main_cst_0 val_main_v1 val_main_v0 val_main_cst
  pointwise
  rfl

theorem ref_v : val_main_v10 (F := Ideal) g v (ValueIdx.ix2 p q) = Adam.newV (g (ValueIdx.ix2 p q)) (v (ValueIdx.ix2 p q)) := by
  unfold val_main_v10 val_main_v9 val_main_v8 val_main_cst_2 val_main_v7 val_main_v6 val_main_v5 val_main_cst_1
  pointwise
  rfl

theorem ref_delta : val_main_v23 (F := Ideal) w g m v (ValueIdx.ix2 p q)
    = Adam.delta (w (ValueIdx.ix2 p q)) (g (ValueIdx.ix2 p q)) (m (ValueIdx.ix2 p q)) (v (ValueIdx.ix2 p q)) := by
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise
  simp only [ref_m, ref_v]
  rfl

end

theorem algebraic : Cert.algebraic_Kernel15Ideal_Reference15Ideal := by
  intro m ρ m' ρ' _ hagree
  refine ⟨fun c => argG m c, fun c => deltaAt m c, fun c => mAt m c, fun c => vAt m c, ?_, ?_⟩
  · refine (θ_run Cert.Kernel15Ideal.defs _ _).mono (fun _ h c => ?_) (Cert.Kernel15Ideal.Value.run_blocks (F := Ideal) m ρ)
    exact ⟨(h c).1.trans (final_grad m c), (h c).2.1.trans (final_delta m c), (h c).2.2.1.trans (final_m m c), (h c).2.2.2.1.trans (final_v m c), (h c).2.2.2.2⟩
  · refine (θ_run Cert.Reference15Ideal.defs _ _).mono (fun _ h c => ?_) (Cert.Reference15Ideal.Value.run (F := Ideal) m' ρ')
    obtain ⟨a0, a1, a2, a3⟩ := hagree c
    refine ⟨(h c).1.trans a1, (h c).2.1.trans ?_, (h c).2.2.1.trans ?_, (h c).2.2.2.1.trans ?_, (h c).2.2.2.2⟩
    · rw [Cert.Reference15Ideal.Read.val_main_v23_eq, a0, a1, a2, a3]
      funext i
      obtain ⟨p, q, rfl⟩ : ∃ (p : Fin 768) (q : Fin 1024), i = ValueIdx.ix2 p q := ⟨i 0, i 1, Adam.idx2 i⟩
      exact ref_delta _ _ _ _ p q
    · rw [Cert.Reference15Ideal.Read.val_main_v4_eq, a1, a2]
      funext i
      obtain ⟨p, q, rfl⟩ : ∃ (p : Fin 768) (q : Fin 1024), i = ValueIdx.ix2 p q := ⟨i 0, i 1, Adam.idx2 i⟩
      exact ref_m _ _ p q
    · rw [Cert.Reference15Ideal.Read.val_main_v10_eq, a1, a3]
      funext i
      obtain ⟨p, q, rfl⟩ : ∃ (p : Fin 768) (q : Fin 1024), i = ValueIdx.ix2 p q := ⟨i 0, i 1, Adam.idx2 i⟩
      exact ref_v _ _ p q

end Cert.AdamGmlpOut

end
-- ==== Proof.GmlpFwd.Spec.lean ====
module

public import Idealize.ShloMosaic.Lib.Pointwise

@[expose] public section

noncomputable section

open Idealize.ShloMosaic

/-! ## Spatial gating and the attention to the memory, entry by entry -/

namespace Cert.GmlpFwd

/-- The gelu of one number. -/
def gelu (x : EReal) : EReal :=
  Ideal.ofBits .f32 0x3F000000#32 * x * (1 + Ideal.erf (x * Ideal.ofBits .f32 0x3F3504F3#32))

/-- The mean of a row's gelus. -/
def mean (v : Fin 2048 → EReal) : EReal := Ideal.div (∑ k, gelu (v k)) (Ideal.ofBits .f32 0x45000000#32)

/-- A row's gelu without the row's mean. -/
def centred (v : Fin 2048 → EReal) (j : Fin 2048) : EReal := gelu (v j) - mean v

/-- One over the spread of a row's gelus. -/
def inv (v : Fin 2048 → EReal) : EReal :=
  Ideal.rsqrt (Ideal.div (∑ k, centred v k * centred v k) (Ideal.ofBits .f32 0x45000000#32) + Ideal.ofBits .f32 0x358637BD#32)

/-- The layer norm of a row's gelus. -/
def normed (v lng lnb : Fin 2048 → EReal) (j : Fin 2048) : EReal := centred v j * inv v * lng j + lnb j

/-- The lower triangle of a matrix. -/
def lower (w : Fin 128 → Fin 128 → EReal) (t s : Fin 128) : EReal := if s.val ≤ t.val then w t s else 0

/-- The mix over a chunk's rows, at row `t`, column `j`. -/
def mixed (V : Fin 128 → Fin 2048 → EReal) (lng lnb : Fin 2048 → EReal) (w : Fin 128 → Fin 128 → EReal) (b : Fin 128 → EReal) (t : Fin 128) (j : Fin 2048) : EReal :=
  (∑ s, lower w t s * normed (V s) lng lnb j) + b t

/-- A score of a query and a key. -/
def score (q k : Fin 256 → EReal) : EReal := (∑ d, q d * k d) * Ideal.ofBits .f32 0x3D800000#32

/-- The largest score of a query. -/
def top (q : Fin 256 → EReal) (K : Fin 256 → Fin 256 → EReal) : EReal := Finset.fold max (Ideal.ofBits .f32 0xFF800000#32) (fun i => score q (K i)) Finset.univ

/-- The weight of the memory's entry `i`. -/
def expo (q : Fin 256 → EReal) (K : Fin 256 → Fin 256 → EReal) (i : Fin 256) : EReal := Ideal.exp (score q (K i) - top q K)

/-- What a query reads from the memory, at column `d`. -/
def attend (q : Fin 256 → EReal) (K V : Fin 256 → Fin 256 → EReal) (d : Fin 256) : EReal :=
  ∑ i, Ideal.div (expo q K i) (∑ k, expo q K k) * V i d

end Cert.GmlpFwd

end
-- ==== Proof.GmlpFwd.Block.lean ====
module

public import proofs.«01_k».proof.Proof.GmlpFwd.Spec
public import Idealize.ShloMosaic.Lib.WordCmp
public import proofs.«01_k».proof.Proof.Gen.Kernel16Ideal.Skeleton

@[expose] public section

set_option maxRecDepth 16384

noncomputable section

open Idealize.ShloMosaic Idealize.ShloMosaic.TcCoe Idealize.SL.Sem
open Cert.Kernel16Ideal Cert.Kernel16Ideal.Gen

/-! ## One chunk's computation, array by array -/

namespace Cert.GmlpFwd

/-- A chunk's rows of one group. -/
abbrev Tile : Type := FVec Ideal S128x256 .f32
abbrev Col : Type := FVec Ideal S128x1 .f32

def geluT (x : Tile) : Tile :=
  mulf (mulf (broadcast S128x256 (Scalar.ofBits .f32 0x3F000000#32)) x)
    (addf (broadcast S128x256 (Scalar.ofBits .f32 0x3F800000#32)) (erf (mulf x (broadcast S128x256 (Scalar.ofBits .f32 0x3F3504F3#32)))))

/-- The sums of the rows of a tile. -/
def sum1 (x : Tile) : Col := shapeCast S128x1 (multiReduction .add [1] S128 x 0x00000000#32 reduces_S128x256_S128 (.inl rfl) rfl) shapeCasts_S128_S128x1

/-- The sums of the rows of eight tiles side by side. -/
def sum8 (x : Fin 8 → Tile) : Col :=
  addf (addf (addf (addf (addf (addf (addf (addf (broadcast S128x1 (Scalar.ofBits .f32 0x00000000#32)) (sum1 (x 0))) (sum1 (x 1))) (sum1 (x 2))) (sum1 (x 3)))
    (sum1 (x 4))) (sum1 (x 5))) (sum1 (x 6))) (sum1 (x 7))

def meanT (v : Fin 8 → Tile) : Col := divf (sum8 fun g => geluT (v g)) (broadcast S128x1 (Scalar.ofBits .f32 0x45000000#32))

def centredT (v : Fin 8 → Tile) (g : Fin 8) : Tile := subf (geluT (v g)) (broadcastTo S128x256 (meanT v) broadcasts_S128x1_S128x256)

def invT (v : Fin 8 → Tile) : Col :=
  rsqrt (addf (divf (sum8 fun g => mulf (centredT v g) (centredT v g)) (broadcast S128x1 (Scalar.ofBits .f32 0x45000000#32)))
    (broadcast S128x1 (Scalar.ofBits .f32 0x358637BD#32)))

def normedT (v : Fin 8 → Tile) (lng lnb : Fin 8 → FVec Ideal S1x256 .f32) (g : Fin 8) : Tile :=
  addf (mulf (mulf (centredT v g) (broadcastTo S128x256 (invT v) broadcasts_S128x1_S128x256)) (broadcastTo S128x256 (lng g) broadcasts_S1x256_S128x256))
    (broadcastTo S128x256 (lnb g) broadcasts_S1x256_S128x256)

def lowerT (w : FVec Ideal S128x128 .f32) : FVec Ideal S128x128 .f32 :=
  select (cmpi .sge (iota .tc S128x128 32 [0] iota_S128x128_d0_w32) (iota .tc S128x128 32 [1] iota_S128x128_d1_w32)) w
    (broadcast S128x128 (Scalar.ofBits .f32 0x00000000#32))

def mixedT (v : Fin 8 → Tile) (lng lnb : Fin 8 → FVec Ideal S1x256 .f32) (w : Fin 8 → FVec Ideal S1x128x128 .f32) (b : Fin 8 → FVec Ideal S1x128 .f32) (g : Fin 8) : Tile :=
  addf (matmul dot_S128x128_S128x256_S128x256_1_0_0_1_n_n none (truncf .bf16 (lowerT (shapeCast S128x128 (w g) shapeCasts_S1x128x128_S128x128)) bitsLt_bf16_f32)
      (truncf .bf16 (normedT v lng lnb g) bitsLt_bf16_f32) (constant S128x256 .f32 0x00000000#32))
    (broadcastTo S128x256 (shapeCast S128x1 (b g) shapeCasts_S1x128_S128x1) broadcasts_S128x1_S128x256)

/-- The gated output of a group. -/
def gateT (u v : Fin 8 → Tile) (lng lnb : Fin 8 → FVec Ideal S1x256 .f32) (w : Fin 8 → FVec Ideal S1x128x128 .f32) (b : Fin 8 → FVec Ideal S1x128 .f32) (g : Fin 8) : Tile :=
  mulf (geluT (u g)) (mixedT v lng lnb w b g)

def scoreT (q : Tile) (k : FVec Ideal S256x256 .f32) : Tile :=
  mulf (matmul dot_S128x256_S256x256_S128x256_1_1_0_0_n_n none (truncf .bf16 q bitsLt_bf16_f32) (truncf .bf16 k bitsLt_bf16_f32) (constant S128x256 .f32 0x00000000#32))
    (broadcast S128x256 (Scalar.ofBits .f32 0x3D800000#32))

def expoT (q : Tile) (k : FVec Ideal S256x256 .f32) : Tile :=
  exp (subf (scoreT q k) (broadcastTo S128x256 (shapeCast S128x1
    (multiReduction .maximumf [1] S128 (scoreT q k) 0xFF800000#32 reduces_S128x256_S128 (.inl rfl) rfl) shapeCasts_S128_S128x1) broadcasts_S128x1_S128x256))

def softmaxT (q : Tile) (k : FVec Ideal S256x256 .f32) : Tile := divf (expoT q k) (broadcastTo S128x256 (sum1 (expoT q k)) broadcasts_S128x1_S128x256)

/-- The output of a head of the attention. -/
def attendT (q : Tile) (k v : FVec Ideal S256x256 .f32) : Tile :=
  matmul dot_S128x256_S256x256_S128x256_1_0_0_1_n_n none (truncf .bf16 (softmaxT q k) bitsLt_bf16_f32) (truncf .bf16 v bitsLt_bf16_f32) (constant S128x256 .f32 0x00000000#32)

/-! ### Entries -/

variable (p : Fin 128) (q : Fin 256)

theorem sge_iff (t s : Fin 128) : IntOp.cmpi .sge (BitVec.ofNat 32 t.val) (BitVec.ofNat 32 s.val) = if s.val ≤ t.val then 1#1 else 0#1 := by
  have e : ∀ r : Fin 128, (BitVec.ofNat 32 r.val).toInt = (r.val : ℤ) := fun r => by
    have h : r.val % 2 ^ 32 = r.val := Nat.mod_eq_of_lt (by omega)
    rw [BitVec.toInt_eq_toNat_of_lt (by rw [BitVec.toNat_ofNat, h]; omega), BitVec.toNat_ofNat, h]
  rw [WordCmp.cmpi_sge_eq, e, e]
  split_ifs with h <;> simp [h]

theorem geluT_apply (x : Tile) : geluT x (ValueIdx.ix2 p q) = gelu (x (ValueIdx.ix2 p q)) := by
  unfold geluT
  pointwise
  rfl

theorem sum1_apply (x : Tile) (z : Fin 1) : sum1 x (ValueIdx.ix2 p z) = ∑ k : Fin 256, x (ValueIdx.ix2 p k) := by
  unfold sum1
  pointwise
  rfl

theorem sum8_apply (x : Fin 8 → Tile) (z : Fin 1) : sum8 x (ValueIdx.ix2 p z) = ∑ g : Fin 8, ∑ k : Fin 256, x g (ValueIdx.ix2 p k) := by
  unfold sum8
  pointwise
  simp only [sum1_apply]
  rw [Fin.sum_univ_eight]

theorem lowerT_apply (w : FVec Ideal S128x128 .f32) (t s : Fin 128) : lowerT w (ValueIdx.ix2 t s) = if s.val ≤ t.val then w (ValueIdx.ix2 t s) else 0 := by
  unfold lowerT
  pointwise
  change Scalar.select (IntOp.cmpi .sge (BitVec.ofNat 32 t.val) (BitVec.ofNat 32 s.val)) _ _ = _
  rw [sge_iff]
  split_ifs with h <;> simp [h, Scalar.select]

theorem scoreT_apply (x : Tile) (k : FVec Ideal S256x256 .f32) (i : Fin 256) :
    scoreT x k (ValueIdx.ix2 p i) = score (fun d => x (ValueIdx.ix2 p d)) (fun d => k (ValueIdx.ix2 i d)) := by
  unfold scoreT
  pointwise
  rfl

theorem expoT_apply (x : Tile) (k : FVec Ideal S256x256 .f32) (i : Fin 256) :
    expoT x k (ValueIdx.ix2 p i) = expo (fun d => x (ValueIdx.ix2 p d)) (fun i d => k (ValueIdx.ix2 i d)) i := by
  unfold expoT
  pointwise
  change Ideal.exp (scoreT x k (ValueIdx.ix2 p i) - Finset.fold max _ (fun j : Fin 256 => scoreT x k (ValueIdx.ix2 p j)) Finset.univ) = _
  simp only [scoreT_apply]
  rfl

theorem attendT_apply (x : Tile) (k v : FVec Ideal S256x256 .f32) :
    attendT x k v (ValueIdx.ix2 p q) = attend (fun d => x (ValueIdx.ix2 p d)) (fun i d => k (ValueIdx.ix2 i d)) (fun i d => v (ValueIdx.ix2 i d)) q := by
  unfold attendT softmaxT
  pointwise
  change ∑ i : Fin 256, Ideal.div (expoT x k (ValueIdx.ix2 p i)) (sum1 (expoT x k) (ValueIdx.ix2 p 0)) * v (ValueIdx.ix2 i q) = _
  simp only [sum1_apply, expoT_apply]
  rfl

/-- A row over the eight groups. -/
def flat {R : Type} (x : Fin 8 → R → Fin 256 → EReal) (r : R) (k : Fin 2048) : EReal :=
  x ⟨k.val / 256, by omega⟩ r ⟨k.val % 256, by omega⟩

theorem sum_flat (f : Fin 2048 → EReal) : ∑ k : Fin 2048, f k = ∑ g : Fin 8, ∑ k : Fin 256, f ⟨256 * g.val + k.val, by omega⟩ := by
  rw [← Fintype.sum_prod_type', ← Equiv.sum_comp (finProdFinEquiv (m := 8) (n := 256)) f]
  exact Finset.sum_congr rfl fun x _ => congrArg f (Fin.ext (by simp [finProdFinEquiv]; ring))

section
variable (v : Fin 8 → Tile) (V : Fin 128 → Fin 2048 → EReal) (hv : ∀ (g : Fin 8) (r : Fin 128) (k : Fin 256), v g (ValueIdx.ix2 r k) = V r ⟨256 * g.val + k.val, by omega⟩)
include hv

theorem meanT_apply (z : Fin 1) : meanT v (ValueIdx.ix2 p z) = mean (V p) := by
  unfold meanT
  pointwise
  simp only [sum8_apply, geluT_apply, hv]
  rw [mean, sum_flat]

theorem centredT_apply (g : Fin 8) : centredT v g (ValueIdx.ix2 p q) = centred (V p) ⟨256 * g.val + q.val, by omega⟩ := by
  unfold centredT
  pointwise
  change geluT (v g) (ValueIdx.ix2 p q) - meanT v (ValueIdx.ix2 p 0) = _
  rw [geluT_apply, meanT_apply p v V hv, hv]
  rfl

theorem invT_apply (z : Fin 1) : invT v (ValueIdx.ix2 p z) = inv (V p) := by
  unfold invT
  pointwise
  have e (g : Fin 8) (k : Fin 256) : mulf (centredT v g) (centredT v g) (ValueIdx.ix2 p k) = centred (V p) ⟨256 * g.val + k.val, by omega⟩ * centred (V p) ⟨256 * g.val + k.val, by omega⟩ :=
    congrArg (fun y : EReal => y * y) (centredT_apply p k v V hv g)
  simp only [sum8_apply, e]
  rw [inv, sum_flat]

variable (lng lnb : Fin 8 → FVec Ideal S1x256 .f32) (Lng Lnb : Fin 2048 → EReal)
  (hg : ∀ (g : Fin 8) (k : Fin 256), lng g (ValueIdx.ix2 0 k) = Lng ⟨256 * g.val + k.val, by omega⟩)
  (hb : ∀ (g : Fin 8) (k : Fin 256), lnb g (ValueIdx.ix2 0 k) = Lnb ⟨256 * g.val + k.val, by omega⟩)
include hg hb

theorem normedT_apply (g : Fin 8) : normedT v lng lnb g (ValueIdx.ix2 p q) = normed (V p) Lng Lnb ⟨256 * g.val + q.val, by omega⟩ := by
  unfold normedT
  pointwise
  change centredT v g (ValueIdx.ix2 p q) * invT v (ValueIdx.ix2 p 0) * lng g (ValueIdx.ix2 0 q) + lnb g (ValueIdx.ix2 0 q) = _
  rw [centredT_apply p q v V hv, invT_apply p v V hv, hg, hb]
  rfl

theorem mixedT_apply (w : Fin 8 → FVec Ideal S1x128x128 .f32) (b : Fin 8 → FVec Ideal S1x128 .f32) (g : Fin 8) :
    mixedT v lng lnb w b g (ValueIdx.ix2 p q)
      = mixed V Lng Lnb (fun t s => w g (ValueIdx.ix3 0 t s)) (fun t => b g (ValueIdx.ix2 0 t)) p ⟨256 * g.val + q.val, by omega⟩ := by
  unfold mixedT
  pointwise
  change (∑ s : Fin 128, lowerT (shapeCast S128x128 (w g) shapeCasts_S1x128x128_S128x128) (ValueIdx.ix2 p s) * normedT v lng lnb g (ValueIdx.ix2 s q)) + b g (ValueIdx.ix2 0 p) = _
  simp only [lowerT_apply, normedT_apply _ _ v V hv lng lnb Lng Lnb hg hb]
  have e (s : Fin 128) : shapeCast S128x128 (w g) shapeCasts_S1x128x128_S128x128 (ValueIdx.ix2 p s) = w g (ValueIdx.ix3 0 p s) := by
    pointwise
    rfl
  simp only [e]
  rfl
end

end Cert.GmlpFwd

end
-- ==== Proof.GmlpFwd.Pieces.lean ====
module

public import proofs.«01_k».proof.Proof.GmlpFwd.Block
public import proofs.«01_k».proof.Proof.Gen.Kernel16Ideal.Frame
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Cert.Kernel16Ideal Cert.Kernel16Ideal.Gen

/-! ## The pieces a point stores -/

namespace Cert.GmlpFwd

/-- Rows `r …` and columns `o …` of a point's block of the step's input. -/
def zAt (x : Vec Ideal S256x5120 .f32) (r o : ℕ) : Tile := fun i => x (ValueIdx.ix2 (Fin.ofNat 256 (r + (i 0).val)) (Fin.ofNat 5120 (o + (i 1).val)))

def rowAt (x : Vec Ideal S1x2048 .f32) (o : ℕ) : FVec Ideal S1x256 .f32 := fun i => x (ValueIdx.ix2 0 (Fin.ofNat 2048 (o + (i 1).val)))

def matAt (x : Vec Ideal S8x128x128 .f32) (g : ℕ) : FVec Ideal S1x128x128 .f32 := fun i => x (ValueIdx.ix3 (Fin.ofNat 8 g) (i 1) (i 2))

def biasAt (x : Vec Ideal S8x128 .f32) (g : ℕ) : FVec Ideal S1x128 .f32 := fun i => x (ValueIdx.ix2 (Fin.ofNat 8 g) (i 1))

def memAt (x : Vec Ideal S256x2048 .f32) (o : ℕ) : FVec Ideal S256x256 .f32 := fun i => x (ValueIdx.ix2 (i 0) (Fin.ofNat 2048 (o + (i 1).val)))

theorem z_read (m : Memref sig .tc .vmem S256x5120 .f32) (h : m.IsWhole) (x : Vec Ideal S256x5120 .f32) (r o : ℕ) (i1) (i2) (hu) :
    View.readAt (Elt Ideal) m.view ((Rect.unit (s := S256x5120) ![r, 0] ![128, 5120] i1).withinL (Rect.unit (s := S128x5120) ![0, o] ![128, 256] i2).toLoadRect hu) (h.unread x) = zAt x r o := by
  funext i
  rw [View.readAt_apply, h.read_unread]
  refine congrArg x (funext fun a => Fin.ext ?_)
  have b1 : r + 128 ≤ 256 := i1 0
  have b2 : o + 256 ≤ 5120 := i2 1
  have h0 : (i 0).val < 128 := (i 0).isLt
  have h1 : (i 1).val < 256 := (i 1).isLt
  match a with
  | ⟨0, _⟩ => show r + 0 + 1 * (i 0).val = (r + (i 0).val) % 256; omega
  | ⟨1, _⟩ => show 0 + o + 1 * (i 1).val = (o + (i 1).val) % 5120; omega

theorem row_read (x : Vec Ideal S1x2048 .f32) (o : ℕ) (inb) : View.ld x (Rect.unit (s := S1x2048) ![0, o] ![1, 256] inb) = rowAt x o := by
  funext i
  have b : o + 256 ≤ 2048 := inb 1
  have h0 : (i 0).val < 1 := (i 0).isLt
  have h1 : (i 1).val < 256 := (i 1).isLt
  refine congrArg x (funext fun a => Fin.ext ?_)
  match a with
  | ⟨0, _⟩ => show 0 + 1 * (i 0).val = 0; omega
  | ⟨1, _⟩ => show o + 1 * (i 1).val = (o + (i 1).val) % 2048; omega

theorem mat_read (x : Vec Ideal S8x128x128 .f32) (g : ℕ) (inb) : View.ld x (Rect.unit (s := S8x128x128) ![g, 0, 0] ![1, 128, 128] inb) = matAt x g := by
  funext i
  have b : g + 1 ≤ 8 := inb 0
  have h0 : (i 0).val < 1 := (i 0).isLt
  refine congrArg x (funext fun a => Fin.ext ?_)
  match a with
  | ⟨0, _⟩ => show g + 1 * (i 0).val = g % 8; omega
  | ⟨1, _⟩ => show 0 + 1 * (i 1).val = (i 1).val; omega
  | ⟨2, _⟩ => show 0 + 1 * (i 2).val = (i 2).val; omega

theorem bias_read (x : Vec Ideal S8x128 .f32) (g : ℕ) (inb) : View.ld x (Rect.unit (s := S8x128) ![g, 0] ![1, 128] inb) = biasAt x g := by
  funext i
  have b : g + 1 ≤ 8 := inb 0
  have h0 : (i 0).val < 1 := (i 0).isLt
  refine congrArg x (funext fun a => Fin.ext ?_)
  match a with
  | ⟨0, _⟩ => show g + 1 * (i 0).val = g % 8; omega
  | ⟨1, _⟩ => show 0 + 1 * (i 1).val = (i 1).val; omega

theorem mem_read (x : Vec Ideal S256x2048 .f32) (o : ℕ) (inb) : View.ld x (Rect.unit (s := S256x2048) ![0, o] ![256, 256] inb) = memAt x o := by
  funext i
  have b : o + 256 ≤ 2048 := inb 1
  have h1 : (i 1).val < 256 := (i 1).isLt
  refine congrArg x (funext fun a => Fin.ext ?_)
  match a with
  | ⟨0, _⟩ => show 0 + 1 * (i 0).val = (i 0).val; omega
  | ⟨1, _⟩ => show o + 1 * (i 1).val = (o + (i 1).val) % 2048; omega

variable (c : Dev nD) (i : grid0.Coords) (arg2 : Memref sig .tc .vmem S256x5120 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S256x2048 .f32) (harg7 : arg7.IsWhole) (arg8 : Memref sig .tc .vmem S256x3072 .bf16) (harg8 : arg8.IsWhole)
    (x0 : Vec Ideal S256x5120 .f32) (x1 : Vec Ideal S1x2048 .f32) (x2 : Vec Ideal S1x2048 .f32) (x3 : Vec Ideal S8x128x128 .f32) (x4 : Vec Ideal S8x128 .f32) (x5 : Vec Ideal S256x2048 .f32)

/-- The gated output of the point's chunk `c`, group `g`. -/
def gateP (c : ℕ) (g : Fin 8) : Tile :=
  gateT (fun g => zAt x0 (128 * c) (256 * g.val)) (fun g => zAt x0 (128 * c) (2048 + 256 * g.val)) (fun g => rowAt x1 (256 * g.val)) (fun g => rowAt x2 (256 * g.val))
    (fun g => matAt x3 g.val) (fun g => biasAt x4 g.val) g

/-- The output of head `a` on the point's chunk `c`. -/
def attendP (c : ℕ) (a : Fin 4) : Tile := attendT (zAt x0 (128 * c) (4096 + 256 * a.val)) (memAt x5 (256 * a.val)) (memAt x5 (1024 + 256 * a.val))

/-- The block a point leaves. -/
def blockOf (y : S256x3072.Idx) : EReal :=
  if h : (y 1).val < 2048 then
    gateP x0 x1 x2 x3 x4 ((y 0).val / 128) ⟨(y 1).val / 256, by omega⟩ (ValueIdx.ix2 ⟨(y 0).val % 128, by omega⟩ ⟨(y 1).val % 256, by omega⟩)
  else
    have h' : (y 1).val < 3072 := (y 1).isLt
    attendP x0 x5 ((y 0).val / 128) ⟨((y 1).val - 2048) / 256, by omega⟩ (ValueIdx.ix2 ⟨(y 0).val % 128, by omega⟩ ⟨(y 1).val % 256, by omega⟩)

theorem idx2 {a b : ℕ} (i : (⟨2, ![a, b]⟩ : Shape).Idx) : i = ValueIdx.ix2 (i 0) (i 1) := by
  funext k
  match k with
  | ⟨0, _⟩ => rfl
  | ⟨1, _⟩ => rfl

theorem block_gate (y : S256x3072.Idx) (c : ℕ) (g : Fin 8) (p : Fin 128) (q : Fin 256) (h0 : (y 0).val = 128 * c + p.val) (h1 : (y 1).val = 256 * g.val + q.val) :
    gateP x0 x1 x2 x3 x4 c g (ValueIdx.ix2 p q) = blockOf x0 x1 x2 x3 x4 x5 y := by
  unfold blockOf
  rw [dif_pos (by omega)]
  have e0 : (y 0).val / 128 = c := by omega
  have e1 : (⟨(y 0).val % 128, by omega⟩ : Fin 128) = p := Fin.ext (by dsimp only; omega)
  have e2 : (⟨(y 1).val % 256, by omega⟩ : Fin 256) = q := Fin.ext (by dsimp only; omega)
  have e3 : ∀ h, (⟨(y 1).val / 256, h⟩ : Fin 8) = g := fun h => Fin.ext (by dsimp only; omega)
  rw [e0, e1, e2, e3]

theorem block_attend (y : S256x3072.Idx) (c : ℕ) (a : Fin 4) (p : Fin 128) (q : Fin 256) (h0 : (y 0).val = 128 * c + p.val) (h1 : (y 1).val = 2048 + 256 * a.val + q.val) :
    attendP x0 x5 c a (ValueIdx.ix2 p q) = blockOf x0 x1 x2 x3 x4 x5 y := by
  unfold blockOf
  rw [dif_neg (by omega)]
  have e0 : (y 0).val / 128 = c := by omega
  have e1 : (⟨(y 0).val % 128, by omega⟩ : Fin 128) = p := Fin.ext (by dsimp only; omega)
  have e2 : (⟨(y 1).val % 256, by omega⟩ : Fin 256) = q := Fin.ext (by dsimp only; omega)
  have e3 : ∀ h, (⟨((y 1).val - 2048) / 256, h⟩ : Fin 4) = a := fun h => Fin.ext (by dsimp only; omega)
  dsimp only
  rw [e0, e1, e2, e3]

theorem at_gate (c : ℕ) (g : Fin 8) {o0 o1 : ℕ} (h0 : o0 = 128 * c) (h1 : o1 = 256 * g.val) (inb) (i : S128x256.Idx) :
    gateP x0 x1 x2 x3 x4 c g i = blockOf x0 x1 x2 x3 x4 x5 ((Rect.unit (s := S256x3072) ![o0, o1] ![128, 256] inb).emb i) := by
  rw [idx2 i]
  refine block_gate x0 x1 x2 x3 x4 x5 _ c g _ _ ?_ ?_
  · show o0 + 1 * (i 0).val = 128 * c + (i 0).val; omega
  · show o1 + 1 * (i 1).val = 256 * g.val + (i 1).val; omega

theorem at_attend (c : ℕ) (a : Fin 4) {o0 o1 : ℕ} (h0 : o0 = 128 * c) (h1 : o1 = 2048 + 256 * a.val) (inb) (i : S128x256.Idx) :
    attendP x0 x5 c a i = blockOf x0 x1 x2 x3 x4 x5 ((Rect.unit (s := S256x3072) ![o0, o1] ![128, 256] inb).emb i) := by
  rw [idx2 i]
  refine block_attend x0 x1 x2 x3 x4 x5 _ c a _ _ ?_ ?_
  · show o0 + 1 * (i 0).val = 128 * c + (i 0).val; omega
  · show o1 + 1 * (i 1).val = 2048 + 256 * a.val + (i 1).val; omega

/-- Everything a point stores is a block of `blockOf`. -/
theorem pieces : View.PiecesOf (blockOf x0 x1 x2 x3 x4 x5) (kernelRun0_A c i arg2 harg2 arg3 harg3 arg4 harg4 arg5 harg5 arg6 harg6 arg7 harg7 arg8 harg8 x0 x1 x2 x3 x4 x5).1 := by
  unfold kernelRun0_A
  dsimp only
  sl_unfold_words
  simp only [View.readAt_eq_ld, harg3.read_unread, harg4.read_unread, harg5.read_unread, harg6.read_unread, harg7.read_unread, z_read, row_read, mat_read, bias_read, mem_read]
  have ga (c : ℕ) (g : Fin 8) (o0 o1 : ℕ) (inb) (h0 : o0 = 128 * c) (h1 : o1 = 256 * g.val) := at_gate x0 x1 x2 x3 x4 x5 c g h0 h1 inb
  have aa (c : ℕ) (a : Fin 4) (o0 o1 : ℕ) (inb) (h0 : o0 = 128 * c) (h1 : o1 = 2048 + 256 * a.val) := at_attend x0 x1 x2 x3 x4 x5 c a h0 h1 inb
  refine ⟨?_, ?_, ?_, ?_, ?_, ?_, ?_, ?_, ?_, ?_, ?_, ?_, ?_, ?_, ?_, ?_, ?_, ?_, ?_, ?_, ?_, ?_, ?_, ?_, trivial⟩
  · exact aa 1 3 128 2816 inb_S256x3072_S128x256_128_2816 rfl rfl
  · exact aa 1 2 128 2560 inb_S256x3072_S128x256_128_2560 rfl rfl
  · exact aa 1 1 128 2304 inb_S256x3072_S128x256_128_2304 rfl rfl
  · exact aa 1 0 128 2048 inb_S256x3072_S128x256_128_2048 rfl rfl
  · exact ga 1 7 128 1792 inb_S256x3072_S128x256_128_1792 rfl rfl
  · exact ga 1 6 128 1536 inb_S256x3072_S128x256_128_1536 rfl rfl
  · exact ga 1 5 128 1280 inb_S256x3072_S128x256_128_1280 rfl rfl
  · exact ga 1 4 128 1024 inb_S256x3072_S128x256_128_1024 rfl rfl
  · exact ga 1 3 128 768 inb_S256x3072_S128x256_128_768 rfl rfl
  · exact ga 1 2 128 512 inb_S256x3072_S128x256_128_512 rfl rfl
  · exact ga 1 1 128 256 inb_S256x3072_S128x256_128_256 rfl rfl
  · exact ga 1 0 128 0 inb_S256x3072_S128x256_128_0 rfl rfl
  · exact aa 0 3 0 2816 inb_S256x3072_S128x256_0_2816 rfl rfl
  · exact aa 0 2 0 2560 inb_S256x3072_S128x256_0_2560 rfl rfl
  · exact aa 0 1 0 2304 inb_S256x3072_S128x256_0_2304 rfl rfl
  · exact aa 0 0 0 2048 inb_S256x3072_S128x256_0_2048 rfl rfl
  · exact ga 0 7 0 1792 inb_S256x3072_S128x256_0_1792 rfl rfl
  · exact ga 0 6 0 1536 inb_S256x3072_S128x256_0_1536 rfl rfl
  · exact ga 0 5 0 1280 inb_S256x3072_S128x256_0_1280 rfl rfl
  · exact ga 0 4 0 1024 inb_S256x3072_S128x256_0_1024 rfl rfl
  · exact ga 0 3 0 768 inb_S256x3072_S128x256_0_768 rfl rfl
  · exact ga 0 2 0 512 inb_S256x3072_S128x256_0_512 rfl rfl
  · exact ga 0 1 0 256 inb_S256x3072_S128x256_0_256 rfl rfl
  · exact ga 0 0 0 0 inb_S256x3072_S128x256_0_0 rfl rfl

end Cert.GmlpFwd

end
-- ==== Proof.GmlpFwd.Kernel.lean ====
module

public import proofs.«01_k».proof.Proof.GmlpFwd.Pieces
public import proofs.«01_k».proof.Proof.Gen.Kernel16Ideal.Value

@[expose] public section

set_option maxRecDepth 16384

noncomputable section

open Idealize.ShloMosaic Idealize.ShloMosaic.TcCoe Idealize.SL.Sem
open Cert.Kernel16Ideal Cert.Kernel16Ideal.Gen

/-! ## The array the kernel leaves -/

namespace Cert.GmlpFwd

section
variable (Z : S4096x5120.Idx → EReal) (G B : S1x2048.Idx → EReal) (W : S8x128x128.Idx → EReal) (S : S8x128.Idx → EReal) (KV : S512x2048.Idx → EReal)

/-- The gated output at row `r`, column `j`. -/
def gateOf (r : ℕ) (j : Fin 2048) : EReal :=
  gelu (Z (ValueIdx.ix2 (Fin.ofNat 4096 r) (Fin.ofNat 5120 j.val)))
    * mixed (fun s k => Z (ValueIdx.ix2 (Fin.ofNat 4096 (128 * (r / 128) + s.val)) (Fin.ofNat 5120 (2048 + k.val)))) (fun k => G (ValueIdx.ix2 0 k)) (fun k => B (ValueIdx.ix2 0 k))
      (fun t s => W (ValueIdx.ix3 (Fin.ofNat 8 (j.val / 256)) t s)) (fun t => S (ValueIdx.ix2 (Fin.ofNat 8 (j.val / 256)) t)) (Fin.ofNat 128 r) j

/-- The attention's output at row `r`, head `a`, column `d`. -/
def attendOf (r a : ℕ) (d : Fin 256) : EReal :=
  attend (fun k => Z (ValueIdx.ix2 (Fin.ofNat 4096 r) (Fin.ofNat 5120 (4096 + 256 * a + k.val))))
    (fun i k => KV (ValueIdx.ix2 (Fin.ofNat 512 (256 * (r / 2048) + i.val)) (Fin.ofNat 2048 (256 * a + k.val))))
    (fun i k => KV (ValueIdx.ix2 (Fin.ofNat 512 (256 * (r / 2048) + i.val)) (Fin.ofNat 2048 (1024 + 256 * a + k.val)))) d

/-- The whole output. -/
def outOf (y : S4096x3072.Idx) : EReal :=
  if h : (y 1).val < 2048 then gateOf Z G B W S (y 0).val ⟨(y 1).val, h⟩
  else attendOf Z KV (y 0).val (((y 1).val - 2048) / 256) ⟨(y 1).val % 256, Nat.mod_lt _ (by decide)⟩
end

section
variable (x0 : Vec Ideal S256x5120 .f32) (x1 : Vec Ideal S1x2048 .f32) (x2 : Vec Ideal S1x2048 .f32) (x3 : Vec Ideal S8x128x128 .f32) (x4 : Vec Ideal S8x128 .f32) (x5 : Vec Ideal S256x2048 .f32)

theorem gateP_apply (c : ℕ) (g : Fin 8) (p : Fin 128) (q : Fin 256) :
    gateP x0 x1 x2 x3 x4 c g (ValueIdx.ix2 p q)
      = gelu (x0 (ValueIdx.ix2 (Fin.ofNat 256 (128 * c + p.val)) (Fin.ofNat 5120 (256 * g.val + q.val))))
        * mixed (fun s k => x0 (ValueIdx.ix2 (Fin.ofNat 256 (128 * c + s.val)) (Fin.ofNat 5120 (2048 + k.val)))) (fun k => x1 (ValueIdx.ix2 0 k)) (fun k => x2 (ValueIdx.ix2 0 k))
          (fun t s => x3 (ValueIdx.ix3 g t s)) (fun t => x4 (ValueIdx.ix2 g t)) p ⟨256 * g.val + q.val, by omega⟩ := by
  have eg : (Fin.ofNat 8 g.val : Fin 8) = g := Fin.ext (Nat.mod_eq_of_lt g.isLt)
  have er (x : Vec Ideal S1x2048 .f32) (g : Fin 8) (k : Fin 256) : rowAt x (256 * g.val) (ValueIdx.ix2 0 k) = x (ValueIdx.ix2 0 ⟨256 * g.val + k.val, by omega⟩) :=
    congrArg (fun j => x (ValueIdx.ix2 0 j)) (Fin.ext (Nat.mod_eq_of_lt (show 256 * g.val + k.val < 2048 by omega)))
  show geluT _ (ValueIdx.ix2 p q) * mixedT _ _ _ _ _ g (ValueIdx.ix2 p q) = _
  rw [geluT_apply, mixedT_apply p q _ (fun s k => x0 (ValueIdx.ix2 (Fin.ofNat 256 (128 * c + s.val)) (Fin.ofNat 5120 (2048 + k.val)))) (fun g r k => ?_) _ _
    (fun k => x1 (ValueIdx.ix2 0 k)) (fun k => x2 (ValueIdx.ix2 0 k)) (er x1) (er x2)]
  · show _ * mixed _ _ _ (fun t s => x3 (ValueIdx.ix3 (Fin.ofNat 8 g.val) t s)) (fun t => x4 (ValueIdx.ix2 (Fin.ofNat 8 g.val) t)) _ _ = _
    rw [eg]
    rfl
  · show x0 (ValueIdx.ix2 (Fin.ofNat 256 (128 * c + r.val)) (Fin.ofNat 5120 (2048 + 256 * g.val + k.val))) = _
    rw [Nat.add_assoc 2048]

theorem attendP_apply (c : ℕ) (a : Fin 4) (p : Fin 128) (q : Fin 256) :
    attendP x0 x5 c a (ValueIdx.ix2 p q)
      = attend (fun k => x0 (ValueIdx.ix2 (Fin.ofNat 256 (128 * c + p.val)) (Fin.ofNat 5120 (4096 + 256 * a.val + k.val))))
        (fun i k => x5 (ValueIdx.ix2 i (Fin.ofNat 2048 (256 * a.val + k.val)))) (fun i k => x5 (ValueIdx.ix2 i (Fin.ofNat 2048 (1024 + 256 * a.val + k.val)))) q :=
  attendT_apply p q _ _ _
end

variable (m : (ℓ : Loc nD τ sig) → Buf (Elt Ideal) ℓ) (c : Dev nD)

abbrev argZ : S4096x5120.Idx → EReal := m ((c : Thread nD τ).loc main_arg0)
abbrev argG : S1x2048.Idx → EReal := m ((c : Thread nD τ).loc main_arg1)
abbrev argB : S1x2048.Idx → EReal := m ((c : Thread nD τ).loc main_arg2)
abbrev argW : S8x128x128.Idx → EReal := m ((c : Thread nD τ).loc main_arg3)
abbrev argS : S8x128.Idx → EReal := m ((c : Thread nD τ).loc main_arg4)
abbrev argKV : S512x2048.Idx → EReal := m ((c : Thread nD τ).loc main_arg5)

def outAt : S4096x3072.Idx → EReal := outOf (argZ m c) (argG m c) (argB m c) (argW m c) (argS m c) (argKV m c)

theorem idx_facts : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0 ∧ win0_3.index t 2 = 0) ∧ (win0_4.index t 0 = 0 ∧ win0_4.index t 1 = 0)
    ∧ (win0_5.index t 0 = t.val / 8 ∧ win0_5.index t 1 = 0) ∧ (win0_6.index t 0 = t.val ∧ win0_6.index t 1 = 0 ∧ win0_6.flush t = true) :=
  (by decide +kernel : ∀ t : Fin grid0.N, _)

theorem lt_points (t : Fin cfg0.N) : t.val < 16 := lt_of_lt_of_eq t.isLt N_0

theorem iblk0 (t : Fin cfg0.N) (p : Fin 256) (k : Fin 5120) : iblk m c 0 t (ValueIdx.ix2 p k) = argZ m c (ValueIdx.ix2 (Fin.ofNat 4096 (256 * t.val + p.val)) k) := by
  obtain ⟨⟨h0, h1⟩, -⟩ := idx_facts t
  have ht := lt_points t
  show V m c main_arg0 _ = _
  rw [V_main_arg0]
  refine congrArg _ (funext fun a => Fin.ext ?_)
  match a with
  | ⟨0, _⟩ => show win0_0.index t 0 * 256 + 1 * p.val = (256 * t.val + p.val) % 4096; omega
  | ⟨1, _⟩ => show win0_0.index t 1 * 5120 + 1 * k.val = k.val; omega

theorem iblk1 (t : Fin cfg0.N) (k : Fin 2048) : iblk m c 1 t (ValueIdx.ix2 0 k) = argG m c (ValueIdx.ix2 0 k) := by
  obtain ⟨-, ⟨h0, h1⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 2048 + 1 * k.val = k.val; omega

theorem iblk2 (t : Fin cfg0.N) (k : Fin 2048) : iblk m c 2 t (ValueIdx.ix2 0 k) = argB m c (ValueIdx.ix2 0 k) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 1 + 1 * 0 = 0; omega
  | ⟨1, _⟩ => show win0_2.index t 1 * 2048 + 1 * k.val = k.val; omega

theorem iblk3 (t : Fin cfg0.N) (g : Fin 8) (p s : Fin 128) : iblk m c 3 t (ValueIdx.ix3 g p s) = argW m c (ValueIdx.ix3 g p s) := by
  obtain ⟨-, -, -, ⟨h0, h1, h2⟩, -⟩ := idx_facts t
  show V m c main_arg3 _ = _
  rw [V_main_arg3]
  refine congrArg _ (funext fun a => Fin.ext ?_)
  match a with
  | ⟨0, _⟩ => show win0_3.index t 0 * 8 + 1 * g.val = g.val; omega
  | ⟨1, _⟩ => show win0_3.index t 1 * 128 + 1 * p.val = p.val; omega
  | ⟨2, _⟩ => show win0_3.index t 2 * 128 + 1 * s.val = s.val; omega

theorem iblk4 (t : Fin cfg0.N) (g : Fin 8) (p : Fin 128) : iblk m c 4 t (ValueIdx.ix2 g p) = argS m c (ValueIdx.ix2 g p) := by
  obtain ⟨-, -, -, -, ⟨h0, h1⟩, -⟩ := idx_facts t
  show V m c main_arg4 _ = _
  rw [V_main_arg4]
  refine congrArg _ (funext fun a => Fin.ext ?_)
  match a with
  | ⟨0, _⟩ => show win0_4.index t 0 * 8 + 1 * g.val = g.val; omega
  | ⟨1, _⟩ => show win0_4.index t 1 * 128 + 1 * p.val = p.val; omega

theorem iblk5 (t : Fin cfg0.N) (p : Fin 256) (k : Fin 2048) : iblk m c 5 t (ValueIdx.ix2 p k) = argKV m c (ValueIdx.ix2 (Fin.ofNat 512 (256 * (t.val / 8) + p.val)) k) := by
  obtain ⟨-, -, -, -, -, ⟨h0, h1⟩, -⟩ := idx_facts t
  have ht := lt_points t
  show V m c main_arg5 _ = _
  rw [V_main_arg5]
  refine congrArg _ (funext fun a => Fin.ext ?_)
  match a with
  | ⟨0, _⟩ => show win0_5.index t 0 * 256 + 1 * p.val = (256 * (t.val / 8) + p.val) % 512; omega
  | ⟨1, _⟩ => show win0_5.index t 1 * 2048 + 1 * k.val = k.val; omega

/-- Equal row numbers, equal rows. -/
theorem ofNat_eq {n : ℕ} [NeZero n] {a b : ℕ} (h : a = b) : (Fin.ofNat n a : Fin n) = Fin.ofNat n b := congrArg _ h

theorem block (t : Fin cfg0.N) (p : Fin 256) (q : Fin 3072) :
    blockOf (iblk m c 0 t) (iblk m c 1 t) (iblk m c 2 t) (iblk m c 3 t) (iblk m c 4 t) (iblk m c 5 t) (ValueIdx.ix2 p q)
      = outAt m c (ValueIdx.ix2 (Fin.ofNat 4096 (256 * t.val + p.val)) q) := by
  have ht := lt_points t
  have hp := p.isLt
  have hr : (256 * t.val + p.val) % 4096 = 256 * t.val + p.val := Nat.mod_eq_of_lt (by omega)
  have e1 (s : Fin 128) : 256 * t.val + (128 * (p.val / 128) + s.val) % 256 = 128 * ((256 * t.val + p.val) / 128) + s.val := by omega
  have e2 : 128 * (p.val / 128) + p.val % 128 = p.val := by omega
  have e3 : (256 * t.val + p.val) / 2048 = t.val / 8 := by omega
  have ez (s : Fin 128) (k : Fin 5120) : iblk m c 0 t (ValueIdx.ix2 (Fin.ofNat 256 (128 * (p.val / 128) + s.val)) k)
      = argZ m c (ValueIdx.ix2 (Fin.ofNat 4096 (128 * ((256 * t.val + p.val) / 128) + s.val)) k) :=
    (iblk0 m c t _ k).trans (congrArg (fun r => argZ m c (ValueIdx.ix2 r k)) (ofNat_eq (e1 s)))
  have ep (k : Fin 5120) : iblk m c 0 t (ValueIdx.ix2 (Fin.ofNat 256 (128 * (p.val / 128) + p.val % 128)) k)
      = argZ m c (ValueIdx.ix2 (Fin.ofNat 4096 (256 * t.val + p.val)) k) :=
    (ez ⟨p.val % 128, by omega⟩ k).trans (congrArg (fun r => argZ m c (ValueIdx.ix2 r k)) (ofNat_eq (by dsimp only; omega)))
  have em (i : Fin 256) (k : Fin 2048) : iblk m c 5 t (ValueIdx.ix2 i k) = argKV m c (ValueIdx.ix2 (Fin.ofNat 512 (256 * ((256 * t.val + p.val) / 2048) + i.val)) k) := by
    rw [iblk5, e3]
  unfold outAt outOf
  by_cases h : q.val < 2048
  · rw [← block_gate _ _ _ _ _ _ (ValueIdx.ix2 p q) (p.val / 128) ⟨q.val / 256, by omega⟩ ⟨p.val % 128, by omega⟩ ⟨q.val % 256, by omega⟩ (show p.val = _ by dsimp only; omega)
      (show q.val = _ by dsimp only; omega), dif_pos (show ((ValueIdx.ix2 (Fin.ofNat 4096 (256 * t.val + p.val)) q : S4096x3072.Idx) 1).val < 2048 from h), gateP_apply]
    show _ = gateOf _ _ _ _ _ ((256 * t.val + p.val) % 4096) ⟨q.val, h⟩
    rw [hr]
    unfold gateOf
    simp only [ez, ep, iblk1, iblk2, iblk3, iblk4]
    have e4 : (⟨256 * (q.val / 256) + q.val % 256, by omega⟩ : Fin 2048) = ⟨q.val, h⟩ := Fin.ext (by dsimp only; omega)
    have e5 : (Fin.ofNat 8 (q.val / 256) : Fin 8) = ⟨q.val / 256, by omega⟩ := Fin.ext (Nat.mod_eq_of_lt (by omega))
    have e6 : (Fin.ofNat 128 (256 * t.val + p.val) : Fin 128) = ⟨p.val % 128, by omega⟩ := Fin.ext (show (256 * t.val + p.val) % 128 = p.val % 128 by omega)
    have e7 : 256 * (q.val / 256) + q.val % 256 = q.val := by omega
    rw [e4, e5, e6, e7]
  · have hq := q.isLt
    rw [← block_attend _ _ _ _ _ _ (ValueIdx.ix2 p q) (p.val / 128) ⟨(q.val - 2048) / 256, by omega⟩ ⟨p.val % 128, by omega⟩ ⟨q.val % 256, by omega⟩ (show p.val = _ by dsimp only; omega)
      (show q.val = _ by dsimp only; omega), dif_neg (show ¬ ((ValueIdx.ix2 (Fin.ofNat 4096 (256 * t.val + p.val)) q : S4096x3072.Idx) 1).val < 2048 from h), attendP_apply]
    show _ = attendOf _ _ ((256 * t.val + p.val) % 4096) ((q.val - 2048) / 256) ⟨q.val % 256, _⟩
    rw [hr]
    unfold attendOf
    simp only [ep, em]

theorem final : (dats m 0 c).arrAt 6 cfg0.N = outAt m c := by
  refine (dats m 0 c).arrAt_eq_of_cover 6 (outAt m c) (fun t _ => ?_) fun i => ?_
  · obtain ⟨-, -, -, -, -, -, h0, h1, -⟩ := idx_facts t
    have ht := lt_points t
    rw [Value.flushed6_A]
    funext i
    obtain ⟨p, q, rfl⟩ : ∃ (p : Fin 256) (q : Fin 3072), i = ValueIdx.ix2 p q := ⟨i 0, i 1, idx2 i⟩
    refine Eq.trans ?_ ((block m c t p q).trans (congrArg (outAt m c) (funext fun a => Fin.ext ?_)))
    · show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ValueIdx.ix2 p q) = _
      unfold out0_A_6
      rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t))]
      exact View.canon_apply_of_pieces _ _ (View.PiecesOf.mem (pieces ..)) _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) _)
    · match a with
      | ⟨0, _⟩ => show (256 * t.val + p.val) % 4096 = win0_6.index t 0 * 256 + 1 * p.val; omega
      | ⟨1, _⟩ => show q.val = win0_6.index t 1 * 3072 + 1 * q.val; omega
  · have hi0 : (i 0 : ℕ) < 4096 := (i 0).isLt
    have hi1 : (i 1 : ℕ) < 3072 := (i 1).isLt
    have ht : (i 0 : ℕ) / 256 < cfg0.N := by rw [show cfg0.N = 16 from N_0]; omega
    obtain ⟨-, -, -, -, -, -, h0, h1, hf⟩ := idx_facts ⟨_, ht⟩
    dsimp only at h0
    refine ⟨⟨_, ht⟩, hf, ?_⟩
    show i ∈ ((View.whole main_v0).slice (win0_6.rect ⟨_, ht⟩)).set
    rw [View.set_slice_whole, Rect.mem_set_unit]
    intro a
    match a with
    | ⟨0, _⟩ => show win0_6.index ⟨_, ht⟩ 0 * 256 ≤ (i 0 : ℕ) ∧ (i 0 : ℕ) < win0_6.index ⟨_, ht⟩ 0 * 256 + 256; omega
    | ⟨1, _⟩ => show win0_6.index ⟨_, ht⟩ 1 * 3072 ≤ (i 1 : ℕ) ∧ (i 1 : ℕ) < win0_6.index ⟨_, ht⟩ 1 * 3072 + 3072; omega

end Cert.GmlpFwd

end
-- ==== Proof.GmlpFwd.Reference.lean ====
module

public import proofs.«01_k».proof.Proof.GmlpFwd.Kernel
public import proofs.«01_k».proof.Proof.Gen.Reference16Ideal.Read

@[expose] public section

set_option maxRecDepth 16384

noncomputable section

open Idealize.ShloMosaic Idealize.ShloMosaic.TcCoe Idealize.SL.Sem
open Cert.Reference16Ideal Cert.Reference16Ideal.Read

/-! ## The reference, entry by entry -/

namespace Cert.GmlpFwd

variable (Z : FVec Ideal S4096x5120 .f32) (G B : FVec Ideal S1x2048 .f32) (W : FVec Ideal S8x128x128 .f32) (S : FVec Ideal S8x128 .f32) (KV : FVec Ideal S512x2048 .f32)
  (b : Fin 2) (r j : Fin 2048) (a : Fin 4) (d i : Fin 256)

theorem ref_z (k : Fin 5120) : val_main_v0 (F := Ideal) Z (ValueIdx.ix3 b r k) = Z (ValueIdx.ix2 (Fin.ofNat 4096 (2048 * b.val + r.val)) k) := by
  rw [val_main_v0_apply]
  refine congrArg Z (funext fun a => Fin.ext ?_)
  match a with
  | ⟨0, _⟩ => show ((b.val * 2048 + r.val) * 5120 + k.val) / 5120 = (2048 * b.val + r.val) % 4096; omega
  | ⟨1, _⟩ => show ((b.val * 2048 + r.val) * 5120 + k.val) % 5120 = k.val; omega

/-- A row of the part that is normed. -/
abbrev vRow (k : Fin 2048) : EReal := Z (ValueIdx.ix2 (Fin.ofNat 4096 (2048 * b.val + r.val)) (Fin.ofNat 5120 (2048 + k.val)))

theorem ref_gelu_u : val_main_v18 (F := Ideal) Z (ValueIdx.ix3 b r j) = gelu (Z (ValueIdx.ix2 (Fin.ofNat 4096 (2048 * b.val + r.val)) (Fin.ofNat 5120 j.val))) := by
  unfold val_main_v18 val_main_v17 val_main_v16 val_main_cst_1 val_main_v15 val_main_v14 val_main_v13 val_main_cst_0 val_main_v12 val_main_v11 val_main_cst val_main_v1
  pointwise
  refine Eq.trans (b := gelu (val_main_v0 (F := Ideal) Z (ValueIdx.ix3 b r ⟨j.val, by omega⟩))) rfl ?_
  rw [ref_z]
  exact congrArg (fun k => gelu (Z (ValueIdx.ix2 _ k))) (Fin.ext (Nat.mod_eq_of_lt (by omega)).symm)

theorem ref_gelu_v : val_main_v26 (F := Ideal) Z (ValueIdx.ix3 b r j) = gelu (vRow Z b r j) := by
  unfold val_main_v26 val_main_v25 val_main_v24 val_main_cst_4 val_main_v23 val_main_v22 val_main_v21 val_main_cst_3 val_main_v20 val_main_v19 val_main_cst_2 val_main_v2
  pointwise
  refine Eq.trans (b := gelu (val_main_v0 (F := Ideal) Z (ValueIdx.ix3 b r ⟨2048 + j.val, by omega⟩))) rfl ?_
  rw [ref_z]
  exact congrArg (fun k => gelu (Z (ValueIdx.ix2 _ k))) (Fin.ext (Nat.mod_eq_of_lt (by dsimp only; omega)).symm)

theorem ref_centred : val_main_v32 (F := Ideal) Z (ValueIdx.ix3 b r j) = centred (vRow Z b r) j := by
  unfold val_main_v32 val_main_v31 val_main_v30 val_main_v29 val_main_cst_6 val_main_v28 val_main_v27 val_main_cst_5
  pointwise
  refine Eq.trans (b := val_main_v26 (F := Ideal) Z (ValueIdx.ix3 b r j) - Ideal.div (∑ k : Fin 2048, val_main_v26 (F := Ideal) Z (ValueIdx.ix3 b r k)) (Ideal.ofBits .f32 0x45000000#32)) rfl ?_
  simp only [ref_gelu_v]
  rfl

theorem ref_normed : val_main_v48 (F := Ideal) Z G B (ValueIdx.ix3 b r j) = normed (vRow Z b r) (fun k => G (ValueIdx.ix2 0 k)) (fun k => B (ValueIdx.ix2 0 k)) j := by
  unfold val_main_v48 val_main_v47 val_main_v46 val_main_v45 val_main_v44 val_main_v43 val_main_v42 val_main_v41 val_main_v40 val_main_v39 val_main_v38 val_main_cst_9 val_main_v37 val_main_v36 val_main_cst_8
    val_main_v35 val_main_v34 val_main_cst_7 val_main_v33 val_main_v10 val_main_v9
  pointwise
  refine Eq.trans (b := val_main_v32 (F := Ideal) Z (ValueIdx.ix3 b r j) * Ideal.rsqrt (Ideal.div (∑ k : Fin 2048, val_main_v32 (F := Ideal) Z (ValueIdx.ix3 b r k) * val_main_v32 (F := Ideal) Z (ValueIdx.ix3 b r k))
    (Ideal.ofBits .f32 0x45000000#32) + Ideal.ofBits .f32 0x358637BD#32) * G (ValueIdx.ix2 0 j) + B (ValueIdx.ix2 0 j)) rfl ?_
  simp only [ref_centred]
  rfl

theorem ref_grouped (n : Fin 16) (s : Fin 128) (g : Fin 8) : val_main_v49 (F := Ideal) Z G B (ValueIdx.ix5 b n s g d)
    = val_main_v48 (F := Ideal) Z G B (ValueIdx.ix3 b ⟨128 * n.val + s.val, by omega⟩ ⟨256 * g.val + d.val, by omega⟩) := by
  rw [val_main_v49_apply]
  refine congrArg _ (funext fun a => Fin.ext ?_)
  match a with
  | ⟨0, _⟩ => show ((((b.val * 16 + n.val) * 128 + s.val) * 8 + g.val) * 256 + d.val) / 4194304 = b.val; omega
  | ⟨1, _⟩ => show ((((b.val * 16 + n.val) * 128 + s.val) * 8 + g.val) * 256 + d.val) / 2048 % 2048 = 128 * n.val + s.val; omega
  | ⟨2, _⟩ => show ((((b.val * 16 + n.val) * 128 + s.val) * 8 + g.val) * 256 + d.val) % 2048 = 256 * g.val + d.val; omega

theorem ref_lower (g : Fin 8) (t s : Fin 128) : val_main_v53 (F := Ideal) W (ValueIdx.ix3 g t s) = lower (fun t s => W (ValueIdx.ix3 g t s)) t s := by
  unfold val_main_v53 val_main_call1_v2 val_main_call1_v1 val_main_call1_v0 val_main_cst_10 val_main_v52 val_main_v51 val_main_call0_v5 val_main_call0_c_0 val_main_call0_v4 val_main_call0_v3 val_main_call0_v2
    val_main_call0_v1 val_main_call0_c val_main_call0_v0 val_main_v50 val_main_c
  pointwise
  change Scalar.select (Scalar.select (IntOp.cmpi .sge (BitVec.ofNat 32 t.val + 0#32) (BitVec.ofNat 32 s.val)) 1#1 0#1) (W (ValueIdx.ix3 g t s)) (Ideal.ofBits .f32 0x00000000#32) = _
  rw [BitVec.add_zero, sge_iff, Ideal.ofBits_zero]
  unfold lower
  split_ifs with h <;> simp [Scalar.select]

theorem ref_mixed (n : Fin 16) (t : Fin 128) (g : Fin 8) : val_main_v59 (F := Ideal) Z G B W S (ValueIdx.ix5 b n t g d)
    = mixed (fun s => vRow Z b ⟨128 * n.val + s.val, by omega⟩) (fun k => G (ValueIdx.ix2 0 k)) (fun k => B (ValueIdx.ix2 0 k)) (fun t s => W (ValueIdx.ix3 g t s)) (fun t => S (ValueIdx.ix2 g t))
      t ⟨256 * g.val + d.val, by omega⟩ := by
  unfold val_main_v59 val_main_v58 val_main_v57 val_main_v56 val_main_v55 val_main_v54
  pointwise
  refine Eq.trans (b := (∑ s : Fin 128, val_main_v49 (F := Ideal) Z G B (ValueIdx.ix5 b n s g d) * val_main_v53 (F := Ideal) W (ValueIdx.ix3 g t s)) + S (ValueIdx.ix2 g t)) rfl ?_
  simp only [ref_grouped, ref_normed, ref_lower]
  exact congrArg (· + S (ValueIdx.ix2 g t)) (Finset.sum_congr rfl fun s _ => mul_comm _ _)

theorem ref_ungrouped : val_main_v60 (F := Ideal) Z G B W S (ValueIdx.ix3 b r j)
    = val_main_v59 (F := Ideal) Z G B W S (ValueIdx.ix5 b ⟨r.val / 128, by omega⟩ ⟨r.val % 128, by omega⟩ ⟨j.val / 256, by omega⟩ ⟨j.val % 256, by omega⟩) := by
  rw [val_main_v60_apply]
  refine congrArg _ (funext fun x => Fin.ext ?_)
  match x with
  | ⟨0, _⟩ => show ((b.val * 2048 + r.val) * 2048 + j.val) / 4194304 = b.val; omega
  | ⟨1, _⟩ => show ((b.val * 2048 + r.val) * 2048 + j.val) / 262144 % 16 = r.val / 128; omega
  | ⟨2, _⟩ => show ((b.val * 2048 + r.val) * 2048 + j.val) / 2048 % 128 = r.val % 128; omega
  | ⟨3, _⟩ => show ((b.val * 2048 + r.val) * 2048 + j.val) / 256 % 8 = j.val / 256; omega
  | ⟨4, _⟩ => show ((b.val * 2048 + r.val) * 2048 + j.val) % 256 = j.val % 256; omega

/-- A query, a key and a memory of head `a`. -/
abbrev query (k : Fin 256) : EReal := Z (ValueIdx.ix2 (Fin.ofNat 4096 (2048 * b.val + r.val)) (Fin.ofNat 5120 (4096 + 256 * a.val + k.val)))
abbrev key (i k : Fin 256) : EReal := KV (ValueIdx.ix2 (Fin.ofNat 512 (256 * b.val + i.val)) (Fin.ofNat 2048 (256 * a.val + k.val)))
abbrev memory (i k : Fin 256) : EReal := KV (ValueIdx.ix2 (Fin.ofNat 512 (256 * b.val + i.val)) (Fin.ofNat 2048 (1024 + 256 * a.val + k.val)))

theorem ref_query (k : Fin 256) : val_main_v62 (F := Ideal) Z (ValueIdx.ix4 b r a k) = query Z b r a k := by
  rw [val_main_v62_apply, val_main_v3_apply]
  refine Eq.trans (congrArg (val_main_v0 (F := Ideal) Z) (funext fun x => Fin.ext ?_)) ((ref_z Z b r ⟨4096 + 256 * a.val + k.val, by omega⟩).trans ?_)
  · match x with
    | ⟨0, _⟩ => show (((b.val * 2048 + r.val) * 4 + a.val) * 256 + k.val) / 2097152 = b.val; omega
    | ⟨1, _⟩ => show (((b.val * 2048 + r.val) * 4 + a.val) * 256 + k.val) / 1024 % 2048 = r.val; omega
    | ⟨2, _⟩ => show 4096 + (((b.val * 2048 + r.val) * 4 + a.val) * 256 + k.val) % 1024 = 4096 + 256 * a.val + k.val; omega
  · exact congrArg (fun k => Z (ValueIdx.ix2 _ k)) (Fin.ext (Nat.mod_eq_of_lt (by omega)).symm)

theorem ref_kv (k : Fin 2048) : val_main_v4 (F := Ideal) KV (ValueIdx.ix3 b i k) = KV (ValueIdx.ix2 (Fin.ofNat 512 (256 * b.val + i.val)) k) := by
  rw [val_main_v4_apply]
  refine congrArg KV (funext fun x => Fin.ext ?_)
  match x with
  | ⟨0, _⟩ => show ((b.val * 256 + i.val) * 2048 + k.val) / 2048 = (256 * b.val + i.val) % 512; omega
  | ⟨1, _⟩ => show ((b.val * 256 + i.val) * 2048 + k.val) % 2048 = k.val; omega

theorem ref_key (k : Fin 256) : val_main_v7 (F := Ideal) KV (ValueIdx.ix4 b i a k) = key KV b a i k := by
  rw [val_main_v7_apply, val_main_v5_apply]
  refine Eq.trans (congrArg (val_main_v4 (F := Ideal) KV) (funext fun x => Fin.ext ?_)) ((ref_kv KV b i ⟨256 * a.val + k.val, by omega⟩).trans ?_)
  · match x with
    | ⟨0, _⟩ => show (((b.val * 256 + i.val) * 4 + a.val) * 256 + k.val) / 262144 = b.val; omega
    | ⟨1, _⟩ => show (((b.val * 256 + i.val) * 4 + a.val) * 256 + k.val) / 1024 % 256 = i.val; omega
    | ⟨2, _⟩ => show (((b.val * 256 + i.val) * 4 + a.val) * 256 + k.val) % 1024 = 256 * a.val + k.val; omega
  · exact congrArg (fun k => KV (ValueIdx.ix2 _ k)) (Fin.ext (Nat.mod_eq_of_lt (by omega)).symm)

theorem ref_memory (k : Fin 256) : val_main_v8 (F := Ideal) KV (ValueIdx.ix4 b i a k) = memory KV b a i k := by
  rw [val_main_v8_apply, val_main_v6_apply]
  refine Eq.trans (congrArg (val_main_v4 (F := Ideal) KV) (funext fun x => Fin.ext ?_)) ((ref_kv KV b i ⟨1024 + 256 * a.val + k.val, by omega⟩).trans ?_)
  · match x with
    | ⟨0, _⟩ => show (((b.val * 256 + i.val) * 4 + a.val) * 256 + k.val) / 262144 = b.val; omega
    | ⟨1, _⟩ => show (((b.val * 256 + i.val) * 4 + a.val) * 256 + k.val) / 1024 % 256 = i.val; omega
    | ⟨2, _⟩ => show 1024 + (((b.val * 256 + i.val) * 4 + a.val) * 256 + k.val) % 1024 = 1024 + 256 * a.val + k.val; omega
  · exact congrArg (fun k => KV (ValueIdx.ix2 _ k)) (Fin.ext (Nat.mod_eq_of_lt (by omega)).symm)

theorem ref_score : val_main_v65 (F := Ideal) Z KV (ValueIdx.ix4 b a r i) = score (query Z b r a) (key KV b a i) := by
  unfold val_main_v65 val_main_v64 val_main_cst_11 val_main_v63
  pointwise
  refine Eq.trans (b := (∑ k : Fin 256, val_main_v62 (F := Ideal) Z (ValueIdx.ix4 b r a k) * val_main_v7 (F := Ideal) KV (ValueIdx.ix4 b i a k)) * Ideal.ofBits .f32 0x3D800000#32) rfl ?_
  simp only [ref_query, ref_key]
  rfl

theorem ref_expo : val_main_v70 (F := Ideal) Z KV (ValueIdx.ix4 b a r i) = expo (query Z b r a) (key KV b a) i := by
  unfold val_main_v70 val_main_v69 val_main_v68 val_main_v67 val_main_v66 val_main_cst_12
  pointwise
  refine Eq.trans (b := Ideal.exp (val_main_v65 (F := Ideal) Z KV (ValueIdx.ix4 b a r i) - Finset.fold max (Ideal.ofBits .f32 0xFF800000#32) (fun k : Fin 256 => val_main_v65 (F := Ideal) Z KV (ValueIdx.ix4 b a r k)) Finset.univ)) rfl ?_
  simp only [ref_score]
  rfl

theorem ref_attend : val_main_v76 (F := Ideal) Z KV (ValueIdx.ix4 b r a d) = attend (query Z b r a) (key KV b a) (memory KV b a) d := by
  unfold val_main_v76 val_main_v75 val_main_v74 val_main_v73 val_main_v72 val_main_v71 val_main_cst_13
  pointwise
  refine Eq.trans (b := ∑ i : Fin 256, val_main_v8 (F := Ideal) KV (ValueIdx.ix4 b i a d) * Ideal.div (val_main_v70 (F := Ideal) Z KV (ValueIdx.ix4 b a r i)) (∑ k : Fin 256, val_main_v70 (F := Ideal) Z KV (ValueIdx.ix4 b a r k))) rfl ?_
  simp only [ref_memory, ref_expo]
  exact Finset.sum_congr rfl fun i _ => mul_comm _ _

theorem ref_heads (q : Fin 1024) : val_main_v77 (F := Ideal) Z KV (ValueIdx.ix3 b r q) = val_main_v76 (F := Ideal) Z KV (ValueIdx.ix4 b r ⟨q.val / 256, by omega⟩ ⟨q.val % 256, by omega⟩) := by
  rw [val_main_v77_apply]
  refine congrArg _ (funext fun x => Fin.ext ?_)
  match x with
  | ⟨0, _⟩ => show ((b.val * 2048 + r.val) * 1024 + q.val) / 2097152 = b.val; omega
  | ⟨1, _⟩ => show ((b.val * 2048 + r.val) * 1024 + q.val) / 1024 % 2048 = r.val; omega
  | ⟨2, _⟩ => show ((b.val * 2048 + r.val) * 1024 + q.val) / 256 % 4 = q.val / 256; omega
  | ⟨3, _⟩ => show ((b.val * 2048 + r.val) * 1024 + q.val) % 256 = q.val % 256; omega

theorem ref_gate (p : Fin 4096) : val_main_v61 (F := Ideal) Z G B W S (ValueIdx.ix3 ⟨p.val / 2048, by omega⟩ ⟨p.val % 2048, by omega⟩ j) = gateOf Z G B W S p.val j := by
  have e (b : Fin 2) (r : Fin 2048) : val_main_v61 (F := Ideal) Z G B W S (ValueIdx.ix3 b r j) = val_main_v18 (F := Ideal) Z (ValueIdx.ix3 b r j) * val_main_v60 (F := Ideal) Z G B W S (ValueIdx.ix3 b r j) := rfl
  have e0 : 2048 * (p.val / 2048) + p.val % 2048 = p.val := by omega
  have e1 (s : Fin 128) : 2048 * (p.val / 2048) + (128 * (p.val % 2048 / 128) + s.val) = 128 * (p.val / 128) + s.val := by omega
  have e2 : (⟨p.val % 2048 % 128, by omega⟩ : Fin 128) = Fin.ofNat 128 p.val := Fin.ext (show p.val % 2048 % 128 = p.val % 128 by omega)
  have e3 : (⟨j.val / 256, by omega⟩ : Fin 8) = Fin.ofNat 8 (j.val / 256) := Fin.ext (Nat.mod_eq_of_lt (by omega)).symm
  have e4 : (⟨256 * (j.val / 256) + j.val % 256, by omega⟩ : Fin 2048) = j := Fin.ext (by dsimp only; omega)
  rw [e, ref_gelu_u, ref_ungrouped, ref_mixed]
  unfold gateOf
  unfold vRow
  simp only [e0, e1, e2, e3, e4]

theorem ref_attendOf (p : Fin 4096) (q : Fin 1024) : val_main_v77 (F := Ideal) Z KV (ValueIdx.ix3 ⟨p.val / 2048, by omega⟩ ⟨p.val % 2048, by omega⟩ q)
    = attendOf Z KV p.val (q.val / 256) ⟨q.val % 256, by omega⟩ := by
  have e0 : 2048 * (p.val / 2048) + p.val % 2048 = p.val := by omega
  rw [ref_heads, ref_attend]
  unfold attendOf
  unfold query key memory
  simp only [e0]

theorem ref_out : val_main_v80 (F := Ideal) Z G B W S KV = outOf Z G B W S KV := by
  funext y
  obtain ⟨p, q, rfl⟩ : ∃ (p : Fin 4096) (q : Fin 3072), y = ValueIdx.ix2 p q := ⟨y 0, y 1, idx2 y⟩
  refine Eq.trans (b := val_main_v79 (F := Ideal) Z G B W S KV (ValueIdx.ix2 p q)) rfl ?_
  rw [val_main_v79_apply]
  refine Eq.trans (b := val_main_v78 (F := Ideal) Z G B W S KV (ValueIdx.ix3 ⟨p.val / 2048, by omega⟩ ⟨p.val % 2048, by omega⟩ q)) (congrArg _ (funext fun x => Fin.ext ?_)) ?_
  · match x with
    | ⟨0, _⟩ => show (p.val * 3072 + q.val) / 6291456 = p.val / 2048; omega
    | ⟨1, _⟩ => show (p.val * 3072 + q.val) / 3072 % 2048 = p.val % 2048; omega
    | ⟨2, _⟩ => show (p.val * 3072 + q.val) % 3072 = q.val; omega
  unfold val_main_v78
  pointwise
  unfold outOf
  by_cases h : q.val < 2048
  · refine Eq.trans (dif_pos h) (Eq.trans ?_ (dif_pos h).symm)
    exact ref_gate Z G B W S ⟨q.val, h⟩ p
  · refine Eq.trans (dif_neg h) (Eq.trans ?_ (dif_neg h).symm)
    refine (ref_attendOf Z KV p ⟨q.val - 2048, by omega⟩).trans ?_
    exact congrArg (attendOf Z KV p.val ((q.val - 2048) / 256)) (Fin.ext (show (q.val - 2048) % 256 = q.val % 256 by omega))

end Cert.GmlpFwd

end
-- ==== Proof.GmlpFwd.lean ====
module

public import proofs.«01_k».proof.Defs
public import proofs.«01_k».proof.Proof.GmlpFwd.Reference
public import proofs.«01_k».proof.Proof.Gen.Kernel16.Frame
public import proofs.«01_k».proof.Proof.Gen.Reference16Ideal.Run
public import Idealize.ShloMosaic.Lib.Quiescent

@[expose] public section

noncomputable section

open Idealize.ShloMosaic Idealize.ShloMosaic.TcCoe Idealize.SL.Sem

/-! ## The claims about the spatial gating and the attention to the memory -/

namespace Cert.GmlpFwd

theorem frame_kernel : Cert.quiescent_Kernel16 := fun m ρ _ => Cert.Kernel16.Gen.frame m ρ

theorem frame_ideal : Cert.quiescent_Kernel16Ideal := fun m ρ _ => Cert.Kernel16Ideal.Gen.frame m ρ

/-- The reference leaves its arguments unchanged; it declares no semaphore. -/
theorem frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨fun c => outAt m c, ?_, ?_⟩
  · refine (θ_run Cert.Kernel16Ideal.defs _ _).mono (fun _ h c => ?_) (Cert.Kernel16Ideal.Value.run_blocks (F := Ideal) m ρ)
    exact ⟨(h c).1.trans (final m c), (h c).2⟩
  · refine (θ_run Cert.Reference16Ideal.defs _ _).mono (fun _ h c => ?_) (Cert.Reference16Ideal.Value.run (F := Ideal) m' ρ')
    obtain ⟨a0, a1, a2, a3, a4, a5⟩ := hagree c
    refine ⟨(h c).1.trans ?_, (h c).2⟩
    rw [Cert.Reference16Ideal.Read.val_main_v80_eq, a0, a1, a2, a3, a4, a5]
    exact ref_out ..

end Cert.GmlpFwd

end
-- ==== Proof.GmlpBwd.Spec.lean ====
module

public import proofs.«01_k».proof.Proof.GmlpFwd.Spec

@[expose] public section

noncomputable section

open Idealize.ShloMosaic
open Cert.GmlpFwd

/-! ## The gradients of spatial gating and of the attention to the memory, chunk by chunk -/

namespace Cert.GmlpBwd

/-- Column `k` of group `g`. -/
def col (g : Fin 8) (k : Fin 256) : Fin 2048 := ⟨256 * g.val + k.val, by omega⟩

section
variable (U D V : Fin 128 → Fin 2048 → EReal) (w : Fin 128 → Fin 128 → EReal) (lng lnb : Fin 2048 → EReal)

/-- The gradient of the mix, at row `t`, column `j` of a chunk. -/
def dMix (t : Fin 128) (j : Fin 2048) : EReal := gelu (U t j) * D t j

/-- The gradient of the normed rows. -/
def dNorm (s : Fin 128) (j : Fin 2048) : EReal := ∑ t, lower w t s * dMix U D t j

/-- A chunk's part of the gradient of the mix's offset, group `g`, row `t`. -/
def dBias (g : Fin 8) (t : Fin 128) : EReal := ∑ k, dMix U D t (col g k)

/-- A chunk's part of the gradient of the mixing matrix of group `g`. -/
def dMat (g : Fin 8) (t s : Fin 128) : EReal := if s.val ≤ t.val then ∑ k, dMix U D t (col g k) * normed (V s) lng lnb (col g k) else 0

/-- A chunk's part of the gradient of the layer norm's offset. -/
def dShift (j : Fin 2048) : EReal := ∑ s, dNorm U D w s j

/-- A chunk's part of the gradient of the layer norm's gain. -/
def dScale (j : Fin 2048) : EReal := ∑ s, centred (V s) j * inv (V s) * dNorm U D w s j
end

section
variable (q o : Fin 256 → EReal) (K M : Fin 256 → Fin 256 → EReal)

/-- The sum of a query's weights. -/
def mass : EReal := ∑ k, expo q K k

/-- The share of the memory's entry `i`. -/
def share (i : Fin 256) : EReal := Ideal.div (expo q K i) (mass q K)

/-- The gradient of the share of the memory's entry `i`. -/
def dShare (i : Fin 256) : EReal := ∑ d, o d * M i d

/-- The gradient of the sum of the weights, with the other sign. -/
def pull : EReal := ∑ i, dShare o M i * Ideal.div 1 (mass q K * mass q K) * expo q K i

/-- The gradient of the score of the memory's entry `i`, before the key. -/
def dScore (i : Fin 256) : EReal := (Ideal.div (dShare o M i) (mass q K) + -pull q o K M) * expo q K i * Ideal.ofBits .f32 0x3D800000#32
end

section
variable (Q O : Fin 128 → Fin 256 → EReal) (K M : Fin 256 → Fin 256 → EReal)

/-- A chunk's part of the gradient of the memory's keys. -/
def dKey (i d : Fin 256) : EReal := ∑ t, dScore (Q t) (O t) K M i * Q t d

/-- A chunk's part of the gradient of the memory's values. -/
def dVal (i d : Fin 256) : EReal := ∑ t, share (Q t) K i * O t d
end

end Cert.GmlpBwd

end
-- ==== Proof.GmlpBwd.Block.lean ====
module

public import proofs.«01_k».proof.Proof.GmlpBwd.Spec
public import proofs.«01_k».proof.Proof.GmlpFwd.Block
public import proofs.«01_k».proof.Proof.Gen.KernelIdeal.Skeleton

@[expose] public section

set_option maxRecDepth 16384

noncomputable section

open Idealize.ShloMosaic Idealize.ShloMosaic.TcCoe Idealize.SL.Sem
open Cert.KernelIdeal Cert.KernelIdeal.Gen
open Cert.GmlpFwd

/-! ## One chunk's gradients, array by array -/

namespace Cert.GmlpBwd

abbrev Mat : Type := FVec Ideal S1x128x128 .f32
abbrev Row : Type := FVec Ideal S1x256 .f32
abbrev Mem : Type := FVec Ideal S256x256 .f32

def dMixT (u d : Tile) : Tile := mulf (geluT u) d

def dBiasT (u d : Tile) : FVec Ideal S1x128 .f32 := shapeCast S1x128 (sum1 (dMixT u d)) shapeCasts_S128x1_S1x128

def dNormT (u d : Tile) (w : Mat) : Tile :=
  matmul dot_S128x128_S128x256_S128x256_0_0_1_1_n_n none (truncf .bf16 (lowerT (shapeCast S128x128 w shapeCasts_S1x128x128_S128x128)) bitsLt_bf16_f32)
    (truncf .bf16 (dMixT u d) bitsLt_bf16_f32) (constant S128x256 .f32 0x00000000#32)

/-- The sums of the columns of a tile. -/
def sum0 (x : Tile) : Row := shapeCast S1x256 (multiReduction .add [0] S256 x 0x00000000#32 reduces_S128x256_S256 (.inl rfl) rfl) shapeCasts_S256_S1x256

def dShiftT (u d : Tile) (w : Mat) : Row := sum0 (dNormT u d w)

def dScaleT (v : Fin 8 → Tile) (u d : Tile) (w : Mat) (g : Fin 8) : Row :=
  sum0 (mulf (mulf (centredT v g) (broadcastTo S128x256 (invT v) broadcasts_S128x1_S128x256)) (dNormT u d w))

def dMatT (v : Fin 8 → Tile) (lng lnb : Fin 8 → Row) (u d : Tile) (g : Fin 8) : FVec Ideal S128x128 .f32 :=
  lowerT (matmul dot_S128x256_S128x256_S128x128_1_1_0_0_n_n none (truncf .bf16 (dMixT u d) bitsLt_bf16_f32) (truncf .bf16 (normedT v lng lnb g) bitsLt_bf16_f32)
    (constant S128x128 .f32 0x00000000#32))

def dShareT (o : Tile) (m : Mem) : Tile :=
  matmul dot_S128x256_S256x256_S128x256_1_1_0_0_n_n none (truncf .bf16 o bitsLt_bf16_f32) (truncf .bf16 m bitsLt_bf16_f32) (constant S128x256 .f32 0x00000000#32)

def massT (q : Tile) (k : Mem) : Col := sum1 (expoT q k)

def pullT (q o : Tile) (k m : Mem) : Col :=
  sum1 (mulf (mulf (dShareT o m) (broadcastTo S128x256 (divf (broadcast S128x1 (Scalar.ofBits .f32 0x3F800000#32)) (mulf (massT q k) (massT q k))) broadcasts_S128x1_S128x256)) (expoT q k))

def dScoreT (q o : Tile) (k m : Mem) : Tile :=
  mulf (mulf (addf (divf (dShareT o m) (broadcastTo S128x256 (massT q k) broadcasts_S128x1_S128x256))
      (broadcastTo S128x256 (shapeCast S128x1 (multiReduction .add [1] S128 (subf (broadcast S128x1 (Scalar.ofBits .f32 0x00000000#32)) (pullT q o k m)) 0x00000000#32 reduces_S128x1_S128 (.inl rfl) rfl)
        shapeCasts_S128_S128x1) broadcasts_S128x1_S128x256)) (expoT q k))
    (broadcast S128x256 (Scalar.ofBits .f32 0x3D800000#32))

def dKeyT (q o : Tile) (k m : Mem) : Mem :=
  matmul dot_S128x256_S128x256_S256x256_0_0_1_1_n_n none (truncf .bf16 (dScoreT q o k m) bitsLt_bf16_f32) (truncf .bf16 q bitsLt_bf16_f32) (constant S256x256 .f32 0x00000000#32)

def dValT (q o : Tile) (k : Mem) : Mem :=
  matmul dot_S128x256_S128x256_S256x256_0_0_1_1_n_n none (truncf .bf16 (softmaxT q k) bitsLt_bf16_f32) (truncf .bf16 o bitsLt_bf16_f32) (constant S256x256 .f32 0x00000000#32)

/-! ### Entries -/

variable (p : Fin 128) (q : Fin 256)

theorem sum0_apply (x : Tile) (z : Fin 1) : sum0 x (ValueIdx.ix2 z q) = ∑ s : Fin 128, x (ValueIdx.ix2 s q) := by
  unfold sum0
  pointwise
  rfl

section
variable (u d : Fin 8 → Tile) (U D : Fin 128 → Fin 2048 → EReal) (g : Fin 8)
  (hu : ∀ (r : Fin 128) (k : Fin 256), u g (ValueIdx.ix2 r k) = U r (col g k)) (hd : ∀ (r : Fin 128) (k : Fin 256), d g (ValueIdx.ix2 r k) = D r (col g k))
include hu hd

theorem dMixT_apply : dMixT (u g) (d g) (ValueIdx.ix2 p q) = dMix U D p (col g q) := by
  show geluT (u g) (ValueIdx.ix2 p q) * d g (ValueIdx.ix2 p q) = _
  rw [geluT_apply, hu, hd]
  rfl

theorem dBiasT_apply (z : Fin 1) : dBiasT (u g) (d g) (ValueIdx.ix2 z p) = dBias U D g p := by
  unfold dBiasT
  pointwise
  refine Eq.trans (sum1_apply p (dMixT (u g) (d g)) 0) ?_
  simp only [dMixT_apply _ _ u d U D g hu hd]
  rfl

theorem dNormT_apply (w : Mat) (s : Fin 128) : dNormT (u g) (d g) w (ValueIdx.ix2 s q) = dNorm U D (fun t s => w (ValueIdx.ix3 0 t s)) s (col g q) := by
  unfold dNormT
  pointwise
  change (∑ t : Fin 128, lowerT (shapeCast S128x128 w shapeCasts_S1x128x128_S128x128) (ValueIdx.ix2 t s) * dMixT (u g) (d g) (ValueIdx.ix2 t q)) = _
  simp only [lowerT_apply, dMixT_apply _ _ u d U D g hu hd]
  have e (t : Fin 128) : shapeCast S128x128 w shapeCasts_S1x128x128_S128x128 (ValueIdx.ix2 t s) = w (ValueIdx.ix3 0 t s) := by
    pointwise
    rfl
  simp only [e]
  rfl

theorem dShiftT_apply (w : Mat) (z : Fin 1) : dShiftT (u g) (d g) w (ValueIdx.ix2 z q) = dShift U D (fun t s => w (ValueIdx.ix3 0 t s)) (col g q) := by
  unfold dShiftT
  simp only [sum0_apply, dNormT_apply _ u d U D g hu hd]
  rfl

variable (v : Fin 8 → Tile) (V : Fin 128 → Fin 2048 → EReal) (hv : ∀ (g : Fin 8) (r : Fin 128) (k : Fin 256), v g (ValueIdx.ix2 r k) = V r (col g k))
include hv

theorem dScaleT_apply (w : Mat) (z : Fin 1) : dScaleT v (u g) (d g) w g (ValueIdx.ix2 z q) = dScale U D V (fun t s => w (ValueIdx.ix3 0 t s)) (col g q) := by
  unfold dScaleT
  rw [sum0_apply]
  have e (s : Fin 128) : mulf (mulf (centredT v g) (broadcastTo S128x256 (invT v) broadcasts_S128x1_S128x256)) (dNormT (u g) (d g) w) (ValueIdx.ix2 s q)
      = centred (V s) (col g q) * inv (V s) * dNorm U D (fun t s => w (ValueIdx.ix3 0 t s)) s (col g q) := by
    pointwise
    change centredT v g (ValueIdx.ix2 s q) * invT v (ValueIdx.ix2 s 0) * dNormT (u g) (d g) w (ValueIdx.ix2 s q) = _
    rw [centredT_apply s q v V hv, invT_apply s v V hv, dNormT_apply _ u d U D g hu hd]
    rfl
  simp only [e]
  rfl

theorem dMatT_apply (lng lnb : Fin 8 → Row) (Lng Lnb : Fin 2048 → EReal) (hg : ∀ (g : Fin 8) (k : Fin 256), lng g (ValueIdx.ix2 0 k) = Lng (col g k))
    (hb : ∀ (g : Fin 8) (k : Fin 256), lnb g (ValueIdx.ix2 0 k) = Lnb (col g k)) (t s : Fin 128) :
    dMatT v lng lnb (u g) (d g) g (ValueIdx.ix2 t s) = dMat U D V Lng Lnb g t s := by
  unfold dMatT dMat
  rw [lowerT_apply]
  refine if_congr Iff.rfl ?_ rfl
  pointwise
  change (∑ k : Fin 256, dMixT (u g) (d g) (ValueIdx.ix2 t k) * normedT v lng lnb g (ValueIdx.ix2 s k)) = _
  simp only [dMixT_apply _ _ u d U D g hu hd, normedT_apply _ _ v V hv lng lnb Lng Lnb hg hb]
  rfl
end

section
variable (x o : Tile) (k m : Mem)

theorem dShareT_apply (i : Fin 256) : dShareT o m (ValueIdx.ix2 p i) = dShare (fun d => o (ValueIdx.ix2 p d)) (fun i d => m (ValueIdx.ix2 i d)) i := by
  unfold dShareT
  pointwise
  rfl

theorem massT_apply (z : Fin 1) : massT x k (ValueIdx.ix2 p z) = mass (fun d => x (ValueIdx.ix2 p d)) (fun i d => k (ValueIdx.ix2 i d)) := by
  unfold massT
  simp only [sum1_apply, expoT_apply]
  rfl

theorem pullT_apply (z : Fin 1) :
    pullT x o k m (ValueIdx.ix2 p z) = pull (fun d => x (ValueIdx.ix2 p d)) (fun d => o (ValueIdx.ix2 p d)) (fun i d => k (ValueIdx.ix2 i d)) (fun i d => m (ValueIdx.ix2 i d)) := by
  unfold pullT
  rw [sum1_apply]
  refine Finset.sum_congr rfl fun i _ => ?_
  pointwise
  change dShareT o m (ValueIdx.ix2 p i) * Ideal.div 1 (massT x k (ValueIdx.ix2 p 0) * massT x k (ValueIdx.ix2 p 0)) * expoT x k (ValueIdx.ix2 p i) = _
  rw [dShareT_apply, massT_apply, expoT_apply]

theorem dScoreT_apply (i : Fin 256) :
    dScoreT x o k m (ValueIdx.ix2 p i) = dScore (fun d => x (ValueIdx.ix2 p d)) (fun d => o (ValueIdx.ix2 p d)) (fun i d => k (ValueIdx.ix2 i d)) (fun i d => m (ValueIdx.ix2 i d)) i := by
  unfold dScoreT
  pointwise
  change (Ideal.div (dShareT o m (ValueIdx.ix2 p i)) (massT x k (ValueIdx.ix2 p 0)) + (∑ z : Fin 1, (0 - pullT x o k m (ValueIdx.ix2 p z)))) * expoT x k (ValueIdx.ix2 p i) * _ = _
  rw [Fin.sum_univ_one, dShareT_apply, massT_apply, expoT_apply, pullT_apply, zero_sub]
  rfl

theorem dKeyT_apply (i d : Fin 256) :
    dKeyT x o k m (ValueIdx.ix2 i d) = dKey (fun t d => x (ValueIdx.ix2 t d)) (fun t d => o (ValueIdx.ix2 t d)) (fun i d => k (ValueIdx.ix2 i d)) (fun i d => m (ValueIdx.ix2 i d)) i d := by
  unfold dKeyT
  pointwise
  change (∑ t : Fin 128, dScoreT x o k m (ValueIdx.ix2 t i) * x (ValueIdx.ix2 t d)) = _
  simp only [dScoreT_apply]
  rfl

theorem dValT_apply (i d : Fin 256) :
    dValT x o k (ValueIdx.ix2 i d) = dVal (fun t d => x (ValueIdx.ix2 t d)) (fun t d => o (ValueIdx.ix2 t d)) (fun i d => k (ValueIdx.ix2 i d)) i d := by
  unfold dValT softmaxT
  pointwise
  change (∑ t : Fin 128, Ideal.div (expoT x k (ValueIdx.ix2 t i)) (massT x k (ValueIdx.ix2 t 0)) * o (ValueIdx.ix2 t d)) = _
  simp only [expoT_apply, massT_apply]
  rfl
end

end Cert.GmlpBwd

end
-- ==== Proof.GmlpBwd.Pieces.lean ====
module

public import proofs.«01_k».proof.Proof.GmlpBwd.Block
public import proofs.«01_k».proof.Proof.GmlpFwd.Pieces
public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Cert.KernelIdeal Cert.KernelIdeal.Gen
open Cert.GmlpFwd (Tile zAt rowAt matAt biasAt memAt row_read mat_read bias_read mem_read)

/-! ## What a point adds to its results -/

namespace Cert.GmlpBwd

/-- Rows `r …` and columns `o …` of a point's block of the incoming gradient. -/
def dAt (x : Vec Ideal S256x3072 .f32) (r o : ℕ) : Tile := fun i => x (ValueIdx.ix2 (Fin.ofNat 256 (r + (i 0).val)) (Fin.ofNat 3072 (o + (i 1).val)))

theorem z_read (m : Memref sig .tc .vmem S256x5120 .f32) (h : m.IsWhole) (x : Vec Ideal S256x5120 .f32) (r o : ℕ) (i1) (i2) (hu) :
    View.readAt (Elt Ideal) m.view ((Rect.unit (s := S256x5120) ![r, 0] ![128, 5120] i1).withinL (Rect.unit (s := S128x5120) ![0, o] ![128, 256] i2).toLoadRect hu) (h.unread x) = zAt x r o := by
  funext i
  rw [View.readAt_apply, h.read_unread]
  refine congrArg x (funext fun a => Fin.ext ?_)
  have b1 : r + 128 ≤ 256 := i1 0
  have b2 : o + 256 ≤ 5120 := i2 1
  have h0 : (i 0).val < 128 := (i 0).isLt
  have h1 : (i 1).val < 256 := (i 1).isLt
  match a with
  | ⟨0, _⟩ => show r + 0 + 1 * (i 0).val = (r + (i 0).val) % 256; omega
  | ⟨1, _⟩ => show 0 + o + 1 * (i 1).val = (o + (i 1).val) % 5120; omega

theorem d_read (m : Memref sig .tc .vmem S256x3072 .f32) (h : m.IsWhole) (x : Vec Ideal S256x3072 .f32) (r o : ℕ) (i1) (i2) (hu) :
    View.readAt (Elt Ideal) m.view ((Rect.unit (s := S256x3072) ![r, 0] ![128, 3072] i1).withinL (Rect.unit (s := S128x3072) ![0, o] ![128, 256] i2).toLoadRect hu) (h.unread x) = dAt x r o := by
  funext i
  rw [View.readAt_apply, h.read_unread]
  refine congrArg x (funext fun a => Fin.ext ?_)
  have b1 : r + 128 ≤ 256 := i1 0
  have b2 : o + 256 ≤ 3072 := i2 1
  have h0 : (i 0).val < 128 := (i 0).isLt
  have h1 : (i 1).val < 256 := (i 1).isLt
  match a with
  | ⟨0, _⟩ => show r + 0 + 1 * (i 0).val = (r + (i 0).val) % 256; omega
  | ⟨1, _⟩ => show 0 + o + 1 * (i 1).val = (o + (i 1).val) % 3072; omega

/-- Two parts added to what was there. -/
def addTwo {s : Shape} (x d e : FVec Ideal s .f32) (h : s.ShapeCasts s) : FVec Ideal s .f32 := addf (shapeCast s (addf (shapeCast s x h) d) h) e

theorem addTwo_apply {s : Shape} (x d e : FVec Ideal s .f32) (h : s.ShapeCasts s) (i : s.Idx) : addTwo x d e h i = x i + d i + e i := by
  unfold addTwo
  rw [shapeCast_self, shapeCast_self]
  rfl

section
variable (x0 : Vec Ideal S256x5120 .f32) (x1 : Vec Ideal S256x3072 .f32) (x2 x3 : Vec Ideal S1x2048 .f32) (x4 : Vec Ideal S8x128x128 .f32) (x6 : Vec Ideal S256x2048 .f32)

/-! The parts that chunk `c` of a point adds. -/

def biasP (c : ℕ) (g : Fin 8) : FVec Ideal S1x128 .f32 := dBiasT (zAt x0 (128 * c) (256 * g.val)) (dAt x1 (128 * c) (256 * g.val))

def shiftP (c : ℕ) (g : Fin 8) : Row := dShiftT (zAt x0 (128 * c) (256 * g.val)) (dAt x1 (128 * c) (256 * g.val)) (matAt x4 g.val)

def scaleP (c : ℕ) (g : Fin 8) : Row :=
  dScaleT (fun g => zAt x0 (128 * c) (2048 + 256 * g.val)) (zAt x0 (128 * c) (256 * g.val)) (dAt x1 (128 * c) (256 * g.val)) (matAt x4 g.val) g

def matP (c : ℕ) (g : Fin 8) : FVec Ideal S128x128 .f32 :=
  dMatT (fun g => zAt x0 (128 * c) (2048 + 256 * g.val)) (fun g => rowAt x2 (256 * g.val)) (fun g => rowAt x3 (256 * g.val))
    (zAt x0 (128 * c) (256 * g.val)) (dAt x1 (128 * c) (256 * g.val)) g

def keyP (c : ℕ) (a : Fin 4) : Mem :=
  dKeyT (zAt x0 (128 * c) (4096 + 256 * a.val)) (dAt x1 (128 * c) (2048 + 256 * a.val)) (memAt x6 (256 * a.val)) (memAt x6 (1024 + 256 * a.val))

def valP (c : ℕ) (a : Fin 4) : Mem := dValT (zAt x0 (128 * c) (4096 + 256 * a.val)) (dAt x1 (128 * c) (2048 + 256 * a.val)) (memAt x6 (256 * a.val))
end

/-! The arrays with both parts added to what the point found. -/

def biasSum (P : ℕ → Fin 8 → FVec Ideal S1x128 .f32) (x : Vec Ideal S8x128 .f32) (y : S8x128.Idx) : EReal :=
  x y + P 0 (y 0) (ValueIdx.ix2 0 (y 1)) + P 1 (y 0) (ValueIdx.ix2 0 (y 1))

/-- Column `j` of a row in eight groups. -/
def inRow (P : Fin 8 → Row) (j : Fin 2048) : EReal := P ⟨j.val / 256, by omega⟩ (ValueIdx.ix2 0 ⟨j.val % 256, by omega⟩)

def rowSum (P : ℕ → Fin 8 → Row) (x : Vec Ideal S1x2048 .f32) (y : S1x2048.Idx) : EReal := x y + inRow (P 0) (y 1) + inRow (P 1) (y 1)

def matSum (P : ℕ → Fin 8 → FVec Ideal S128x128 .f32) (x : Vec Ideal S8x128x128 .f32) (y : S8x128x128.Idx) : EReal :=
  x y + P 0 (y 0) (ValueIdx.ix2 (y 1) (y 2)) + P 1 (y 0) (ValueIdx.ix2 (y 1) (y 2))

/-- Entry `i`, column `j` of the memory's keys and values, head by head. -/
def inMem (K V : Fin 4 → Mem) (i : Fin 256) (j : Fin 2048) : EReal :=
  if h : j.val < 1024 then K ⟨j.val / 256, by omega⟩ (ValueIdx.ix2 i ⟨j.val % 256, by omega⟩)
  else V ⟨(j.val - 1024) / 256, by omega⟩ (ValueIdx.ix2 i ⟨j.val % 256, by omega⟩)

def memSum (K V : ℕ → Fin 4 → Mem) (x : Vec Ideal S256x2048 .f32) (y : S256x2048.Idx) : EReal :=
  x y + inMem (K 0) (V 0) (y 0) (y 1) + inMem (K 1) (V 1) (y 0) (y 1)

theorem ofNat_val {n : ℕ} [NeZero n] (g : Fin n) : (Fin.ofNat n g.val : Fin n) = g := Fin.ext (Nat.mod_eq_of_lt g.isLt)

theorem at_bias (P : ℕ → Fin 8 → FVec Ideal S1x128 .f32) (x : Vec Ideal S8x128 .f32) (g : Fin 8) {o : ℕ} (h : o = g.val) (inb) (i : S1x128.Idx) :
    addTwo (biasAt x g.val) (P 0 g) (P 1 g) shapeCasts_S1x128_S1x128 i = biasSum P x ((Rect.unit (s := S8x128) ![o, 0] ![1, 128] inb).emb i) := by
  subst h
  have h0 : (i 0).val < 1 := (i 0).isLt
  have e : (Rect.unit (s := S8x128) ![g.val, 0] ![1, 128] inb).emb i = ValueIdx.ix2 g (i 1) := funext fun a => Fin.ext (match a with
    | ⟨0, _⟩ => by show g.val + 1 * (i 0).val = g.val; omega
    | ⟨1, _⟩ => by show 0 + 1 * (i 1).val = (i 1).val; omega)
  have e' : i = ValueIdx.ix2 0 (i 1) := funext fun a => Fin.ext (match a with
    | ⟨0, _⟩ => by show (i 0).val = 0; omega
    | ⟨1, _⟩ => rfl)
  rw [e, addTwo_apply]
  show x (ValueIdx.ix2 (Fin.ofNat 8 g.val) (i 1)) + P 0 g i + P 1 g i = _
  rw [ofNat_val, e']
  rfl

theorem at_row (P : ℕ → Fin 8 → Row) (x : Vec Ideal S1x2048 .f32) (g : Fin 8) {o : ℕ} (h : o = 256 * g.val) (inb) (i : S1x256.Idx) :
    addTwo (rowAt x (256 * g.val)) (P 0 g) (P 1 g) shapeCasts_S1x256_S1x256 i = rowSum P x ((Rect.unit (s := S1x2048) ![0, o] ![1, 256] inb).emb i) := by
  subst h
  have h0 : (i 0).val < 1 := (i 0).isLt
  have h1 : (i 1).val < 256 := (i 1).isLt
  have e : (Rect.unit (s := S1x2048) ![0, 256 * g.val] ![1, 256] inb).emb i = ValueIdx.ix2 0 (col g (i 1)) := funext fun a => Fin.ext (match a with
    | ⟨0, _⟩ => by show 0 + 1 * (i 0).val = 0; omega
    | ⟨1, _⟩ => by show 256 * g.val + 1 * (i 1).val = 256 * g.val + (i 1).val; omega)
  have e' : i = ValueIdx.ix2 0 (i 1) := funext fun a => Fin.ext (match a with
    | ⟨0, _⟩ => by show (i 0).val = 0; omega
    | ⟨1, _⟩ => rfl)
  have ec : (Fin.ofNat 2048 (256 * g.val + (i 1).val) : Fin 2048) = col g (i 1) := Fin.ext (Nat.mod_eq_of_lt (by omega))
  have ei (Q : Fin 8 → Row) : Q g i = inRow Q (col g (i 1)) := by
    have eg : (⟨(col g (i 1)).val / 256, by omega⟩ : Fin 8) = g := Fin.ext (by show (256 * g.val + (i 1).val) / 256 = g.val; omega)
    have ek : (⟨(col g (i 1)).val % 256, by omega⟩ : Fin 256) = i 1 := Fin.ext (by show (256 * g.val + (i 1).val) % 256 = (i 1).val; omega)
    unfold inRow
    rw [eg, ek]
    exact congrArg (Q g) e'
  rw [e, addTwo_apply]
  show x (ValueIdx.ix2 0 (Fin.ofNat 2048 (256 * g.val + (i 1).val))) + P 0 g i + P 1 g i = _
  rw [ec, ei (P 0), ei (P 1)]
  rfl

/-- Two parts added to a mixing matrix. -/
def addTwoM (x : FVec Ideal S1x128x128 .f32) (d e : FVec Ideal S128x128 .f32) : FVec Ideal S1x128x128 .f32 :=
  shapeCast S1x128x128 (addf (shapeCast S128x128 (shapeCast S1x128x128 (addf (shapeCast S128x128 x shapeCasts_S1x128x128_S128x128) d) shapeCasts_S128x128_S1x128x128)
    shapeCasts_S1x128x128_S128x128) e) shapeCasts_S128x128_S1x128x128

theorem addTwoM_apply (x : FVec Ideal S1x128x128 .f32) (d e : FVec Ideal S128x128 .f32) (p q : Fin 128) :
    addTwoM x d e (ValueIdx.ix3 0 p q) = x (ValueIdx.ix3 0 p q) + d (ValueIdx.ix2 p q) + e (ValueIdx.ix2 p q) := by
  unfold addTwoM
  pointwise
  rfl

theorem at_mat (P : ℕ → Fin 8 → FVec Ideal S128x128 .f32) (x : Vec Ideal S8x128x128 .f32) (g : Fin 8) {o : ℕ} (h : o = g.val) (inb) (i : S1x128x128.Idx) :
    addTwoM (matAt x g.val) (P 0 g) (P 1 g) i = matSum P x ((Rect.unit (s := S8x128x128) ![o, 0, 0] ![1, 128, 128] inb).emb i) := by
  subst h
  have h0 : (i 0).val < 1 := (i 0).isLt
  have e : (Rect.unit (s := S8x128x128) ![g.val, 0, 0] ![1, 128, 128] inb).emb i = ValueIdx.ix3 g (i 1) (i 2) := funext fun a => Fin.ext (match a with
    | ⟨0, _⟩ => by show g.val + 1 * (i 0).val = g.val; omega
    | ⟨1, _⟩ => by show 0 + 1 * (i 1).val = (i 1).val; omega
    | ⟨2, _⟩ => by show 0 + 1 * (i 2).val = (i 2).val; omega)
  have e' : i = ValueIdx.ix3 0 (i 1) (i 2) := funext fun a => Fin.ext (match a with
    | ⟨0, _⟩ => by show (i 0).val = 0; omega
    | ⟨1, _⟩ => rfl
    | ⟨2, _⟩ => rfl)
  rw [e]
  refine (congrArg _ e').trans ((addTwoM_apply _ _ _ (i 1) (i 2)).trans ?_)
  show x (ValueIdx.ix3 (Fin.ofNat 8 g.val) (i 1) (i 2)) + _ + _ = _
  rw [ofNat_val]
  rfl

theorem at_key (K V : ℕ → Fin 4 → Mem) (x : Vec Ideal S256x2048 .f32) (a : Fin 4) {o : ℕ} (h : o = 256 * a.val) (inb) (i : S256x256.Idx) :
    addTwo (memAt x (256 * a.val)) (K 0 a) (K 1 a) shapeCasts_S256x256_S256x256 i = memSum K V x ((Rect.unit (s := S256x2048) ![0, o] ![256, 256] inb).emb i) := by
  subst h
  have h1 : (i 1).val < 256 := (i 1).isLt
  have e : (Rect.unit (s := S256x2048) ![0, 256 * a.val] ![256, 256] inb).emb i = ValueIdx.ix2 (i 0) ⟨256 * a.val + (i 1).val, by omega⟩ := funext fun b => Fin.ext (match b with
    | ⟨0, _⟩ => by show 0 + 1 * (i 0).val = (i 0).val; omega
    | ⟨1, _⟩ => by show 256 * a.val + 1 * (i 1).val = 256 * a.val + (i 1).val; omega)
  have e' : i = ValueIdx.ix2 (i 0) (i 1) := Cert.GmlpFwd.idx2 i
  have ec : (Fin.ofNat 2048 (256 * a.val + (i 1).val) : Fin 2048) = ⟨256 * a.val + (i 1).val, by omega⟩ := Fin.ext (Nat.mod_eq_of_lt (by omega))
  have ei (Q R : Fin 4 → Mem) : Q a i = inMem Q R (i 0) ⟨256 * a.val + (i 1).val, by omega⟩ := by
    unfold inMem
    rw [dif_pos (show 256 * a.val + (i 1).val < 1024 by omega)]
    have eg : (⟨(256 * a.val + (i 1).val) / 256, by omega⟩ : Fin 4) = a := Fin.ext (by dsimp only; omega)
    have ek : (⟨(256 * a.val + (i 1).val) % 256, by omega⟩ : Fin 256) = i 1 := Fin.ext (by dsimp only; omega)
    rw [eg, ek]
    exact congrArg (Q a) e'
  rw [e, addTwo_apply]
  show x (ValueIdx.ix2 (i 0) (Fin.ofNat 2048 (256 * a.val + (i 1).val))) + K 0 a i + K 1 a i = _
  rw [ec, ei (K 0) (V 0), ei (K 1) (V 1)]
  rfl

theorem at_val (K V : ℕ → Fin 4 → Mem) (x : Vec Ideal S256x2048 .f32) (a : Fin 4) {o : ℕ} (h : o = 1024 + 256 * a.val) (inb) (i : S256x256.Idx) :
    addTwo (memAt x (1024 + 256 * a.val)) (V 0 a) (V 1 a) shapeCasts_S256x256_S256x256 i = memSum K V x ((Rect.unit (s := S256x2048) ![0, o] ![256, 256] inb).emb i) := by
  subst h
  have h1 : (i 1).val < 256 := (i 1).isLt
  have e : (Rect.unit (s := S256x2048) ![0, 1024 + 256 * a.val] ![256, 256] inb).emb i = ValueIdx.ix2 (i 0) ⟨1024 + 256 * a.val + (i 1).val, by omega⟩ := funext fun b => Fin.ext (match b with
    | ⟨0, _⟩ => by show 0 + 1 * (i 0).val = (i 0).val; omega
    | ⟨1, _⟩ => by show 1024 + 256 * a.val + 1 * (i 1).val = 1024 + 256 * a.val + (i 1).val; omega)
  have e' : i = ValueIdx.ix2 (i 0) (i 1) := Cert.GmlpFwd.idx2 i
  have ec : (Fin.ofNat 2048 (1024 + 256 * a.val + (i 1).val) : Fin 2048) = ⟨1024 + 256 * a.val + (i 1).val, by omega⟩ := Fin.ext (Nat.mod_eq_of_lt (by omega))
  have ei (Q R : Fin 4 → Mem) : R a i = inMem Q R (i 0) ⟨1024 + 256 * a.val + (i 1).val, by omega⟩ := by
    unfold inMem
    rw [dif_neg (show ¬1024 + 256 * a.val + (i 1).val < 1024 by omega)]
    have eg : (⟨(1024 + 256 * a.val + (i 1).val - 1024) / 256, by omega⟩ : Fin 4) = a := Fin.ext (by dsimp only; omega)
    have ek : (⟨(1024 + 256 * a.val + (i 1).val) % 256, by omega⟩ : Fin 256) = i 1 := Fin.ext (by dsimp only; omega)
    rw [eg, ek]
    exact congrArg (R a) e'
  rw [e, addTwo_apply]
  show x (ValueIdx.ix2 (i 0) (Fin.ofNat 2048 (1024 + 256 * a.val + (i 1).val))) + V 0 a i + V 1 a i = _
  rw [ec, ei (K 0) (V 0), ei (K 1) (V 1)]
  rfl

variable (c : Dev nD) (i : grid0.Coords) (arg2 : Memref sig .tc .vmem S256x5120 .f32) (harg2 : arg2.IsWhole) (arg3 : Memref sig .tc .vmem S256x3072 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S256x2048 .f32) (harg8 : arg8.IsWhole) (arg9 : Memref sig .tc .vmem S256x5120 .bf16) (harg9 : arg9.IsWhole) (arg10 : Memref sig .tc .vmem S256x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S8x128x128 .f32) (harg13 : arg13.IsWhole) (arg14 : Memref sig .tc .vmem S8x128 .f32) (harg14 : arg14.IsWhole)
    (x0 : Vec Ideal S256x5120 .f32) (x1 : Vec Ideal S256x3072 .f32) (x2 : Vec Ideal S1x2048 .f32) (x3 : Vec Ideal S1x2048 .f32) (x4 : Vec Ideal S8x128x128 .f32) (x5 : Vec Ideal S8x128 .f32) (x6 : Vec Ideal S256x2048 .f32) (xo8 : Vec Ideal S256x2048 .f32) (xo9 : Vec Ideal S1x2048 .f32) (xo10 : Vec Ideal S1x2048 .f32) (xo11 : Vec Ideal S8x128x128 .f32) (xo12 : Vec Ideal S8x128 .f32)

theorem mem_A (hc0 : cond0_0 i) (hc1 : cond0_1 i) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = memSum (keyP x0 x1 x6) (valP x0 x1 x6) (k0_pay6 (F := Ideal)) := by
  unfold out0_A_8 kernelRun0_A
  dsimp only
  sl_unfold_words
  rw [View.read_writes_junk_eq_canon]
  funext y
  simp (disch := first | rfl | decide) only [View.readAt_eq_ld, harg4.read_unread, harg5.read_unread, harg6.read_unread, harg8.read_unread, harg10.read_unread, z_read, d_read, View.readCov_skip, View.readCov_cons_toLoadRect, View.readCov_fill,
    row_read, mat_read, bias_read, mem_read]
  exact View.canon_append_of_piecesOf (Val := Elt Ideal) (e := .f32) (memSum (keyP x0 x1 x6) (valP x0 x1 x6) (k0_pay6 (F := Ideal))) _ [_, _, _, _, _, _, _, _] ⟨
    at_val (keyP x0 x1 x6) (valP x0 x1 x6) (k0_pay6 (F := Ideal)) 3 rfl inb_S256x2048_S256x256_0_1792,
    at_key (keyP x0 x1 x6) (valP x0 x1 x6) (k0_pay6 (F := Ideal)) 3 rfl inb_S256x2048_S256x256_0_768,
    at_val (keyP x0 x1 x6) (valP x0 x1 x6) (k0_pay6 (F := Ideal)) 2 rfl inb_S256x2048_S256x256_0_1536,
    at_key (keyP x0 x1 x6) (valP x0 x1 x6) (k0_pay6 (F := Ideal)) 2 rfl inb_S256x2048_S256x256_0_512,
    at_val (keyP x0 x1 x6) (valP x0 x1 x6) (k0_pay6 (F := Ideal)) 1 rfl inb_S256x2048_S256x256_0_1280,
    at_key (keyP x0 x1 x6) (valP x0 x1 x6) (k0_pay6 (F := Ideal)) 1 rfl inb_S256x2048_S256x256_0_256,
    at_val (keyP x0 x1 x6) (valP x0 x1 x6) (k0_pay6 (F := Ideal)) 0 rfl inb_S256x2048_S256x256_0_1024,
    at_key (keyP x0 x1 x6) (valP x0 x1 x6) (k0_pay6 (F := Ideal)) 0 rfl inb_S256x2048_S256x256_0_0, trivial⟩ y (View.cover_of_tiledBy _ ![256, 256] (by sl_kernel_rfl) y)

theorem mem_B (hc0 : ¬cond0_0 i) (hc1 : ¬cond0_1 i) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xo10 xo11 xo12 = memSum (keyP x0 x1 x6) (valP x0 x1 x6) xo8 := by
  unfold out0_B_8 kernelRun0_B
  dsimp only
  sl_unfold_words
  rw [View.read_writes_junk_eq_canon]
  funext y
  simp (disch := first | rfl | decide) only [View.readAt_eq_ld, harg4.read_unread, harg5.read_unread, harg6.read_unread, harg8.read_unread, harg10.read_unread, z_read, d_read, View.readCov_skip, View.readCov_cons_toLoadRect, View.readCov_fill,
    row_read, mat_read, bias_read, mem_read]
  exact View.canon_append_of_piecesOf (Val := Elt Ideal) (e := .f32) (memSum (keyP x0 x1 x6) (valP x0 x1 x6) xo8) _ [_, _, _, _, _, _, _, _] ⟨
    at_val (keyP x0 x1 x6) (valP x0 x1 x6) xo8 3 rfl inb_S256x2048_S256x256_0_1792,
    at_key (keyP x0 x1 x6) (valP x0 x1 x6) xo8 3 rfl inb_S256x2048_S256x256_0_768,
    at_val (keyP x0 x1 x6) (valP x0 x1 x6) xo8 2 rfl inb_S256x2048_S256x256_0_1536,
    at_key (keyP x0 x1 x6) (valP x0 x1 x6) xo8 2 rfl inb_S256x2048_S256x256_0_512,
    at_val (keyP x0 x1 x6) (valP x0 x1 x6) xo8 1 rfl inb_S256x2048_S256x256_0_1280,
    at_key (keyP x0 x1 x6) (valP x0 x1 x6) xo8 1 rfl inb_S256x2048_S256x256_0_256,
    at_val (keyP x0 x1 x6) (valP x0 x1 x6) xo8 0 rfl inb_S256x2048_S256x256_0_1024,
    at_key (keyP x0 x1 x6) (valP x0 x1 x6) xo8 0 rfl inb_S256x2048_S256x256_0_0, trivial⟩ y (View.cover_of_tiledBy _ ![256, 256] (by sl_kernel_rfl) y)

theorem mem_C (hc0 : cond0_0 i) (hc1 : ¬cond0_1 i) : out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xo12 = memSum (keyP x0 x1 x6) (valP x0 x1 x6) (k0_pay6 (F := Ideal)) := by
  unfold out0_C_8 kernelRun0_C
  dsimp only
  sl_unfold_words
  rw [View.read_writes_junk_eq_canon]
  funext y
  simp (disch := first | rfl | decide) only [View.readAt_eq_ld, harg4.read_unread, harg5.read_unread, harg6.read_unread, harg8.read_unread, harg10.read_unread, z_read, d_read, View.readCov_skip, View.readCov_cons_toLoadRect, View.readCov_fill,
    row_read, mat_read, bias_read, mem_read]
  exact View.canon_append_of_piecesOf (Val := Elt Ideal) (e := .f32) (memSum (keyP x0 x1 x6) (valP x0 x1 x6) (k0_pay6 (F := Ideal))) _ [_, _, _, _, _, _, _, _] ⟨
    at_val (keyP x0 x1 x6) (valP x0 x1 x6) (k0_pay6 (F := Ideal)) 3 rfl inb_S256x2048_S256x256_0_1792,
    at_key (keyP x0 x1 x6) (valP x0 x1 x6) (k0_pay6 (F := Ideal)) 3 rfl inb_S256x2048_S256x256_0_768,
    at_val (keyP x0 x1 x6) (valP x0 x1 x6) (k0_pay6 (F := Ideal)) 2 rfl inb_S256x2048_S256x256_0_1536,
    at_key (keyP x0 x1 x6) (valP x0 x1 x6) (k0_pay6 (F := Ideal)) 2 rfl inb_S256x2048_S256x256_0_512,
    at_val (keyP x0 x1 x6) (valP x0 x1 x6) (k0_pay6 (F := Ideal)) 1 rfl inb_S256x2048_S256x256_0_1280,
    at_key (keyP x0 x1 x6) (valP x0 x1 x6) (k0_pay6 (F := Ideal)) 1 rfl inb_S256x2048_S256x256_0_256,
    at_val (keyP x0 x1 x6) (valP x0 x1 x6) (k0_pay6 (F := Ideal)) 0 rfl inb_S256x2048_S256x256_0_1024,
    at_key (keyP x0 x1 x6) (valP x0 x1 x6) (k0_pay6 (F := Ideal)) 0 rfl inb_S256x2048_S256x256_0_0, trivial⟩ y (View.cover_of_tiledBy _ ![256, 256] (by sl_kernel_rfl) y)

theorem scale_A (hc0 : cond0_0 i) (hc1 : cond0_1 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = rowSum (scaleP x0 x1 x4) (k0_pay7 (F := Ideal)) := by
  unfold out0_A_9 kernelRun0_A
  dsimp only
  sl_unfold_words
  rw [View.read_writes_junk_eq_canon]
  funext y
  simp (disch := first | rfl | decide) only [View.readAt_eq_ld, harg4.read_unread, harg5.read_unread, harg6.read_unread, harg8.read_unread, harg11.read_unread, z_read, d_read, View.readCov_skip, View.readCov_cons_toLoadRect, View.readCov_fill,
    row_read, mat_read, bias_read, mem_read]
  exact View.canon_append_of_piecesOf (Val := Elt Ideal) (e := .f32) (rowSum (scaleP x0 x1 x4) (k0_pay7 (F := Ideal))) _ [_, _, _, _, _, _, _, _] ⟨
    at_row (scaleP x0 x1 x4) (k0_pay7 (F := Ideal)) 7 rfl inb_S1x2048_S1x256_0_1792,
    at_row (scaleP x0 x1 x4) (k0_pay7 (F := Ideal)) 6 rfl inb_S1x2048_S1x256_0_1536,
    at_row (scaleP x0 x1 x4) (k0_pay7 (F := Ideal)) 5 rfl inb_S1x2048_S1x256_0_1280,
    at_row (scaleP x0 x1 x4) (k0_pay7 (F := Ideal)) 4 rfl inb_S1x2048_S1x256_0_1024,
    at_row (scaleP x0 x1 x4) (k0_pay7 (F := Ideal)) 3 rfl inb_S1x2048_S1x256_0_768,
    at_row (scaleP x0 x1 x4) (k0_pay7 (F := Ideal)) 2 rfl inb_S1x2048_S1x256_0_512,
    at_row (scaleP x0 x1 x4) (k0_pay7 (F := Ideal)) 1 rfl inb_S1x2048_S1x256_0_256,
    at_row (scaleP x0 x1 x4) (k0_pay7 (F := Ideal)) 0 rfl inb_S1x2048_S1x256_0_0, trivial⟩ y (View.cover_of_tiledBy _ ![1, 256] (by sl_kernel_rfl) y)

theorem scale_B (hc0 : ¬cond0_0 i) (hc1 : ¬cond0_1 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xo10 xo11 xo12 = rowSum (scaleP x0 x1 x4) xo9 := by
  unfold out0_B_9 kernelRun0_B
  dsimp only
  sl_unfold_words
  rw [View.read_writes_junk_eq_canon]
  funext y
  simp (disch := first | rfl | decide) only [View.readAt_eq_ld, harg4.read_unread, harg5.read_unread, harg6.read_unread, harg8.read_unread, harg11.read_unread, z_read, d_read, View.readCov_skip, View.readCov_cons_toLoadRect, View.readCov_fill,
    row_read, mat_read, bias_read, mem_read]
  exact View.canon_append_of_piecesOf (Val := Elt Ideal) (e := .f32) (rowSum (scaleP x0 x1 x4) xo9) _ [_, _, _, _, _, _, _, _] ⟨
    at_row (scaleP x0 x1 x4) xo9 7 rfl inb_S1x2048_S1x256_0_1792,
    at_row (scaleP x0 x1 x4) xo9 6 rfl inb_S1x2048_S1x256_0_1536,
    at_row (scaleP x0 x1 x4) xo9 5 rfl inb_S1x2048_S1x256_0_1280,
    at_row (scaleP x0 x1 x4) xo9 4 rfl inb_S1x2048_S1x256_0_1024,
    at_row (scaleP x0 x1 x4) xo9 3 rfl inb_S1x2048_S1x256_0_768,
    at_row (scaleP x0 x1 x4) xo9 2 rfl inb_S1x2048_S1x256_0_512,
    at_row (scaleP x0 x1 x4) xo9 1 rfl inb_S1x2048_S1x256_0_256,
    at_row (scaleP x0 x1 x4) xo9 0 rfl inb_S1x2048_S1x256_0_0, trivial⟩ y (View.cover_of_tiledBy _ ![1, 256] (by sl_kernel_rfl) y)

theorem scale_C (hc0 : cond0_0 i) (hc1 : ¬cond0_1 i) : out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xo12 = rowSum (scaleP x0 x1 x4) xo9 := by
  unfold out0_C_9 kernelRun0_C
  dsimp only
  sl_unfold_words
  rw [View.read_writes_junk_eq_canon]
  funext y
  simp (disch := first | rfl | decide) only [View.readAt_eq_ld, harg4.read_unread, harg5.read_unread, harg6.read_unread, harg8.read_unread, harg11.read_unread, z_read, d_read, View.readCov_skip, View.readCov_cons_toLoadRect, View.readCov_fill,
    row_read, mat_read, bias_read, mem_read]
  exact View.canon_append_of_piecesOf (Val := Elt Ideal) (e := .f32) (rowSum (scaleP x0 x1 x4) xo9) _ [_, _, _, _, _, _, _, _] ⟨
    at_row (scaleP x0 x1 x4) xo9 7 rfl inb_S1x2048_S1x256_0_1792,
    at_row (scaleP x0 x1 x4) xo9 6 rfl inb_S1x2048_S1x256_0_1536,
    at_row (scaleP x0 x1 x4) xo9 5 rfl inb_S1x2048_S1x256_0_1280,
    at_row (scaleP x0 x1 x4) xo9 4 rfl inb_S1x2048_S1x256_0_1024,
    at_row (scaleP x0 x1 x4) xo9 3 rfl inb_S1x2048_S1x256_0_768,
    at_row (scaleP x0 x1 x4) xo9 2 rfl inb_S1x2048_S1x256_0_512,
    at_row (scaleP x0 x1 x4) xo9 1 rfl inb_S1x2048_S1x256_0_256,
    at_row (scaleP x0 x1 x4) xo9 0 rfl inb_S1x2048_S1x256_0_0, trivial⟩ y (View.cover_of_tiledBy _ ![1, 256] (by sl_kernel_rfl) y)

theorem shift_A (hc0 : cond0_0 i) (hc1 : cond0_1 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = rowSum (shiftP x0 x1 x4) (k0_pay8 (F := Ideal)) := by
  unfold out0_A_10 kernelRun0_A
  dsimp only
  sl_unfold_words
  rw [View.read_writes_junk_eq_canon]
  funext y
  simp (disch := first | rfl | decide) only [View.readAt_eq_ld, harg4.read_unread, harg5.read_unread, harg6.read_unread, harg8.read_unread, harg12.read_unread, z_read, d_read, View.readCov_skip, View.readCov_cons_toLoadRect, View.readCov_fill,
    row_read, mat_read, bias_read, mem_read]
  exact View.canon_append_of_piecesOf (Val := Elt Ideal) (e := .f32) (rowSum (shiftP x0 x1 x4) (k0_pay8 (F := Ideal))) _ [_, _, _, _, _, _, _, _] ⟨
    at_row (shiftP x0 x1 x4) (k0_pay8 (F := Ideal)) 7 rfl inb_S1x2048_S1x256_0_1792,
    at_row (shiftP x0 x1 x4) (k0_pay8 (F := Ideal)) 6 rfl inb_S1x2048_S1x256_0_1536,
    at_row (shiftP x0 x1 x4) (k0_pay8 (F := Ideal)) 5 rfl inb_S1x2048_S1x256_0_1280,
    at_row (shiftP x0 x1 x4) (k0_pay8 (F := Ideal)) 4 rfl inb_S1x2048_S1x256_0_1024,
    at_row (shiftP x0 x1 x4) (k0_pay8 (F := Ideal)) 3 rfl inb_S1x2048_S1x256_0_768,
    at_row (shiftP x0 x1 x4) (k0_pay8 (F := Ideal)) 2 rfl inb_S1x2048_S1x256_0_512,
    at_row (shiftP x0 x1 x4) (k0_pay8 (F := Ideal)) 1 rfl inb_S1x2048_S1x256_0_256,
    at_row (shiftP x0 x1 x4) (k0_pay8 (F := Ideal)) 0 rfl inb_S1x2048_S1x256_0_0, trivial⟩ y (View.cover_of_tiledBy _ ![1, 256] (by sl_kernel_rfl) y)

theorem shift_B (hc0 : ¬cond0_0 i) (hc1 : ¬cond0_1 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xo10 xo11 xo12 = rowSum (shiftP x0 x1 x4) xo10 := by
  unfold out0_B_10 kernelRun0_B
  dsimp only
  sl_unfold_words
  rw [View.read_writes_junk_eq_canon]
  funext y
  simp (disch := first | rfl | decide) only [View.readAt_eq_ld, harg4.read_unread, harg5.read_unread, harg6.read_unread, harg8.read_unread, harg12.read_unread, z_read, d_read, View.readCov_skip, View.readCov_cons_toLoadRect, View.readCov_fill,
    row_read, mat_read, bias_read, mem_read]
  exact View.canon_append_of_piecesOf (Val := Elt Ideal) (e := .f32) (rowSum (shiftP x0 x1 x4) xo10) _ [_, _, _, _, _, _, _, _] ⟨
    at_row (shiftP x0 x1 x4) xo10 7 rfl inb_S1x2048_S1x256_0_1792,
    at_row (shiftP x0 x1 x4) xo10 6 rfl inb_S1x2048_S1x256_0_1536,
    at_row (shiftP x0 x1 x4) xo10 5 rfl inb_S1x2048_S1x256_0_1280,
    at_row (shiftP x0 x1 x4) xo10 4 rfl inb_S1x2048_S1x256_0_1024,
    at_row (shiftP x0 x1 x4) xo10 3 rfl inb_S1x2048_S1x256_0_768,
    at_row (shiftP x0 x1 x4) xo10 2 rfl inb_S1x2048_S1x256_0_512,
    at_row (shiftP x0 x1 x4) xo10 1 rfl inb_S1x2048_S1x256_0_256,
    at_row (shiftP x0 x1 x4) xo10 0 rfl inb_S1x2048_S1x256_0_0, trivial⟩ y (View.cover_of_tiledBy _ ![1, 256] (by sl_kernel_rfl) y)

theorem shift_C (hc0 : cond0_0 i) (hc1 : ¬cond0_1 i) : out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xo12 = rowSum (shiftP x0 x1 x4) xo10 := by
  unfold out0_C_10 kernelRun0_C
  dsimp only
  sl_unfold_words
  rw [View.read_writes_junk_eq_canon]
  funext y
  simp (disch := first | rfl | decide) only [View.readAt_eq_ld, harg4.read_unread, harg5.read_unread, harg6.read_unread, harg8.read_unread, harg12.read_unread, z_read, d_read, View.readCov_skip, View.readCov_cons_toLoadRect, View.readCov_fill,
    row_read, mat_read, bias_read, mem_read]
  exact View.canon_append_of_piecesOf (Val := Elt Ideal) (e := .f32) (rowSum (shiftP x0 x1 x4) xo10) _ [_, _, _, _, _, _, _, _] ⟨
    at_row (shiftP x0 x1 x4) xo10 7 rfl inb_S1x2048_S1x256_0_1792,
    at_row (shiftP x0 x1 x4) xo10 6 rfl inb_S1x2048_S1x256_0_1536,
    at_row (shiftP x0 x1 x4) xo10 5 rfl inb_S1x2048_S1x256_0_1280,
    at_row (shiftP x0 x1 x4) xo10 4 rfl inb_S1x2048_S1x256_0_1024,
    at_row (shiftP x0 x1 x4) xo10 3 rfl inb_S1x2048_S1x256_0_768,
    at_row (shiftP x0 x1 x4) xo10 2 rfl inb_S1x2048_S1x256_0_512,
    at_row (shiftP x0 x1 x4) xo10 1 rfl inb_S1x2048_S1x256_0_256,
    at_row (shiftP x0 x1 x4) xo10 0 rfl inb_S1x2048_S1x256_0_0, trivial⟩ y (View.cover_of_tiledBy _ ![1, 256] (by sl_kernel_rfl) y)

theorem mat_A (hc0 : cond0_0 i) (hc1 : cond0_1 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = matSum (matP x0 x1 x2 x3) (k0_pay9 (F := Ideal)) := by
  unfold out0_A_11 kernelRun0_A
  dsimp only
  sl_unfold_words
  rw [View.read_writes_junk_eq_canon]
  funext y
  simp (disch := first | rfl | decide) only [View.readAt_eq_ld, harg4.read_unread, harg5.read_unread, harg6.read_unread, harg8.read_unread, harg13.read_unread, z_read, d_read, View.readCov_skip, View.readCov_cons_toLoadRect, View.readCov_fill,
    row_read, mat_read, bias_read, mem_read]
  exact View.canon_append_of_piecesOf (Val := Elt Ideal) (e := .f32) (matSum (matP x0 x1 x2 x3) (k0_pay9 (F := Ideal))) _ [_, _, _, _, _, _, _, _] ⟨
    at_mat (matP x0 x1 x2 x3) (k0_pay9 (F := Ideal)) 7 rfl inb_S8x128x128_S1x128x128_7_0_0,
    at_mat (matP x0 x1 x2 x3) (k0_pay9 (F := Ideal)) 6 rfl inb_S8x128x128_S1x128x128_6_0_0,
    at_mat (matP x0 x1 x2 x3) (k0_pay9 (F := Ideal)) 5 rfl inb_S8x128x128_S1x128x128_5_0_0,
    at_mat (matP x0 x1 x2 x3) (k0_pay9 (F := Ideal)) 4 rfl inb_S8x128x128_S1x128x128_4_0_0,
    at_mat (matP x0 x1 x2 x3) (k0_pay9 (F := Ideal)) 3 rfl inb_S8x128x128_S1x128x128_3_0_0,
    at_mat (matP x0 x1 x2 x3) (k0_pay9 (F := Ideal)) 2 rfl inb_S8x128x128_S1x128x128_2_0_0,
    at_mat (matP x0 x1 x2 x3) (k0_pay9 (F := Ideal)) 1 rfl inb_S8x128x128_S1x128x128_1_0_0,
    at_mat (matP x0 x1 x2 x3) (k0_pay9 (F := Ideal)) 0 rfl inb_S8x128x128_S1x128x128_0_0_0, trivial⟩ y (View.cover_of_tiledBy _ ![1, 128, 128] (by sl_kernel_rfl) y)

theorem mat_B (hc0 : ¬cond0_0 i) (hc1 : ¬cond0_1 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xo10 xo11 xo12 = matSum (matP x0 x1 x2 x3) xo11 := by
  unfold out0_B_11 kernelRun0_B
  dsimp only
  sl_unfold_words
  rw [View.read_writes_junk_eq_canon]
  funext y
  simp (disch := first | rfl | decide) only [View.readAt_eq_ld, harg4.read_unread, harg5.read_unread, harg6.read_unread, harg8.read_unread, harg13.read_unread, z_read, d_read, View.readCov_skip, View.readCov_cons_toLoadRect, View.readCov_fill,
    row_read, mat_read, bias_read, mem_read]
  exact View.canon_append_of_piecesOf (Val := Elt Ideal) (e := .f32) (matSum (matP x0 x1 x2 x3) xo11) _ [_, _, _, _, _, _, _, _] ⟨
    at_mat (matP x0 x1 x2 x3) xo11 7 rfl inb_S8x128x128_S1x128x128_7_0_0,
    at_mat (matP x0 x1 x2 x3) xo11 6 rfl inb_S8x128x128_S1x128x128_6_0_0,
    at_mat (matP x0 x1 x2 x3) xo11 5 rfl inb_S8x128x128_S1x128x128_5_0_0,
    at_mat (matP x0 x1 x2 x3) xo11 4 rfl inb_S8x128x128_S1x128x128_4_0_0,
    at_mat (matP x0 x1 x2 x3) xo11 3 rfl inb_S8x128x128_S1x128x128_3_0_0,
    at_mat (matP x0 x1 x2 x3) xo11 2 rfl inb_S8x128x128_S1x128x128_2_0_0,
    at_mat (matP x0 x1 x2 x3) xo11 1 rfl inb_S8x128x128_S1x128x128_1_0_0,
    at_mat (matP x0 x1 x2 x3) xo11 0 rfl inb_S8x128x128_S1x128x128_0_0_0, trivial⟩ y (View.cover_of_tiledBy _ ![1, 128, 128] (by sl_kernel_rfl) y)

theorem mat_C (hc0 : cond0_0 i) (hc1 : ¬cond0_1 i) : out0_C_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xo12 = matSum (matP x0 x1 x2 x3) xo11 := by
  unfold out0_C_11 kernelRun0_C
  dsimp only
  sl_unfold_words
  rw [View.read_writes_junk_eq_canon]
  funext y
  simp (disch := first | rfl | decide) only [View.readAt_eq_ld, harg4.read_unread, harg5.read_unread, harg6.read_unread, harg8.read_unread, harg13.read_unread, z_read, d_read, View.readCov_skip, View.readCov_cons_toLoadRect, View.readCov_fill,
    row_read, mat_read, bias_read, mem_read]
  exact View.canon_append_of_piecesOf (Val := Elt Ideal) (e := .f32) (matSum (matP x0 x1 x2 x3) xo11) _ [_, _, _, _, _, _, _, _] ⟨
    at_mat (matP x0 x1 x2 x3) xo11 7 rfl inb_S8x128x128_S1x128x128_7_0_0,
    at_mat (matP x0 x1 x2 x3) xo11 6 rfl inb_S8x128x128_S1x128x128_6_0_0,
    at_mat (matP x0 x1 x2 x3) xo11 5 rfl inb_S8x128x128_S1x128x128_5_0_0,
    at_mat (matP x0 x1 x2 x3) xo11 4 rfl inb_S8x128x128_S1x128x128_4_0_0,
    at_mat (matP x0 x1 x2 x3) xo11 3 rfl inb_S8x128x128_S1x128x128_3_0_0,
    at_mat (matP x0 x1 x2 x3) xo11 2 rfl inb_S8x128x128_S1x128x128_2_0_0,
    at_mat (matP x0 x1 x2 x3) xo11 1 rfl inb_S8x128x128_S1x128x128_1_0_0,
    at_mat (matP x0 x1 x2 x3) xo11 0 rfl inb_S8x128x128_S1x128x128_0_0_0, trivial⟩ y (View.cover_of_tiledBy _ ![1, 128, 128] (by sl_kernel_rfl) y)

theorem bias_A (hc0 : cond0_0 i) (hc1 : cond0_1 i) : out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = biasSum (biasP x0 x1) (k0_pay10 (F := Ideal)) := by
  unfold out0_A_12 kernelRun0_A
  dsimp only
  sl_unfold_words
  rw [View.read_writes_junk_eq_canon]
  funext y
  simp (disch := first | rfl | decide) only [View.readAt_eq_ld, harg4.read_unread, harg5.read_unread, harg6.read_unread, harg8.read_unread, harg14.read_unread, z_read, d_read, View.readCov_skip, View.readCov_cons_toLoadRect, View.readCov_fill,
    row_read, mat_read, bias_read, mem_read]
  exact View.canon_append_of_piecesOf (Val := Elt Ideal) (e := .f32) (biasSum (biasP x0 x1) (k0_pay10 (F := Ideal))) _ [_, _, _, _, _, _, _, _] ⟨
    at_bias (biasP x0 x1) (k0_pay10 (F := Ideal)) 7 rfl inb_S8x128_S1x128_7_0,
    at_bias (biasP x0 x1) (k0_pay10 (F := Ideal)) 6 rfl inb_S8x128_S1x128_6_0,
    at_bias (biasP x0 x1) (k0_pay10 (F := Ideal)) 5 rfl inb_S8x128_S1x128_5_0,
    at_bias (biasP x0 x1) (k0_pay10 (F := Ideal)) 4 rfl inb_S8x128_S1x128_4_0,
    at_bias (biasP x0 x1) (k0_pay10 (F := Ideal)) 3 rfl inb_S8x128_S1x128_3_0,
    at_bias (biasP x0 x1) (k0_pay10 (F := Ideal)) 2 rfl inb_S8x128_S1x128_2_0,
    at_bias (biasP x0 x1) (k0_pay10 (F := Ideal)) 1 rfl inb_S8x128_S1x128_1_0,
    at_bias (biasP x0 x1) (k0_pay10 (F := Ideal)) 0 rfl inb_S8x128_S1x128_0_0, trivial⟩ y (View.cover_of_tiledBy _ ![1, 128] (by sl_kernel_rfl) y)

theorem bias_B (hc0 : ¬cond0_0 i) (hc1 : ¬cond0_1 i) : out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xo9 xo10 xo11 xo12 = biasSum (biasP x0 x1) xo12 := by
  unfold out0_B_12 kernelRun0_B
  dsimp only
  sl_unfold_words
  rw [View.read_writes_junk_eq_canon]
  funext y
  simp (disch := first | rfl | decide) only [View.readAt_eq_ld, harg4.read_unread, harg5.read_unread, harg6.read_unread, harg8.read_unread, harg14.read_unread, z_read, d_read, View.readCov_skip, View.readCov_cons_toLoadRect, View.readCov_fill,
    row_read, mat_read, bias_read, mem_read]
  exact View.canon_append_of_piecesOf (Val := Elt Ideal) (e := .f32) (biasSum (biasP x0 x1) xo12) _ [_, _, _, _, _, _, _, _] ⟨
    at_bias (biasP x0 x1) xo12 7 rfl inb_S8x128_S1x128_7_0,
    at_bias (biasP x0 x1) xo12 6 rfl inb_S8x128_S1x128_6_0,
    at_bias (biasP x0 x1) xo12 5 rfl inb_S8x128_S1x128_5_0,
    at_bias (biasP x0 x1) xo12 4 rfl inb_S8x128_S1x128_4_0,
    at_bias (biasP x0 x1) xo12 3 rfl inb_S8x128_S1x128_3_0,
    at_bias (biasP x0 x1) xo12 2 rfl inb_S8x128_S1x128_2_0,
    at_bias (biasP x0 x1) xo12 1 rfl inb_S8x128_S1x128_1_0,
    at_bias (biasP x0 x1) xo12 0 rfl inb_S8x128_S1x128_0_0, trivial⟩ y (View.cover_of_tiledBy _ ![1, 128] (by sl_kernel_rfl) y)

theorem bias_C (hc0 : cond0_0 i) (hc1 : ¬cond0_1 i) : out0_C_12 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xo12 = biasSum (biasP x0 x1) xo12 := by
  unfold out0_C_12 kernelRun0_C
  dsimp only
  sl_unfold_words
  rw [View.read_writes_junk_eq_canon]
  funext y
  simp (disch := first | rfl | decide) only [View.readAt_eq_ld, harg4.read_unread, harg5.read_unread, harg6.read_unread, harg8.read_unread, harg14.read_unread, z_read, d_read, View.readCov_skip, View.readCov_cons_toLoadRect, View.readCov_fill,
    row_read, mat_read, bias_read, mem_read]
  exact View.canon_append_of_piecesOf (Val := Elt Ideal) (e := .f32) (biasSum (biasP x0 x1) xo12) _ [_, _, _, _, _, _, _, _] ⟨
    at_bias (biasP x0 x1) xo12 7 rfl inb_S8x128_S1x128_7_0,
    at_bias (biasP x0 x1) xo12 6 rfl inb_S8x128_S1x128_6_0,
    at_bias (biasP x0 x1) xo12 5 rfl inb_S8x128_S1x128_5_0,
    at_bias (biasP x0 x1) xo12 4 rfl inb_S8x128_S1x128_4_0,
    at_bias (biasP x0 x1) xo12 3 rfl inb_S8x128_S1x128_3_0,
    at_bias (biasP x0 x1) xo12 2 rfl inb_S8x128_S1x128_2_0,
    at_bias (biasP x0 x1) xo12 1 rfl inb_S8x128_S1x128_1_0,
    at_bias (biasP x0 x1) xo12 0 rfl inb_S8x128_S1x128_0_0, trivial⟩ y (View.cover_of_tiledBy _ ![1, 128] (by sl_kernel_rfl) y)

end Cert.GmlpBwd

end
-- ==== Proof.GmlpBwd.Kernel.lean ====
module

public import proofs.«01_k».proof.Proof.GmlpBwd.Pieces
public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen
open Cert.GmlpFwd (zAt rowAt matAt memAt idx2)

/-! ## The arrays the kernel leaves -/

namespace Cert.GmlpBwd

section
variable (Z : S4096x5120.Idx → EReal) (O : S4096x3072.Idx → EReal) (G B : S1x2048.Idx → EReal) (W : S8x128x128.Idx → EReal) (KV : S512x2048.Idx → EReal)

/-! The rows of chunk `n`: columns from `o`. -/

def zC (n o : ℕ) {w : ℕ} (s : Fin 128) (k : Fin w) : EReal := Z (ValueIdx.ix2 (Fin.ofNat 4096 (128 * n + s.val)) (Fin.ofNat 5120 (o + k.val)))

def dC (n o : ℕ) {w : ℕ} (s : Fin 128) (k : Fin w) : EReal := O (ValueIdx.ix2 (Fin.ofNat 4096 (128 * n + s.val)) (Fin.ofNat 3072 (o + k.val)))

/-- The memory of chunk `n`'s sequence. -/
def kvC (n o : ℕ) (i k : Fin 256) : EReal := KV (ValueIdx.ix2 (Fin.ofNat 512 (256 * (n / 16) + i.val)) (Fin.ofNat 2048 (o + k.val)))

/-! What chunk `n` adds. -/

def biasOf (n : ℕ) (g : Fin 8) (t : Fin 128) : EReal := dBias (zC Z n 0) (dC O n 0) g t

def shiftOf (n : ℕ) (g : Fin 8) (j : Fin 2048) : EReal := dShift (zC Z n 0) (dC O n 0) (fun t s => W (ValueIdx.ix3 g t s)) j

def scaleOf (n : ℕ) (g : Fin 8) (j : Fin 2048) : EReal := dScale (zC Z n 0) (dC O n 0) (zC Z n 2048) (fun t s => W (ValueIdx.ix3 g t s)) j

def matOf (n : ℕ) (g : Fin 8) (t s : Fin 128) : EReal :=
  dMat (zC Z n 0) (dC O n 0) (zC Z n 2048) (fun j => G (ValueIdx.ix2 0 j)) (fun j => B (ValueIdx.ix2 0 j)) g t s

def keyOf (n a : ℕ) (i d : Fin 256) : EReal := dKey (zC Z n (4096 + 256 * a)) (dC O n (2048 + 256 * a)) (kvC KV n (256 * a)) (kvC KV n (1024 + 256 * a)) i d

def valOf (n a : ℕ) (i d : Fin 256) : EReal := dVal (zC Z n (4096 + 256 * a)) (dC O n (2048 + 256 * a)) (kvC KV n (256 * a)) i d

/-- Entry `i`, column `j` of what chunk `n` adds to the memory's gradient. -/
def memOf (n : ℕ) (i : Fin 256) (j : Fin 2048) : EReal :=
  if j.val < 1024 then keyOf Z O KV n (j.val / 256) i ⟨j.val % 256, by omega⟩ else valOf Z O KV n ((j.val - 1024) / 256) i ⟨j.val % 256, by omega⟩

/-! All chunks. -/

def biasAll (y : S8x128.Idx) : EReal := ∑ n ∈ Finset.range 32, biasOf Z O n (y 0) (y 1)

def groupOf (j : Fin 2048) : Fin 8 := ⟨j.val / 256, by omega⟩

def shiftAll (y : S1x2048.Idx) : EReal := ∑ n ∈ Finset.range 32, shiftOf Z O W n (groupOf (y 1)) (y 1)

def scaleAll (y : S1x2048.Idx) : EReal := ∑ n ∈ Finset.range 32, scaleOf Z O W n (groupOf (y 1)) (y 1)

def matAll (y : S8x128x128.Idx) : EReal := ∑ n ∈ Finset.range 32, matOf Z O G B n (y 0) (y 1) (y 2)

def entryOf (r : Fin 512) : Fin 256 := ⟨r.val % 256, by omega⟩

def memAll (y : S512x2048.Idx) : EReal := ∑ n ∈ Finset.range 16, memOf Z O KV (16 * ((y 0).val / 256) + n) (entryOf (y 0)) (y 1)
end

variable (m : (ℓ : Loc nD τ sig) → Buf (Elt Ideal) ℓ) (c : Dev nD)

abbrev argZ : S4096x5120.Idx → EReal := m ((c : Thread nD τ).loc main_arg0)
abbrev argO : S4096x3072.Idx → EReal := m ((c : Thread nD τ).loc main_arg1)
abbrev argG : S1x2048.Idx → EReal := m ((c : Thread nD τ).loc main_arg2)
abbrev argB : S1x2048.Idx → EReal := m ((c : Thread nD τ).loc main_arg3)
abbrev argW : S8x128x128.Idx → EReal := m ((c : Thread nD τ).loc main_arg4)
abbrev argKV : S512x2048.Idx → EReal := m ((c : Thread nD τ).loc main_arg6)

theorem idx_in : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_6.index t 0 = t.val / 8 ∧ win0_6.index t 1 = 0) :=
  (by decide +kernel : ∀ t : Fin grid0.N, _)

theorem lt_points (t : Fin cfg0.N) : t.val < 16 := lt_of_lt_of_eq t.isLt N_0

theorem iblk0 (t : Fin cfg0.N) (p : Fin 256) (k : Fin 5120) : iblk m c 0 t (ValueIdx.ix2 p k) = argZ m c (ValueIdx.ix2 (Fin.ofNat 4096 (256 * t.val + p.val)) k) := by
  obtain ⟨⟨h0, h1⟩, -⟩ := idx_in t
  have ht := lt_points t
  show V m c main_arg0 _ = _
  rw [V_main_arg0]
  refine congrArg _ (funext fun a => Fin.ext ?_)
  match a with
  | ⟨0, _⟩ => show win0_0.index t 0 * 256 + 1 * p.val = (256 * t.val + p.val) % 4096; omega
  | ⟨1, _⟩ => show win0_0.index t 1 * 5120 + 1 * k.val = k.val; omega

theorem iblk1 (t : Fin cfg0.N) (p : Fin 256) (k : Fin 3072) : iblk m c 1 t (ValueIdx.ix2 p k) = argO m c (ValueIdx.ix2 (Fin.ofNat 4096 (256 * t.val + p.val)) k) := by
  obtain ⟨-, ⟨h0, h1⟩, -⟩ := idx_in t
  have ht := lt_points t
  show V m c main_arg1 _ = _
  rw [V_main_arg1]
  refine congrArg _ (funext fun a => Fin.ext ?_)
  match a with
  | ⟨0, _⟩ => show win0_1.index t 0 * 256 + 1 * p.val = (256 * t.val + p.val) % 4096; omega
  | ⟨1, _⟩ => show win0_1.index t 1 * 3072 + 1 * k.val = k.val; omega

theorem iblk2 (t : Fin cfg0.N) (k : Fin 2048) : iblk m c 2 t (ValueIdx.ix2 0 k) = argG m c (ValueIdx.ix2 0 k) := by
  obtain ⟨-, -, ⟨h0, h1⟩, -⟩ := idx_in t
  show V m c main_arg2 _ = _
  rw [V_main_arg2]
  refine congrArg _ (funext fun a => Fin.ext ?_)
  match a with
  | ⟨0, _⟩ => show win0_2.index t 0 * 1 + 1 * 0 = 0; omega
  | ⟨1, _⟩ => show win0_2.index t 1 * 2048 + 1 * k.val = k.val; omega

theorem iblk3 (t : Fin cfg0.N) (k : Fin 2048) : iblk m c 3 t (ValueIdx.ix2 0 k) = argB m c (ValueIdx.ix2 0 k) := by
  obtain ⟨-, -, -, ⟨h0, h1⟩, -⟩ := idx_in t
  show V m c main_arg3 _ = _
  rw [V_main_arg3]
  refine congrArg _ (funext fun a => Fin.ext ?_)
  match a with
  | ⟨0, _⟩ => show win0_3.index t 0 * 1 + 1 * 0 = 0; omega
  | ⟨1, _⟩ => show win0_3.index t 1 * 2048 + 1 * k.val = k.val; omega

theorem iblk4 (t : Fin cfg0.N) (g : Fin 8) (p s : Fin 128) : iblk m c 4 t (ValueIdx.ix3 g p s) = argW m c (ValueIdx.ix3 g p s) := by
  obtain ⟨-, -, -, -, ⟨h0, h1, h2⟩, -⟩ := idx_in t
  show V m c main_arg4 _ = _
  rw [V_main_arg4]
  refine congrArg _ (funext fun a => Fin.ext ?_)
  match a with
  | ⟨0, _⟩ => show win0_4.index t 0 * 8 + 1 * g.val = g.val; omega
  | ⟨1, _⟩ => show win0_4.index t 1 * 128 + 1 * p.val = p.val; omega
  | ⟨2, _⟩ => show win0_4.index t 2 * 128 + 1 * s.val = s.val; omega

theorem iblk6 (t : Fin cfg0.N) (p : Fin 256) (k : Fin 2048) : iblk m c 6 t (ValueIdx.ix2 p k) = argKV m c (ValueIdx.ix2 (Fin.ofNat 512 (256 * (t.val / 8) + p.val)) k) := by
  obtain ⟨-, -, -, -, -, ⟨h0, h1⟩⟩ := idx_in t
  have ht := lt_points t
  show V m c main_arg6 _ = _
  rw [V_main_arg6]
  refine congrArg _ (funext fun a => Fin.ext ?_)
  match a with
  | ⟨0, _⟩ => show win0_6.index t 0 * 256 + 1 * p.val = (256 * (t.val / 8) + p.val) % 512; omega
  | ⟨1, _⟩ => show win0_6.index t 1 * 2048 + 1 * k.val = k.val; omega

/-! ### A point's loads -/

section
variable (t : Fin cfg0.N) (n : ℕ) (hn : n < 2)
include hn

theorem z_at (o : ℕ) (r : Fin 128) (k : Fin 256) : zAt (iblk m c 0 t) (128 * n) o (ValueIdx.ix2 r k) = zC (argZ m c) (2 * t.val + n) o r k := by
  refine (iblk0 m c t (Fin.ofNat 256 (128 * n + r.val)) (Fin.ofNat 5120 (o + k.val))).trans (congrArg (fun p => argZ m c (ValueIdx.ix2 p _)) (congrArg (Fin.ofNat 4096) ?_))
  show 256 * t.val + (128 * n + r.val) % 256 = 128 * (2 * t.val + n) + r.val
  omega

theorem d_at (o : ℕ) (r : Fin 128) (k : Fin 256) : dAt (iblk m c 1 t) (128 * n) o (ValueIdx.ix2 r k) = dC (argO m c) (2 * t.val + n) o r k := by
  refine (iblk1 m c t (Fin.ofNat 256 (128 * n + r.val)) (Fin.ofNat 3072 (o + k.val))).trans (congrArg (fun p => argO m c (ValueIdx.ix2 p _)) (congrArg (Fin.ofNat 4096) ?_))
  show 256 * t.val + (128 * n + r.val) % 256 = 128 * (2 * t.val + n) + r.val
  omega

theorem kv_at (o : ℕ) (i k : Fin 256) : memAt (iblk m c 6 t) o (ValueIdx.ix2 i k) = kvC (argKV m c) (2 * t.val + n) o i k := by
  refine (iblk6 m c t i (Fin.ofNat 2048 (o + k.val))).trans (congrArg (fun p => argKV m c (ValueIdx.ix2 p _)) (congrArg (Fin.ofNat 512) ?_))
  omega

theorem u_at (g : Fin 8) (r : Fin 128) (k : Fin 256) : zAt (iblk m c 0 t) (128 * n) (256 * g.val) (ValueIdx.ix2 r k) = zC (argZ m c) (2 * t.val + n) 0 r (col g k) :=
  (z_at m c t n hn _ r k).trans (congrArg (fun j => argZ m c (ValueIdx.ix2 (Fin.ofNat 4096 (128 * (2 * t.val + n) + r.val)) (Fin.ofNat 5120 j))) (Nat.zero_add (256 * g.val + k.val)).symm)

theorem v_at (g : Fin 8) (r : Fin 128) (k : Fin 256) : zAt (iblk m c 0 t) (128 * n) (2048 + 256 * g.val) (ValueIdx.ix2 r k) = zC (argZ m c) (2 * t.val + n) 2048 r (col g k) :=
  (z_at m c t n hn _ r k).trans (congrArg (fun j => argZ m c (ValueIdx.ix2 _ (Fin.ofNat 5120 j))) (Nat.add_assoc _ _ _))

theorem o_at (g : Fin 8) (r : Fin 128) (k : Fin 256) : dAt (iblk m c 1 t) (128 * n) (256 * g.val) (ValueIdx.ix2 r k) = dC (argO m c) (2 * t.val + n) 0 r (col g k) :=
  (d_at m c t n hn _ r k).trans (congrArg (fun j => argO m c (ValueIdx.ix2 (Fin.ofNat 4096 (128 * (2 * t.val + n) + r.val)) (Fin.ofNat 3072 j))) (Nat.zero_add (256 * g.val + k.val)).symm)

omit hn in
theorem w_at (g : Fin 8) (p s : Fin 128) : matAt (iblk m c 4 t) g.val (ValueIdx.ix3 0 p s) = argW m c (ValueIdx.ix3 g p s) := by
  refine (iblk4 m c t (Fin.ofNat 8 g.val) p s).trans ?_
  rw [ofNat_val]

omit hn in
theorem row_at (x : Vec Ideal S1x2048 .f32) (g : Fin 8) (k : Fin 256) : rowAt x (256 * g.val) (ValueIdx.ix2 0 k) = x (ValueIdx.ix2 0 (col g k)) :=
  congrArg (fun j => x (ValueIdx.ix2 0 j)) (Fin.ext (Nat.mod_eq_of_lt (show 256 * g.val + k.val < 2048 by omega)))

theorem bias_part (g : Fin 8) (p : Fin 128) : biasP (iblk m c 0 t) (iblk m c 1 t) n g (ValueIdx.ix2 0 p) = biasOf (argZ m c) (argO m c) (2 * t.val + n) g p :=
  dBiasT_apply p (fun g => zAt (iblk m c 0 t) (128 * n) (256 * g.val)) (fun g => dAt (iblk m c 1 t) (128 * n) (256 * g.val)) _ _ g (u_at m c t n hn g) (o_at m c t n hn g) 0

omit hn in
/-- A row in eight groups, column by column. -/
theorem inRow_eq (P : Fin 8 → Row) (f : Fin 8 → Fin 2048 → EReal) (h : ∀ g k, P g (ValueIdx.ix2 0 k) = f g (col g k)) (j : Fin 2048) : inRow P j = f (groupOf j) j :=
  (h _ _).trans (congrArg (f (groupOf j)) (Fin.ext (Nat.div_add_mod j.val 256)))

theorem shift_part (j : Fin 2048) : inRow (shiftP (iblk m c 0 t) (iblk m c 1 t) (iblk m c 4 t) n) j = shiftOf (argZ m c) (argO m c) (argW m c) (2 * t.val + n) (groupOf j) j := by
  refine inRow_eq _ (shiftOf (argZ m c) (argO m c) (argW m c) (2 * t.val + n)) (fun g k => ?_) j
  refine (dShiftT_apply k (fun g => zAt (iblk m c 0 t) (128 * n) (256 * g.val)) (fun g => dAt (iblk m c 1 t) (128 * n) (256 * g.val)) _ _ g (u_at m c t n hn g) (o_at m c t n hn g) _ 0).trans ?_
  simp only [w_at]
  rfl

theorem scale_part (j : Fin 2048) : inRow (scaleP (iblk m c 0 t) (iblk m c 1 t) (iblk m c 4 t) n) j = scaleOf (argZ m c) (argO m c) (argW m c) (2 * t.val + n) (groupOf j) j := by
  refine inRow_eq _ (scaleOf (argZ m c) (argO m c) (argW m c) (2 * t.val + n)) (fun g k => ?_) j
  refine (dScaleT_apply k (fun g => zAt (iblk m c 0 t) (128 * n) (256 * g.val)) (fun g => dAt (iblk m c 1 t) (128 * n) (256 * g.val)) _ _ g (u_at m c t n hn g) (o_at m c t n hn g)
    (fun g => zAt (iblk m c 0 t) (128 * n) (2048 + 256 * g.val)) _ (v_at m c t n hn) _ 0).trans ?_
  simp only [w_at]
  rfl

theorem mat_part (g : Fin 8) (p s : Fin 128) :
    matP (iblk m c 0 t) (iblk m c 1 t) (iblk m c 2 t) (iblk m c 3 t) n g (ValueIdx.ix2 p s) = matOf (argZ m c) (argO m c) (argG m c) (argB m c) (2 * t.val + n) g p s :=
  dMatT_apply (fun g => zAt (iblk m c 0 t) (128 * n) (256 * g.val)) (fun g => dAt (iblk m c 1 t) (128 * n) (256 * g.val)) _ _ g (u_at m c t n hn g) (o_at m c t n hn g)
    (fun g => zAt (iblk m c 0 t) (128 * n) (2048 + 256 * g.val)) _ (v_at m c t n hn) (fun g => rowAt (iblk m c 2 t) (256 * g.val)) (fun g => rowAt (iblk m c 3 t) (256 * g.val)) _ _
    (fun g k => (row_at _ g k).trans (iblk2 m c t _)) (fun g k => (row_at _ g k).trans (iblk3 m c t _)) p s

theorem key_part (a : Fin 4) (i d : Fin 256) :
    keyP (iblk m c 0 t) (iblk m c 1 t) (iblk m c 6 t) n a (ValueIdx.ix2 i d) = keyOf (argZ m c) (argO m c) (argKV m c) (2 * t.val + n) a.val i d := by
  refine (dKeyT_apply _ _ _ _ i d).trans ?_
  simp only [z_at m c t n hn, d_at m c t n hn, kv_at m c t n hn]
  rfl

theorem val_part (a : Fin 4) (i d : Fin 256) :
    valP (iblk m c 0 t) (iblk m c 1 t) (iblk m c 6 t) n a (ValueIdx.ix2 i d) = valOf (argZ m c) (argO m c) (argKV m c) (2 * t.val + n) a.val i d := by
  refine (dValT_apply _ _ _ i d).trans ?_
  simp only [z_at m c t n hn, d_at m c t n hn, kv_at m c t n hn]
  rfl

theorem mem_part (i : Fin 256) (j : Fin 2048) :
    inMem (keyP (iblk m c 0 t) (iblk m c 1 t) (iblk m c 6 t) n) (valP (iblk m c 0 t) (iblk m c 1 t) (iblk m c 6 t) n) i j = memOf (argZ m c) (argO m c) (argKV m c) (2 * t.val + n) i j := by
  unfold inMem memOf
  by_cases h : j.val < 1024
  · rw [dif_pos h, if_pos h, key_part m c t n hn]
  · rw [dif_neg h, if_neg h, val_part m c t n hn]
end

/-! ### The points in order -/

abbrev Outs : Type := Vec Ideal S256x2048 .f32 × Vec Ideal S1x2048 .f32 × Vec Ideal S1x2048 .f32 × Vec Ideal S8x128x128 .f32 × Vec Ideal S8x128 .f32

/-- A point's outputs, from the arrays it adds to. -/
def step (t : Fin cfg0.N) (o : Outs) : Outs :=
  (memSum (keyP (iblk m c 0 t) (iblk m c 1 t) (iblk m c 6 t)) (valP (iblk m c 0 t) (iblk m c 1 t) (iblk m c 6 t)) o.1,
    rowSum (scaleP (iblk m c 0 t) (iblk m c 1 t) (iblk m c 4 t)) o.2.1, rowSum (shiftP (iblk m c 0 t) (iblk m c 1 t) (iblk m c 4 t)) o.2.2.1,
    matSum (matP (iblk m c 0 t) (iblk m c 1 t) (iblk m c 2 t) (iblk m c 3 t)) o.2.2.2.1, biasSum (biasP (iblk m c 0 t) (iblk m c 1 t)) o.2.2.2.2)

/-- What the point before left. -/
abbrev prev (t : Fin cfg0.N) : Outs := (outsAt0 m c (t.val - 1) (Nat.lt_of_le_of_lt (Nat.sub_le _ _) t.isLt)).2

theorem outs_A (t : Fin cfg0.N) (h0 : t.val % 8 = 0) (h1 : t.val % 16 = 0) :
    (outsAt0 m c t.val t.isLt).2 = step m c t (k0_pay6 (F := Ideal), k0_pay7 (F := Ideal), k0_pay8 (F := Ideal), k0_pay9 (F := Ideal), k0_pay10 (F := Ideal)) := by
  rw [outsAt0_A m c t h0 h1]
  dsimp only
  rw [mem_A, scale_A, shift_A, mat_A, bias_A]
  rfl

theorem outs_B (t : Fin cfg0.N) (h0 : ¬t.val % 8 = 0) (h1 : ¬t.val % 16 = 0) : (outsAt0 m c t.val t.isLt).2 = step m c t (prev m c t) := by
  rw [outsAt0_B m c t h0 h1]
  dsimp only
  rw [mem_B, scale_B, shift_B, mat_B, bias_B]
  rfl

theorem outs_C (t : Fin cfg0.N) (h0 : t.val % 8 = 0) (h1 : ¬t.val % 16 = 0) : (outsAt0 m c t.val t.isLt).2 = step m c t (k0_pay6 (F := Ideal), (prev m c t).2) := by
  rw [outsAt0_C m c t h0 h1]
  dsimp only
  rw [mem_C, scale_C, shift_C, mat_C, bias_C]
  rfl

/-- A value that starts anew every `P` points and gains two terms at each. -/
theorem chain (P : ℕ) (hP : 0 < P) (N : ℕ) (f : (n : ℕ) → n < N → EReal) (a : ℕ → EReal)
    (h0 : ∀ n h, n % P = 0 → f n h = 0 + a (2 * n) + a (2 * n + 1)) (h1 : ∀ n h, ¬(n + 1) % P = 0 → f (n + 1) h = f n (Nat.lt_of_succ_lt h) + a (2 * (n + 1)) + a (2 * (n + 1) + 1)) :
    ∀ n h, f n h = ∑ i ∈ Finset.range (2 * (n % P + 1)), a (2 * P * (n / P) + i)
  | 0, h => by
    rw [h0 0 h (Nat.zero_mod P), Nat.zero_mod, Nat.zero_div, zero_add, Finset.sum_range_succ, Finset.sum_range_one]
    rfl
  | n + 1, h => by
    by_cases hn : (n + 1) % P = 0
    · have e : 2 * P * ((n + 1) / P) = 2 * (n + 1) := by rw [Nat.mul_assoc, Nat.mul_div_cancel' (Nat.dvd_of_mod_eq_zero hn)]
      rw [h0 _ h hn, hn, e, zero_add, Finset.sum_range_succ, Finset.sum_range_one]
      rfl
    · have e1 : (n + 1) / P = n / P := by rw [Nat.succ_div, if_neg (fun d => hn (Nat.mod_eq_zero_of_dvd d))]; rfl
      have e2 : (n + 1) % P = n % P + 1 := by
        have := Nat.div_add_mod n P
        have := Nat.div_add_mod (n + 1) P
        rw [e1] at this
        omega
      have e3 : 2 * P * (n / P) + 2 * (n % P + 1) = 2 * (n + 1) := by
        have := Nat.div_add_mod n P
        rw [Nat.mul_assoc]
        omega
      rw [h1 n h hn, chain P hP N f a h0 h1 n, e1, e2, show 2 * (n % P + 1 + 1) = 2 * (n % P + 1) + 1 + 1 from rfl, Finset.sum_range_succ, Finset.sum_range_succ, ← Nat.add_assoc, e3]

theorem zero_bits : Ideal.ofBits .f32 0x00000000#32 = 0 := by simp [Ideal.ofBits, Ideal.ieee]

/-- What a point leaves, apart from the memory's gradient: from nothing at the first point, from the point before at the others. -/
theorem outs_first (t : Fin cfg0.N) (h1 : t.val % 16 = 0) :
    ∃ o : Outs, (∀ y, o.2.1 y = 0) ∧ (∀ y, o.2.2.1 y = 0) ∧ (∀ y, o.2.2.2.1 y = 0) ∧ (∀ y, o.2.2.2.2 y = 0) ∧ (outsAt0 m c t.val t.isLt).2.2 = (step m c t o).2 :=
  ⟨_, fun _ => zero_bits, fun _ => zero_bits, fun _ => zero_bits, fun _ => zero_bits, congrArg Prod.snd (outs_A m c t (by omega) h1)⟩

theorem outs_next (t : Fin cfg0.N) (h1 : ¬t.val % 16 = 0) : (outsAt0 m c t.val t.isLt).2.2 = (step m c t (prev m c t)).2 := by
  by_cases h0 : t.val % 8 = 0
  · exact (congrArg Prod.snd (outs_C m c t h0 h1)).trans rfl
  · exact congrArg Prod.snd (outs_B m c t h0 h1)

theorem mem_first (t : Fin cfg0.N) (h0 : t.val % 8 = 0) : ∃ o : Outs, (∀ y, o.1 y = 0) ∧ (outsAt0 m c t.val t.isLt).2.1 = (step m c t o).1 := by
  by_cases h1 : t.val % 16 = 0
  · exact ⟨_, fun _ => zero_bits, congrArg Prod.fst (outs_A m c t h0 h1)⟩
  · exact ⟨_, fun _ => zero_bits, congrArg Prod.fst (outs_C m c t h0 h1)⟩

theorem mem_next (t : Fin cfg0.N) (h0 : ¬t.val % 8 = 0) : (outsAt0 m c t.val t.isLt).2.1 = (step m c t (prev m c t)).1 :=
  congrArg Prod.fst (outs_B m c t h0 (by omega))

theorem mem_chain (n : ℕ) (h : n < cfg0.N) (i : Fin 256) (j : Fin 2048) :
    (outsAt0 m c n h).2.1 (ValueIdx.ix2 i j) = ∑ k ∈ Finset.range (2 * (n % 8 + 1)), memOf (argZ m c) (argO m c) (argKV m c) (16 * (n / 8) + k) i j := by
  refine chain 8 (by decide) cfg0.N (fun n h => (outsAt0 m c n h).2.1 (ValueIdx.ix2 i j)) (fun n => memOf (argZ m c) (argO m c) (argKV m c) n i j) (fun n h hn => ?_) (fun n h hn => ?_) n h
  · obtain ⟨o, e0, e⟩ := mem_first m c ⟨n, h⟩ hn
    refine (congrFun e _).trans ?_
    show o.1 (ValueIdx.ix2 i j) + inMem _ _ i j + inMem _ _ i j = _
    rw [e0, mem_part m c _ 0 (by decide), mem_part m c _ 1 (by decide)]
    rfl
  · refine (congrFun (mem_next m c ⟨n + 1, h⟩ hn) _).trans ?_
    show (prev m c ⟨n + 1, h⟩).1 (ValueIdx.ix2 i j) + inMem _ _ i j + inMem _ _ i j = _
    rw [mem_part m c _ 0 (by decide), mem_part m c _ 1 (by decide)]
    rfl

theorem scale_chain (n : ℕ) (h : n < cfg0.N) (j : Fin 2048) :
    (outsAt0 m c n h).2.2.1 (ValueIdx.ix2 0 j) = ∑ k ∈ Finset.range (2 * (n % 16 + 1)), scaleOf (argZ m c) (argO m c) (argW m c) (2 * 16 * (n / 16) + k) (groupOf j) j := by
  refine chain 16 (by decide) cfg0.N (fun n h => (outsAt0 m c n h).2.2.1 (ValueIdx.ix2 0 j)) (fun n => scaleOf (argZ m c) (argO m c) (argW m c) n (groupOf j) j) (fun n h hn => ?_) (fun n h hn => ?_) n h
  · obtain ⟨o, e0, -, -, -, e⟩ := outs_first m c ⟨n, h⟩ hn
    refine (congrFun (congrArg (·.1) e) _).trans ?_
    show o.2.1 (ValueIdx.ix2 0 j) + inRow _ j + inRow _ j = _
    rw [e0, scale_part m c _ 0 (by decide), scale_part m c _ 1 (by decide)]
    rfl
  · refine (congrFun (congrArg (·.1) (outs_next m c ⟨n + 1, h⟩ hn)) _).trans ?_
    show (prev m c ⟨n + 1, h⟩).2.1 (ValueIdx.ix2 0 j) + inRow _ j + inRow _ j = _
    rw [scale_part m c _ 0 (by decide), scale_part m c _ 1 (by decide)]
    rfl

theorem shift_chain (n : ℕ) (h : n < cfg0.N) (j : Fin 2048) :
    (outsAt0 m c n h).2.2.2.1 (ValueIdx.ix2 0 j) = ∑ k ∈ Finset.range (2 * (n % 16 + 1)), shiftOf (argZ m c) (argO m c) (argW m c) (2 * 16 * (n / 16) + k) (groupOf j) j := by
  refine chain 16 (by decide) cfg0.N (fun n h => (outsAt0 m c n h).2.2.2.1 (ValueIdx.ix2 0 j)) (fun n => shiftOf (argZ m c) (argO m c) (argW m c) n (groupOf j) j) (fun n h hn => ?_) (fun n h hn => ?_) n h
  · obtain ⟨o, -, e0, -, -, e⟩ := outs_first m c ⟨n, h⟩ hn
    refine (congrFun (congrArg (·.2.1) e) _).trans ?_
    show o.2.2.1 (ValueIdx.ix2 0 j) + inRow _ j + inRow _ j = _
    rw [e0, shift_part m c _ 0 (by decide), shift_part m c _ 1 (by decide)]
    rfl
  · refine (congrFun (congrArg (·.2.1) (outs_next m c ⟨n + 1, h⟩ hn)) _).trans ?_
    show (prev m c ⟨n + 1, h⟩).2.2.1 (ValueIdx.ix2 0 j) + inRow _ j + inRow _ j = _
    rw [shift_part m c _ 0 (by decide), shift_part m c _ 1 (by decide)]
    rfl

theorem mat_chain (n : ℕ) (h : n < cfg0.N) (g : Fin 8) (p s : Fin 128) :
    (outsAt0 m c n h).2.2.2.2.1 (ValueIdx.ix3 g p s) = ∑ k ∈ Finset.range (2 * (n % 16 + 1)), matOf (argZ m c) (argO m c) (argG m c) (argB m c) (2 * 16 * (n / 16) + k) g p s := by
  refine chain 16 (by decide) cfg0.N (fun n h => (outsAt0 m c n h).2.2.2.2.1 (ValueIdx.ix3 g p s)) (fun n => matOf (argZ m c) (argO m c) (argG m c) (argB m c) n g p s) (fun n h hn => ?_) (fun n h hn => ?_) n h
  · obtain ⟨o, -, -, e0, -, e⟩ := outs_first m c ⟨n, h⟩ hn
    refine (congrFun (congrArg (·.2.2.1) e) _).trans ?_
    show o.2.2.2.1 (ValueIdx.ix3 g p s) + matP _ _ _ _ _ g (ValueIdx.ix2 p s) + matP _ _ _ _ _ g (ValueIdx.ix2 p s) = _
    rw [e0, mat_part m c _ 0 (by decide), mat_part m c _ 1 (by decide)]
    rfl
  · refine (congrFun (congrArg (·.2.2.1) (outs_next m c ⟨n + 1, h⟩ hn)) _).trans ?_
    show (prev m c ⟨n + 1, h⟩).2.2.2.1 (ValueIdx.ix3 g p s) + matP _ _ _ _ _ g (ValueIdx.ix2 p s) + matP _ _ _ _ _ g (ValueIdx.ix2 p s) = _
    rw [mat_part m c _ 0 (by decide), mat_part m c _ 1 (by decide)]
    rfl

theorem bias_chain (n : ℕ) (h : n < cfg0.N) (g : Fin 8) (p : Fin 128) :
    (outsAt0 m c n h).2.2.2.2.2 (ValueIdx.ix2 g p) = ∑ k ∈ Finset.range (2 * (n % 16 + 1)), biasOf (argZ m c) (argO m c) (2 * 16 * (n / 16) + k) g p := by
  refine chain 16 (by decide) cfg0.N (fun n h => (outsAt0 m c n h).2.2.2.2.2 (ValueIdx.ix2 g p)) (fun n => biasOf (argZ m c) (argO m c) n g p) (fun n h hn => ?_) (fun n h hn => ?_) n h
  · obtain ⟨o, -, -, -, e0, e⟩ := outs_first m c ⟨n, h⟩ hn
    refine (congrFun (congrArg (·.2.2.2) e) _).trans ?_
    show o.2.2.2.2 (ValueIdx.ix2 g p) + biasP _ _ _ g (ValueIdx.ix2 0 p) + biasP _ _ _ g (ValueIdx.ix2 0 p) = _
    rw [e0, bias_part m c _ 0 (by decide), bias_part m c _ 1 (by decide)]
    rfl
  · refine (congrFun (congrArg (·.2.2.2) (outs_next m c ⟨n + 1, h⟩ hn)) _).trans ?_
    show (prev m c ⟨n + 1, h⟩).2.2.2.2 (ValueIdx.ix2 g p) + biasP _ _ _ g (ValueIdx.ix2 0 p) + biasP _ _ _ g (ValueIdx.ix2 0 p) = _
    rw [bias_part m c _ 0 (by decide), bias_part m c _ 1 (by decide)]
    rfl

/-! ### The final arrays -/

theorem idx_out : ∀ t : Fin cfg0.N, (win0_8.index t 0 = t.val / 8 ∧ win0_8.index t 1 = 0 ∧ (win0_8.flush t = true ↔ t.val % 8 = 7))
    ∧ (win0_9.index t 0 = 0 ∧ win0_9.index t 1 = 0 ∧ (win0_9.flush t = true ↔ t.val = 15)) ∧ (win0_10.index t 0 = 0 ∧ win0_10.index t 1 = 0 ∧ (win0_10.flush t = true ↔ t.val = 15))
    ∧ (win0_11.index t 0 = 0 ∧ win0_11.index t 1 = 0 ∧ win0_11.index t 2 = 0 ∧ (win0_11.flush t = true ↔ t.val = 15))
    ∧ (win0_12.index t 0 = 0 ∧ win0_12.index t 1 = 0 ∧ (win0_12.flush t = true ↔ t.val = 15)) :=
  (by decide +kernel : ∀ t : Fin grid0.N, _)

theorem last_lt : 15 < cfg0.N := lt_of_lt_of_eq (by decide) N_0.symm

/-- The sum after the last point runs over all chunks. -/
theorem all_chunks (a : ℕ → EReal) {n : ℕ} (h : n = 15) : ∑ k ∈ Finset.range (2 * (n % 16 + 1)), a (2 * 16 * (n / 16) + k) = ∑ k ∈ Finset.range 32, a k := by
  subst h
  exact Finset.sum_congr rfl fun k _ => congrArg a (Nat.zero_add k)

theorem final_mem : (dats m 0 c).arrAt 8 cfg0.N = memAll (argZ m c) (argO m c) (argKV m c) := by
  refine (dats m 0 c).arrAt_eq_of_cover 8 (memAll (argZ m c) (argO m c) (argKV m c)) (fun t hf => ?_) fun i => ?_
  · obtain ⟨⟨h0, h1, h2⟩, -⟩ := idx_out t
    have ht := lt_points t
    have h7 := h2.mp hf
    rw [Value.flushed8]
    funext i
    obtain ⟨p, q, rfl⟩ : ∃ (p : Fin 256) (q : Fin 2048), i = ValueIdx.ix2 p q := ⟨i 0, i 1, idx2 i⟩
    refine (mem_chain m c t.val t.isLt p q).trans ?_
    rw [h7]
    have e : memAll (argZ m c) (argO m c) (argKV m c) (ValueIdx.ix2 ⟨256 * (t.val / 8) + p.val, by omega⟩ q)
        = ∑ k ∈ Finset.range (2 * (7 + 1)), memOf (argZ m c) (argO m c) (argKV m c) (16 * (t.val / 8) + k) p q := by
      show ∑ n ∈ Finset.range 16, memOf (argZ m c) (argO m c) (argKV m c) (16 * ((256 * (t.val / 8) + p.val) / 256) + n) ⟨(256 * (t.val / 8) + p.val) % 256, by omega⟩ q = _
      have e1 : (256 * (t.val / 8) + p.val) / 256 = t.val / 8 := by omega
      have e2 : (⟨(256 * (t.val / 8) + p.val) % 256, by omega⟩ : Fin 256) = p := Fin.ext (by dsimp only; omega)
      rw [e1, e2]
    refine e.symm.trans (congrArg (memAll (argZ m c) (argO m c) (argKV m c)) (funext fun a => Fin.ext ?_))
    match a with
    | ⟨0, _⟩ => show 256 * (t.val / 8) + p.val = win0_8.index t 0 * 256 + 1 * p.val; omega
    | ⟨1, _⟩ => show q.val = win0_8.index t 1 * 2048 + 1 * q.val; omega
  · have hi0 : (i 0 : ℕ) < 512 := (i 0).isLt
    have hi1 : (i 1 : ℕ) < 2048 := (i 1).isLt
    have ht : 8 * ((i 0 : ℕ) / 256) + 7 < cfg0.N := by rw [show cfg0.N = 16 from N_0]; omega
    obtain ⟨⟨h0, h1, h2⟩, -⟩ := idx_out ⟨_, ht⟩
    dsimp only at h0
    refine ⟨⟨_, ht⟩, h2.mpr (by dsimp only; omega), ?_⟩
    show i ∈ ((View.whole main_v0_1).slice (win0_8.rect ⟨_, ht⟩)).set
    rw [View.set_slice_whole, Rect.mem_set_unit]
    intro a
    match a with
    | ⟨0, _⟩ => show win0_8.index ⟨_, ht⟩ 0 * 256 ≤ (i 0 : ℕ) ∧ (i 0 : ℕ) < win0_8.index ⟨_, ht⟩ 0 * 256 + 256; omega
    | ⟨1, _⟩ => show win0_8.index ⟨_, ht⟩ 1 * 2048 ≤ (i 1 : ℕ) ∧ (i 1 : ℕ) < win0_8.index ⟨_, ht⟩ 1 * 2048 + 2048; omega

theorem final_scale : (dats m 0 c).arrAt 9 cfg0.N = scaleAll (argZ m c) (argO m c) (argW m c) := by
  refine (dats m 0 c).arrAt_eq_of_cover 9 (scaleAll (argZ m c) (argO m c) (argW m c)) (fun t hf => ?_) fun i => ?_
  · obtain ⟨-, ⟨h0, h1, hl⟩, -⟩ := idx_out t
    rw [Value.flushed9]
    funext i
    obtain ⟨p, q, rfl⟩ : ∃ (p : Fin 1) (q : Fin 2048), i = ValueIdx.ix2 p q := ⟨i 0, i 1, idx2 i⟩
    obtain rfl : p = 0 := Subsingleton.elim _ _
    refine (scale_chain m c t.val t.isLt q).trans ((all_chunks (fun k => scaleOf (argZ m c) (argO m c) (argW m c) k (groupOf q) q) (hl.mp hf)).trans ?_)
    refine Eq.trans (b := scaleAll (argZ m c) (argO m c) (argW m c) (ValueIdx.ix2 0 q)) rfl (congrArg (scaleAll (argZ m c) (argO m c) (argW m c)) (funext fun a => Fin.ext ?_))
    match a with
    | ⟨0, _⟩ => show 0 = win0_9.index t 0 * 1 + 1 * 0; omega
    | ⟨1, _⟩ => show q.val = win0_9.index t 1 * 2048 + 1 * q.val; omega
  · have hi0 : (i 0 : ℕ) < 1 := (i 0).isLt
    have hi1 : (i 1 : ℕ) < 2048 := (i 1).isLt
    obtain ⟨-, ⟨h0, h1, hl⟩, -⟩ := idx_out ⟨15, last_lt⟩
    refine ⟨⟨15, last_lt⟩, hl.mpr rfl, ?_⟩
    show i ∈ ((View.whole main_v0_2).slice (win0_9.rect ⟨15, last_lt⟩)).set
    rw [View.set_slice_whole, Rect.mem_set_unit]
    intro a
    match a with
    | ⟨0, _⟩ => show win0_9.index ⟨15, last_lt⟩ 0 * 1 ≤ (i 0 : ℕ) ∧ (i 0 : ℕ) < win0_9.index ⟨15, last_lt⟩ 0 * 1 + 1; omega
    | ⟨1, _⟩ => show win0_9.index ⟨15, last_lt⟩ 1 * 2048 ≤ (i 1 : ℕ) ∧ (i 1 : ℕ) < win0_9.index ⟨15, last_lt⟩ 1 * 2048 + 2048; omega

theorem final_shift : (dats m 0 c).arrAt 10 cfg0.N = shiftAll (argZ m c) (argO m c) (argW m c) := by
  refine (dats m 0 c).arrAt_eq_of_cover 10 (shiftAll (argZ m c) (argO m c) (argW m c)) (fun t hf => ?_) fun i => ?_
  · obtain ⟨-, -, ⟨h0, h1, hl⟩, -⟩ := idx_out t
    rw [Value.flushed10]
    funext i
    obtain ⟨p, q, rfl⟩ : ∃ (p : Fin 1) (q : Fin 2048), i = ValueIdx.ix2 p q := ⟨i 0, i 1, idx2 i⟩
    obtain rfl : p = 0 := Subsingleton.elim _ _
    refine (shift_chain m c t.val t.isLt q).trans ((all_chunks (fun k => shiftOf (argZ m c) (argO m c) (argW m c) k (groupOf q) q) (hl.mp hf)).trans ?_)
    refine Eq.trans (b := shiftAll (argZ m c) (argO m c) (argW m c) (ValueIdx.ix2 0 q)) rfl (congrArg (shiftAll (argZ m c) (argO m c) (argW m c)) (funext fun a => Fin.ext ?_))
    match a with
    | ⟨0, _⟩ => show 0 = win0_10.index t 0 * 1 + 1 * 0; omega
    | ⟨1, _⟩ => show q.val = win0_10.index t 1 * 2048 + 1 * q.val; omega
  · have hi0 : (i 0 : ℕ) < 1 := (i 0).isLt
    have hi1 : (i 1 : ℕ) < 2048 := (i 1).isLt
    obtain ⟨-, -, ⟨h0, h1, hl⟩, -⟩ := idx_out ⟨15, last_lt⟩
    refine ⟨⟨15, last_lt⟩, hl.mpr rfl, ?_⟩
    show i ∈ ((View.whole main_v0_3).slice (win0_10.rect ⟨15, last_lt⟩)).set
    rw [View.set_slice_whole, Rect.mem_set_unit]
    intro a
    match a with
    | ⟨0, _⟩ => show win0_10.index ⟨15, last_lt⟩ 0 * 1 ≤ (i 0 : ℕ) ∧ (i 0 : ℕ) < win0_10.index ⟨15, last_lt⟩ 0 * 1 + 1; omega
    | ⟨1, _⟩ => show win0_10.index ⟨15, last_lt⟩ 1 * 2048 ≤ (i 1 : ℕ) ∧ (i 1 : ℕ) < win0_10.index ⟨15, last_lt⟩ 1 * 2048 + 2048; omega

theorem idx3 {a b d : ℕ} (i : (⟨3, ![a, b, d]⟩ : Shape).Idx) : i = ValueIdx.ix3 (i 0) (i 1) (i 2) := by
  funext k
  match k with
  | ⟨0, _⟩ => rfl
  | ⟨1, _⟩ => rfl
  | ⟨2, _⟩ => rfl

theorem final_mat : (dats m 0 c).arrAt 11 cfg0.N = matAll (argZ m c) (argO m c) (argG m c) (argB m c) := by
  refine (dats m 0 c).arrAt_eq_of_cover 11 (matAll (argZ m c) (argO m c) (argG m c) (argB m c)) (fun t hf => ?_) fun i => ?_
  · obtain ⟨-, -, -, ⟨h0, h1, h2, hl⟩, -⟩ := idx_out t
    rw [Value.flushed11]
    funext i
    obtain ⟨g, p, s, rfl⟩ : ∃ (g : Fin 8) (p : Fin 128) (s : Fin 128), i = ValueIdx.ix3 g p s := ⟨i 0, i 1, i 2, idx3 i⟩
    refine (mat_chain m c t.val t.isLt g p s).trans ((all_chunks (fun k => matOf (argZ m c) (argO m c) (argG m c) (argB m c) k g p s) (hl.mp hf)).trans ?_)
    refine Eq.trans (b := matAll (argZ m c) (argO m c) (argG m c) (argB m c) (ValueIdx.ix3 g p s)) rfl (congrArg (matAll (argZ m c) (argO m c) (argG m c) (argB m c)) (funext fun a => Fin.ext ?_))
    match a with
    | ⟨0, _⟩ => show g.val = win0_11.index t 0 * 8 + 1 * g.val; omega
    | ⟨1, _⟩ => show p.val = win0_11.index t 1 * 128 + 1 * p.val; omega
    | ⟨2, _⟩ => show s.val = win0_11.index t 2 * 128 + 1 * s.val; omega
  · have hi0 : (i 0 : ℕ) < 8 := (i 0).isLt
    have hi1 : (i 1 : ℕ) < 128 := (i 1).isLt
    have hi2 : (i 2 : ℕ) < 128 := (i 2).isLt
    obtain ⟨-, -, -, ⟨h0, h1, h2, hl⟩, -⟩ := idx_out ⟨15, last_lt⟩
    refine ⟨⟨15, last_lt⟩, hl.mpr rfl, ?_⟩
    show i ∈ ((View.whole main_v0_4).slice (win0_11.rect ⟨15, last_lt⟩)).set
    rw [View.set_slice_whole, Rect.mem_set_unit]
    intro a
    match a with
    | ⟨0, _⟩ => show win0_11.index ⟨15, last_lt⟩ 0 * 8 ≤ (i 0 : ℕ) ∧ (i 0 : ℕ) < win0_11.index ⟨15, last_lt⟩ 0 * 8 + 8; omega
    | ⟨1, _⟩ => show win0_11.index ⟨15, last_lt⟩ 1 * 128 ≤ (i 1 : ℕ) ∧ (i 1 : ℕ) < win0_11.index ⟨15, last_lt⟩ 1 * 128 + 128; omega
    | ⟨2, _⟩ => show win0_11.index ⟨15, last_lt⟩ 2 * 128 ≤ (i 2 : ℕ) ∧ (i 2 : ℕ) < win0_11.index ⟨15, last_lt⟩ 2 * 128 + 128; omega

theorem final_bias : (dats m 0 c).arrAt 12 cfg0.N = biasAll (argZ m c) (argO m c) := by
  refine (dats m 0 c).arrAt_eq_of_cover 12 (biasAll (argZ m c) (argO m c)) (fun t hf => ?_) fun i => ?_
  · obtain ⟨-, -, -, -, h0, h1, hl⟩ := idx_out t
    rw [Value.flushed12]
    funext i
    obtain ⟨p, q, rfl⟩ : ∃ (p : Fin 8) (q : Fin 128), i = ValueIdx.ix2 p q := ⟨i 0, i 1, idx2 i⟩
    refine (bias_chain m c t.val t.isLt p q).trans ((all_chunks (fun k => biasOf (argZ m c) (argO m c) k p q) (hl.mp hf)).trans ?_)
    refine Eq.trans (b := biasAll (argZ m c) (argO m c) (ValueIdx.ix2 p q)) rfl (congrArg (biasAll (argZ m c) (argO m c)) (funext fun a => Fin.ext ?_))
    match a with
    | ⟨0, _⟩ => show p.val = win0_12.index t 0 * 8 + 1 * p.val; omega
    | ⟨1, _⟩ => show q.val = win0_12.index t 1 * 128 + 1 * q.val; omega
  · have hi0 : (i 0 : ℕ) < 8 := (i 0).isLt
    have hi1 : (i 1 : ℕ) < 128 := (i 1).isLt
    obtain ⟨-, -, -, -, h0, h1, hl⟩ := idx_out ⟨15, last_lt⟩
    refine ⟨⟨15, last_lt⟩, hl.mpr rfl, ?_⟩
    show i ∈ ((View.whole main_v0_5).slice (win0_12.rect ⟨15, last_lt⟩)).set
    rw [View.set_slice_whole, Rect.mem_set_unit]
    intro a
    match a with
    | ⟨0, _⟩ => show win0_12.index ⟨15, last_lt⟩ 0 * 8 ≤ (i 0 : ℕ) ∧ (i 0 : ℕ) < win0_12.index ⟨15, last_lt⟩ 0 * 8 + 8; omega
    | ⟨1, _⟩ => show win0_12.index ⟨15, last_lt⟩ 1 * 128 ≤ (i 1 : ℕ) ∧ (i 1 : ℕ) < win0_12.index ⟨15, last_lt⟩ 1 * 128 + 128; omega

end Cert.GmlpBwd

end
-- ==== Proof.GmlpBwd.Reference.lean ====
module

public import proofs.«01_k».proof.Proof.GmlpBwd.Kernel
public import proofs.«01_k».proof.Proof.GmlpFwd.Reference
public import proofs.«01_k».proof.Proof.Gen.ReferenceIdeal.Read

@[expose] public section

set_option maxRecDepth 16384

noncomputable section

open Idealize.ShloMosaic Idealize.ShloMosaic.TcCoe Idealize.SL.Sem
open Cert.ReferenceIdeal Cert.ReferenceIdeal.Read
open Cert.GmlpFwd (vRow query key memory gelu centred inv normed lower score top expo idx2)

/-! ## The reference, entry by entry -/

namespace Cert.GmlpBwd

/-! Sums. -/

/-- A sum over the indices that `p` picks, from a list of them. -/
theorem sum_pick {ι α : Type} [Fintype ι] [Fintype α] (p : ι → Prop) [DecidablePred p] (e : α → ι) (v : ι → α) (hp : ∀ a, p (e a)) (he : ∀ i, p i → e (v i) = i) (hv : ∀ a, v (e a) = a) (x : ι → EReal) :
    ∑ i ∈ Finset.univ.filter p, x i = ∑ a, x (e a) := by
  refine Finset.sum_bij' (fun i _ => v i) (fun a _ => e a) (fun i _ => Finset.mem_univ _) (fun a _ => Finset.mem_filter.mpr ⟨Finset.mem_univ _, hp a⟩)
    (fun i hi => he i (Finset.mem_filter.mp hi).2) (fun a _ => hv a) (fun i hi => ?_)
  rw [he i (Finset.mem_filter.mp hi).2]

/-- Two sequences of sixteen chunks are thirty-two chunks. -/
theorem sum_chunks (f : ℕ → EReal) : ∑ b : Fin 2, ∑ n : Fin 16, f (16 * b.val + n.val) = ∑ n ∈ Finset.range 32, f n := by
  rw [Fin.sum_univ_two, show (32 : ℕ) = 16 + 16 from rfl, Finset.sum_range_add, Finset.sum_range, Finset.sum_range]
  simp

/-- A sequence's rows, chunk by chunk. -/
theorem sum_rows (f : Fin 2048 → EReal) : ∑ r, f r = ∑ n : Fin 16, ∑ s : Fin 128, f ⟨128 * n.val + s.val, by omega⟩ := by
  rw [← Fintype.sum_prod_type' (f := fun (n : Fin 16) (s : Fin 128) => f ⟨128 * n.val + s.val, by omega⟩)]
  refine Eq.symm (Fintype.sum_equiv (finProdFinEquiv (m := 16) (n := 128)) _ _ fun x => congrArg f (Fin.ext ?_))
  show 128 * x.1.val + x.2.val = x.2.val + 128 * x.1.val
  omega

variable (Z : FVec Ideal S4096x5120 .f32) (O : FVec Ideal S4096x3072 .f32) (G B : FVec Ideal S1x2048 .f32) (W : FVec Ideal S8x128x128 .f32) (S : FVec Ideal S8x128 .f32) (KV : FVec Ideal S512x2048 .f32)
  (b : Fin 2) (r j : Fin 2048) (a : Fin 4) (d i : Fin 256)

/-! The parts the forward pass computes too. -/

/-- The host's sum over a five-axis array's first, second and last axes. -/
theorem sum_014 (x : S2x16x128x8x256.Idx → EReal) (h : S2x16x128x8x256.ReducesTo [0, 1, 4] S128x8) (t : Fin 128) (g : Fin 8) :
    Ideal.hostReduceAdd h x 0 (ValueIdx.ix2 t g) = ∑ b : Fin 2, ∑ n : Fin 16, ∑ d : Fin 256, x (ValueIdx.ix5 b n t g d) := by
  refine Eq.trans (zero_add _) ((sum_pick _ (fun y : Fin 2 × Fin 16 × Fin 256 => ValueIdx.ix5 y.1 y.2.1 t g y.2.2) (fun i => (i 0, i 1, i 4)) ?_ ?_ ?_ x).trans ?_)
  · intro y
    funext k
    match k with
    | ⟨0, _⟩ => rfl
    | ⟨1, _⟩ => rfl
  · intro i hi
    have e0 : i 2 = t := congrFun hi 0
    have e1 : i 3 = g := congrFun hi 1
    funext k
    match k with
    | ⟨0, _⟩ => rfl
    | ⟨1, _⟩ => rfl
    | ⟨2, _⟩ => exact e0.symm
    | ⟨3, _⟩ => exact e1.symm
    | ⟨4, _⟩ => rfl
  · intro y
    rfl
  · simp only [Fintype.sum_prod_type]

/-- The same over axes of extent one. -/
theorem sum_014_one (x : S1x1x128x8x1.Idx → EReal) (h : S1x1x128x8x1.ReducesTo [0, 1, 4] S128x8) (t : Fin 128) (g : Fin 8) :
    Ideal.hostReduceAdd h x 0 (ValueIdx.ix2 t g) = x (ValueIdx.ix5 0 0 t g 0) := by
  refine Eq.trans (zero_add _) ((sum_pick _ (fun y : Unit => ValueIdx.ix5 0 0 t g 0) (fun i => ()) ?_ ?_ ?_ x).trans ?_)
  · intro y
    funext k
    match k with
    | ⟨0, _⟩ => rfl
    | ⟨1, _⟩ => rfl
  · intro i hi
    have e0 : i 2 = t := congrFun hi 0
    have e1 : i 3 = g := congrFun hi 1
    funext k
    match k with
    | ⟨0, _⟩ => exact Fin.ext (by have := (i 0).isLt; change (i 0).val < 1 at this; show 0 = (i 0).val; omega)
    | ⟨1, _⟩ => exact Fin.ext (by have := (i 1).isLt; change (i 1).val < 1 at this; show 0 = (i 1).val; omega)
    | ⟨2, _⟩ => exact e0.symm
    | ⟨3, _⟩ => exact e1.symm
    | ⟨4, _⟩ => exact Fin.ext (by have := (i 4).isLt; change (i 4).val < 1 at this; show 0 = (i 4).val; omega)
  · intro y
    rfl
  · exact Fintype.sum_unique _

/-- The host's sum over the rows of both sequences. -/
theorem sum_01 (x : S2x2048x2048.Idx → EReal) (h : S2x2048x2048.ReducesTo [0, 1] S2048) (j : Fin 2048) :
    Ideal.hostReduceAdd h x 0 (ValueIdx.ix1 j) = ∑ b : Fin 2, ∑ r : Fin 2048, x (ValueIdx.ix3 b r j) := by
  refine Eq.trans (zero_add _) ((sum_pick _ (fun y : Fin 2 × Fin 2048 => ValueIdx.ix3 y.1 y.2 j) (fun i => (i 0, i 1)) ?_ ?_ ?_ x).trans ?_)
  · intro y
    funext k
    match k with
    | ⟨0, _⟩ => rfl
  · intro i hi
    have e0 : i 2 = j := congrFun hi 0
    funext k
    match k with
    | ⟨0, _⟩ => rfl
    | ⟨1, _⟩ => rfl
    | ⟨2, _⟩ => exact e0.symm
  · intro y
    rfl
  · simp only [Fintype.sum_prod_type]

/-- The same over axes of extent one. -/
theorem sum_01_one (x : S1x1x2048.Idx → EReal) (h : S1x1x2048.ReducesTo [0, 1] S2048) (j : Fin 2048) :
    Ideal.hostReduceAdd h x 0 (ValueIdx.ix1 j) = x (ValueIdx.ix3 0 0 j) := by
  refine Eq.trans (zero_add _) ((sum_pick _ (fun y : Unit => ValueIdx.ix3 0 0 j) (fun i => ()) ?_ ?_ ?_ x).trans ?_)
  · intro y
    funext k
    match k with
    | ⟨0, _⟩ => rfl
  · intro i hi
    have e0 : i 2 = j := congrFun hi 0
    funext k
    match k with
    | ⟨0, _⟩ => exact Fin.ext (by have := (i 0).isLt; change (i 0).val < 1 at this; show 0 = (i 0).val; omega)
    | ⟨1, _⟩ => exact Fin.ext (by have := (i 1).isLt; change (i 1).val < 1 at this; show 0 = (i 1).val; omega)
    | ⟨2, _⟩ => exact e0.symm
  · intro y
    rfl
  · exact Fintype.sum_unique _

theorem same_gelu : val_main_v21 (F := Ideal) Z = Cert.Reference16Ideal.Read.val_main_v18 (F := Ideal) Z := rfl
theorem same_centred : val_main_v38 (F := Ideal) Z = Cert.Reference16Ideal.Read.val_main_v32 (F := Ideal) Z := rfl
theorem same_grouped : val_main_v58 (F := Ideal) Z G B = Cert.Reference16Ideal.Read.val_main_v49 (F := Ideal) Z G B := rfl
theorem same_lower : val_main_v62_0 (F := Ideal) W = Cert.Reference16Ideal.Read.val_main_v53 (F := Ideal) W := rfl
theorem same_query : val_main_v71 (F := Ideal) Z = Cert.Reference16Ideal.Read.val_main_v62 (F := Ideal) Z := rfl
theorem same_memory : val_main_v8 (F := Ideal) KV = Cert.Reference16Ideal.Read.val_main_v8 (F := Ideal) KV := rfl
theorem same_expo : val_main_v84 (F := Ideal) Z KV = Cert.Reference16Ideal.Read.val_main_v70 (F := Ideal) Z KV := rfl

/-! The parts of the backward pass. -/

theorem ref_o (k : Fin 3072) : val_main_v97 (F := Ideal) O (ValueIdx.ix3 b r k) = O (ValueIdx.ix2 (Fin.ofNat 4096 (2048 * b.val + r.val)) k) := by
  rw [val_main_v97_apply]
  refine congrArg O (funext fun a => Fin.ext ?_)
  match a with
  | ⟨0, _⟩ => show ((b.val * 2048 + r.val) * 3072 + k.val) / 3072 = (2048 * b.val + r.val) % 4096; omega
  | ⟨1, _⟩ => show ((b.val * 2048 + r.val) * 3072 + k.val) % 3072 = k.val; omega

theorem ref_dmix (n : Fin 16) (t : Fin 128) (g : Fin 8) :
    val_main_v126 (F := Ideal) Z O (ValueIdx.ix5 b n t g d) = dMix (zC Z (16 * b.val + n.val) 0) (dC O (16 * b.val + n.val) 0) t (col g d) := by
  rw [val_main_v126_apply]
  refine Eq.trans (b := val_main_v124 (F := Ideal) Z O (ValueIdx.ix3 b ⟨128 * n.val + t.val, by omega⟩ (col g d))) (congrArg _ (funext fun a => Fin.ext ?_)) ?_
  · match a with
    | ⟨0, _⟩ => show ((((b.val * 16 + n.val) * 128 + t.val) * 8 + g.val) * 256 + d.val) / 4194304 = b.val; omega
    | ⟨1, _⟩ => show ((((b.val * 16 + n.val) * 128 + t.val) * 8 + g.val) * 256 + d.val) / 2048 % 2048 = 128 * n.val + t.val; omega
    | ⟨2, _⟩ => show ((((b.val * 16 + n.val) * 128 + t.val) * 8 + g.val) * 256 + d.val) % 2048 = 256 * g.val + d.val; omega
  unfold val_main_v124 val_main_v98
  pointwise
  refine Eq.trans (b := val_main_v21 (F := Ideal) Z (ValueIdx.ix3 b ⟨128 * n.val + t.val, by omega⟩ (col g d)) * val_main_v97 (F := Ideal) O (ValueIdx.ix3 b ⟨128 * n.val + t.val, by omega⟩ ⟨(col g d).val, by omega⟩)) rfl ?_
  rw [ref_o, same_gelu, Cert.GmlpFwd.ref_gelu_u]
  unfold dMix zC dC
  have e : 2048 * b.val + (128 * n.val + t.val) = 128 * (16 * b.val + n.val) + t.val := by omega
  refine congrArg₂ (· * ·) (congrArg gelu (congrArg Z ?_)) (congrArg O ?_)
  · refine congrArg₂ ValueIdx.ix2 (congrArg (Fin.ofNat 4096) e) (Fin.ext ?_)
    show (col g d).val % 5120 = (0 + (col g d).val) % 5120
    omega
  · refine congrArg₂ ValueIdx.ix2 (congrArg (Fin.ofNat 4096) e) (Fin.ext ?_)
    show (col g d).val = (0 + (col g d).val) % 3072
    omega

theorem ref_bias : val_main_v130 (F := Ideal) Z O = biasAll Z O := by
  funext y
  obtain ⟨g, t, rfl⟩ : ∃ (g : Fin 8) (t : Fin 128), y = ValueIdx.ix2 g t := ⟨y 0, y 1, idx2 y⟩
  have e0 : val_main_v130 (F := Ideal) Z O (ValueIdx.ix2 g t) = val_main_v129 (F := Ideal) Z O (ValueIdx.ix2 t g) := by
    unfold val_main_v130
    pointwise
    rfl
  have e1 : val_main_v129 (F := Ideal) Z O (ValueIdx.ix2 t g) = val_main_v128 (F := Ideal) Z O (ValueIdx.ix5 0 0 t g 0) := by
    unfold val_main_v129 val_main_cst_21
    pointwise
    exact sum_014_one _ _ t g
  have e2 : val_main_v128 (F := Ideal) Z O (ValueIdx.ix5 0 0 t g 0) = val_main_v127 (F := Ideal) Z O (ValueIdx.ix2 t g) := by
    rw [val_main_v128_apply]
    refine congrArg _ (funext fun a => Fin.ext ?_)
    match a with
    | ⟨0, _⟩ => show ((((0 * 1 + 0) * 128 + t.val) * 8 + g.val) * 1 + 0) / 8 = t.val; omega
    | ⟨1, _⟩ => show ((((0 * 1 + 0) * 128 + t.val) * 8 + g.val) * 1 + 0) % 8 = g.val; omega
  have e3 : val_main_v127 (F := Ideal) Z O (ValueIdx.ix2 t g) = ∑ b : Fin 2, ∑ n : Fin 16, ∑ d : Fin 256, val_main_v126 (F := Ideal) Z O (ValueIdx.ix5 b n t g d) := by
    unfold val_main_v127 val_main_cst_20
    pointwise
    exact sum_014 _ _ t g
  rw [e0, e1, e2, e3]
  simp only [ref_dmix]
  exact sum_chunks fun n => biasOf Z O n g t

theorem ref_dnorm (n : Fin 16) (s : Fin 128) : val_main_v136 (F := Ideal) Z O W (ValueIdx.ix3 b ⟨128 * n.val + s.val, by omega⟩ j)
    = dNorm (zC Z (16 * b.val + n.val) 0) (dC O (16 * b.val + n.val) 0) (fun t s => W (ValueIdx.ix3 (groupOf j) t s)) s j := by
  rw [val_main_v136_apply]
  refine Eq.trans (b := val_main_v134 (F := Ideal) Z O W (ValueIdx.ix5 b n s (groupOf j) ⟨j.val % 256, by omega⟩)) (congrArg _ (funext fun a => Fin.ext ?_)) ?_
  · match a with
    | ⟨0, _⟩ => show ((b.val * 2048 + (128 * n.val + s.val)) * 2048 + j.val) / 4194304 = b.val; omega
    | ⟨1, _⟩ => show ((b.val * 2048 + (128 * n.val + s.val)) * 2048 + j.val) / 262144 % 16 = n.val; omega
    | ⟨2, _⟩ => show ((b.val * 2048 + (128 * n.val + s.val)) * 2048 + j.val) / 2048 % 128 = s.val; omega
    | ⟨3, _⟩ => show ((b.val * 2048 + (128 * n.val + s.val)) * 2048 + j.val) / 256 % 8 = j.val / 256; omega
    | ⟨4, _⟩ => show ((b.val * 2048 + (128 * n.val + s.val)) * 2048 + j.val) % 256 = j.val % 256; omega
  unfold val_main_v134 val_main_v133 val_main_v131
  pointwise
  refine Eq.trans (b := ∑ t : Fin 128, val_main_v126 (F := Ideal) Z O (ValueIdx.ix5 b n t (groupOf j) ⟨j.val % 256, by omega⟩) * val_main_v62_0 (F := Ideal) W (ValueIdx.ix3 (groupOf j) t s)) rfl ?_
  have ej : col (groupOf j) ⟨j.val % 256, by omega⟩ = j := Fin.ext (show 256 * (j.val / 256) + j.val % 256 = j.val by omega)
  simp only [ref_dmix, same_lower, Cert.GmlpFwd.ref_lower, ej]
  exact Finset.sum_congr rfl fun t _ => mul_comm _ _

theorem ref_shift : val_main_v188 (F := Ideal) Z O W = shiftAll Z O W := by
  funext y
  obtain ⟨u, j, rfl⟩ : ∃ (u : Fin 1) (j : Fin 2048), y = ValueIdx.ix2 u j := ⟨y 0, y 1, idx2 y⟩
  have e0 : val_main_v188 (F := Ideal) Z O W (ValueIdx.ix2 u j) = val_main_v139 (F := Ideal) Z O W (ValueIdx.ix1 j) := by
    unfold val_main_v188
    pointwise
    rfl
  have e1 : val_main_v139 (F := Ideal) Z O W (ValueIdx.ix1 j) = val_main_v138 (F := Ideal) Z O W (ValueIdx.ix3 0 0 j) := by
    unfold val_main_v139 val_main_cst_23
    pointwise
    exact sum_01_one _ _ j
  have e2 : val_main_v138 (F := Ideal) Z O W (ValueIdx.ix3 0 0 j) = val_main_v137 (F := Ideal) Z O W (ValueIdx.ix1 j) := by
    rw [val_main_v138_apply]
    refine congrArg _ (funext fun a => Fin.ext ?_)
    match a with
    | ⟨0, _⟩ => show ((0 * 1 + 0) * 2048 + j.val) = j.val; omega
  have e3 : val_main_v137 (F := Ideal) Z O W (ValueIdx.ix1 j) = ∑ b : Fin 2, ∑ r : Fin 2048, val_main_v136 (F := Ideal) Z O W (ValueIdx.ix3 b r j) := by
    unfold val_main_v137 val_main_cst_22
    pointwise
    exact sum_01 _ _ j
  rw [e0, e1, e2, e3]
  simp only [sum_rows, ref_dnorm]
  exact sum_chunks fun n => shiftOf Z O W n (groupOf j) j

/-- A row of chunk `n`, as a row of its sequence. -/
theorem row_eq (n : Fin 16) (t : Fin 128) : 2048 * b.val + (128 * n.val + t.val) = 128 * (16 * b.val + n.val) + t.val := by omega

theorem vRow_eq (n : Fin 16) (s : Fin 128) : vRow Z b ⟨128 * n.val + s.val, by omega⟩ = zC Z (16 * b.val + n.val) 2048 s := by
  funext k
  unfold vRow zC
  rw [row_eq]

theorem ref_factor : val_main_v51 (F := Ideal) Z (ValueIdx.ix3 b r j) = centred (vRow Z b r) j * inv (vRow Z b r) := by
  unfold val_main_v51 val_main_v50 val_main_v46 val_main_v45 val_main_v44 val_main_v43 val_main_v42 val_main_v41 val_main_v40 val_main_v39 val_main_cst_7 val_main_cst_8 val_main_cst_9
  pointwise
  refine Eq.trans (b := val_main_v38 (F := Ideal) Z (ValueIdx.ix3 b r j) * Ideal.rsqrt (Ideal.div (∑ k : Fin 2048, val_main_v38 (F := Ideal) Z (ValueIdx.ix3 b r k) * val_main_v38 (F := Ideal) Z (ValueIdx.ix3 b r k))
    (Ideal.ofBits .f32 0x45000000#32) + Ideal.ofBits .f32 0x358637BD#32)) rfl ?_
  simp only [same_centred, Cert.GmlpFwd.ref_centred]
  rfl

theorem ref_scale : val_main_v189 (F := Ideal) Z O W = scaleAll Z O W := by
  funext y
  obtain ⟨u, j, rfl⟩ : ∃ (u : Fin 1) (j : Fin 2048), y = ValueIdx.ix2 u j := ⟨y 0, y 1, idx2 y⟩
  have e0 : val_main_v189 (F := Ideal) Z O W (ValueIdx.ix2 u j) = val_main_v145 (F := Ideal) Z O W (ValueIdx.ix1 j) := by
    unfold val_main_v189
    pointwise
    rfl
  have e1 : val_main_v145 (F := Ideal) Z O W (ValueIdx.ix1 j) = val_main_v142 (F := Ideal) Z O W (ValueIdx.ix3 0 0 j) := by
    unfold val_main_v145 val_main_cst_25
    pointwise
    exact sum_01_one _ _ j
  have e2 : val_main_v142 (F := Ideal) Z O W (ValueIdx.ix3 0 0 j) = val_main_v141 (F := Ideal) Z O W (ValueIdx.ix1 j) := by
    rw [val_main_v142_apply]
    refine congrArg _ (funext fun a => Fin.ext ?_)
    match a with
    | ⟨0, _⟩ => show ((0 * 1 + 0) * 2048 + j.val) = j.val; omega
  have e3 : val_main_v141 (F := Ideal) Z O W (ValueIdx.ix1 j) = ∑ b : Fin 2, ∑ r : Fin 2048, val_main_v140 (F := Ideal) Z O W (ValueIdx.ix3 b r j) := by
    unfold val_main_v141 val_main_cst_24
    pointwise
    exact sum_01 _ _ j
  have e4 (b : Fin 2) (r : Fin 2048) : val_main_v140 (F := Ideal) Z O W (ValueIdx.ix3 b r j) = val_main_v51 (F := Ideal) Z (ValueIdx.ix3 b r j) * val_main_v136 (F := Ideal) Z O W (ValueIdx.ix3 b r j) := rfl
  rw [e0, e1, e2, e3]
  simp only [sum_rows, e4, ref_factor, vRow_eq, ref_dnorm]
  exact sum_chunks fun n => scaleOf Z O W n (groupOf j) j

/-- The indices of the product that sums over three axes. -/
def outerIdx : (dot_S8x2x16x256x128_S2x16x128x8x256_S8x128x128_123_014_4_2_0_3).contr.Idx ≃ Fin 2 × Fin 16 × Fin 256 where
  toFun k := (k ⟨0, by decide⟩, k ⟨1, by decide⟩, k ⟨2, by decide⟩)
  invFun p := fun a => match a with
    | ⟨0, _⟩ => p.1
    | ⟨1, _⟩ => p.2.1
    | ⟨2, _⟩ => p.2.2
  left_inv k := funext fun a => match a with
    | ⟨0, _⟩ => rfl
    | ⟨1, _⟩ => rfl
    | ⟨2, _⟩ => rfl
  right_inv p := rfl

/-- The product that sums over the sequences, the chunks and a group's columns. -/
theorem ref_outer (g : Fin 8) (t s : Fin 128) : val_main_v132 (F := Ideal) Z O G B (ValueIdx.ix3 g t s)
    = ∑ b : Fin 2, ∑ n : Fin 16, ∑ d : Fin 256, val_main_v131 (F := Ideal) Z O (ValueIdx.ix5 g b n d t) * val_main_v58 (F := Ideal) Z G B (ValueIdx.ix5 b n s g d) := by
  unfold val_main_v132
  generalize val_main_v131 (F := Ideal) Z O = x
  generalize val_main_v58 (F := Ideal) Z G B = y
  refine Eq.trans (b := ∑ k : (dot_S8x2x16x256x128_S2x16x128x8x256_S8x128x128_123_014_4_2_0_3).contr.Idx, _) (Ideal.dotGeneral_apply _ _ _ _ _ _) ?_
  refine (Fintype.sum_equiv outerIdx _ (fun p => x (ValueIdx.ix5 g p.1 p.2.1 p.2.2 t) * y (ValueIdx.ix5 p.1 p.2.1 s g p.2.2)) ?_).trans ?_
  · intro k
    refine congrArg₂ (· * ·) (congrArg x (funext fun a => ?_)) (congrArg y (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
  · simp only [Fintype.sum_prod_type]

theorem ref_grouped (n : Fin 16) (s : Fin 128) (g : Fin 8) : val_main_v58 (F := Ideal) Z G B (ValueIdx.ix5 b n s g d)
    = normed (zC Z (16 * b.val + n.val) 2048 s) (fun j => G (ValueIdx.ix2 0 j)) (fun j => B (ValueIdx.ix2 0 j)) (col g d) := by
  rw [same_grouped, Cert.GmlpFwd.ref_grouped, Cert.GmlpFwd.ref_normed, vRow_eq]
  rfl

theorem ref_mat : val_main_v135 (F := Ideal) Z O G B = matAll Z O G B := by
  funext y
  obtain ⟨g, t, s, rfl⟩ : ∃ (g : Fin 8) (t s : Fin 128), y = ValueIdx.ix3 g t s := ⟨y 0, y 1, y 2, idx3 y⟩
  have e0 (b : Fin 2) (n : Fin 16) (d : Fin 256) : val_main_v131 (F := Ideal) Z O (ValueIdx.ix5 g b n d t) = val_main_v126 (F := Ideal) Z O (ValueIdx.ix5 b n t g d) := by
    unfold val_main_v131
    pointwise
    rfl
  have e1 : val_main_v135 (F := Ideal) Z O G B (ValueIdx.ix3 g t s) = if s.val ≤ t.val then val_main_v132 (F := Ideal) Z O G B (ValueIdx.ix3 g t s) else 0 := by
    unfold val_main_v135 val_main_call2_v0 val_main_call2_cst val_main_v62_1 val_main_v61 val_main_v60 val_main_v59 val_main_call0_v5 val_main_call0_c_0 val_main_call0_v4 val_main_call0_v3 val_main_call0_v2
      val_main_call0_v1 val_main_call0_c val_main_call0_v0 val_main_c
    pointwise
    change Scalar.select (Scalar.select (IntOp.cmpi .sge (BitVec.ofNat 32 t.val + 0#32) (BitVec.ofNat 32 s.val)) 1#1 0#1) (val_main_v132 (F := Ideal) Z O G B (ValueIdx.ix3 g t s)) 0 = _
    rw [BitVec.add_zero, Cert.GmlpFwd.sge_iff]
    split_ifs with h <;> simp [Scalar.select]
  rw [e1, ref_outer]
  simp only [e0, ref_dmix, ref_grouped]
  unfold matAll matOf dMat
  by_cases h : s.val ≤ t.val
  · refine (if_pos h).trans ((sum_chunks fun n => ∑ k, dMix (zC Z n 0) (dC O n 0) t (col g k) * normed (zC Z n 2048 s) (fun j => G (ValueIdx.ix2 0 j)) (fun j => B (ValueIdx.ix2 0 j)) (col g k)).trans ?_)
    exact Finset.sum_congr rfl fun n _ => (if_pos h).symm
  · refine (if_neg h).trans (Eq.symm (Finset.sum_eq_zero fun n _ => if_neg h))

/-! The attention to the memory. -/

/-- The gradient of what a query reads. -/
abbrev oRow (k : Fin 256) : EReal := O (ValueIdx.ix2 (Fin.ofNat 4096 (2048 * b.val + r.val)) (Fin.ofNat 3072 (2048 + 256 * a.val + k.val)))

theorem ref_orow (k : Fin 256) : val_main_v101 (F := Ideal) O (ValueIdx.ix4 b a k r) = oRow O b r a k := by
  unfold val_main_v101
  pointwise
  refine Eq.trans (b := val_main_v100 (F := Ideal) O (ValueIdx.ix4 b r a k)) rfl ?_
  rw [val_main_v100_apply, val_main_v99_apply]
  refine Eq.trans (congrArg (val_main_v97 (F := Ideal) O) (funext fun x => Fin.ext ?_)) ((ref_o O b r ⟨2048 + 256 * a.val + k.val, by omega⟩).trans ?_)
  · match x with
    | ⟨0, _⟩ => show (((b.val * 2048 + r.val) * 4 + a.val) * 256 + k.val) / 2097152 = b.val; omega
    | ⟨1, _⟩ => show (((b.val * 2048 + r.val) * 4 + a.val) * 256 + k.val) / 1024 % 2048 = r.val; omega
    | ⟨2, _⟩ => show 2048 + (((b.val * 2048 + r.val) * 4 + a.val) * 256 + k.val) % 1024 = 2048 + 256 * a.val + k.val; omega
  · exact congrArg (fun k => O (ValueIdx.ix2 _ k)) (Fin.ext (Nat.mod_eq_of_lt (by omega)).symm)

theorem ref_weight : val_main_v84 (F := Ideal) Z KV (ValueIdx.ix4 b a r i) = expo (query Z b r a) (key KV b a) i := by
  rw [same_expo, Cert.GmlpFwd.ref_expo]

theorem ref_mass : val_main_v86 (F := Ideal) Z KV (ValueIdx.ix4 b a r 0) = mass (query Z b r a) (key KV b a) := by
  unfold val_main_v86 val_main_v85 val_main_cst_15
  pointwise
  refine Eq.trans (b := ∑ k : Fin 256, val_main_v84 (F := Ideal) Z KV (ValueIdx.ix4 b a r k)) rfl ?_
  simp only [ref_weight]
  rfl

theorem ref_share : val_main_v88 (F := Ideal) Z KV (ValueIdx.ix4 b a r i) = share (query Z b r a) (key KV b a) i := by
  unfold val_main_v88 val_main_v87
  pointwise
  refine Eq.trans (b := Ideal.div (val_main_v84 (F := Ideal) Z KV (ValueIdx.ix4 b a r i)) (val_main_v86 (F := Ideal) Z KV (ValueIdx.ix4 b a r 0))) rfl ?_
  rw [ref_weight, ref_mass]
  rfl

theorem ref_dshare : val_main_v102 (F := Ideal) O KV (ValueIdx.ix4 b a r i) = dShare (oRow O b r a) (memory KV b a) i := by
  unfold val_main_v102
  pointwise
  refine Eq.trans (b := ∑ k : Fin 256, val_main_v101 (F := Ideal) O (ValueIdx.ix4 b a k r) * val_main_v8 (F := Ideal) KV (ValueIdx.ix4 b i a k)) rfl ?_
  simp only [ref_orow, same_memory, Cert.GmlpFwd.ref_memory]
  rfl

theorem ref_pull : val_main_v108 (F := Ideal) Z O KV (ValueIdx.ix3 b a r) = pull (query Z b r a) (oRow O b r a) (key KV b a) (memory KV b a) := by
  unfold val_main_v108 val_main_cst_17 val_main_v107 val_main_v106 val_main_v105 val_main_v91 val_main_v90 val_main_cst_16 val_main_v89
  pointwise
  refine Eq.trans (b := ∑ k : Fin 256, val_main_v102 (F := Ideal) O KV (ValueIdx.ix4 b a r k) * Ideal.div 1 (val_main_v86 (F := Ideal) Z KV (ValueIdx.ix4 b a r 0) * val_main_v86 (F := Ideal) Z KV (ValueIdx.ix4 b a r 0))
    * val_main_v84 (F := Ideal) Z KV (ValueIdx.ix4 b a r k)) rfl ?_
  simp only [ref_weight, ref_mass, ref_dshare]
  rfl

theorem ref_unpull : val_main_v114 (F := Ideal) Z O KV (ValueIdx.ix4 b a r i) = -val_main_v108 (F := Ideal) Z O KV (ValueIdx.ix3 b a r) := by
  unfold val_main_v114 val_main_v113 val_main_cst_18 val_main_v110
  pointwise
  refine (Fintype.sum_unique _).trans (congrArg (fun x => -x) ?_)
  refine Eq.trans (b := val_main_v109 (F := Ideal) Z O KV (ValueIdx.ix4 b a r 0)) rfl ?_
  rw [val_main_v109_apply]
  refine congrArg _ (funext fun x => Fin.ext ?_)
  match x with
  | ⟨0, _⟩ => show (((b.val * 4 + a.val) * 2048 + r.val) * 1 + 0) / 8192 = b.val; omega
  | ⟨1, _⟩ => show (((b.val * 4 + a.val) * 2048 + r.val) * 1 + 0) / 2048 % 4 = a.val; omega
  | ⟨2, _⟩ => show (((b.val * 4 + a.val) * 2048 + r.val) * 1 + 0) % 2048 = r.val; omega

theorem ref_dscore : val_main_v118 (F := Ideal) Z O KV (ValueIdx.ix4 b a r i) = dScore (query Z b r a) (oRow O b r a) (key KV b a) (memory KV b a) i := by
  unfold val_main_v118 val_main_v117 val_main_cst_19 val_main_v116 val_main_v115 val_main_v112 val_main_v111
  pointwise
  refine Eq.trans (b := (Ideal.div (val_main_v102 (F := Ideal) O KV (ValueIdx.ix4 b a r i)) (val_main_v86 (F := Ideal) Z KV (ValueIdx.ix4 b a r 0)) + val_main_v114 (F := Ideal) Z O KV (ValueIdx.ix4 b a r i))
    * val_main_v84 (F := Ideal) Z KV (ValueIdx.ix4 b a r i) * Ideal.ofBits .f32 0x3D800000#32) rfl ?_
  rw [ref_unpull, ref_weight, ref_mass, ref_dshare, ref_pull]
  rfl

/-! The memory's gradient. -/

theorem query_eq (n : Fin 16) (t : Fin 128) : query Z b ⟨128 * n.val + t.val, by omega⟩ a = zC Z (16 * b.val + n.val) (4096 + 256 * a.val) t := by
  funext k
  unfold query zC
  rw [row_eq]

theorem oRow_eq (n : Fin 16) (t : Fin 128) : oRow O b ⟨128 * n.val + t.val, by omega⟩ a = dC O (16 * b.val + n.val) (2048 + 256 * a.val) t := by
  funext k
  unfold oRow dC
  rw [row_eq]

theorem seq_eq (n : Fin 16) : (16 * b.val + n.val) / 16 = b.val := by omega

theorem key_eq (n : Fin 16) : key KV b a = kvC KV (16 * b.val + n.val) (256 * a.val) := by
  funext i k
  unfold key kvC
  rw [seq_eq]

theorem memory_eq (n : Fin 16) : memory KV b a = kvC KV (16 * b.val + n.val) (1024 + 256 * a.val) := by
  funext i k
  unfold memory kvC
  rw [seq_eq]

theorem ref_dkey : val_main_v120 (F := Ideal) Z O KV (ValueIdx.ix4 b i a d) = ∑ n ∈ Finset.range 16, keyOf Z O KV (16 * b.val + n) a.val i d := by
  unfold val_main_v120 val_main_v119
  pointwise
  refine Eq.trans (b := ∑ r : Fin 2048, val_main_v118 (F := Ideal) Z O KV (ValueIdx.ix4 b a r i) * val_main_v71 (F := Ideal) Z (ValueIdx.ix4 b r a d)) rfl ?_
  simp only [ref_dscore, same_query, Cert.GmlpFwd.ref_query]
  rw [sum_rows, Finset.sum_range]
  refine Finset.sum_congr rfl fun n _ => ?_
  simp only [query_eq, oRow_eq, key_eq KV b a n, memory_eq KV b a n]
  exact Finset.sum_congr rfl fun t _ => congrArg₂ (· * ·) rfl (congrFun (query_eq Z b a n t) d)

theorem ref_dval : val_main_v104 (F := Ideal) Z O KV (ValueIdx.ix4 b i a d) = ∑ n ∈ Finset.range 16, valOf Z O KV (16 * b.val + n) a.val i d := by
  unfold val_main_v104 val_main_v103
  pointwise
  refine Eq.trans (b := ∑ r : Fin 2048, val_main_v101 (F := Ideal) O (ValueIdx.ix4 b a d r) * val_main_v88 (F := Ideal) Z KV (ValueIdx.ix4 b a r i)) rfl ?_
  simp only [ref_orow, ref_share]
  rw [sum_rows, Finset.sum_range]
  refine Finset.sum_congr rfl fun n _ => ?_
  simp only [query_eq, oRow_eq, key_eq KV b a n]
  refine Eq.trans (Finset.sum_congr rfl fun t _ => ?_) (b := dVal (zC Z (16 * b.val + n.val) (4096 + 256 * a.val)) (dC O (16 * b.val + n.val) (2048 + 256 * a.val)) (kvC KV (16 * b.val + n.val) (256 * a.val)) i d) rfl
  exact (mul_comm _ _).trans (congrArg₂ (· * ·) rfl (congrFun (oRow_eq O b a n t) d))

/-- The heads side by side. -/
theorem ref_side (q : Fin 1024) : val_main_v191 (F := Ideal) Z O KV (ValueIdx.ix3 b i q) = val_main_v120 (F := Ideal) Z O KV (ValueIdx.ix4 b i ⟨q.val / 256, by omega⟩ ⟨q.val % 256, by omega⟩)
    ∧ val_main_v190 (F := Ideal) Z O KV (ValueIdx.ix3 b i q) = val_main_v104 (F := Ideal) Z O KV (ValueIdx.ix4 b i ⟨q.val / 256, by omega⟩ ⟨q.val % 256, by omega⟩) := by
  have e : idx_main_v191 (ValueIdx.ix3 b i q) = ValueIdx.ix4 b i ⟨q.val / 256, by omega⟩ ⟨q.val % 256, by omega⟩ := by
    funext x
    refine Fin.ext ?_
    match x with
    | ⟨0, _⟩ => show ((b.val * 256 + i.val) * 1024 + q.val) / 262144 = b.val; omega
    | ⟨1, _⟩ => show ((b.val * 256 + i.val) * 1024 + q.val) / 1024 % 256 = i.val; omega
    | ⟨2, _⟩ => show ((b.val * 256 + i.val) * 1024 + q.val) / 256 % 4 = q.val / 256; omega
    | ⟨3, _⟩ => show ((b.val * 256 + i.val) * 1024 + q.val) % 256 = q.val % 256; omega
  rw [val_main_v191_apply, val_main_v190_apply]
  exact ⟨congrArg _ e, congrArg _ e⟩

theorem ref_mem : val_main_v193 (F := Ideal) Z O KV = memAll Z O KV := by
  funext y
  obtain ⟨p, q, rfl⟩ : ∃ (p : Fin 512) (q : Fin 2048), y = ValueIdx.ix2 p q := ⟨y 0, y 1, idx2 y⟩
  rw [val_main_v193_apply]
  refine Eq.trans (b := val_main_v192 (F := Ideal) Z O KV (ValueIdx.ix3 ⟨p.val / 256, by omega⟩ ⟨p.val % 256, by omega⟩ q)) (congrArg _ (funext fun x => Fin.ext ?_)) ?_
  · match x with
    | ⟨0, _⟩ => show (p.val * 2048 + q.val) / 524288 = p.val / 256; omega
    | ⟨1, _⟩ => show (p.val * 2048 + q.val) / 2048 % 256 = p.val % 256; omega
    | ⟨2, _⟩ => show (p.val * 2048 + q.val) % 2048 = q.val; omega
  unfold val_main_v192
  pointwise
  unfold memAll memOf
  by_cases h : q.val < 1024
  · refine Eq.trans (dif_pos h) (Eq.trans ?_ (Finset.sum_congr rfl fun n _ => (if_pos h).symm))
    exact ((ref_side Z O KV ⟨p.val / 256, by omega⟩ ⟨p.val % 256, by omega⟩ ⟨q.val, h⟩).1).trans (ref_dkey Z O KV _ _ _ _)
  · refine Eq.trans (dif_neg h) (Eq.trans ?_ (Finset.sum_congr rfl fun n _ => (if_neg h).symm))
    refine ((ref_side Z O KV ⟨p.val / 256, by omega⟩ ⟨p.val % 256, by omega⟩ ⟨q.val - 1024, by omega⟩).2).trans ((ref_dval Z O KV _ _ _ _).trans ?_)
    have e : (⟨(q.val - 1024) % 256, by omega⟩ : Fin 256) = ⟨q.val % 256, by omega⟩ := Fin.ext (show (q.val - 1024) % 256 = q.val % 256 by omega)
    exact Finset.sum_congr rfl fun n _ => congrArg (valOf Z O KV (16 * (p.val / 256) + n) ((q.val - 1024) / 256) ⟨p.val % 256, by omega⟩) e

end Cert.GmlpBwd

end
-- ==== Proof.GmlpBwd.lean ====
module

public import proofs.«01_k».proof.Defs
public import proofs.«01_k».proof.Proof.GmlpBwd.Reference
public import proofs.«01_k».proof.Proof.Gen.ReferenceIdeal.Run

@[expose] public section

noncomputable section

open Idealize.ShloMosaic Idealize.ShloMosaic.TcCoe Idealize.SL.Sem

/-! ## The value claim about the backward pass of spatial gating and of the attention to the memory -/

namespace Cert.GmlpBwd

theorem algebraic : Cert.algebraic_KernelIdeal_ReferenceIdeal := by
  intro m ρ m' ρ' _ hagree
  refine ⟨fun c => memAll (argZ m c) (argO m c) (argKV m c), fun c => scaleAll (argZ m c) (argO m c) (argW m c), fun c => shiftAll (argZ m c) (argO m c) (argW m c),
    fun c => matAll (argZ m c) (argO m c) (argG m c) (argB m c), fun c => biasAll (argZ m c) (argO m c), ?_, ?_⟩
  · refine (θ_run Cert.KernelIdeal.defs _ _).mono (fun _ h c => ?_) (Cert.KernelIdeal.Value.run_blocks (F := Ideal) m ρ)
    obtain ⟨-, h1, h2, h3, h4, h5, hk⟩ := h c
    exact ⟨h1.trans (final_mem m c), h2.trans (final_scale m c), h3.trans (final_shift m c), h4.trans (final_mat m c), h5.trans (final_bias m c), hk⟩
  · refine (θ_run Cert.ReferenceIdeal.defs _ _).mono (fun _ h c => ?_) (Cert.ReferenceIdeal.Value.run (F := Ideal) m' ρ')
    obtain ⟨a0, a1, a2, a3, a4, a5, a6⟩ := hagree c
    obtain ⟨h1, h2, h3, h4, h5, hk⟩ := h c
    refine ⟨h1.trans ?_, h2.trans ?_, h3.trans ?_, h4.trans ?_, h5.trans ?_, hk⟩
    · rw [Cert.ReferenceIdeal.Read.val_main_v193_eq]
      change Cert.ReferenceIdeal.Read.val_main_v193 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) = _
      rw [a0, a1, a6]
      exact ref_mem ..
    · rw [Cert.ReferenceIdeal.Read.val_main_v189_eq]
      change Cert.ReferenceIdeal.Read.val_main_v189 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) = _
      rw [a0, a1, a4]
      exact ref_scale ..
    · rw [Cert.ReferenceIdeal.Read.val_main_v188_eq]
      change Cert.ReferenceIdeal.Read.val_main_v188 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) = _
      rw [a0, a1, a4]
      exact ref_shift ..
    · rw [Cert.ReferenceIdeal.Read.val_main_v135_eq]
      change Cert.ReferenceIdeal.Read.val_main_v135 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [a0, a1, a2, a3]
      exact ref_mat ..
    · rw [Cert.ReferenceIdeal.Read.val_main_v130_eq]
      change Cert.ReferenceIdeal.Read.val_main_v130 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = _
      rw [a0, a1]
      exact ref_bias ..

end Cert.GmlpBwd

end
-- ==== Proof.MixDh.Blocks.lean ====
module

public import proofs.«01_k».proof.Proof.DhRms.Spec
public import proofs.«01_k».proof.Proof.Gen.Kernel17Ideal.Frame
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Cert.Kernel17Ideal Cert.Kernel17Ideal.Gen
open Cert.DhRms (dhRow dxRow dgTerm)

namespace Cert.MixDh

/-! ## The payloads of one block of rows -/

section Rows
variable (z : Vec Ideal S1x512x5120 .bf16) (w : Vec Ideal S1x1024x5120 .bf16) (x : Vec Ideal S512x1024 .f32) (q : Fin 1024)

theorem dx_rows (g : Vec Ideal S1x1024 .f32) (r : Vec Ideal S512x1024 .f32) (p : Fin 512) :
    k0_pay6 (k0_pay2 z w) x g r (ValueIdx.ix2 p q)
      = dxRow (fun k => x (ValueIdx.ix2 p k)) (dhRow (fun k => z (ValueIdx.ix3 0 p k)) fun j k => w (ValueIdx.ix3 0 j k))
          (fun k => g (ValueIdx.ix2 0 k)) (fun k => r (ValueIdx.ix2 p k)) q := by
  unfold_payloads
  pointwise
  rfl

theorem dg_rows (o : Vec Ideal S1x1024 .f32) :
    k0_pay1 (k0_pay5 (k0_pay2 z w) x) (k0_pay8 o) (ValueIdx.ix2 0 q)
      = o (ValueIdx.ix2 0 q) + ∑ p : Fin 512, dgTerm (fun k => x (ValueIdx.ix2 p k)) (dhRow (fun k => z (ValueIdx.ix3 0 p k)) fun j k => w (ValueIdx.ix3 0 j k)) q := by
  unfold_payloads
  pointwise
  rfl

theorem dg_start : k0_pay7 (F := Ideal) (ValueIdx.ix2 0 q) = 0 := by
  unfold_payloads
  pointwise

end Rows

/-! ## The ring of three slots the cotangent is copied through -/

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `512 t … 512 t + 511` of the cotangent, as the block of one slot. -/
def slab (t : Fin 8) (f : S4096x5120.Idx → Elt F .bf16) : Vec F S1x512x5120 .bf16 :=
  fun i => f (ValueIdx.ix2 ⟨512 * t.val + (i 1).val, by have := t.isLt; have : (i 1).val < 512 := (i 1).isLt; omega⟩ (i 2))

theorem cast_slab (x : Vec F S1x512x5120 .bf16) (p : Fin 512) (k : Fin 5120) :
    shapeCast S512x5120 x shapeCasts_S1x512x5120_S512x5120 (ValueIdx.ix2 p k) = x (ValueIdx.ix3 0 p k) := by
  pointwise
  rfl

theorem src_apply (c : Dev nD) (t : Fin 8) (f : HbBuf0 (F := F) c hbM0_0) (p : Fin 512) (k : Fin 5120) :
    View.read (Elt F) (srcB0_0 t).view f (ValueIdx.ix2 p k) = slab (F := F) t f (ValueIdx.ix3 0 p k) := by
  show f _ = f _
  congr 1
  funext a
  apply Fin.ext
  match a with
  | ⟨0, _⟩ => exact (congrArg (512 * t.val + ·) (Nat.one_mul p.val) : 512 * t.val + 1 * p.val = 512 * t.val + p.val)
  | ⟨1, _⟩ => exact ((Nat.zero_add _).trans (Nat.one_mul k.val) : 0 + 1 * k.val = k.val)

/-- A load of slot `s`, after block `t` of the cotangent has been copied into it, reads that block. -/
theorem ring_read (c : Dev nD) (s : Fin 3) (t : Fin 8) (f : HbBuf0 (F := F) c hbM0_0) (off : Fin 3 → Nat) (inb)
    (h : off = ![s.val, 0, 0]) :
    View.readAt (Elt F) (View.whole cc0_scratch0) (Rect.unit (s := S3x512x5120) off ![1, 512, 5120] inb).toLoadRect
      ((rslot0_0 s).view.writes (Elt F) (rslot0_0 s).view.junk
            [⟨Rect.whole S512x5120, ReadAs.same.apply (View.read (Elt F) (srcB0_0 t).view f)⟩])
      = slab (F := F) t f := by
  subst h
  have e := View.read_writes_whole (rslot0_0 s).view (rslot0_0 s).view.junk (ReadAs.same.apply (View.read (Elt F) (srcB0_0 t).view f))
  have at0 : ∀ p k, View.readAt (Elt F) (View.whole cc0_scratch0) (Rect.unit (s := S3x512x5120) ![s.val, 0, 0] ![1, 512, 5120] inb).toLoadRect
      ((rslot0_0 s).view.writes (Elt F) (rslot0_0 s).view.junk
            [⟨Rect.whole S512x5120, ReadAs.same.apply (View.read (Elt F) (srcB0_0 t).view f)⟩]) (ValueIdx.ix3 0 p k) = slab (F := F) t f (ValueIdx.ix3 0 p k) :=
    fun p k => (cast_slab _ p k).symm.trans ((congrFun e (ValueIdx.ix2 p k)).trans (src_apply c t f p k))
  funext i
  have hi : i = ValueIdx.ix3 0 (i 1) (i 2) := by
    funext a
    match a with
    | ⟨0, _⟩ => exact Subsingleton.elim (α := Fin 1) _ _
    | ⟨1, _⟩ => rfl
    | ⟨2, _⟩ => rfl
  rw [hi]
  exact at0 _ _

/-- The slot the body computes for point `t` is `t` modulo 3. -/
theorem slot_off : ∀ t : Fin grid0.N, k0_off7 (grid0.coords t) = ![(Fin.ofNat 3 t.val).val, 0, 0] := by decide +kernel

/-! ## What a point leaves, in each of its three cases -/

variable (c : Dev nD) (t : Fin cfg0.N) (arg2 : Memref sig .tc .vmem S1x1024x5120 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
    (x0 : Vec F S1x1024x5120 .bf16) (x1 : Vec F S512x1024 .f32) (x2 : Vec F S1x1024 .f32) (x3 : Vec F S512x1024 .f32) (xo5 : Vec F S1x1024 .f32) (fh0 : HbBuf0 (F := F) c hbM0_0)

/-- The block of `dx`, from the blocks read. -/
abbrev dxBlock : Vec F S512x1024 .f32 := k0_pay6 (k0_pay2 (slab (F := F) (Ring.bk 8 t.val) fh0) x0) x1 x2 x3

/-- The gain's gradient, from the blocks read and what it held before. -/
abbrev dgBlock (o : Vec F S1x1024 .f32) : Vec F S1x1024 .f32 := k0_pay1 (k0_pay5 (k0_pay2 (slab (F := F) (Ring.bk 8 t.val) fh0) x0) x1) (k0_pay8 o)

section First
variable (hc0 : cond0_0 (grid0.coords t)) (hc1 : cond0_1 (grid0.coords t)) (hc2 : cond0_2 (grid0.coords t))

theorem first_dx : out0_A_4 c t arg2 harg2 arg3 harg3 arg4 harg4 arg5 harg5 arg6 harg6 arg7 harg7 hc0 hc1 hc2 x0 x1 x2 x3 fh0 = dxBlock c t x0 x1 x2 x3 fh0 := by
  unfold out0_A_4
  rw [View.read_writes_eq_canon _ _ _ (cover0_A_4 c t arg2 harg2 arg3 harg3 arg4 harg4 arg5 harg5 arg6 harg6 arg7 harg7 hc0 hc1 hc2 x0 x1 x2 x3 fh0)]
  unfold kernelRun0_A
  dsimp only
  sl_unfold_words
  rw [View.canon_unit_zero hz2]
  simp only [View.readAt_eq_ld, harg2.read_unread, harg3.read_unread, harg4.read_unread, harg5.read_unread, View.ld_unit_zero (S := S512x1024) hz2, View.ld_unit_zero (S := S1x1024) hz2, View.ld_unit_zero (S := S1x1024x5120) hz3]
  exact congrArg (fun z => k0_pay6 (k0_pay2 z x0) x1 x2 x3) (ring_read c _ (Ring.bk 8 t.val) fh0 _ (k0_off7_inb _) (slot_off t))

theorem first_dg : out0_A_5 c t arg2 harg2 arg3 harg3 arg4 harg4 arg5 harg5 arg6 harg6 arg7 harg7 hc0 hc1 hc2 x0 x1 x2 x3 fh0 = dgBlock c t x0 x1 fh0 k0_pay7 := by
  unfold out0_A_5
  rw [View.read_writes_eq_canon _ _ _ (cover0_A_5 c t arg2 harg2 arg3 harg3 arg4 harg4 arg5 harg5 arg6 harg6 arg7 harg7 hc0 hc1 hc2 x0 x1 x2 x3 fh0)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, View.ld_unit_zero (S := S512x1024) hz2, View.ld_unit_zero (S := S1x1024x5120) hz3]
  exact congrArg (fun z => k0_pay1 (k0_pay5 (k0_pay2 z x0) x1) (k0_pay8 k0_pay7)) (ring_read c _ (Ring.bk 8 t.val) fh0 _ (k0_off7_inb _) (slot_off t))

end First

section Middle
variable (hc0 : ¬cond0_0 (grid0.coords t)) (hc1 : cond0_1 (grid0.coords t)) (hc2 : ¬cond0_2 (grid0.coords t))

theorem middle_dx : out0_B_4 c t arg2 harg2 arg3 harg3 arg4 harg4 arg5 harg5 arg6 harg6 arg7 harg7 hc0 hc1 hc2 x0 x1 x2 x3 xo5 fh0 = dxBlock c t x0 x1 x2 x3 fh0 := by
  unfold out0_B_4
  rw [View.read_writes_eq_canon _ _ _ (cover0_B_4 c t arg2 harg2 arg3 harg3 arg4 harg4 arg5 harg5 arg6 harg6 arg7 harg7 hc0 hc1 hc2 x0 x1 x2 x3 xo5 fh0)]
  unfold kernelRun0_B
  dsimp only
  sl_unfold_words
  rw [View.canon_unit_zero hz2]
  simp only [View.readAt_eq_ld, harg2.read_unread, harg3.read_unread, harg4.read_unread, harg5.read_unread, View.ld_unit_zero (S := S512x1024) hz2, View.ld_unit_zero (S := S1x1024) hz2, View.ld_unit_zero (S := S1x1024x5120) hz3]
  exact congrArg (fun z => k0_pay6 (k0_pay2 z x0) x1 x2 x3) (ring_read c _ (Ring.bk 8 t.val) fh0 _ (k0_off7_inb _) (slot_off t))

theorem middle_dg : out0_B_5 c t arg2 harg2 arg3 harg3 arg4 harg4 arg5 harg5 arg6 harg6 arg7 harg7 hc0 hc1 hc2 x0 x1 x2 x3 xo5 fh0 = dgBlock c t x0 x1 fh0 xo5 := by
  unfold out0_B_5
  rw [View.read_writes_eq_canon _ _ _ (cover0_B_5 c t arg2 harg2 arg3 harg3 arg4 harg4 arg5 harg5 arg6 harg6 arg7 harg7 hc0 hc1 hc2 x0 x1 x2 x3 xo5 fh0)]
  unfold kernelRun0_B
  dsimp only
  sl_unfold_words
  rw [View.canon_unit_zero hz2]
  simp only [View.readAt_eq_ld, harg2.read_unread, harg3.read_unread, harg7.read_unread, View.ld_unit_zero (S := S512x1024) hz2, View.ld_unit_zero (S := S1x1024) hz2, View.ld_unit_zero (S := S1x1024x5120) hz3]
  exact congrArg (fun z => k0_pay1 (k0_pay5 (k0_pay2 z x0) x1) (k0_pay8 xo5)) (ring_read c _ (Ring.bk 8 t.val) fh0 _ (k0_off7_inb _) (slot_off t))

end Middle

section Last
variable (hc0 : ¬cond0_0 (grid0.coords t)) (hc1 : ¬cond0_1 (grid0.coords t)) (hc2 : ¬cond0_2 (grid0.coords t))

theorem last_dx : out0_C_4 c t arg2 harg2 arg3 harg3 arg4 harg4 arg5 harg5 arg6 harg6 arg7 harg7 hc0 hc1 hc2 x0 x1 x2 x3 xo5 fh0 = dxBlock c t x0 x1 x2 x3 fh0 := by
  unfold out0_C_4
  rw [View.read_writes_eq_canon _ _ _ (cover0_C_4 c t arg2 harg2 arg3 harg3 arg4 harg4 arg5 harg5 arg6 harg6 arg7 harg7 hc0 hc1 hc2 x0 x1 x2 x3 xo5 fh0)]
  unfold kernelRun0_C
  dsimp only
  sl_unfold_words
  rw [View.canon_unit_zero hz2]
  simp only [View.readAt_eq_ld, harg2.read_unread, harg3.read_unread, harg4.read_unread, harg5.read_unread, View.ld_unit_zero (S := S512x1024) hz2, View.ld_unit_zero (S := S1x1024) hz2, View.ld_unit_zero (S := S1x1024x5120) hz3]
  exact congrArg (fun z => k0_pay6 (k0_pay2 z x0) x1 x2 x3) (ring_read c _ (Ring.bk 8 t.val) fh0 _ (k0_off7_inb _) (slot_off t))

theorem last_dg : out0_C_5 c t arg2 harg2 arg3 harg3 arg4 harg4 arg5 harg5 arg6 harg6 arg7 harg7 hc0 hc1 hc2 x0 x1 x2 x3 xo5 fh0 = dgBlock c t x0 x1 fh0 xo5 := by
  unfold out0_C_5
  rw [View.read_writes_eq_canon _ _ _ (cover0_C_5 c t arg2 harg2 arg3 harg3 arg4 harg4 arg5 harg5 arg6 harg6 arg7 harg7 hc0 hc1 hc2 x0 x1 x2 x3 xo5 fh0)]
  unfold kernelRun0_C
  dsimp only
  sl_unfold_words
  rw [View.canon_unit_zero hz2]
  simp only [View.readAt_eq_ld, harg2.read_unread, harg3.read_unread, harg7.read_unread, View.ld_unit_zero (S := S512x1024) hz2, View.ld_unit_zero (S := S1x1024) hz2, View.ld_unit_zero (S := S1x1024x5120) hz3]
  exact congrArg (fun z => k0_pay1 (k0_pay5 (k0_pay2 z x0) x1) (k0_pay8 xo5)) (ring_read c _ (Ring.bk 8 t.val) fh0 _ (k0_off7_inb _) (slot_off t))

end Last

end Cert.MixDh

end
-- ==== Proof.MixDh.Kernel.lean ====
module

public import proofs.«01_k».proof.Proof.MixDh.Blocks
public import proofs.«01_k».proof.Proof.Gen.Kernel17Ideal.Value

@[expose] public section

set_option maxRecDepth 16384

noncomputable section

open Idealize.ShloMosaic Idealize.ShloMosaic.TcCoe Idealize.SL.Sem
open Idealize.ShloMosaic.Pipeline (Dat)
open Cert.Kernel17Ideal Cert.Kernel17Ideal.Gen
open Cert.DhRms (dhRow dxRow dgTerm chain_rows)

namespace Cert.MixDh

variable (m : (ℓ : Loc nD τ sig) → Buf (Elt Ideal) ℓ) (c : Dev nD)

/-- The arguments, as functions of their indices. -/
abbrev argZ : FVec Ideal S4096x5120 .bf16 := m ((c.tc : Thread nD τ).loc main_arg0)
abbrev argW : FVec Ideal S1x1024x5120 .bf16 := m ((c.tc : Thread nD τ).loc main_arg1)
abbrev argX : FVec Ideal S4096x1024 .f32 := m ((c.tc : Thread nD τ).loc main_arg2)
abbrev argG : FVec Ideal S1x1024 .f32 := m ((c.tc : Thread nD τ).loc main_arg3)
abbrev argR : FVec Ideal S4096x1024 .f32 := m ((c.tc : Thread nD τ).loc main_arg4)

/-- Row `p`'s cotangent of the normed row. -/
def dhAt (p : Fin 4096) : Fin 1024 → EReal :=
  dhRow (fun k => argZ m c (ValueIdx.ix2 p k)) fun j k => argW m c (ValueIdx.ix3 0 j k)

/-- The gradient of the rows, with the residual's cotangent. -/
def dxAt (i : S4096x1024.Idx) : EReal :=
  dxRow (fun k => argX m c (ValueIdx.ix2 (i 0) k)) (dhAt m c (i 0)) (fun k => argG m c (ValueIdx.ix2 0 k))
    (fun k => argR m c (ValueIdx.ix2 (i 0) k)) (i 1)

/-- The gradient of the gain. -/
def dgAt (i : S1x1024.Idx) : EReal := ∑ p : Fin 4096, dgTerm (fun k => argX m c (ValueIdx.ix2 p k)) (dhAt m c p) (i 1)

/-- Row `p` of point `t`'s block is row `512 t + p` of the array. -/
def rowOf (t : Fin cfg0.N) (p : Fin 512) : Fin 4096 := ⟨512 * t.val + p.val, by have : t.val < 8 := lt_of_lt_of_eq t.isLt N_0; have := p.isLt; omega⟩

theorem idx2 {a b : ℕ} (i : (⟨2, ![a, b]⟩ : Shape).Idx) : i = ValueIdx.ix2 (i 0) (i 1) := by
  funext k
  match k with
  | ⟨0, _⟩ => rfl
  | ⟨1, _⟩ => rfl

/-! ## The blocks a point reads -/

theorem idx_facts : ∀ t : Fin cfg0.N, (win0_1.index t 0 = t.val ∧ win0_1.index t 1 = 0) ∧ (win0_3.index t 0 = t.val ∧ win0_3.index t 1 = 0)
    ∧ (win0_0.index t 0 = 0 ∧ win0_0.index t 1 = 0 ∧ win0_0.index t 2 = 0) ∧ (win0_2.index t 0 = 0 ∧ win0_2.index t 1 = 0)
    ∧ (Ring.bk 8 t.val).val = t.val :=
  (by decide +kernel : ∀ t : Fin grid0.N, _)

theorem out_facts : ∀ t : Fin cfg0.N, (win0_4.index t 0 = t.val ∧ win0_4.index t 1 = 0 ∧ win0_4.flush t = true)
    ∧ (win0_5.index t 0 = 0 ∧ win0_5.index t 1 = 0) ∧ (win0_5.flush t = true ↔ t.val = 7) :=
  (by decide +kernel : ∀ t : Fin grid0.N, _)

theorem iblk0 (t : Fin cfg0.N) (j : Fin 1024) (k : Fin 5120) : iblk m c 0 t (ValueIdx.ix3 0 j k) = argW m c (ValueIdx.ix3 0 j k) := by
  obtain ⟨-, -, ⟨h0, h1, h2⟩, -⟩ := idx_facts t
  show V m c main_arg1 _ = _
  rw [V_main_arg1]
  refine congrArg _ (funext fun a => Fin.ext ?_)
  match a with
  | ⟨0, _⟩ => show win0_0.index t 0 * 1 + 1 * 0 = 0; omega
  | ⟨1, _⟩ => show win0_0.index t 1 * 1024 + 1 * j.val = j.val; omega
  | ⟨2, _⟩ => show win0_0.index t 2 * 5120 + 1 * k.val = k.val; omega

theorem iblk1 (t : Fin cfg0.N) (p : Fin 512) (k : Fin 1024) : iblk m c 1 t (ValueIdx.ix2 p k) = argX m c (ValueIdx.ix2 (rowOf t p) k) := by
  obtain ⟨⟨h0, h1⟩, -⟩ := idx_facts t
  show V m c main_arg2 _ = _
  rw [V_main_arg2]
  refine congrArg _ (funext fun a => Fin.ext ?_)
  match a with
  | ⟨0, _⟩ => show win0_1.index t 0 * 512 + 1 * p.val = 512 * t.val + p.val; omega
  | ⟨1, _⟩ => show win0_1.index t 1 * 1024 + 1 * k.val = k.val; omega

theorem iblk2 (t : Fin cfg0.N) (k : Fin 1024) : iblk m c 2 t (ValueIdx.ix2 0 k) = argG m c (ValueIdx.ix2 0 k) := by
  obtain ⟨-, -, -, ⟨h0, h1⟩, -⟩ := idx_facts t
  show V m c main_arg3 _ = _
  rw [V_main_arg3]
  refine congrArg _ (funext fun a => Fin.ext ?_)
  match a with
  | ⟨0, _⟩ => show win0_2.index t 0 * 1 + 1 * 0 = 0; omega
  | ⟨1, _⟩ => show win0_2.index t 1 * 1024 + 1 * k.val = k.val; omega

theorem iblk3 (t : Fin cfg0.N) (p : Fin 512) (k : Fin 1024) : iblk m c 3 t (ValueIdx.ix2 p k) = argR m c (ValueIdx.ix2 (rowOf t p) k) := by
  obtain ⟨-, ⟨h0, h1⟩, -⟩ := idx_facts t
  show V m c main_arg4 _ = _
  rw [V_main_arg4]
  refine congrArg _ (funext fun a => Fin.ext ?_)
  match a with
  | ⟨0, _⟩ => show win0_3.index t 0 * 512 + 1 * p.val = 512 * t.val + p.val; omega
  | ⟨1, _⟩ => show win0_3.index t 1 * 1024 + 1 * k.val = k.val; omega

theorem slab_apply (t : Fin cfg0.N) (p : Fin 512) (k : Fin 5120) :
    slab (F := Ideal) (Ring.bk 8 t.val) (V m c main_arg0) (ValueIdx.ix3 0 p k) = argZ m c (ValueIdx.ix2 (rowOf t p) k) := by
  obtain ⟨-, -, -, -, h⟩ := idx_facts t
  rw [V_main_arg0]
  unfold slab
  refine congrArg (argZ m c) (funext fun a => Fin.ext ?_)
  match a with
  | ⟨0, _⟩ => show 512 * (Ring.bk 8 t.val).val + p.val = 512 * t.val + p.val; omega
  | ⟨1, _⟩ => rfl

/-! ## What the points leave -/

/-- Every point leaves its rows of the gradient. -/
theorem dx_block (t : Fin cfg0.N) (p : Fin 512) (q : Fin 1024) :
    (outsAt0 m c t.val t.isLt).1 (ValueIdx.ix2 p q) = dxAt m c (ValueIdx.ix2 (rowOf t p) q) := by
  have e : (outsAt0 m c t.val t.isLt).1 = dxBlock c t (iblk m c 0 t) (iblk m c 1 t) (iblk m c 2 t) (iblk m c 3 t) (V m c main_arg0) := by
    have hN : t.val < 8 := lt_of_lt_of_eq t.isLt N_0
    by_cases h0 : t.val % 8 = 0
    · rw [outsAt0_A m c t h0 (by omega) h0]; dsimp only; rw [first_dx]
    · by_cases h1 : t.val < 6
      · rw [outsAt0_B m c t h0 h1 h0]; dsimp only; rw [middle_dx]
      · rw [outsAt0_C m c t h0 h1 h0]; dsimp only; rw [last_dx]
  rw [e]
  refine (dx_rows _ _ _ q _ _ p).trans ?_
  simp only [slab_apply, iblk0, iblk1, iblk2, iblk3]
  rfl

/-- A point adds its rows' terms to the gain's gradient. -/
theorem dg_step (t : Fin cfg0.N) (o : Vec Ideal S1x1024 .f32) (q : Fin 1024) :
    dgBlock c t (iblk m c 0 t) (iblk m c 1 t) (V m c main_arg0) o (ValueIdx.ix2 0 q)
      = o (ValueIdx.ix2 0 q) + ∑ p, dgTerm (fun k => argX m c (ValueIdx.ix2 (rowOf t p) k)) (dhAt m c (rowOf t p)) q := by
  refine (dg_rows _ _ _ q o).trans ?_
  simp only [slab_apply, iblk0, iblk1]
  rfl

/-- After the last point the gain's gradient holds the terms of all rows. -/
theorem dg_last (q : Fin 1024) (h : 7 < cfg0.N) : (outsAt0 m c 7 h).2 (ValueIdx.ix2 0 q) = dgAt m c (ValueIdx.ix2 0 q) := by
  refine chain_rows N_0 (fun n h => (outsAt0 m c n h).2 (ValueIdx.ix2 0 q)) (fun p => dgTerm (fun k => argX m c (ValueIdx.ix2 p k)) (dhAt m c p) q)
    (fun n h => rowOf ⟨n, h⟩) (fun _ _ _ => rfl) (fun h => ?_) (fun n h => ?_) h
  · refine (congrArg (fun o : Vec Ideal S512x1024 .f32 × Vec Ideal S1x1024 .f32 => o.2 (ValueIdx.ix2 0 q))
      (outsAt0_A m c ⟨0, h⟩ (Nat.zero_mod 8) (Nat.succ_pos 5) (Nat.zero_mod 8))).trans ?_
    dsimp only
    rw [first_dg, dg_step, dg_start, zero_add]
  · have hN : n + 1 < 8 := lt_of_lt_of_eq h N_0
    have h0 : ¬ (⟨n + 1, h⟩ : Fin cfg0.N).val % 8 = 0 := by dsimp only; omega
    by_cases h1 : (⟨n + 1, h⟩ : Fin cfg0.N).val < 6
    · refine (congrArg (fun o : Vec Ideal S512x1024 .f32 × Vec Ideal S1x1024 .f32 => o.2 (ValueIdx.ix2 0 q)) (outsAt0_B m c ⟨n + 1, h⟩ h0 h1 h0)).trans ?_
      dsimp only
      rw [middle_dg]
      exact dg_step m c ⟨n + 1, h⟩ _ q
    · refine (congrArg (fun o : Vec Ideal S512x1024 .f32 × Vec Ideal S1x1024 .f32 => o.2 (ValueIdx.ix2 0 q)) (outsAt0_C m c ⟨n + 1, h⟩ h0 h1 h0)).trans ?_
      dsimp only
      rw [last_dg]
      exact dg_step m c ⟨n + 1, h⟩ _ q

/-! ## The arrays after the last point -/

theorem final_dx : (dats m 0 c).arrAt 4 cfg0.N = dxAt m c := by
  refine (dats m 0 c).arrAt_eq_of_cover 4 (dxAt m c) (fun t _ => ?_) fun i => ?_
  · obtain ⟨⟨h0, h1, -⟩, -⟩ := out_facts t
    rw [Value.flushed4]
    funext i
    obtain ⟨p, q, rfl⟩ : ∃ (p : Fin 512) (q : Fin 1024), i = ValueIdx.ix2 p q := ⟨i 0, i 1, idx2 i⟩
    refine (dx_block m c t p q).trans (congrArg (dxAt m c) (funext fun a => Fin.ext ?_))
    match a with
    | ⟨0, _⟩ => show 512 * t.val + p.val = win0_4.index t 0 * 512 + 1 * p.val; omega
    | ⟨1, _⟩ => show q.val = win0_4.index t 1 * 1024 + 1 * q.val; omega
  · have hi0 : (i 0 : ℕ) < 4096 := (i 0).isLt
    have hi1 : (i 1 : ℕ) < 1024 := (i 1).isLt
    have ht : (i 0 : ℕ) / 512 < cfg0.N := by rw [show cfg0.N = 8 from N_0]; omega
    obtain ⟨⟨h0, h1, hf⟩, -⟩ := out_facts ⟨_, ht⟩
    dsimp only at h0
    refine ⟨⟨_, ht⟩, hf, ?_⟩
    show i ∈ ((View.whole main_v0_0).slice (win0_4.rect ⟨_, ht⟩)).set
    rw [View.set_slice_whole, Rect.mem_set_unit]
    intro a
    match a with
    | ⟨0, _⟩ => show win0_4.index ⟨_, ht⟩ 0 * 512 ≤ (i 0 : ℕ) ∧ (i 0 : ℕ) < win0_4.index ⟨_, ht⟩ 0 * 512 + 512; omega
    | ⟨1, _⟩ => show win0_4.index ⟨_, ht⟩ 1 * 1024 ≤ (i 1 : ℕ) ∧ (i 1 : ℕ) < win0_4.index ⟨_, ht⟩ 1 * 1024 + 1024; omega

theorem final_dg : (dats m 0 c).arrAt 5 cfg0.N = dgAt m c := by
  refine (dats m 0 c).arrAt_eq_of_cover 5 (dgAt m c) (fun t hf => ?_) fun i => ?_
  · obtain ⟨-, ⟨h0, h1⟩, h7⟩ := out_facts t
    obtain rfl : t = ⟨7, (by decide : 7 < 8).trans_eq N_0.symm⟩ := Fin.ext (h7.1 hf)
    rw [Value.flushed5]
    funext i
    obtain ⟨p, q, rfl⟩ : ∃ (p : Fin 1) (q : Fin 1024), i = ValueIdx.ix2 p q := ⟨i 0, i 1, idx2 i⟩
    obtain rfl : p = 0 := Subsingleton.elim _ _
    refine (dg_last m c q _).trans (congrArg (dgAt m c) (funext fun a => Fin.ext ?_))
    match a with
    | ⟨0, _⟩ => show 0 = win0_5.index _ 0 * 1 + 1 * 0; omega
    | ⟨1, _⟩ => show q.val = win0_5.index _ 1 * 1024 + 1 * q.val; omega
  · have hi0 : (i 0 : ℕ) < 1 := (i 0).isLt
    have hi1 : (i 1 : ℕ) < 1024 := (i 1).isLt
    have ht : 7 < cfg0.N := by rw [show cfg0.N = 8 from N_0]; omega
    obtain ⟨-, ⟨h0, h1⟩, h7⟩ := out_facts ⟨7, ht⟩
    refine ⟨⟨7, ht⟩, h7.2 rfl, ?_⟩
    show i ∈ ((View.whole main_v0_1).slice (win0_5.rect ⟨7, ht⟩)).set
    rw [View.set_slice_whole, Rect.mem_set_unit]
    intro a
    match a with
    | ⟨0, _⟩ => show win0_5.index ⟨7, ht⟩ 0 * 1 ≤ (i 0 : ℕ) ∧ (i 0 : ℕ) < win0_5.index ⟨7, ht⟩ 0 * 1 + 1; omega
    | ⟨1, _⟩ => show win0_5.index ⟨7, ht⟩ 1 * 1024 ≤ (i 1 : ℕ) ∧ (i 1 : ℕ) < win0_5.index ⟨7, ht⟩ 1 * 1024 + 1024; omega

end Cert.MixDh

end
-- ==== Proof.MixDh.lean ====
module

public import proofs.«01_k».proof.Defs
public import proofs.«01_k».proof.Proof.MixDh.Kernel
public import proofs.«01_k».proof.Proof.Gen.Kernel17.Frame
public import proofs.«01_k».proof.Proof.Gen.Reference17Ideal.Run
public import proofs.«01_k».proof.Proof.Gen.Reference17Ideal.Read
public import Idealize.ShloMosaic.Lib.Quiescent

@[expose] public section

set_option maxRecDepth 16384

noncomputable section

open Idealize.ShloMosaic Idealize.ShloMosaic.TcCoe Idealize.SL.Sem
open Cert.DhRms (dhRow dxRow dgTerm)

/-! ## The claims about the backward call of the mixers' input projections -/

namespace Cert.MixDh

theorem frame_kernel : Cert.quiescent_Kernel17 := fun m ρ _ => Cert.Kernel17.Gen.frame m ρ

theorem frame_ideal : Cert.quiescent_Kernel17Ideal := fun m ρ _ => Cert.Kernel17Ideal.Gen.frame m ρ

/-- The reference leaves its arguments unchanged; it declares no semaphore. -/
theorem frame_reference : Cert.quiescent_Reference17Ideal := fun m ρ _ =>
  (θ_run Cert.Reference17Ideal.defs _ _).mono (fun r h => ⟨fun c => (h c).2.2,
      Idealize.ShloMosaic.sem_eq_zero_of_no_sems (by decide) r.2⟩)
    (Cert.Reference17Ideal.Value.run (F := Ideal) m ρ)

section
open Cert.Reference17Ideal Cert.Reference17Ideal.Read

variable (z : FVec Ideal S4096x5120 .bf16) (w : FVec Ideal S1x1024x5120 .bf16) (x : FVec Ideal S4096x1024 .f32) (g : FVec Ideal S1x1024 .f32)
  (r : FVec Ideal S4096x1024 .f32) (q : Fin 1024)

theorem ref_dx (p : Fin 4096) :
    val_main_v42 (F := Ideal) z w x g r (ValueIdx.ix2 p q)
      = dxRow (fun k => x (ValueIdx.ix2 p k)) (dhRow (fun k => z (ValueIdx.ix2 p k)) fun j k => w (ValueIdx.ix3 0 j k))
          (fun k => g (ValueIdx.ix2 0 k)) (fun k => r (ValueIdx.ix2 p k)) q := by
  unfold val_main_v42 val_main_v41 val_main_v40 val_main_v39 val_main_v38 val_main_v37 val_main_v36 val_main_v35 val_main_v34 val_main_v33 val_main_v32 val_main_v31 val_main_v30 val_main_v29 val_main_v28 val_main_v26 val_main_v25 val_main_v21 val_main_v20 val_main_v16 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  pointwise
  have e : ∀ a b c d : EReal, d + a + b + c = a + b + c + d := fun a b c d => by ac_rfl
  exact e _ _ _ _

theorem ref_dg :
    val_main_v43 (F := Ideal) z w x (ValueIdx.ix2 0 q)
      = ∑ p : Fin 4096, dgTerm (fun k => x (ValueIdx.ix2 p k)) (dhRow (fun k => z (ValueIdx.ix2 p k)) fun j k => w (ValueIdx.ix3 0 j k)) q := by
  unfold val_main_v43 val_main_v27 val_main_v24 val_main_v23 val_main_v22 val_main_v15 val_main_v14 val_main_v21 val_main_v20 val_main_v10 val_main_v9 val_main_v8 val_main_v7 val_main_v6 val_main_v5 val_main_v4 val_main_v3 val_main_v1 val_main_v0 val_main_cst val_main_cst_0 val_main_cst_1 val_main_cst_3 val_main_cst_4
  pointwise
  exact Fin.sum_univ_one _

end

theorem algebraic : Cert.algebraic_Kernel17Ideal_Reference17Ideal := by
  intro m ρ m' ρ' _ hagree
  refine ⟨fun c => dxAt m c, fun c => dgAt m c, ?_, ?_⟩
  · refine (θ_run Cert.Kernel17Ideal.defs _ _).mono (fun _ h c => ?_) (Cert.Kernel17Ideal.Value.run_blocks (F := Ideal) m ρ)
    exact ⟨(h c).1.trans (final_dx m c), (h c).2.1.trans (final_dg m c), (h c).2.2⟩
  · refine (θ_run Cert.Reference17Ideal.defs _ _).mono (fun _ h c => ?_) (Cert.Reference17Ideal.Value.run (F := Ideal) m' ρ')
    obtain ⟨a0, a1, a2, a3, a4⟩ := hagree c
    refine ⟨(h c).1.trans ?_, (h c).2.1.trans ?_, (h c).2.2⟩
    · rw [Cert.Reference17Ideal.Read.val_main_v42_eq, a0, a1, a2, a3, a4]
      funext i
      obtain ⟨p, q, rfl⟩ : ∃ (p : Fin 4096) (q : Fin 1024), i = ValueIdx.ix2 p q := ⟨i 0, i 1, idx2 i⟩
      exact ref_dx _ _ _ _ _ q p
    · rw [Cert.Reference17Ideal.Read.val_main_v43_eq, a0, a1, a2]
      funext i
      obtain ⟨p, q, rfl⟩ : ∃ (p : Fin 1) (q : Fin 1024), i = ValueIdx.ix2 p q := ⟨i 0, i 1, idx2 i⟩
      obtain rfl : p = 0 := Subsingleton.elim _ _
      exact ref_dg _ _ _ q

end Cert.MixDh

end
-- ==== Proof.MixDcatFirst.lean ====
module

public import proofs.«01_k».proof.Defs
public import proofs.«01_k».proof.Proof.MixDcat.Kernel
public import proofs.«01_k».proof.Proof.Gen.Kernel18Ideal.Value
public import proofs.«01_k».proof.Proof.Gen.Kernel18.Frame
public import proofs.«01_k».proof.Proof.Gen.Reference18Ideal.Run
public import proofs.«01_k».proof.Proof.Gen.Reference18Ideal.Read
public import Idealize.ShloMosaic.Lib.Quiescent

@[expose] public section

set_option maxRecDepth 16384

noncomputable section

open Idealize.ShloMosaic Idealize.ShloMosaic.TcCoe Idealize.SL.Sem
open Cert.MixDcat (hz2 hz3 idx2)

/-! ## The claims about the gradient of the first mixer's output projection -/

namespace Cert.MixDcatFirst

theorem frame_kernel : Cert.quiescent_Kernel18 := fun m ρ _ => Cert.Kernel18.Gen.frame m ρ

theorem frame_ideal : Cert.quiescent_Kernel18Ideal := fun m ρ _ => Cert.Kernel18Ideal.Gen.frame m ρ

/-- The reference leaves its arguments unchanged; it declares no semaphore. -/
theorem frame_reference : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

/-- An element of the gradient: a row of the cotangent times a row of the weight. -/
def dcat {n k : ℕ} (d : Fin n → Fin 1024 → EReal) (w : Fin k → Fin 1024 → EReal) (p : Fin n) (q : Fin k) : EReal := ∑ j, d p j * w q j

section Kernel
open Cert.Kernel18Ideal Cert.Kernel18Ideal.Gen

theorem block_dcat (x : Vec Ideal S2048x1024 .f32) (w : Vec Ideal S1x1024x1024 .bf16) (p : Fin 2048) (q : Fin 1024) :
    out0_2 x w (ValueIdx.ix2 p q) = dcat (fun p j => x (ValueIdx.ix2 p j)) (fun q j => w (ValueIdx.ix3 0 q j)) p q := by
  unfold out0_2
  rw [View.canon_unit_zero hz2]
  simp only [View.ld_unit_zero (S := S2048x1024) hz2, View.ld_unit_zero (S := S1x1024x1024) hz3]
  unfold_payloads
  pointwise
  rfl

variable (m : (ℓ : Loc nD τ sig) → Buf (Elt Ideal) ℓ) (c : Dev nD)

abbrev argD : FVec Ideal S4096x1024 .f32 := m ((c.tc : Thread nD τ).loc main_arg0)
abbrev argW : FVec Ideal S1x2048x1024 .bf16 := m ((c.tc : Thread nD τ).loc main_arg1)

/-- The gradient of the projection's input. -/
def dcatAt (i : S4096x2048.Idx) : EReal := dcat (fun p j => argD m c (ValueIdx.ix2 p j)) (fun q j => argW m c (ValueIdx.ix3 0 q j)) (i 0) (i 1)

theorem idx_facts : ∀ t : Fin cfg0.N, (win0_0.index t 0 = t.val / 2 ∧ win0_0.index t 1 = 0) ∧ (win0_1.index t 0 = 0 ∧ win0_1.index t 1 = t.val % 2 ∧ win0_1.index t 2 = 0)
    ∧ (win0_2.index t 0 = t.val / 2 ∧ win0_2.index t 1 = t.val % 2) ∧ win0_2.flush t = true :=
  (by decide +kernel : ∀ t : Fin grid0.N, _)

def rowOf (t : Fin cfg0.N) (p : Fin 2048) : Fin 4096 := ⟨2048 * (t.val / 2) + p.val, by have : t.val < 4 := lt_of_lt_of_eq t.isLt N_0; have := p.isLt; omega⟩
def colOf (t : Fin cfg0.N) (q : Fin 1024) : Fin 2048 := ⟨1024 * (t.val % 2) + q.val, by have := q.isLt; omega⟩

theorem iblk0 (t : Fin cfg0.N) (p : Fin 2048) (k : Fin 1024) : iblk m c 0 t (ValueIdx.ix2 p k) = argD m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 2048 + 1 * p.val = 2048 * (t.val / 2) + p.val; omega
  | ⟨1, _⟩ => show win0_0.index t 1 * 1024 + 1 * k.val = k.val; omega

theorem iblk1 (t : Fin cfg0.N) (q : Fin 1024) (j : Fin 1024) : iblk m c 1 t (ValueIdx.ix3 0 q j) = argW m c (ValueIdx.ix3 0 (colOf t q) j) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * q.val = 1024 * (t.val % 2) + q.val; omega
  | ⟨2, _⟩ => show win0_1.index t 2 * 1024 + 1 * j.val = j.val; omega

theorem final_dcat : (dats m 0 c).arrAt 2 cfg0.N = dcatAt m c := by
  refine (dats m 0 c).arrAt_eq_of_cover 2 (dcatAt m c) (fun t _ => ?_) fun i => ?_
  · obtain ⟨-, -, ⟨h0, h1⟩, -⟩ := idx_facts t
    rw [Value.flushed2]
    funext i
    obtain ⟨p, q, rfl⟩ : ∃ (p : Fin 2048) (q : Fin 1024), i = ValueIdx.ix2 p q := ⟨i 0, i 1, idx2 i⟩
    have e : out0_2 (iblk m c 0 t) (iblk m c 1 t) (ValueIdx.ix2 p q) = dcatAt m c (ValueIdx.ix2 (rowOf t p) (colOf t q)) := by
      rw [block_dcat]
      simp only [iblk0, iblk1]
      rfl
    refine e.trans (congrArg (dcatAt m c) (funext fun a => Fin.ext ?_))
    match a with
    | ⟨0, _⟩ => show 2048 * (t.val / 2) + p.val = win0_2.index t 0 * 2048 + 1 * p.val; omega
    | ⟨1, _⟩ => show 1024 * (t.val % 2) + q.val = win0_2.index t 1 * 1024 + 1 * q.val; omega
  · have hi0 : (i 0 : ℕ) < 4096 := (i 0).isLt
    have hi1 : (i 1 : ℕ) < 2048 := (i 1).isLt
    have ht : 2 * ((i 0 : ℕ) / 2048) + (i 1 : ℕ) / 1024 < cfg0.N := by rw [show cfg0.N = 4 from N_0]; omega
    obtain ⟨-, -, ⟨h0, h1⟩, hf⟩ := idx_facts ⟨_, ht⟩
    dsimp only at h0 h1
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 2048 ≤ (i 0 : ℕ) ∧ (i 0 : ℕ) < win0_2.index ⟨_, ht⟩ 0 * 2048 + 2048; omega
    | ⟨1, _⟩ => show win0_2.index ⟨_, ht⟩ 1 * 1024 ≤ (i 1 : ℕ) ∧ (i 1 : ℕ) < win0_2.index ⟨_, ht⟩ 1 * 1024 + 1024; omega

end Kernel

section Reference
open Cert.Reference18Ideal Cert.Reference18Ideal.Read

theorem ref_dcat (d : FVec Ideal S4096x1024 .f32) (w : FVec Ideal S1x2048x1024 .bf16) (p : Fin 4096) (q : Fin 2048) :
    val_main_v4 (F := Ideal) d w (ValueIdx.ix2 p q) = dcat (fun p j => d (ValueIdx.ix2 p j)) (fun q j => w (ValueIdx.ix3 0 q j)) p q := by
  unfold val_main_v4 val_main_v1 val_main_v0
  pointwise
  rfl

end Reference

theorem algebraic : Cert.algebraic_Kernel18Ideal_Reference18Ideal := by
  intro m ρ m' ρ' _ hagree
  refine ⟨fun c => dcatAt m c, ?_, ?_⟩
  · refine (θ_run Cert.Kernel18Ideal.defs _ _).mono (fun _ h c => ?_) (Cert.Kernel18Ideal.Value.run_blocks (F := Ideal) m ρ)
    exact ⟨(h c).1.trans (final_dcat m c), (h c).2⟩
  · refine (θ_run Cert.Reference18Ideal.defs _ _).mono (fun _ h c => ?_) (Cert.Reference18Ideal.Value.run (F := Ideal) m' ρ')
    obtain ⟨a0, a1⟩ := hagree c
    refine ⟨(h c).1.trans ?_, (h c).2⟩
    rw [Cert.Reference18Ideal.Read.val_main_v4_eq, a0, a1]
    funext i
    obtain ⟨p, q, rfl⟩ : ∃ (p : Fin 4096) (q : Fin 2048), i = ValueIdx.ix2 p q := ⟨i 0, i 1, idx2 i⟩
    exact ref_dcat _ _ p q

end Cert.MixDcatFirst

end
-- ==== Proof.MixOutFirst.lean ====
module

public import proofs.«01_k».proof.Defs
public import proofs.«01_k».proof.Proof.MixOut.Kernel
public import proofs.«01_k».proof.Proof.Gen.Kernel19Ideal.Value
public import proofs.«01_k».proof.Proof.Gen.Kernel19.Frame
public import proofs.«01_k».proof.Proof.Gen.Reference19Ideal.Run
public import proofs.«01_k».proof.Proof.Gen.Reference19Ideal.Read
public import Idealize.ShloMosaic.Lib.Quiescent

@[expose] public section

set_option maxRecDepth 16384

noncomputable section

open Idealize.ShloMosaic Idealize.ShloMosaic.TcCoe Idealize.SL.Sem
open Cert.MixOut (hz2 hz3 idx2 addRow normed)

/-! ## The claims about the first mixer's output projection -/

namespace Cert.MixOutFirst

theorem frame_kernel : Cert.quiescent_Kernel19 := fun m ρ _ => Cert.Kernel19.Gen.frame m ρ

theorem frame_ideal : Cert.quiescent_Kernel19Ideal := fun m ρ _ => Cert.Kernel19Ideal.Gen.frame m ρ

/-- The reference leaves its arguments unchanged; it declares no semaphore. -/
theorem frame_reference : Cert.quiescent_Reference19Ideal := fun m ρ _ =>
  (θ_run Cert.Reference19Ideal.defs _ _).mono (fun r h => ⟨fun c => (h c).2.2,
      Idealize.ShloMosaic.sem_eq_zero_of_no_sems (by decide) r.2⟩)
    (Cert.Reference19Ideal.Value.run (F := Ideal) m ρ)

section Kernel
open Cert.Kernel19Ideal Cert.Kernel19Ideal.Gen

section Blocks
variable (a : Vec Ideal S1024x2048 .bf16) (w : Vec Ideal S1x2048x1024 .bf16) (x : Vec Ideal S1024x1024 .f32) (g : Vec Ideal S1x1024 .f32) (p q : Fin 1024)

theorem block_sum : out0_4 a w x g (ValueIdx.ix2 p q)
    = addRow (fun j => a (ValueIdx.ix2 p j)) (fun j k => w (ValueIdx.ix3 0 j k)) (fun k => x (ValueIdx.ix2 p k)) q := by
  unfold out0_4
  rw [View.canon_unit_zero hz2]
  simp only [View.ld_unit_zero (S := S1024x1024) hz2, View.ld_unit_zero (S := S1024x2048) hz2, View.ld_unit_zero (S := S1x2048x1024) hz3]
  unfold_payloads
  pointwise
  rfl

theorem block_norm : out0_5 a w x g (ValueIdx.ix2 p q)
    = normed (addRow (fun j => a (ValueIdx.ix2 p j)) (fun j k => w (ValueIdx.ix3 0 j k)) fun k => x (ValueIdx.ix2 p k)) (fun k => g (ValueIdx.ix2 0 k)) q := by
  unfold out0_5
  rw [View.canon_unit_zero hz2]
  simp only [View.ld_unit_zero (S := S1024x1024) hz2, View.ld_unit_zero (S := S1024x2048) hz2, View.ld_unit_zero (S := S1x2048x1024) hz3, View.ld_unit_zero (S := S1x1024) hz2]
  unfold_payloads
  pointwise
  rfl

end Blocks

variable (m : (ℓ : Loc nD τ sig) → Buf (Elt Ideal) ℓ) (c : Dev nD)

abbrev argA : FVec Ideal S4096x2048 .bf16 := m ((c.tc : Thread nD τ).loc main_arg0)
abbrev argW : FVec Ideal S1x2048x1024 .bf16 := m ((c.tc : Thread nD τ).loc main_arg1)
abbrev argX : FVec Ideal S4096x1024 .f32 := m ((c.tc : Thread nD τ).loc main_arg2)
abbrev argG : FVec Ideal S1x1024 .f32 := m ((c.tc : Thread nD τ).loc main_arg3)

/-- A row of the new residual stream. -/
def rowAt (p : Fin 4096) : Fin 1024 → EReal :=
  addRow (fun j => argA m c (ValueIdx.ix2 p j)) (fun j k => argW m c (ValueIdx.ix3 0 j k)) fun k => argX m c (ValueIdx.ix2 p k)

def sumAt (i : S4096x1024.Idx) : EReal := rowAt m c (i 0) (i 1)
def normAt (i : S4096x1024.Idx) : EReal := normed (rowAt m c (i 0)) (fun k => argG m c (ValueIdx.ix2 0 k)) (i 1)

theorem idx_facts : ∀ t : Fin cfg0.N, (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0) :=
  (by decide +kernel : ∀ t : Fin grid0.N, _)

theorem out_facts : ∀ t : Fin cfg0.N, (win0_4.index t 0 = t.val ∧ win0_4.index t 1 = 0 ∧ win0_4.flush t = true)
    ∧ (win0_5.index t 0 = t.val ∧ win0_5.index t 1 = 0 ∧ win0_5.flush t = true) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p : Fin 1024) (k : Fin 2048) : iblk m c 0 t (ValueIdx.ix2 p k) = argA m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 2048 + 1 * k.val = k.val; omega

theorem iblk1 (t : Fin cfg0.N) (j : Fin 2048) (q : Fin 1024) : iblk m c 1 t (ValueIdx.ix3 0 j q) = argW m c (ValueIdx.ix3 0 j q) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 2048 + 1 * j.val = j.val; omega
  | ⟨2, _⟩ => show win0_1.index t 2 * 1024 + 1 * q.val = q.val; omega

theorem iblk2 (t : Fin cfg0.N) (p k : Fin 1024) : iblk m c 2 t (ValueIdx.ix2 p k) = argX m c (ValueIdx.ix2 (rowOf t p) k) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 1024 + 1 * p.val = 1024 * t.val + p.val; omega
  | ⟨1, _⟩ => show win0_2.index t 1 * 1024 + 1 * k.val = k.val; omega

theorem iblk3 (t : Fin cfg0.N) (k : Fin 1024) : iblk m c 3 t (ValueIdx.ix2 0 k) = argG m c (ValueIdx.ix2 0 k) := by
  obtain ⟨-, -, -, h0, h1⟩ := idx_facts t
  show V m c main_arg3 _ = _
  rw [V_main_arg3]
  refine congrArg _ (funext fun a => Fin.ext ?_)
  match a with
  | ⟨0, _⟩ => show win0_3.index t 0 * 1 + 1 * 0 = 0; omega
  | ⟨1, _⟩ => show win0_3.index t 1 * 1024 + 1 * k.val = k.val; omega

/-- A row block's place in an array of 4096 rows. -/
theorem row_emb (f : S4096x1024.Idx → EReal) (t : Fin cfg0.N) (p q : Fin 1024) (i : S4096x1024.Idx) (n0 n1 : ℕ) (h0 : n0 = t.val) (h1 : n1 = 0)
    (e0 : (i 0).val = n0 * 1024 + 1 * p.val) (e1 : (i 1).val = n1 * 1024 + 1 * q.val) : f (ValueIdx.ix2 (rowOf t p) q) = f i := by
  refine congrArg f (funext fun a => Fin.ext ?_)
  match a with
  | ⟨0, _⟩ => show 1024 * t.val + p.val = (i 0).val; omega
  | ⟨1, _⟩ => show q.val = (i 1).val; omega

theorem row_point (i : S4096x1024.Idx) : ∃ t : Fin cfg0.N, 1024 * t.val ≤ (i 0).val ∧ (i 0).val < 1024 * t.val + 1024 ∧ (i 1).val < 1024 := by
  have hi0 : (i 0 : ℕ) < 4096 := (i 0).isLt
  have hi1 : (i 1 : ℕ) < 1024 := (i 1).isLt
  refine ⟨⟨(i 0 : ℕ) / 1024, by rw [show cfg0.N = 4 from N_0]; omega⟩, ?_⟩
  dsimp only
  omega

theorem final_sum : (dats m 0 c).arrAt 4 cfg0.N = sumAt m c := by
  refine (dats m 0 c).arrAt_eq_of_cover 4 (sumAt m c) (fun t _ => ?_) fun i => ?_
  · rw [Value.flushed4]
    funext i
    obtain ⟨p, q, rfl⟩ : ∃ p q : Fin 1024, i = ValueIdx.ix2 p q := ⟨i 0, i 1, idx2 i⟩
    refine (block_sum _ _ _ _ p q).trans (.trans ?_ (row_emb (sumAt m c) t p q _ _ _ (out_facts t).1.1 (out_facts t).1.2.1 rfl rfl))
    simp only [iblk0, iblk1, iblk2]
    rfl
  · obtain ⟨t, h⟩ := row_point i
    obtain ⟨⟨h0, h1, hf⟩, -⟩ := out_facts t
    refine ⟨t, hf, ?_⟩
    show i ∈ ((View.whole main_v0_0).slice (win0_4.rect t)).set
    rw [View.set_slice_whole, Rect.mem_set_unit]
    intro a
    match a with
    | ⟨0, _⟩ => show win0_4.index t 0 * 1024 ≤ (i 0 : ℕ) ∧ (i 0 : ℕ) < win0_4.index t 0 * 1024 + 1024; omega
    | ⟨1, _⟩ => show win0_4.index t 1 * 1024 ≤ (i 1 : ℕ) ∧ (i 1 : ℕ) < win0_4.index t 1 * 1024 + 1024; omega

theorem final_norm : (dats m 0 c).arrAt 5 cfg0.N = normAt m c := by
  refine (dats m 0 c).arrAt_eq_of_cover 5 (normAt m c) (fun t _ => ?_) fun i => ?_
  · rw [Value.flushed5]
    funext i
    obtain ⟨p, q, rfl⟩ : ∃ p q : Fin 1024, i = ValueIdx.ix2 p q := ⟨i 0, i 1, idx2 i⟩
    refine (block_norm _ _ _ _ p q).trans (.trans ?_ (row_emb (normAt m c) t p q _ _ _ (out_facts t).2.1 (out_facts t).2.2.1 rfl rfl))
    simp only [iblk0, iblk1, iblk2, iblk3]
    rfl
  · obtain ⟨t, h⟩ := row_point i
    obtain ⟨-, h0, h1, hf⟩ := out_facts t
    refine ⟨t, hf, ?_⟩
    show i ∈ ((View.whole main_v0_1).slice (win0_5.rect t)).set
    rw [View.set_slice_whole, Rect.mem_set_unit]
    intro a
    match a with
    | ⟨0, _⟩ => show win0_5.index t 0 * 1024 ≤ (i 0 : ℕ) ∧ (i 0 : ℕ) < win0_5.index t 0 * 1024 + 1024; omega
    | ⟨1, _⟩ => show win0_5.index t 1 * 1024 ≤ (i 1 : ℕ) ∧ (i 1 : ℕ) < win0_5.index t 1 * 1024 + 1024; omega

end Kernel

section Reference
open Cert.Reference19Ideal Cert.Reference19Ideal.Read

variable (a : FVec Ideal S4096x2048 .bf16) (w : FVec Ideal S1x2048x1024 .bf16) (x : FVec Ideal S4096x1024 .f32) (g : FVec Ideal S1x1024 .f32) (p : Fin 4096) (q : Fin 1024)

theorem ref_sum : val_main_v4 (F := Ideal) a w x (ValueIdx.ix2 p q)
    = addRow (fun j => a (ValueIdx.ix2 p j)) (fun j k => w (ValueIdx.ix3 0 j k)) (fun k => x (ValueIdx.ix2 p k)) q := by
  unfold val_main_v4 val_main_v3 val_main_v2 val_main_v1 val_main_v0
  pointwise
  rfl

theorem ref_norm : val_main_v19 (F := Ideal) a w x g (ValueIdx.ix2 p q)
    = normed (addRow (fun j => a (ValueIdx.ix2 p j)) (fun j k => w (ValueIdx.ix3 0 j k)) fun k => x (ValueIdx.ix2 p k)) (fun k => g (ValueIdx.ix2 0 k)) q := by
  unfold val_main_v19 val_main_v18 val_main_v17 val_main_v16 val_main_v15 val_main_v14 val_main_v13 val_main_v12 val_main_v11 val_main_cst_1 val_main_v10 val_main_v9 val_main_cst_0 val_main_v8 val_main_v7 val_main_cst val_main_v6 val_main_v5
  pointwise
  unfold normed
  simp only [← ref_sum]
  rfl

end Reference

theorem algebraic : Cert.algebraic_Kernel19Ideal_Reference19Ideal := by
  intro m ρ m' ρ' _ hagree
  refine ⟨fun c => sumAt m c, fun c => normAt m c, ?_, ?_⟩
  · refine (θ_run Cert.Kernel19Ideal.defs _ _).mono (fun _ h c => ?_) (Cert.Kernel19Ideal.Value.run_blocks (F := Ideal) m ρ)
    exact ⟨(h c).1.trans (final_sum m c), (h c).2.1.trans (final_norm m c), (h c).2.2⟩
  · refine (θ_run Cert.Reference19Ideal.defs _ _).mono (fun _ h c => ?_) (Cert.Reference19Ideal.Value.run (F := Ideal) m' ρ')
    obtain ⟨a0, a1, a2, a3⟩ := hagree c
    refine ⟨(h c).1.trans ?_, (h c).2.1.trans ?_, (h c).2.2⟩
    · rw [Cert.Reference19Ideal.Read.val_main_v4_eq, a0, a1, a2]
      funext i
      obtain ⟨p, q, rfl⟩ : ∃ (p : Fin 4096) (q : Fin 1024), i = ValueIdx.ix2 p q := ⟨i 0, i 1, idx2 i⟩
      exact ref_sum _ _ _ p q
    · rw [Cert.Reference19Ideal.Read.val_main_v19_eq, a0, a1, a2, a3]
      funext i
      obtain ⟨p, q, rfl⟩ : ∃ (p : Fin 4096) (q : Fin 1024), i = ValueIdx.ix2 p q := ⟨i 0, i 1, idx2 i⟩
      exact ref_norm _ _ _ _ p q

end Cert.MixOutFirst

end
-- ==== Proof.LossHead.lean ====
module

public import proofs.«01_k».proof.Defs
public import proofs.«01_k».proof.Proof.DhRms.Spec
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Cert.DhRms (meanSq normGrad dgTerm chain_blocks)

/-! ## The claims about the loss head -/

namespace Cert.LossHead

theorem frame_kernel : Cert.quiescent_Kernel20 := fun m ρ _ => Cert.Kernel20.Gen.frame m ρ

theorem frame_ideal : Cert.quiescent_Kernel20Ideal := fun m ρ _ => Cert.Kernel20Ideal.Gen.frame m ρ

/-- The reference leaves its arguments unchanged; it declares no semaphore. -/
theorem frame_reference : Cert.quiescent_Reference20Ideal := fun m ρ _ =>
  (θ_run Cert.Reference20Ideal.defs _ _).mono (fun r h => ⟨fun c => (h c).2.2.2,
      Idealize.ShloMosaic.sem_eq_zero_of_no_sems (by decide) r.2⟩)
    (Cert.Reference20Ideal.Value.run (F := Ideal) m ρ)

theorem hz2 : (![0, 0] : Fin 2 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

/-! ## The loss and its gradient, one row at a time, over the extended reals -/

/-- The normed row minus its target. -/
def errRow (x t g : Fin 1024 → EReal) (q : Fin 1024) : EReal := x q * Ideal.rsqrt (meanSq x) * g q - t q

/-- The row's mean squared error. -/
def meanErr (x t g : Fin 1024 → EReal) : EReal :=
  Ideal.div (∑ k, errRow x t g k * errRow x t g k) (Ideal.ofBits .f32 0x44800000#32)

/-- The gradient of half the sum of the mean squared errors at each squared error. -/
def weight : EReal :=
  Ideal.div (Ideal.ofBits .f32 0x3F000000#32) (Ideal.ofBits .f32 0x44800000#32)

/-- The gradient of the row's error. -/
def errGrad (x t g : Fin 1024 → EReal) (q : Fin 1024) : EReal := weight * (Ideal.ofBits .f32 0x40000000#32 * errRow x t g q)

theorem half_bits : Ideal.ofBits .f32 0x3F000000#32 = ((1 / 2 : ℝ) : EReal) := by
  simp [Ideal.ofBits, Ideal.ieee]
  rw [← EReal.coe_mul]
  norm_num

theorem two_bits : Ideal.ofBits .f32 0x40000000#32 = ((2 : ℝ) : EReal) := by
  simp [Ideal.ofBits, Ideal.ieee]
  rw [← EReal.coe_mul]
  norm_num

theorem width_bits : Ideal.ofBits .f32 0x44800000#32 = ((1024 : ℝ) : EReal) := by
  simp [Ideal.ofBits, Ideal.ieee]
  rw [← EReal.coe_mul]
  norm_num

theorem weight_eq : weight = ((1 / 2048 : ℝ) : EReal) := by
  unfold weight Ideal.div
  rw [half_bits, width_bits, if_neg (by exact_mod_cast (by norm_num : (1024 : ℝ) ≠ 0)), ← EReal.coe_inv, ← EReal.coe_mul]
  norm_num

/-- Differentiating a square as a product gives the factor two. -/
theorem twice (e : EReal) : e * weight + weight * e = weight * (Ideal.ofBits .f32 0x40000000#32 * e) := by
  have hw : (0 : EReal) ≤ weight := by rw [weight_eq]; exact_mod_cast (by norm_num : (0 : ℝ) ≤ 1 / 2048)
  rw [mul_comm e, ← EReal.right_distrib_of_nonneg hw hw, ← mul_assoc]
  congr 1
  rw [weight_eq, two_bits, ← EReal.coe_add, ← EReal.coe_mul]
  norm_num

/-- Half a sum is the sum of the halves. -/
theorem half_sum {n : ℕ} (f : Fin n → EReal) :
    Ideal.ofBits .f32 0x3F000000#32 * ∑ p, f p = ∑ p, Ideal.ofBits .f32 0x3F000000#32 * f p := by
  rw [half_bits]
  induction n with
  | zero => simp
  | succ n ih =>
    rw [Fin.sum_univ_succ, Fin.sum_univ_succ, ← ih]
    exact EReal.left_distrib_of_nonneg_of_ne_top (by exact_mod_cast (by norm_num : (0 : ℝ) ≤ 1 / 2)) (EReal.coe_ne_top _) _ _

section Kernel
open Cert.Kernel20Ideal Cert.Kernel20Ideal.Gen

section Rows
variable (x t : Vec Ideal S1024x1024 .f32) (g : Vec Ideal S1x1024 .f32) (p q : Fin 1024)

theorem err_rows : k0_pay5 x t g (ValueIdx.ix2 p q)
    = errRow (fun k => x (ValueIdx.ix2 p k)) (fun k => t (ValueIdx.ix2 p k)) (fun k => g (ValueIdx.ix2 0 k)) q := by
  unfold_payloads
  pointwise
  rfl

theorem weight_rows : k0_pay7 (F := Ideal) (ValueIdx.ix2 p 0) = weight := by
  unfold_payloads
  pointwise
  rw [Fin.sum_univ_one, Fin.sum_univ_one]
  rfl

theorem grad_rows (e : FVec Ideal S1024x1024 .f32) : k0_pay8 e (k0_pay7 (F := Ideal)) (ValueIdx.ix2 p q)
    = weight * (Ideal.ofBits .f32 0x40000000#32 * e (ValueIdx.ix2 p q)) := by
  rw [← twice, ← weight_rows p]
  unfold k0_pay8
  pointwise
  rw [Fin.sum_univ_one]
  rfl

theorem dx_of (e : FVec Ideal S1024x1024 .f32) (w : FVec Ideal S1024x1 .f32) : k0_pay9 x g (k0_pay2 x) (k0_pay3 x) e w (ValueIdx.ix2 p q)
    = normGrad (fun k => x (ValueIdx.ix2 p k)) (fun k => k0_pay8 e w (ValueIdx.ix2 p k)) (fun k => g (ValueIdx.ix2 0 k)) q := by
  unfold k0_pay9 k0_pay3 k0_pay2 k0_pay1
  pointwise
  rfl

theorem dg_of (e : FVec Ideal S1024x1024 .f32) (w : FVec Ideal S1024x1 .f32) (o : Vec Ideal S1x1024 .f32) : k0_pay12 (k0_pay4 x) e w o (ValueIdx.ix2 0 q)
    = o (ValueIdx.ix2 0 q) + ∑ p : Fin 1024, dgTerm (fun k => x (ValueIdx.ix2 p k)) (fun k => k0_pay8 e w (ValueIdx.ix2 p k)) q := by
  unfold k0_pay12 k0_pay4 k0_pay2 k0_pay1
  pointwise
  rfl

theorem loss_of (o : Vec Ideal S1x128 .f32) (j : Fin 128) : k0_pay13 (k0_pay6 x t g) o (ValueIdx.ix2 0 j)
    = o (ValueIdx.ix2 0 j) + ∑ p : Fin 1024, Ideal.ofBits .f32 0x3F000000#32
        * meanErr (fun k => x (ValueIdx.ix2 p k)) (fun k => t (ValueIdx.ix2 p k)) (fun k => g (ValueIdx.ix2 0 k)) := by
  rw [← half_sum]
  unfold_payloads
  pointwise
  rfl

theorem dg_start : k0_pay10 (F := Ideal) (ValueIdx.ix2 0 q) = 0 := by
  unfold_payloads
  pointwise

theorem loss_start (j : Fin 128) : k0_pay11 (F := Ideal) (ValueIdx.ix2 0 j) = 0 := by
  unfold_payloads
  pointwise

/-- What a point adds to the gain's gradient. -/
theorem dg_rows (o : Vec Ideal S1x1024 .f32) : k0_pay12 (k0_pay4 x) (k0_pay5 x t g) (k0_pay7 (F := Ideal)) o (ValueIdx.ix2 0 q)
    = o (ValueIdx.ix2 0 q) + ∑ p : Fin 1024, dgTerm (fun k => x (ValueIdx.ix2 p k))
        (errGrad (fun k => x (ValueIdx.ix2 p k)) (fun k => t (ValueIdx.ix2 p k)) (fun k => g (ValueIdx.ix2 0 k))) q := by
  rw [dg_of]
  simp only [grad_rows, err_rows]
  rfl

theorem dx_rows : k0_pay9 x g (k0_pay2 x) (k0_pay3 x) (k0_pay5 x t g) (k0_pay7 (F := Ideal)) (ValueIdx.ix2 p q)
    = normGrad (fun k => x (ValueIdx.ix2 p k))
        (errGrad (fun k => x (ValueIdx.ix2 p k)) (fun k => t (ValueIdx.ix2 p k)) (fun k => g (ValueIdx.ix2 0 k))) (fun k => g (ValueIdx.ix2 0 k)) q := by
  rw [dx_of]
  simp only [grad_rows, err_rows]
  rfl

end Rows

/-! ## What a point leaves, at the first point and at a later one -/

section
variable {F : FTy → Type} [FloatOps F]
variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x128 .f32) (harg6 : arg6.IsWhole)
    (x0 x1 : Vec F S1024x1024 .f32) (x2 : Vec F S1x1024 .f32) (xo4 : Vec F S1x1024 .f32) (xo5 : Vec F S1x128 .f32)

section First
variable (hc0 : cond0_0 i)

theorem first_dx : out0_A_3 c i arg1 harg1 arg2 harg2 arg3 harg3 arg4 harg4 arg5 harg5 arg6 harg6 hc0 x0 x1 x2
    = k0_pay9 x0 x2 (k0_pay2 x0) (k0_pay3 x0) (k0_pay5 x0 x1 x2) k0_pay7 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz2]
  simp only [View.readAt_eq_ld, harg1.read_unread, harg2.read_unread, harg3.read_unread, View.ld_unit_zero (S := S1024x1024) hz2, View.ld_unit_zero (S := S1x1024) hz2]

theorem first_dg : out0_A_4 c i arg1 harg1 arg2 harg2 arg3 harg3 arg4 harg4 arg5 harg5 arg6 harg6 hc0 x0 x1 x2 = k0_pay12 (k0_pay4 x0) (k0_pay5 x0 x1 x2) k0_pay7 k0_pay10 := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, harg3.read_unread, View.ld_unit_zero (S := S1024x1024) hz2, View.ld_unit_zero (S := S1x1024) hz2]

theorem first_loss : out0_A_5 c i arg1 harg1 arg2 harg2 arg3 harg3 arg4 harg4 arg5 harg5 arg6 harg6 hc0 x0 x1 x2 = k0_pay13 (k0_pay6 x0 x1 x2) k0_pay11 := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, View.ld_unit_zero (S := S1024x1024) hz2, View.ld_unit_zero (S := S1x1024) hz2]

end First

section Later
variable (hc0 : ¬cond0_0 i)

theorem later_dx : out0_B_3 c i arg1 harg1 arg2 harg2 arg3 harg3 arg4 harg4 arg5 harg5 arg6 harg6 hc0 x0 x1 x2 xo4 xo5
    = k0_pay9 x0 x2 (k0_pay2 x0) (k0_pay3 x0) (k0_pay5 x0 x1 x2) k0_pay7 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  sl_unfold_words
  rw [View.canon_unit_zero hz2]
  simp only [View.readAt_eq_ld, harg1.read_unread, harg2.read_unread, harg3.read_unread, View.ld_unit_zero (S := S1024x1024) hz2, View.ld_unit_zero (S := S1x1024) hz2]

theorem later_dg : out0_B_4 c i arg1 harg1 arg2 harg2 arg3 harg3 arg4 harg4 arg5 harg5 arg6 harg6 hc0 x0 x1 x2 xo4 xo5 = k0_pay12 (k0_pay4 x0) (k0_pay5 x0 x1 x2) k0_pay7 xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  sl_unfold_words
  rw [View.canon_unit_zero hz2]
  simp only [View.readAt_eq_ld, harg1.read_unread, harg2.read_unread, harg3.read_unread, View.ld_unit_zero (S := S1024x1024) hz2, View.ld_unit_zero (S := S1x1024) hz2, harg5.read_unread, View.ld_unit_zero (S := S1x1024) hz2]

theorem later_loss : out0_B_5 c i arg1 harg1 arg2 harg2 arg3 harg3 arg4 harg4 arg5 harg5 arg6 harg6 hc0 x0 x1 x2 xo4 xo5 = k0_pay13 (k0_pay6 x0 x1 x2) xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  sl_unfold_words
  rw [View.canon_unit_zero hz2]
  simp only [View.readAt_eq_ld, harg1.read_unread, harg2.read_unread, harg3.read_unread, View.ld_unit_zero (S := S1024x1024) hz2, View.ld_unit_zero (S := S1x1024) hz2, harg6.read_unread, View.ld_unit_zero (S := S1x128) hz2]

end Later

end

variable (m : (ℓ : Loc nD τ sig) → Buf (Elt Ideal) ℓ) (c : Dev nD)

abbrev argX : FVec Ideal S4096x1024 .f32 := m ((c.tc : Thread nD τ).loc main_arg0)
abbrev argT : FVec Ideal S4096x1024 .f32 := m ((c.tc : Thread nD τ).loc main_arg1)
abbrev argG : FVec Ideal S1x1024 .f32 := m ((c.tc : Thread nD τ).loc main_arg2)

/-- Row `p`'s gradient of the error. -/
def gradAt (p : Fin 4096) : Fin 1024 → EReal :=
  errGrad (fun k => argX m c (ValueIdx.ix2 p k)) (fun k => argT m c (ValueIdx.ix2 p k)) (fun k => argG m c (ValueIdx.ix2 0 k))

def dxAt (i : S4096x1024.Idx) : EReal :=
  normGrad (fun k => argX m c (ValueIdx.ix2 (i 0) k)) (gradAt m c (i 0)) (fun k => argG m c (ValueIdx.ix2 0 k)) (i 1)

def dgAt (i : S1x1024.Idx) : EReal := ∑ p : Fin 4096, dgTerm (fun k => argX m c (ValueIdx.ix2 p k)) (gradAt m c p) (i 1)

/-- Half row `p`'s mean squared error. -/
def lossRow (p : Fin 4096) : EReal := Ideal.ofBits .f32 0x3F000000#32
  * meanErr (fun k => argX m c (ValueIdx.ix2 p k)) (fun k => argT m c (ValueIdx.ix2 p k)) (fun k => argG m c (ValueIdx.ix2 0 k))

def lossAt (_ : S1x128.Idx) : EReal := ∑ p : Fin 4096, lossRow m c p

theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) :=
  (by decide +kernel : ∀ t : Fin grid0.N, _)

theorem out_facts : ∀ t : Fin cfg0.N, (win0_3.index t 0 = t.val ∧ win0_3.index t 1 = 0 ∧ win0_3.flush t = true)
    ∧ ((win0_4.index t 0 = 0 ∧ win0_4.index t 1 = 0) ∧ (win0_4.flush t = true ↔ t.val = 3))
    ∧ (win0_5.index t 0 = 0 ∧ win0_5.index t 1 = 0) ∧ (win0_5.flush t = true ↔ t.val = 3) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p k : Fin 1024) : iblk m c 0 t (ValueIdx.ix2 p k) = argX m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 1024 + 1 * k.val = k.val; omega

theorem iblk1 (t : Fin cfg0.N) (p k : Fin 1024) : iblk m c 1 t (ValueIdx.ix2 p k) = argT m c (ValueIdx.ix2 (rowOf t p) k) := by
  obtain ⟨-, ⟨h0, h1⟩, -⟩ := idx_facts t
  show V m c main_arg1 _ = _
  rw [V_main_arg1]
  refine congrArg _ (funext fun a => Fin.ext ?_)
  match a with
  | ⟨0, _⟩ => show win0_1.index t 0 * 1024 + 1 * p.val = 1024 * t.val + p.val; omega
  | ⟨1, _⟩ => show win0_1.index t 1 * 1024 + 1 * k.val = k.val; omega

theorem iblk2 (t : Fin cfg0.N) (k : Fin 1024) : iblk m c 2 t (ValueIdx.ix2 0 k) = argG m c (ValueIdx.ix2 0 k) := by
  obtain ⟨-, -, h0, h1⟩ := idx_facts t
  show V m c main_arg2 _ = _
  rw [V_main_arg2]
  refine congrArg _ (funext fun a => Fin.ext ?_)
  match a with
  | ⟨0, _⟩ => show win0_2.index t 0 * 1 + 1 * 0 = 0; omega
  | ⟨1, _⟩ => show win0_2.index t 1 * 1024 + 1 * k.val = k.val; omega

/-- Every point leaves its rows of the gradient. -/
theorem dx_block (t : Fin cfg0.N) (p q : Fin 1024) : (outsAt0 m c t.val t.isLt).1 (ValueIdx.ix2 p q) = dxAt m c (ValueIdx.ix2 (rowOf t p) q) := by
  have e : (outsAt0 m c t.val t.isLt).1
      = k0_pay9 (iblk m c 0 t) (iblk m c 2 t) (k0_pay2 (iblk m c 0 t)) (k0_pay3 (iblk m c 0 t)) (k0_pay5 (iblk m c 0 t) (iblk m c 1 t) (iblk m c 2 t)) k0_pay7 := by
    by_cases h0 : t.val % 4 = 0
    · rw [outsAt0_A m c t h0]; dsimp only; rw [first_dx]
    · rw [outsAt0_B m c t h0]; dsimp only; rw [later_dx]
  rw [e]
  refine (dx_rows _ _ _ p q).trans ?_
  simp only [iblk0, iblk1, iblk2]
  rfl

/-- A point adds its rows' terms to the gain's gradient and to the loss. -/
theorem dg_step (t : Fin cfg0.N) (o : Vec Ideal S1x1024 .f32) (q : Fin 1024) :
    k0_pay12 (k0_pay4 (iblk m c 0 t)) (k0_pay5 (iblk m c 0 t) (iblk m c 1 t) (iblk m c 2 t)) k0_pay7 o (ValueIdx.ix2 0 q)
      = o (ValueIdx.ix2 0 q) + ∑ p, dgTerm (fun k => argX m c (ValueIdx.ix2 (rowOf t p) k)) (gradAt m c (rowOf t p)) q := by
  refine (dg_rows _ _ _ q o).trans ?_
  simp only [iblk0, iblk1, iblk2]
  rfl

theorem loss_step (t : Fin cfg0.N) (o : Vec Ideal S1x128 .f32) (j : Fin 128) :
    k0_pay13 (k0_pay6 (iblk m c 0 t) (iblk m c 1 t) (iblk m c 2 t)) o (ValueIdx.ix2 0 j) = o (ValueIdx.ix2 0 j) + ∑ p, lossRow m c (rowOf t p) := by
  refine (loss_of _ _ _ o j).trans ?_
  simp only [iblk0, iblk1, iblk2]
  rfl

/-- After the last point the gain's gradient holds the terms of all rows, and so does the loss. -/
theorem dg_last (q : Fin 1024) (h : 3 < cfg0.N) : (outsAt0 m c 3 h).2.1 (ValueIdx.ix2 0 q) = dgAt m c (ValueIdx.ix2 0 q) := by
  refine chain_blocks (B := 1024) (T := 4096) (last := 3) (by norm_num) (fun n h => (outsAt0 m c n h).2.1 (ValueIdx.ix2 0 q))
    (fun p => dgTerm (fun k => argX m c (ValueIdx.ix2 p k)) (gradAt m c p) q) (fun n h => rowOf ⟨n, h⟩) (fun _ _ _ => rfl) (fun h => ?_) (fun n h => ?_) h
  · refine (congrArg (fun o : Vec Ideal S1024x1024 .f32 × Vec Ideal S1x1024 .f32 × Vec Ideal S1x128 .f32 => o.2.1 (ValueIdx.ix2 0 q))
      (outsAt0_A m c ⟨0, h⟩ (Nat.zero_mod 4))).trans ?_
    dsimp only
    rw [first_dg, dg_step, dg_start, zero_add]
  · have hN : n + 1 < 4 := lt_of_lt_of_eq h N_0
    have h0 : ¬ (⟨n + 1, h⟩ : Fin cfg0.N).val % 4 = 0 := by dsimp only; omega
    refine (congrArg (fun o : Vec Ideal S1024x1024 .f32 × Vec Ideal S1x1024 .f32 × Vec Ideal S1x128 .f32 => o.2.1 (ValueIdx.ix2 0 q))
      (outsAt0_B m c ⟨n + 1, h⟩ h0)).trans ?_
    dsimp only
    rw [later_dg]
    exact dg_step m c ⟨n + 1, h⟩ _ q

theorem loss_last (j : Fin 128) (h : 3 < cfg0.N) : (outsAt0 m c 3 h).2.2 (ValueIdx.ix2 0 j) = lossAt m c (ValueIdx.ix2 0 j) := by
  refine chain_blocks (B := 1024) (T := 4096) (last := 3) (by norm_num) (fun n h => (outsAt0 m c n h).2.2 (ValueIdx.ix2 0 j))
    (lossRow m c) (fun n h => rowOf ⟨n, h⟩) (fun _ _ _ => rfl) (fun h => ?_) (fun n h => ?_) h
  · refine (congrArg (fun o : Vec Ideal S1024x1024 .f32 × Vec Ideal S1x1024 .f32 × Vec Ideal S1x128 .f32 => o.2.2 (ValueIdx.ix2 0 j))
      (outsAt0_A m c ⟨0, h⟩ (Nat.zero_mod 4))).trans ?_
    dsimp only
    rw [first_loss, loss_step, loss_start, zero_add]
  · have hN : n + 1 < 4 := lt_of_lt_of_eq h N_0
    have h0 : ¬ (⟨n + 1, h⟩ : Fin cfg0.N).val % 4 = 0 := by dsimp only; omega
    refine (congrArg (fun o : Vec Ideal S1024x1024 .f32 × Vec Ideal S1x1024 .f32 × Vec Ideal S1x128 .f32 => o.2.2 (ValueIdx.ix2 0 j))
      (outsAt0_B m c ⟨n + 1, h⟩ h0)).trans ?_
    dsimp only
    rw [later_loss]
    exact loss_step m c ⟨n + 1, h⟩ _ j

/-! ## The arrays after the last point -/

theorem final_dx : (dats m 0 c).arrAt 3 cfg0.N = dxAt m c := by
  refine (dats m 0 c).arrAt_eq_of_cover 3 (dxAt m c) (fun t _ => ?_) fun i => ?_
  · obtain ⟨⟨h0, h1, -⟩, -⟩ := out_facts t
    rw [Value.flushed3]
    funext i
    obtain ⟨p, q, rfl⟩ : ∃ p q : Fin 1024, i = ValueIdx.ix2 p q := ⟨i 0, i 1, idx2 i⟩
    refine (dx_block m c t p q).trans (congrArg (dxAt m c) (funext fun a => Fin.ext ?_))
    match a with
    | ⟨0, _⟩ => show 1024 * t.val + p.val = win0_3.index t 0 * 1024 + 1 * p.val; omega
    | ⟨1, _⟩ => show q.val = win0_3.index t 1 * 1024 + 1 * q.val; omega
  · have hi0 : (i 0 : ℕ) < 4096 := (i 0).isLt
    have hi1 : (i 1 : ℕ) < 1024 := (i 1).isLt
    have ht : (i 0 : ℕ) / 1024 < cfg0.N := by rw [show cfg0.N = 4 from N_0]; omega
    obtain ⟨⟨h0, h1, hf⟩, -⟩ := out_facts ⟨_, ht⟩
    dsimp only at h0
    refine ⟨⟨_, ht⟩, hf, ?_⟩
    show i ∈ ((View.whole main_v0_0).slice (win0_3.rect ⟨_, ht⟩)).set
    rw [View.set_slice_whole, Rect.mem_set_unit]
    intro a
    match a with
    | ⟨0, _⟩ => show win0_3.index ⟨_, ht⟩ 0 * 1024 ≤ (i 0 : ℕ) ∧ (i 0 : ℕ) < win0_3.index ⟨_, ht⟩ 0 * 1024 + 1024; omega
    | ⟨1, _⟩ => show win0_3.index ⟨_, ht⟩ 1 * 1024 ≤ (i 1 : ℕ) ∧ (i 1 : ℕ) < win0_3.index ⟨_, ht⟩ 1 * 1024 + 1024; omega

theorem final_dg : (dats m 0 c).arrAt 4 cfg0.N = dgAt m c := by
  refine (dats m 0 c).arrAt_eq_of_cover 4 (dgAt m c) (fun t hf => ?_) fun i => ?_
  · obtain ⟨-, ⟨⟨h0, h1⟩, h3⟩, -⟩ := out_facts t
    obtain rfl : t = ⟨3, (by decide : 3 < 4).trans_eq N_0.symm⟩ := Fin.ext (h3.1 hf)
    rw [Value.flushed4]
    funext i
    obtain ⟨p, q, rfl⟩ : ∃ (p : Fin 1) (q : Fin 1024), i = ValueIdx.ix2 p q := ⟨i 0, i 1, idx2 i⟩
    obtain rfl : p = 0 := Subsingleton.elim _ _
    refine (dg_last m c q _).trans (congrArg (dgAt m c) (funext fun a => Fin.ext ?_))
    match a with
    | ⟨0, _⟩ => show 0 = win0_4.index _ 0 * 1 + 1 * 0; omega
    | ⟨1, _⟩ => show q.val = win0_4.index _ 1 * 1024 + 1 * q.val; omega
  · have hi0 : (i 0 : ℕ) < 1 := (i 0).isLt
    have hi1 : (i 1 : ℕ) < 1024 := (i 1).isLt
    have ht : 3 < cfg0.N := by rw [show cfg0.N = 4 from N_0]; omega
    obtain ⟨-, ⟨⟨h0, h1⟩, h3⟩, -⟩ := out_facts ⟨3, ht⟩
    refine ⟨⟨3, ht⟩, h3.2 rfl, ?_⟩
    show i ∈ ((View.whole main_v0_1).slice (win0_4.rect ⟨3, ht⟩)).set
    rw [View.set_slice_whole, Rect.mem_set_unit]
    intro a
    match a with
    | ⟨0, _⟩ => show win0_4.index ⟨3, ht⟩ 0 * 1 ≤ (i 0 : ℕ) ∧ (i 0 : ℕ) < win0_4.index ⟨3, ht⟩ 0 * 1 + 1; omega
    | ⟨1, _⟩ => show win0_4.index ⟨3, ht⟩ 1 * 1024 ≤ (i 1 : ℕ) ∧ (i 1 : ℕ) < win0_4.index ⟨3, ht⟩ 1 * 1024 + 1024; omega

theorem final_loss : (dats m 0 c).arrAt 5 cfg0.N = lossAt m c := by
  refine (dats m 0 c).arrAt_eq_of_cover 5 (lossAt m c) (fun t hf => ?_) fun i => ?_
  · obtain ⟨-, -, -, h3⟩ := out_facts t
    obtain rfl : t = ⟨3, (by decide : 3 < 4).trans_eq N_0.symm⟩ := Fin.ext (h3.1 hf)
    rw [Value.flushed5]
    funext i
    obtain ⟨p, j, rfl⟩ : ∃ (p : Fin 1) (j : Fin 128), i = ValueIdx.ix2 p j := ⟨i 0, i 1, idx2 i⟩
    obtain rfl : p = 0 := Subsingleton.elim _ _
    exact loss_last m c j _
  · have hi0 : (i 0 : ℕ) < 1 := (i 0).isLt
    have hi1 : (i 1 : ℕ) < 128 := (i 1).isLt
    have ht : 3 < cfg0.N := by rw [show cfg0.N = 4 from N_0]; omega
    obtain ⟨-, -, ⟨h0, h1⟩, h3⟩ := out_facts ⟨3, ht⟩
    refine ⟨⟨3, ht⟩, h3.2 rfl, ?_⟩
    show i ∈ ((View.whole main_v0_2).slice (win0_5.rect ⟨3, ht⟩)).set
    rw [View.set_slice_whole, Rect.mem_set_unit]
    intro a
    match a with
    | ⟨0, _⟩ => show win0_5.index ⟨3, ht⟩ 0 * 1 ≤ (i 0 : ℕ) ∧ (i 0 : ℕ) < win0_5.index ⟨3, ht⟩ 0 * 1 + 1; omega
    | ⟨1, _⟩ => show win0_5.index ⟨3, ht⟩ 1 * 128 ≤ (i 1 : ℕ) ∧ (i 1 : ℕ) < win0_5.index ⟨3, ht⟩ 1 * 128 + 128; omega

end Kernel

section Reference
open Cert.Reference20Ideal Cert.Reference20Ideal.Read

variable (x t : FVec Ideal S4096x1024 .f32) (g : FVec Ideal S1x1024 .f32)

theorem ref_err (p : Fin 4096) (q : Fin 1024) : val_main_v17 (F := Ideal) x t g (ValueIdx.ix2 p q)
    = errRow (fun k => x (ValueIdx.ix2 p k)) (fun k => t (ValueIdx.ix2 p k)) (fun k => g (ValueIdx.ix2 0 k)) q := by
  unfold val_main_v17 val_main_v16 val_main_v15 val_main_v14 val_main_v13 val_main_v12 val_main_v8 val_main_v7 val_main_v6 val_main_cst_1 val_main_v5 val_main_v4 val_main_cst_0 val_main_v3 val_main_v2 val_main_cst val_main_v1 val_main_v0
  pointwise
  rfl

theorem ref_grad (p : Fin 4096) (q : Fin 1024) : val_main_v31 (F := Ideal) x t g (ValueIdx.ix2 p q)
    = errGrad (fun k => x (ValueIdx.ix2 p k)) (fun k => t (ValueIdx.ix2 p k)) (fun k => g (ValueIdx.ix2 0 k)) q := by
  unfold errGrad
  rw [← ref_err]
  unfold val_main_v31 val_main_v30 val_main_v29 val_main_v28 val_main_cst_10 val_main_v27 val_main_v26 val_main_cst_9 val_main_cst_8 val_main_v20 val_main_v19 val_main_cst_3
  pointwise
  rfl

theorem ref_dx (p : Fin 4096) (q : Fin 1024) : val_main_v51 (F := Ideal) x t g (ValueIdx.ix2 p q)
    = normGrad (fun k => x (ValueIdx.ix2 p k)) (errGrad (fun k => x (ValueIdx.ix2 p k)) (fun k => t (ValueIdx.ix2 p k)) (fun k => g (ValueIdx.ix2 0 k)))
        (fun k => g (ValueIdx.ix2 0 k)) q := by
  have e := funext (ref_grad x t g p)
  rw [← e]
  unfold val_main_v51 val_main_v50 val_main_v49 val_main_v48 val_main_v47 val_main_v46 val_main_cst_15 val_main_v45 val_main_v44 val_main_cst_14 val_main_v43 val_main_v42 val_main_v41 val_main_v40 val_main_v39 val_main_cst_13 val_main_v38 val_main_v36 val_main_v35 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  rfl

theorem ref_dg (q : Fin 1024) : val_main_v52 (F := Ideal) x t g (ValueIdx.ix2 0 q)
    = ∑ p : Fin 4096, dgTerm (fun k => x (ValueIdx.ix2 p k)) (errGrad (fun k => x (ValueIdx.ix2 p k)) (fun k => t (ValueIdx.ix2 p k)) (fun k => g (ValueIdx.ix2 0 k))) q := by
  have e : ∀ p, errGrad (fun k => x (ValueIdx.ix2 p k)) (fun k => t (ValueIdx.ix2 p k)) (fun k => g (ValueIdx.ix2 0 k)) = fun k => val_main_v31 (F := Ideal) x t g (ValueIdx.ix2 p k) :=
    fun p => (funext (ref_grad x t g p)).symm
  simp only [e]
  unfold val_main_v52 val_main_v37 val_main_cst_12 val_main_v34 val_main_v33 val_main_cst_11 val_main_v32 val_main_v13 val_main_v12 val_main_v8 val_main_v7 val_main_v6 val_main_cst_1 val_main_v5 val_main_v4 val_main_cst_0 val_main_v3 val_main_v2 val_main_cst val_main_v1
  pointwise
  exact Fin.sum_univ_one _

theorem ref_loss (j : Fin 128) : val_main_v53 (F := Ideal) x t g (ValueIdx.ix2 0 j)
    = ∑ p : Fin 4096, Ideal.ofBits .f32 0x3F000000#32
        * meanErr (fun k => x (ValueIdx.ix2 p k)) (fun k => t (ValueIdx.ix2 p k)) (fun k => g (ValueIdx.ix2 0 k)) := by
  rw [← half_sum]
  unfold meanErr
  simp only [← ref_err]
  unfold val_main_v53 val_main_v25 val_main_cst_7 val_main_v24 val_main_cst_6 val_main_v23 val_main_v22 val_main_cst_5 val_main_v21 val_main_cst_4 val_main_v18
  pointwise
  rfl

end Reference

theorem algebraic : Cert.algebraic_Kernel20Ideal_Reference20Ideal := by
  intro m ρ m' ρ' _ hagree
  refine ⟨fun c => dxAt m c, fun c => dgAt m c, fun c => lossAt m c, ?_, ?_⟩
  · refine (θ_run Cert.Kernel20Ideal.defs _ _).mono (fun _ h c => ?_) (Cert.Kernel20Ideal.Value.run_blocks (F := Ideal) m ρ)
    exact ⟨(h c).1.trans (final_dx m c), (h c).2.1.trans (final_dg m c), (h c).2.2.1.trans (final_loss m c), (h c).2.2.2⟩
  · refine (θ_run Cert.Reference20Ideal.defs _ _).mono (fun _ h c => ?_) (Cert.Reference20Ideal.Value.run (F := Ideal) m' ρ')
    obtain ⟨a0, a1, a2⟩ := hagree c
    refine ⟨(h c).1.trans ?_, (h c).2.1.trans ?_, (h c).2.2.1.trans ?_, (h c).2.2.2⟩
    · rw [Cert.Reference20Ideal.Read.val_main_v51_eq, a0, a1, a2]
      funext i
      obtain ⟨p, q, rfl⟩ : ∃ (p : Fin 4096) (q : Fin 1024), i = ValueIdx.ix2 p q := ⟨i 0, i 1, idx2 i⟩
      exact ref_dx _ _ _ p q
    · rw [Cert.Reference20Ideal.Read.val_main_v52_eq, a0, a1, a2]
      funext i
      obtain ⟨p, q, rfl⟩ : ∃ (p : Fin 1) (q : Fin 1024), i = ValueIdx.ix2 p q := ⟨i 0, i 1, idx2 i⟩
      obtain rfl : p = 0 := Subsingleton.elim _ _
      exact ref_dg _ _ _ q
    · rw [Cert.Reference20Ideal.Read.val_main_v53_eq, a0, a1, a2]
      funext i
      obtain ⟨p, j, rfl⟩ : ∃ (p : Fin 1) (j : Fin 128), i = ValueIdx.ix2 p j := ⟨i 0, i 1, idx2 i⟩
      obtain rfl : p = 0 := Subsingleton.elim _ _
      exact ref_loss _ _ _ j

end Cert.LossHead

end
-- ==== Proof.RmsBwd.lean ====
module

public import proofs.«01_k».proof.Defs
public import proofs.«01_k».proof.Proof.DhRms.Spec
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Cert.DhRms (normGrad dgTerm)

/-! ## The claims about the backward call of the memory's norm -/

namespace Cert.RmsBwd

theorem frame_kernel : Cert.quiescent_Kernel21 := fun m ρ _ => Cert.Kernel21.Gen.frame m ρ

theorem frame_ideal : Cert.quiescent_Kernel21Ideal := fun m ρ _ => Cert.Kernel21Ideal.Gen.frame m ρ

/-- The reference leaves its arguments unchanged; it declares no semaphore. -/
theorem frame_reference : Cert.quiescent_Reference21Ideal := fun m ρ _ =>
  (θ_run Cert.Reference21Ideal.defs _ _).mono (fun r h => ⟨fun c => (h c).2.2,
      Idealize.ShloMosaic.sem_eq_zero_of_no_sems (by decide) r.2⟩)
    (Cert.Reference21Ideal.Value.run (F := Ideal) m ρ)

theorem hz2 : (![0, 0] : Fin 2 → Nat) = fun _ => 0 := funext fun a => by fin_cases a <;> rfl

theorem idx2 {a b : ℕ} (i : (⟨2, ![a, b]⟩ : Shape).Idx) : i = ValueIdx.ix2 (i 0) (i 1) := by
  funext k
  match k with
  | ⟨0, _⟩ => rfl
  | ⟨1, _⟩ => rfl

section Kernel
open Cert.Kernel21Ideal Cert.Kernel21Ideal.Gen

theorem dx_rows (x h : Vec Ideal S512x1024 .f32) (g : Vec Ideal S1x1024 .f32) (p : Fin 512) (q : Fin 1024) :
    k0_pay6 x h g (ValueIdx.ix2 p q)
      = normGrad (fun k => x (ValueIdx.ix2 p k)) (fun k => h (ValueIdx.ix2 p k)) (fun k => g (ValueIdx.ix2 0 k)) q := by
  unfold_payloads
  pointwise
  rfl

theorem dg_rows (x h : Vec Ideal S512x1024 .f32) (q : Fin 1024) :
    k0_pay2 (k0_pay5 x h) (k0_pay1 (F := Ideal)) (ValueIdx.ix2 0 q)
      = ∑ p : Fin 512, dgTerm (fun k => x (ValueIdx.ix2 p k)) (fun k => h (ValueIdx.ix2 p k)) q := by
  unfold_payloads
  pointwise
  rfl

section
variable {F : FTy → Type} [FloatOps F]
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (hc0 : cond0_0 i)
    (x0 x1 : Vec F S512x1024 .f32) (x2 : Vec F S1x1024 .f32)

theorem left_dx : out0_A_3 c i arg1 harg1 arg2 harg2 arg3 harg3 arg4 harg4 arg5 harg5 hc0 x0 x1 x2 = k0_pay6 x0 x1 x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz2]
  simp only [View.readAt_eq_ld, harg1.read_unread, harg2.read_unread, harg3.read_unread, View.ld_unit_zero (S := S512x1024) hz2, View.ld_unit_zero (S := S1x1024) hz2]

theorem left_dg : out0_A_4 c i arg1 harg1 arg2 harg2 arg3 harg3 arg4 harg4 arg5 harg5 hc0 x0 x1 x2 = k0_pay2 (k0_pay5 x0 x1) k0_pay1 := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, View.ld_unit_zero (S := S512x1024) hz2]

end

variable (m : (ℓ : Loc nD τ sig) → Buf (Elt Ideal) ℓ) (c : Dev nD)

abbrev argX : FVec Ideal S512x1024 .f32 := m ((c.tc : Thread nD τ).loc main_arg0)
abbrev argH : FVec Ideal S512x1024 .f32 := m ((c.tc : Thread nD τ).loc main_arg1)
abbrev argG : FVec Ideal S1x1024 .f32 := m ((c.tc : Thread nD τ).loc main_arg2)

def dxAt (i : S512x1024.Idx) : EReal :=
  normGrad (fun k => argX m c (ValueIdx.ix2 (i 0) k)) (fun k => argH m c (ValueIdx.ix2 (i 0) k)) (fun k => argG m c (ValueIdx.ix2 0 k)) (i 1)

def dgAt (i : S1x1024.Idx) : EReal :=
  ∑ p : Fin 512, dgTerm (fun k => argX m c (ValueIdx.ix2 p k)) (fun k => argH m c (ValueIdx.ix2 p k)) (i 1)

theorem idx_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

theorem out_facts : ∀ t : Fin cfg0.N, (win0_3.index t 0 = 0 ∧ win0_3.index t 1 = 0 ∧ win0_3.flush t = true)
    ∧ (win0_4.index t 0 = 0 ∧ win0_4.index t 1 = 0 ∧ win0_4.flush t = true) :=
  (by decide +kernel : ∀ t : Fin grid0.N, _)

theorem iblk0 (t : Fin cfg0.N) (p : Fin 512) (k : Fin 1024) : iblk m c 0 t (ValueIdx.ix2 p k) = argX m c (ValueIdx.ix2 p k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = p.val; omega
  | ⟨1, _⟩ => show win0_0.index t 1 * 1024 + 1 * k.val = k.val; omega

theorem iblk1 (t : Fin cfg0.N) (p : Fin 512) (k : Fin 1024) : iblk m c 1 t (ValueIdx.ix2 p k) = argH m c (ValueIdx.ix2 p k) := by
  obtain ⟨-, ⟨h0, h1⟩, -⟩ := idx_facts t
  show V m c main_arg1 _ = _
  rw [V_main_arg1]
  refine congrArg _ (funext fun a => Fin.ext ?_)
  match a with
  | ⟨0, _⟩ => show win0_1.index t 0 * 512 + 1 * p.val = p.val; omega
  | ⟨1, _⟩ => show win0_1.index t 1 * 1024 + 1 * k.val = k.val; omega

theorem iblk2 (t : Fin cfg0.N) (k : Fin 1024) : iblk m c 2 t (ValueIdx.ix2 0 k) = argG m c (ValueIdx.ix2 0 k) := by
  obtain ⟨-, -, h0, h1⟩ := idx_facts t
  show V m c main_arg2 _ = _
  rw [V_main_arg2]
  refine congrArg _ (funext fun a => Fin.ext ?_)
  match a with
  | ⟨0, _⟩ => show win0_2.index t 0 * 1 + 1 * 0 = 0; omega
  | ⟨1, _⟩ => show win0_2.index t 1 * 1024 + 1 * k.val = k.val; omega

theorem final_dx : (dats m 0 c).arrAt 3 cfg0.N = dxAt m c := by
  refine (dats m 0 c).arrAt_eq_of_cover 3 (dxAt m c) (fun t _ => ?_) fun i => ?_
  · obtain ⟨⟨h0, h1, -⟩, -⟩ := out_facts t
    rw [Value.flushed3_A, left_dx]
    funext i
    obtain ⟨p, q, rfl⟩ : ∃ (p : Fin 512) (q : Fin 1024), i = ValueIdx.ix2 p q := ⟨i 0, i 1, idx2 i⟩
    refine (dx_rows _ _ _ p q).trans (.trans (b := dxAt m c (ValueIdx.ix2 p q)) ?_ (congrArg (dxAt m c) (funext fun a => Fin.ext ?_)))
    · simp only [iblk0, iblk1, iblk2]
      rfl
    · match a with
      | ⟨0, _⟩ => show p.val = win0_3.index t 0 * 512 + 1 * p.val; omega
      | ⟨1, _⟩ => show q.val = win0_3.index t 1 * 1024 + 1 * q.val; omega
  · have hi0 : (i 0 : ℕ) < 512 := (i 0).isLt
    have hi1 : (i 1 : ℕ) < 1024 := (i 1).isLt
    have ht : 0 < cfg0.N := by rw [show cfg0.N = 1 from N_0]; omega
    obtain ⟨⟨h0, h1, hf⟩, -⟩ := out_facts ⟨0, ht⟩
    refine ⟨⟨0, ht⟩, hf, ?_⟩
    show i ∈ ((View.whole main_v0_0).slice (win0_3.rect ⟨0, ht⟩)).set
    rw [View.set_slice_whole, Rect.mem_set_unit]
    intro a
    match a with
    | ⟨0, _⟩ => show win0_3.index ⟨0, ht⟩ 0 * 512 ≤ (i 0 : ℕ) ∧ (i 0 : ℕ) < win0_3.index ⟨0, ht⟩ 0 * 512 + 512; omega
    | ⟨1, _⟩ => show win0_3.index ⟨0, ht⟩ 1 * 1024 ≤ (i 1 : ℕ) ∧ (i 1 : ℕ) < win0_3.index ⟨0, ht⟩ 1 * 1024 + 1024; omega

theorem final_dg : (dats m 0 c).arrAt 4 cfg0.N = dgAt m c := by
  refine (dats m 0 c).arrAt_eq_of_cover 4 (dgAt m c) (fun t _ => ?_) fun i => ?_
  · obtain ⟨-, h0, h1, -⟩ := out_facts t
    rw [Value.flushed4_A, left_dg]
    funext i
    obtain ⟨p, q, rfl⟩ : ∃ (p : Fin 1) (q : Fin 1024), i = ValueIdx.ix2 p q := ⟨i 0, i 1, idx2 i⟩
    obtain rfl : p = 0 := Subsingleton.elim _ _
    refine (dg_rows _ _ q).trans (.trans (b := dgAt m c (ValueIdx.ix2 0 q)) ?_ (congrArg (dgAt m c) (funext fun a => Fin.ext ?_)))
    · simp only [iblk0, iblk1]
      rfl
    · match a with
      | ⟨0, _⟩ => show 0 = win0_4.index t 0 * 1 + 1 * 0; omega
      | ⟨1, _⟩ => show q.val = win0_4.index t 1 * 1024 + 1 * q.val; omega
  · have hi0 : (i 0 : ℕ) < 1 := (i 0).isLt
    have hi1 : (i 1 : ℕ) < 1024 := (i 1).isLt
    have ht : 0 < cfg0.N := by rw [show cfg0.N = 1 from N_0]; omega
    obtain ⟨-, h0, h1, hf⟩ := out_facts ⟨0, ht⟩
    refine ⟨⟨0, ht⟩, hf, ?_⟩
    show i ∈ ((View.whole main_v0_1).slice (win0_4.rect ⟨0, ht⟩)).set
    rw [View.set_slice_whole, Rect.mem_set_unit]
    intro a
    match a with
    | ⟨0, _⟩ => show win0_4.index ⟨0, ht⟩ 0 * 1 ≤ (i 0 : ℕ) ∧ (i 0 : ℕ) < win0_4.index ⟨0, ht⟩ 0 * 1 + 1; omega
    | ⟨1, _⟩ => show win0_4.index ⟨0, ht⟩ 1 * 1024 ≤ (i 1 : ℕ) ∧ (i 1 : ℕ) < win0_4.index ⟨0, ht⟩ 1 * 1024 + 1024; omega

end Kernel

section Reference
open Cert.Reference21Ideal Cert.Reference21Ideal.Read

variable (x h : FVec Ideal S512x1024 .f32) (g : FVec Ideal S1x1024 .f32) (q : Fin 1024)

theorem ref_dx (p : Fin 512) : val_main_v36 (F := Ideal) x h g (ValueIdx.ix2 p q)
    = normGrad (fun k => x (ValueIdx.ix2 p k)) (fun k => h (ValueIdx.ix2 p k)) (fun k => g (ValueIdx.ix2 0 k)) q := by
  unfold val_main_v36 val_main_v35 val_main_v34 val_main_v33 val_main_v32 val_main_v31 val_main_cst_7 val_main_v30 val_main_v29 val_main_cst_6 val_main_v28 val_main_v27 val_main_v26 val_main_v25 val_main_v24 val_main_cst_5 val_main_v23 val_main_v21 val_main_v20 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  rfl

theorem ref_dg : val_main_v37 (F := Ideal) x h (ValueIdx.ix2 0 q)
    = ∑ p : Fin 512, dgTerm (fun k => x (ValueIdx.ix2 p k)) (fun k => h (ValueIdx.ix2 p k)) q := by
  unfold val_main_v37 val_main_v22 val_main_cst_4 val_main_v19 val_main_v18 val_main_cst_3 val_main_v17 val_main_v13 val_main_v12 val_main_v8 val_main_v7 val_main_v6 val_main_cst_1 val_main_v5 val_main_v4 val_main_cst_0 val_main_v3 val_main_v2 val_main_cst val_main_v1
  pointwise
  exact Fin.sum_univ_one _

end Reference

theorem algebraic : Cert.algebraic_Kernel21Ideal_Reference21Ideal := by
  intro m ρ m' ρ' _ hagree
  refine ⟨fun c => dxAt m c, fun c => dgAt m c, ?_, ?_⟩
  · refine (θ_run Cert.Kernel21Ideal.defs _ _).mono (fun _ h c => ?_) (Cert.Kernel21Ideal.Value.run_blocks (F := Ideal) m ρ)
    exact ⟨(h c).1.trans (final_dx m c), (h c).2.1.trans (final_dg m c), (h c).2.2⟩
  · refine (θ_run Cert.Reference21Ideal.defs _ _).mono (fun _ h c => ?_) (Cert.Reference21Ideal.Value.run (F := Ideal) m' ρ')
    obtain ⟨a0, a1, a2⟩ := hagree c
    refine ⟨(h c).1.trans ?_, (h c).2.1.trans ?_, (h c).2.2⟩
    · rw [Cert.Reference21Ideal.Read.val_main_v36_eq, a0, a1, a2]
      funext i
      obtain ⟨p, q, rfl⟩ : ∃ (p : Fin 512) (q : Fin 1024), i = ValueIdx.ix2 p q := ⟨i 0, i 1, idx2 i⟩
      exact ref_dx _ _ _ q p
    · rw [Cert.Reference21Ideal.Read.val_main_v37_eq, a0, a1]
      funext i
      obtain ⟨p, q, rfl⟩ : ∃ (p : Fin 1) (q : Fin 1024), i = ValueIdx.ix2 p q := ⟨i 0, i 1, idx2 i⟩
      obtain rfl : p = 0 := Subsingleton.elim _ _
      exact ref_dg _ _ q

end Cert.RmsBwd

end
-- ==== Proof.FfnOutLast.lean ====
module

public import proofs.«01_k».proof.Defs
public import proofs.«01_k».proof.Proof.FfnOut.Kernel
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Quiescent

@[expose] public section

set_option maxRecDepth 16384

noncomputable section

open Idealize.ShloMosaic Idealize.ShloMosaic.TcCoe Idealize.SL.Sem
open Cert.FfnOut (hz2 hz3 idx2 addHalf)

/-! ## The claims about the last half step's second call, which has no norm after it -/

namespace Cert.FfnOutLast

theorem frame_kernel : Cert.quiescent_Kernel22 := fun m ρ _ => Cert.Kernel22.Gen.frame m ρ

theorem frame_ideal : Cert.quiescent_Kernel22Ideal := fun m ρ _ => Cert.Kernel22Ideal.Gen.frame m ρ

/-- The reference leaves its arguments unchanged; it declares no semaphore. -/
theorem frame_reference : Cert.quiescent_Reference22Ideal := fun m ρ _ =>
  (θ_run Cert.Reference22Ideal.defs _ _).mono (fun r h => ⟨fun c => (h c).2,
      Idealize.ShloMosaic.sem_eq_zero_of_no_sems (by decide) r.2⟩)
    (Cert.Reference22Ideal.Value.run (F := Ideal) m ρ)

section Kernel
open Cert.Kernel22Ideal Cert.Kernel22Ideal.Gen

theorem block_sum (a : Vec Ideal S1024x2816 .bf16) (w : Vec Ideal S1x2816x1024 .bf16) (x : Vec Ideal S1024x1024 .f32) (p q : Fin 1024) :
    out0_3 a w x (ValueIdx.ix2 p q)
      = addHalf (fun j => a (ValueIdx.ix2 p j)) (fun j k => w (ValueIdx.ix3 0 j k)) (fun k => x (ValueIdx.ix2 p k)) q := by
  unfold out0_3
  rw [View.canon_unit_zero hz2]
  simp only [View.ld_unit_zero (S := S1024x1024) hz2, View.ld_unit_zero (S := S1024x2816) hz2, View.ld_unit_zero (S := S1x2816x1024) hz3]
  unfold_payloads
  pointwise
  rfl

variable (m : (ℓ : Loc nD τ sig) → Buf (Elt Ideal) ℓ) (c : Dev nD)

abbrev argA : FVec Ideal S4096x2816 .bf16 := m ((c.tc : Thread nD τ).loc main_arg0)
abbrev argW : FVec Ideal S1x2816x1024 .bf16 := m ((c.tc : Thread nD τ).loc main_arg1)
abbrev argX : FVec Ideal S4096x1024 .f32 := m ((c.tc : Thread nD τ).loc main_arg2)

def sumAt (i : S4096x1024.Idx) : EReal :=
  addHalf (fun j => argA m c (ValueIdx.ix2 (i 0) j)) (fun j k => argW m c (ValueIdx.ix3 0 j k)) (fun k => argX m c (ValueIdx.ix2 (i 0) k)) (i 1)

theorem idx_facts : ∀ t : Fin cfg0.N, (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 0) ∧ (win0_3.index t 0 = t.val ∧ win0_3.index t 1 = 0 ∧ win0_3.flush t = true) :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p : Fin 1024) (k : Fin 2816) : iblk m c 0 t (ValueIdx.ix2 p k) = argA m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 2816 + 1 * k.val = k.val; omega

theorem iblk1 (t : Fin cfg0.N) (j : Fin 2816) (q : Fin 1024) : iblk m c 1 t (ValueIdx.ix3 0 j q) = argW m c (ValueIdx.ix3 0 j q) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 2816 + 1 * j.val = j.val; omega
  | ⟨2, _⟩ => show win0_1.index t 2 * 1024 + 1 * q.val = q.val; omega

theorem iblk2 (t : Fin cfg0.N) (p k : Fin 1024) : iblk m c 2 t (ValueIdx.ix2 p k) = argX m c (ValueIdx.ix2 (rowOf t p) k) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 1024 + 1 * p.val = 1024 * t.val + p.val; omega
  | ⟨1, _⟩ => show win0_2.index t 1 * 1024 + 1 * k.val = k.val; omega

theorem final_sum : (dats m 0 c).arrAt 3 cfg0.N = sumAt m c := by
  refine (dats m 0 c).arrAt_eq_of_cover 3 (sumAt m c) (fun t _ => ?_) fun i => ?_
  · obtain ⟨-, -, -, h0, h1, -⟩ := idx_facts t
    rw [Value.flushed3]
    funext i
    obtain ⟨p, q, rfl⟩ : ∃ p q : Fin 1024, i = ValueIdx.ix2 p q := ⟨i 0, i 1, idx2 i⟩
    refine (block_sum _ _ _ p q).trans (.trans (b := sumAt m c (ValueIdx.ix2 (rowOf t p) q)) ?_ (congrArg (sumAt m c) (funext fun a => Fin.ext ?_)))
    · simp only [iblk0, iblk1, iblk2]
      rfl
    · match a with
      | ⟨0, _⟩ => show 1024 * t.val + p.val = win0_3.index t 0 * 1024 + 1 * p.val; omega
      | ⟨1, _⟩ => show q.val = win0_3.index t 1 * 1024 + 1 * q.val; omega
  · have hi0 : (i 0 : ℕ) < 4096 := (i 0).isLt
    have hi1 : (i 1 : ℕ) < 1024 := (i 1).isLt
    have ht : (i 0 : ℕ) / 1024 < cfg0.N := by rw [show cfg0.N = 4 from N_0]; omega
    obtain ⟨-, -, -, h0, h1, hf⟩ := idx_facts ⟨_, ht⟩
    dsimp only at h0
    refine ⟨⟨_, ht⟩, hf, ?_⟩
    show i ∈ ((View.whole main_v0).slice (win0_3.rect ⟨_, ht⟩)).set
    rw [View.set_slice_whole, Rect.mem_set_unit]
    intro a
    match a with
    | ⟨0, _⟩ => show win0_3.index ⟨_, ht⟩ 0 * 1024 ≤ (i 0 : ℕ) ∧ (i 0 : ℕ) < win0_3.index ⟨_, ht⟩ 0 * 1024 + 1024; omega
    | ⟨1, _⟩ => show win0_3.index ⟨_, ht⟩ 1 * 1024 ≤ (i 1 : ℕ) ∧ (i 1 : ℕ) < win0_3.index ⟨_, ht⟩ 1 * 1024 + 1024; omega

end Kernel

section Reference
open Cert.Reference22Ideal Cert.Reference22Ideal.Read

theorem ref_sum (a : FVec Ideal S4096x2816 .bf16) (w : FVec Ideal S1x2816x1024 .bf16) (x : FVec Ideal S4096x1024 .f32) (p : Fin 4096) (q : Fin 1024) :
    val_main_v6 (F := Ideal) a w x (ValueIdx.ix2 p q)
      = addHalf (fun j => a (ValueIdx.ix2 p j)) (fun j k => w (ValueIdx.ix3 0 j k)) (fun k => x (ValueIdx.ix2 p k)) q := by
  unfold val_main_v6 val_main_v5 val_main_v4 val_main_cst val_main_v3 val_main_v2 val_main_v1 val_main_v0
  pointwise
  exact congrArg (x (ValueIdx.ix2 p q) + ·) (mul_comm _ _)

end Reference

theorem algebraic : Cert.algebraic_Kernel22Ideal_Reference22Ideal := by
  intro m ρ m' ρ' _ hagree
  refine ⟨fun c => sumAt m c, ?_, ?_⟩
  · refine (θ_run Cert.Kernel22Ideal.defs _ _).mono (fun _ h c => ?_) (Cert.Kernel22Ideal.Value.run_blocks (F := Ideal) m ρ)
    exact ⟨(h c).1.trans (final_sum m c), (h c).2⟩
  · refine (θ_run Cert.Reference22Ideal.defs _ _).mono (fun _ h c => ?_) (Cert.Reference22Ideal.Value.run (F := Ideal) m' ρ')
    obtain ⟨a0, a1, a2⟩ := hagree c
    refine ⟨(h c).1.trans ?_, (h c).2⟩
    rw [Cert.Reference22Ideal.Read.val_main_v6_eq, a0, a1, a2]
    funext i
    obtain ⟨p, q, rfl⟩ : ∃ (p : Fin 4096) (q : Fin 1024), i = ValueIdx.ix2 p q := ⟨i 0, i 1, idx2 i⟩
    exact ref_sum _ _ _ p q

end Cert.FfnOutLast

end
-- ==== Proof.Kv.lean ====
module

public import proofs.«01_k».proof.Defs
public import proofs.«01_k».proof.Proof.MixDcat.Kernel
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import Idealize.ShloMosaic.Lib.Quiescent

@[expose] public section

set_option maxRecDepth 16384

noncomputable section

open Idealize.ShloMosaic Idealize.ShloMosaic.TcCoe Idealize.SL.Sem
open Cert.MixDcat (hz2 hz3 idx2)

/-! ## The claims about the keys and values of the memory -/

namespace Cert.Kv

theorem frame_kernel : Cert.quiescent_Kernel23 := fun m ρ _ => Cert.Kernel23.Gen.frame m ρ

theorem frame_ideal : Cert.quiescent_Kernel23Ideal := fun m ρ _ => Cert.Kernel23Ideal.Gen.frame m ρ

/-- The reference leaves its arguments unchanged; it declares no semaphore. -/
theorem frame_reference : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

section Kernel
open Cert.Kernel23Ideal Cert.Kernel23Ideal.Gen

/-- A block of the product, from the rows and a block of the weight's columns. -/
theorem block_kv (h : Vec Ideal S512x1024 .bf16) (w : Vec Ideal S1x1024x512 .bf16) (p q : Fin 512) :
    out0_2 h w (ValueIdx.ix2 p q) = ∑ j : Fin 1024, h (ValueIdx.ix2 p j) * w (ValueIdx.ix3 0 j q) := by
  unfold out0_2
  rw [View.canon_unit_zero hz2]
  simp only [View.ld_unit_zero (S := S512x1024) hz2, View.ld_unit_zero (S := S1x1024x512) hz3]
  unfold_payloads
  pointwise
  rfl

variable (m : (ℓ : Loc nD τ sig) → Buf (Elt Ideal) ℓ) (c : Dev nD)

abbrev argH : FVec Ideal S512x1024 .bf16 := m ((c.tc : Thread nD τ).loc main_arg0)
abbrev argW : FVec Ideal S1x1024x1024 .bf16 := m ((c.tc : Thread nD τ).loc main_arg1)

/-- The keys next to the values. -/
def kvAt (i : S512x1024.Idx) : EReal := ∑ j : Fin 1024, argH m c (ValueIdx.ix2 (i 0) j) * argW m c (ValueIdx.ix3 0 j (i 1))

theorem idx_facts : ∀ t : Fin cfg0.N, (win0_0.index t 0 = 0 ∧ win0_0.index t 1 = 0) ∧ (win0_1.index t 0 = 0 ∧ win0_1.index t 1 = 0 ∧ win0_1.index t 2 = t.val)
    ∧ (win0_2.index t 0 = 0 ∧ win0_2.index t 1 = t.val) ∧ win0_2.flush t = true :=
  (by decide +kernel : ∀ t : Fin grid0.N, _)

def colOf (t : Fin cfg0.N) (q : Fin 512) : Fin 1024 := ⟨512 * t.val + q.val, by have : t.val < 2 := lt_of_lt_of_eq t.isLt N_0; have := q.isLt; omega⟩

theorem iblk0 (t : Fin cfg0.N) (p : Fin 512) (k : Fin 1024) : iblk m c 0 t (ValueIdx.ix2 p k) = argH m c (ValueIdx.ix2 p k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = p.val; omega
  | ⟨1, _⟩ => show win0_0.index t 1 * 1024 + 1 * k.val = k.val; omega

theorem iblk1 (t : Fin cfg0.N) (j : Fin 1024) (q : Fin 512) : iblk m c 1 t (ValueIdx.ix3 0 j q) = argW m c (ValueIdx.ix3 0 j (colOf t q)) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * j.val = j.val; omega
  | ⟨2, _⟩ => show win0_1.index t 2 * 512 + 1 * q.val = 512 * t.val + q.val; omega

theorem final_kv : (dats m 0 c).arrAt 2 cfg0.N = kvAt m c := by
  refine (dats m 0 c).arrAt_eq_of_cover 2 (kvAt m c) (fun t _ => ?_) fun i => ?_
  · obtain ⟨-, -, ⟨h0, h1⟩, -⟩ := idx_facts t
    rw [Value.flushed2]
    funext i
    obtain ⟨p, q, rfl⟩ : ∃ p q : Fin 512, i = ValueIdx.ix2 p q := ⟨i 0, i 1, idx2 i⟩
    refine (block_kv _ _ p q).trans (.trans (b := kvAt m c (ValueIdx.ix2 p (colOf t q))) ?_ (congrArg (kvAt m c) (funext fun a => Fin.ext ?_)))
    · simp only [iblk0, iblk1]
      rfl
    · match a with
      | ⟨0, _⟩ => show p.val = win0_2.index t 0 * 512 + 1 * p.val; omega
      | ⟨1, _⟩ => show 512 * t.val + q.val = win0_2.index t 1 * 512 + 1 * q.val; omega
  · have hi0 : (i 0 : ℕ) < 512 := (i 0).isLt
    have hi1 : (i 1 : ℕ) < 1024 := (i 1).isLt
    have ht : (i 1 : ℕ) / 512 < cfg0.N := by rw [show cfg0.N = 2 from N_0]; omega
    obtain ⟨-, -, ⟨h0, h1⟩, hf⟩ := idx_facts ⟨_, ht⟩
    dsimp only at h1
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 512 ≤ (i 0 : ℕ) ∧ (i 0 : ℕ) < win0_2.index ⟨_, ht⟩ 0 * 512 + 512; omega
    | ⟨1, _⟩ => show win0_2.index ⟨_, ht⟩ 1 * 512 ≤ (i 1 : ℕ) ∧ (i 1 : ℕ) < win0_2.index ⟨_, ht⟩ 1 * 512 + 512; omega

end Kernel

section Reference
open Cert.Reference23Ideal Cert.Reference23Ideal.Read

theorem ref_kv (h : FVec Ideal S512x1024 .bf16) (w : FVec Ideal S1x1024x1024 .bf16) (p : Fin 512) (q : Fin 1024) :
    val_main_v3 (F := Ideal) h w (ValueIdx.ix2 p q) = ∑ j : Fin 1024, h (ValueIdx.ix2 p j) * w (ValueIdx.ix3 0 j q) := by
  unfold val_main_v3 val_main_v2 val_main_v1 val_main_v0
  pointwise
  rfl

end Reference

theorem algebraic : Cert.algebraic_Kernel23Ideal_Reference23Ideal := by
  intro m ρ m' ρ' _ hagree
  refine ⟨fun c => kvAt m c, ?_, ?_⟩
  · refine (θ_run Cert.Kernel23Ideal.defs _ _).mono (fun _ h c => ?_) (Cert.Kernel23Ideal.Value.run_blocks (F := Ideal) m ρ)
    exact ⟨(h c).1.trans (final_kv m c), (h c).2⟩
  · refine (θ_run Cert.Reference23Ideal.defs _ _).mono (fun _ h c => ?_) (Cert.Reference23Ideal.Value.run (F := Ideal) m' ρ')
    obtain ⟨a0, a1⟩ := hagree c
    refine ⟨(h c).1.trans ?_, (h c).2⟩
    rw [Cert.Reference23Ideal.Read.val_main_v3_eq, a0, a1]
    funext i
    obtain ⟨p, q, rfl⟩ : ∃ (p : Fin 512) (q : Fin 1024), i = ValueIdx.ix2 p q := ⟨i 0, i 1, idx2 i⟩
    exact ref_kv _ _ p q

end Cert.Kv

end
-- ==== Proof.KvDx.lean ====
module

public import proofs.«01_k».proof.Defs
public import proofs.«01_k».proof.Proof.MixDcatFirst
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import Idealize.ShloMosaic.Lib.Quiescent

@[expose] public section

set_option maxRecDepth 16384

noncomputable section

open Idealize.ShloMosaic Idealize.ShloMosaic.TcCoe Idealize.SL.Sem
open Cert.MixDcat (hz2 hz3 idx2)
open Cert.MixDcatFirst (dcat)

/-! ## The claims about the gradient of the normed memory from one layer's keys and values -/

namespace Cert.KvDx

theorem frame_kernel : Cert.quiescent_Kernel24 := fun m ρ _ => Cert.Kernel24.Gen.frame m ρ

theorem frame_ideal : Cert.quiescent_Kernel24Ideal := fun m ρ _ => Cert.Kernel24Ideal.Gen.frame m ρ

/-- The reference leaves its arguments unchanged; it declares no semaphore. -/
theorem frame_reference : Cert.quiescent_Reference24Ideal := fun m ρ _ =>
  (θ_run Cert.Reference24Ideal.defs _ _).mono (fun r h => ⟨fun c => (h c).2,
      Idealize.ShloMosaic.sem_eq_zero_of_no_sems (by decide) r.2⟩)
    (Cert.Reference24Ideal.Value.run (F := Ideal) m ρ)

section Kernel
open Cert.Kernel24Ideal Cert.Kernel24Ideal.Gen

theorem block_dx (x : Vec Ideal S512x1024 .f32) (w : Vec Ideal S1x512x1024 .bf16) (p q : Fin 512) :
    out0_2 x w (ValueIdx.ix2 p q) = dcat (fun p j => x (ValueIdx.ix2 p j)) (fun q j => w (ValueIdx.ix3 0 q j)) p q := by
  unfold out0_2
  rw [View.canon_unit_zero hz2]
  simp only [View.ld_unit_zero (S := S512x1024) hz2, View.ld_unit_zero (S := S1x512x1024) hz3]
  unfold_payloads
  pointwise
  rfl

variable (m : (ℓ : Loc nD τ sig) → Buf (Elt Ideal) ℓ) (c : Dev nD)

abbrev argD : FVec Ideal S512x1024 .f32 := m ((c.tc : Thread nD τ).loc main_arg0)
abbrev argW : FVec Ideal S1x1024x1024 .bf16 := m ((c.tc : Thread nD τ).loc main_arg1)

/-- The gradient of the normed memory. -/
def dxAt (i : S512x1024.Idx) : EReal := dcat (fun p j => argD m c (ValueIdx.ix2 p j)) (fun q j => argW m c (ValueIdx.ix3 0 q j)) (i 0) (i 1)

theorem idx_facts : ∀ t : Fin cfg0.N, (win0_0.index t 0 = 0 ∧ win0_0.index t 1 = 0) ∧ (win0_1.index t 0 = 0 ∧ win0_1.index t 1 = t.val ∧ win0_1.index t 2 = 0)
    ∧ (win0_2.index t 0 = 0 ∧ win0_2.index t 1 = t.val) ∧ win0_2.flush t = true :=
  (by decide +kernel : ∀ t : Fin grid0.N, _)

def colOf (t : Fin cfg0.N) (q : Fin 512) : Fin 1024 := ⟨512 * t.val + q.val, by have : t.val < 2 := lt_of_lt_of_eq t.isLt N_0; have := q.isLt; omega⟩

theorem iblk0 (t : Fin cfg0.N) (p : Fin 512) (k : Fin 1024) : iblk m c 0 t (ValueIdx.ix2 p k) = argD m c (ValueIdx.ix2 p k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = p.val; omega
  | ⟨1, _⟩ => show win0_0.index t 1 * 1024 + 1 * k.val = k.val; omega

theorem iblk1 (t : Fin cfg0.N) (q : Fin 512) (j : Fin 1024) : iblk m c 1 t (ValueIdx.ix3 0 q j) = argW m c (ValueIdx.ix3 0 (colOf t q) j) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 512 + 1 * q.val = 512 * t.val + q.val; omega
  | ⟨2, _⟩ => show win0_1.index t 2 * 1024 + 1 * j.val = j.val; omega

theorem final_dx : (dats m 0 c).arrAt 2 cfg0.N = dxAt m c := by
  refine (dats m 0 c).arrAt_eq_of_cover 2 (dxAt m c) (fun t _ => ?_) fun i => ?_
  · obtain ⟨-, -, ⟨h0, h1⟩, -⟩ := idx_facts t
    rw [Value.flushed2]
    funext i
    obtain ⟨p, q, rfl⟩ : ∃ p q : Fin 512, i = ValueIdx.ix2 p q := ⟨i 0, i 1, idx2 i⟩
    refine (block_dx _ _ p q).trans (.trans (b := dxAt m c (ValueIdx.ix2 p (colOf t q))) ?_ (congrArg (dxAt m c) (funext fun a => Fin.ext ?_)))
    · simp only [iblk0, iblk1]
      rfl
    · match a with
      | ⟨0, _⟩ => show p.val = win0_2.index t 0 * 512 + 1 * p.val; omega
      | ⟨1, _⟩ => show 512 * t.val + q.val = win0_2.index t 1 * 512 + 1 * q.val; omega
  · have hi0 : (i 0 : ℕ) < 512 := (i 0).isLt
    have hi1 : (i 1 : ℕ) < 1024 := (i 1).isLt
    have ht : (i 1 : ℕ) / 512 < cfg0.N := by rw [show cfg0.N = 2 from N_0]; omega
    obtain ⟨-, -, ⟨h0, h1⟩, hf⟩ := idx_facts ⟨_, ht⟩
    dsimp only at h1
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 512 ≤ (i 0 : ℕ) ∧ (i 0 : ℕ) < win0_2.index ⟨_, ht⟩ 0 * 512 + 512; omega
    | ⟨1, _⟩ => show win0_2.index ⟨_, ht⟩ 1 * 512 ≤ (i 1 : ℕ) ∧ (i 1 : ℕ) < win0_2.index ⟨_, ht⟩ 1 * 512 + 512; omega

end Kernel

section Reference
open Cert.Reference24Ideal Cert.Reference24Ideal.Read

theorem ref_dx (d : FVec Ideal S512x1024 .f32) (w : FVec Ideal S1x1024x1024 .bf16) (p : Fin 512) (q : Fin 1024) :
    val_main_v4 (F := Ideal) d w (ValueIdx.ix2 p q) = dcat (fun p j => d (ValueIdx.ix2 p j)) (fun q j => w (ValueIdx.ix3 0 q j)) p q := by
  unfold val_main_v4 val_main_v1 val_main_v0
  pointwise
  rfl

end Reference

theorem algebraic : Cert.algebraic_Kernel24Ideal_Reference24Ideal := by
  intro m ρ m' ρ' _ hagree
  refine ⟨fun c => dxAt m c, ?_, ?_⟩
  · refine (θ_run Cert.Kernel24Ideal.defs _ _).mono (fun _ h c => ?_) (Cert.Kernel24Ideal.Value.run_blocks (F := Ideal) m ρ)
    exact ⟨(h c).1.trans (final_dx m c), (h c).2⟩
  · refine (θ_run Cert.Reference24Ideal.defs _ _).mono (fun _ h c => ?_) (Cert.Reference24Ideal.Value.run (F := Ideal) m' ρ')
    obtain ⟨a0, a1⟩ := hagree c
    refine ⟨(h c).1.trans ?_, (h c).2⟩
    rw [Cert.Reference24Ideal.Read.val_main_v4_eq, a0, a1]
    funext i
    obtain ⟨p, q, rfl⟩ : ∃ (p : Fin 512) (q : Fin 1024), i = ValueIdx.ix2 p q := ⟨i 0, i 1, idx2 i⟩
    exact ref_dx _ _ p q

end Cert.KvDx

end
-- ==== Proof.KvDxSum.lean ====
module

public import proofs.«01_k».proof.Defs
public import proofs.«01_k».proof.Proof.MixDcatFirst
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import Idealize.ShloMosaic.Lib.Quiescent

@[expose] public section

set_option maxRecDepth 16384

noncomputable section

open Idealize.ShloMosaic Idealize.ShloMosaic.TcCoe Idealize.SL.Sem
open Cert.MixDcat (hz2 hz3 idx2)
open Cert.MixDcatFirst (dcat)

/-! ## The claims about the gradient of the normed memory, added to that from the other layer -/

namespace Cert.KvDxSum

theorem frame_kernel : Cert.quiescent_Kernel25 := fun m ρ _ => Cert.Kernel25.Gen.frame m ρ

theorem frame_ideal : Cert.quiescent_Kernel25Ideal := fun m ρ _ => Cert.Kernel25Ideal.Gen.frame m ρ

/-- The reference leaves its arguments unchanged; it declares no semaphore. -/
theorem frame_reference : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)

section Kernel
open Cert.Kernel25Ideal Cert.Kernel25Ideal.Gen

theorem block_sum (x : Vec Ideal S512x1024 .f32) (w : Vec Ideal S1x512x1024 .bf16) (y : Vec Ideal S512x512 .f32) (p q : Fin 512) :
    out0_3 x w y (ValueIdx.ix2 p q)
      = y (ValueIdx.ix2 p q) + dcat (fun p j => x (ValueIdx.ix2 p j)) (fun q j => w (ValueIdx.ix3 0 q j)) p q := by
  unfold out0_3
  rw [View.canon_unit_zero hz2]
  simp only [View.ld_unit_zero (S := S512x1024) hz2, View.ld_unit_zero (S := S512x512) hz2, View.ld_unit_zero (S := S1x512x1024) hz3]
  unfold_payloads
  pointwise
  rfl

variable (m : (ℓ : Loc nD τ sig) → Buf (Elt Ideal) ℓ) (c : Dev nD)

abbrev argD : FVec Ideal S512x1024 .f32 := m ((c.tc : Thread nD τ).loc main_arg0)
abbrev argW : FVec Ideal S1x1024x1024 .bf16 := m ((c.tc : Thread nD τ).loc main_arg1)
abbrev argY : FVec Ideal S512x1024 .f32 := m ((c.tc : Thread nD τ).loc main_arg2)

/-- The sum of both layers' gradients. -/
def sumAt (i : S512x1024.Idx) : EReal :=
  argY m c (ValueIdx.ix2 (i 0) (i 1)) + dcat (fun p j => argD m c (ValueIdx.ix2 p j)) (fun q j => argW m c (ValueIdx.ix3 0 q j)) (i 0) (i 1)

theorem idx_facts : ∀ t : Fin cfg0.N, (win0_0.index t 0 = 0 ∧ win0_0.index t 1 = 0) ∧ (win0_1.index t 0 = 0 ∧ win0_1.index t 1 = t.val ∧ win0_1.index t 2 = 0)
    ∧ (win0_2.index t 0 = 0 ∧ win0_2.index t 1 = t.val) ∧ (win0_3.index t 0 = 0 ∧ win0_3.index t 1 = t.val) ∧ win0_3.flush t = true :=
  (by decide +kernel : ∀ t : Fin grid0.N, _)

def colOf (t : Fin cfg0.N) (q : Fin 512) : Fin 1024 := ⟨512 * t.val + q.val, by have : t.val < 2 := lt_of_lt_of_eq t.isLt N_0; have := q.isLt; omega⟩

theorem iblk0 (t : Fin cfg0.N) (p : Fin 512) (k : Fin 1024) : iblk m c 0 t (ValueIdx.ix2 p k) = argD m c (ValueIdx.ix2 p k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = p.val; omega
  | ⟨1, _⟩ => show win0_0.index t 1 * 1024 + 1 * k.val = k.val; omega

theorem iblk1 (t : Fin cfg0.N) (q : Fin 512) (j : Fin 1024) : iblk m c 1 t (ValueIdx.ix3 0 q j) = argW m c (ValueIdx.ix3 0 (colOf t q) j) := by
  obtain ⟨-, ⟨h0, h1, h2⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 512 + 1 * q.val = 512 * t.val + q.val; omega
  | ⟨2, _⟩ => show win0_1.index t 2 * 1024 + 1 * j.val = j.val; omega

theorem iblk2 (t : Fin cfg0.N) (p q : Fin 512) : iblk m c 2 t (ValueIdx.ix2 p q) = argY m c (ValueIdx.ix2 p (colOf t q)) := by
  obtain ⟨-, -, ⟨h0, h1⟩, -⟩ := idx_facts t
  show V m c main_arg2 _ = _
  rw [V_main_arg2]
  refine congrArg _ (funext fun a => Fin.ext ?_)
  match a with
  | ⟨0, _⟩ => show win0_2.index t 0 * 512 + 1 * p.val = p.val; omega
  | ⟨1, _⟩ => show win0_2.index t 1 * 512 + 1 * q.val = 512 * t.val + q.val; omega

theorem final_sum : (dats m 0 c).arrAt 3 cfg0.N = sumAt m c := by
  refine (dats m 0 c).arrAt_eq_of_cover 3 (sumAt m c) (fun t _ => ?_) fun i => ?_
  · obtain ⟨-, -, -, ⟨h0, h1⟩, -⟩ := idx_facts t
    rw [Value.flushed3]
    funext i
    obtain ⟨p, q, rfl⟩ : ∃ p q : Fin 512, i = ValueIdx.ix2 p q := ⟨i 0, i 1, idx2 i⟩
    refine (block_sum _ _ _ p q).trans (.trans (b := sumAt m c (ValueIdx.ix2 p (colOf t q))) ?_ (congrArg (sumAt m c) (funext fun a => Fin.ext ?_)))
    · simp only [iblk0, iblk1, iblk2]
      rfl
    · match a with
      | ⟨0, _⟩ => show p.val = win0_3.index t 0 * 512 + 1 * p.val; omega
      | ⟨1, _⟩ => show 512 * t.val + q.val = win0_3.index t 1 * 512 + 1 * q.val; omega
  · have hi0 : (i 0 : ℕ) < 512 := (i 0).isLt
    have hi1 : (i 1 : ℕ) < 1024 := (i 1).isLt
    have ht : (i 1 : ℕ) / 512 < cfg0.N := by rw [show cfg0.N = 2 from N_0]; omega
    obtain ⟨-, -, -, ⟨h0, h1⟩, hf⟩ := idx_facts ⟨_, ht⟩
    dsimp only at h1
    refine ⟨⟨_, ht⟩, hf, ?_⟩
    show i ∈ ((View.whole main_v0).slice (win0_3.rect ⟨_, ht⟩)).set
    rw [View.set_slice_whole, Rect.mem_set_unit]
    intro a
    match a with
    | ⟨0, _⟩ => show win0_3.index ⟨_, ht⟩ 0 * 512 ≤ (i 0 : ℕ) ∧ (i 0 : ℕ) < win0_3.index ⟨_, ht⟩ 0 * 512 + 512; omega
    | ⟨1, _⟩ => show win0_3.index ⟨_, ht⟩ 1 * 512 ≤ (i 1 : ℕ) ∧ (i 1 : ℕ) < win0_3.index ⟨_, ht⟩ 1 * 512 + 512; omega

end Kernel

section Reference
open Cert.Reference25Ideal Cert.Reference25Ideal.Read

theorem ref_sum (d : FVec Ideal S512x1024 .f32) (w : FVec Ideal S1x1024x1024 .bf16) (y : FVec Ideal S512x1024 .f32) (p : Fin 512) (q : Fin 1024) :
    val_main_v5 (F := Ideal) d w y (ValueIdx.ix2 p q)
      = y (ValueIdx.ix2 p q) + dcat (fun p j => d (ValueIdx.ix2 p j)) (fun q j => w (ValueIdx.ix3 0 q j)) p q := by
  unfold val_main_v5 val_main_v4 val_main_v1 val_main_v0
  pointwise
  rfl

end Reference

theorem algebraic : Cert.algebraic_Kernel25Ideal_Reference25Ideal := by
  intro m ρ m' ρ' _ hagree
  refine ⟨fun c => sumAt m c, ?_, ?_⟩
  · refine (θ_run Cert.Kernel25Ideal.defs _ _).mono (fun _ h c => ?_) (Cert.Kernel25Ideal.Value.run_blocks (F := Ideal) m ρ)
    exact ⟨(h c).1.trans (final_sum m c), (h c).2⟩
  · refine (θ_run Cert.Reference25Ideal.defs _ _).mono (fun _ h c => ?_) (Cert.Reference25Ideal.Value.run (F := Ideal) m' ρ')
    obtain ⟨a0, a1, a2⟩ := hagree c
    refine ⟨(h c).1.trans ?_, (h c).2⟩
    rw [Cert.Reference25Ideal.Read.val_main_v5_eq, a0, a1, a2]
    funext i
    obtain ⟨p, q, rfl⟩ : ∃ (p : Fin 512) (q : Fin 1024), i = ValueIdx.ix2 p q := ⟨i 0, i 1, idx2 i⟩
    exact ref_sum _ _ _ p q

end Cert.KvDxSum

end
-- ==== Proof.Norm.lean ====
module

public import proofs.«01_k».proof.Defs
public import proofs.«01_k».proof.Proof.FfnOut.Kernel
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import Idealize.ShloMosaic.Lib.Quiescent

@[expose] public section

set_option maxRecDepth 16384

noncomputable section

open Idealize.ShloMosaic Idealize.ShloMosaic.TcCoe Idealize.SL.Sem
open Cert.FfnOut (hz2 idx2 normed)

/-! ## The claims about the norm of the step's input -/

namespace Cert.Norm

theorem frame_kernel : Cert.quiescent_Kernel26 := fun m ρ _ => Cert.Kernel26.Gen.frame m ρ

theorem frame_ideal : Cert.quiescent_Kernel26Ideal := fun m ρ _ => Cert.Kernel26Ideal.Gen.frame m ρ

/-- The reference leaves its arguments unchanged; it declares no semaphore. -/
theorem frame_reference : Cert.quiescent_Reference26Ideal := fun m ρ _ =>
  (θ_run Cert.Reference26Ideal.defs _ _).mono (fun r h => ⟨fun c => (h c).2,
      Idealize.ShloMosaic.sem_eq_zero_of_no_sems (by decide) r.2⟩)
    (Cert.Reference26Ideal.Value.run (F := Ideal) m ρ)

section Kernel
open Cert.Kernel26Ideal Cert.Kernel26Ideal.Gen

theorem block_norm (x : Vec Ideal S1024x1024 .f32) (g : Vec Ideal S1x1024 .f32) (p q : Fin 1024) :
    out0_2 x g (ValueIdx.ix2 p q) = normed (fun k => x (ValueIdx.ix2 p k)) (fun k => g (ValueIdx.ix2 0 k)) q := by
  unfold out0_2
  rw [View.canon_unit_zero hz2]
  simp only [View.ld_unit_zero (S := S1024x1024) hz2, View.ld_unit_zero (S := S1x1024) hz2]
  unfold_payloads
  pointwise
  rfl

variable (m : (ℓ : Loc nD τ sig) → Buf (Elt Ideal) ℓ) (c : Dev nD)

abbrev argX : FVec Ideal S4096x1024 .f32 := m ((c.tc : Thread nD τ).loc main_arg0)
abbrev argG : FVec Ideal S1x1024 .f32 := m ((c.tc : Thread nD τ).loc main_arg1)

def normAt (i : S4096x1024.Idx) : EReal := normed (fun k => argX m c (ValueIdx.ix2 (i 0) k)) (fun k => argG m c (ValueIdx.ix2 0 k)) (i 1)

theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ win0_2.flush t = true :=
  (by decide +kernel : ∀ t : Fin grid0.N, _)

def rowOf (t : Fin cfg0.N) (p : Fin 1024) : Fin 4096 := ⟨1024 * t.val + p.val, by have : t.val < 4 := lt_of_lt_of_eq t.isLt N_0; have := p.isLt; omega⟩

theorem iblk0 (t : Fin cfg0.N) (p k : Fin 1024) : iblk m c 0 t (ValueIdx.ix2 p k) = argX m c (ValueIdx.ix2 (rowOf t p) k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 1024 + 1 * p.val = 1024 * t.val + p.val; omega
  | ⟨1, _⟩ => show win0_0.index t 1 * 1024 + 1 * k.val = k.val; omega

theorem iblk1 (t : Fin cfg0.N) (k : Fin 1024) : iblk m c 1 t (ValueIdx.ix2 0 k) = argG m c (ValueIdx.ix2 0 k) := by
  obtain ⟨-, ⟨h0, h1⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * k.val = k.val; omega

theorem final_norm : (dats m 0 c).arrAt 2 cfg0.N = normAt m c := by
  refine (dats m 0 c).arrAt_eq_of_cover 2 (normAt m c) (fun t _ => ?_) fun i => ?_
  · obtain ⟨-, -, ⟨h0, h1⟩, -⟩ := idx_facts t
    rw [Value.flushed2]
    funext i
    obtain ⟨p, q, rfl⟩ : ∃ p q : Fin 1024, i = ValueIdx.ix2 p q := ⟨i 0, i 1, idx2 i⟩
    refine (block_norm _ _ p q).trans (.trans (b := normAt m c (ValueIdx.ix2 (rowOf t p) q)) ?_ (congrArg (normAt m c) (funext fun a => Fin.ext ?_)))
    · simp only [iblk0, iblk1]
      rfl
    · match a with
      | ⟨0, _⟩ => show 1024 * t.val + p.val = win0_2.index t 0 * 1024 + 1 * p.val; omega
      | ⟨1, _⟩ => show q.val = win0_2.index t 1 * 1024 + 1 * q.val; omega
  · have hi0 : (i 0 : ℕ) < 4096 := (i 0).isLt
    have hi1 : (i 1 : ℕ) < 1024 := (i 1).isLt
    have ht : (i 0 : ℕ) / 1024 < cfg0.N := by rw [show cfg0.N = 4 from N_0]; omega
    obtain ⟨-, -, ⟨h0, h1⟩, hf⟩ := idx_facts ⟨_, ht⟩
    dsimp only at h0
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 1024 ≤ (i 0 : ℕ) ∧ (i 0 : ℕ) < win0_2.index ⟨_, ht⟩ 0 * 1024 + 1024; omega
    | ⟨1, _⟩ => show win0_2.index ⟨_, ht⟩ 1 * 1024 ≤ (i 1 : ℕ) ∧ (i 1 : ℕ) < win0_2.index ⟨_, ht⟩ 1 * 1024 + 1024; omega

end Kernel

section Reference
open Cert.Reference26Ideal Cert.Reference26Ideal.Read

theorem ref_norm (x : FVec Ideal S4096x1024 .f32) (g : FVec Ideal S1x1024 .f32) (p : Fin 4096) (q : Fin 1024) :
    val_main_v14 (F := Ideal) x g (ValueIdx.ix2 p q) = normed (fun k => x (ValueIdx.ix2 p k)) (fun k => g (ValueIdx.ix2 0 k)) q := by
  unfold val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  rfl

end Reference

theorem algebraic : Cert.algebraic_Kernel26Ideal_Reference26Ideal := by
  intro m ρ m' ρ' _ hagree
  refine ⟨fun c => normAt m c, ?_, ?_⟩
  · refine (θ_run Cert.Kernel26Ideal.defs _ _).mono (fun _ h c => ?_) (Cert.Kernel26Ideal.Value.run_blocks (F := Ideal) m ρ)
    exact ⟨(h c).1.trans (final_norm m c), (h c).2⟩
  · refine (θ_run Cert.Reference26Ideal.defs _ _).mono (fun _ h c => ?_) (Cert.Reference26Ideal.Value.run (F := Ideal) m' ρ')
    obtain ⟨a0, a1⟩ := hagree c
    refine ⟨(h c).1.trans ?_, (h c).2⟩
    rw [Cert.Reference26Ideal.Read.val_main_v14_eq, a0, a1]
    funext i
    obtain ⟨p, q, rfl⟩ : ∃ (p : Fin 4096) (q : Fin 1024), i = ValueIdx.ix2 p q := ⟨i 0, i 1, idx2 i⟩
    exact ref_norm _ _ p q

end Cert.Norm

end
-- ==== Proof.NormMem.lean ====
module

public import proofs.«01_k».proof.Defs
public import proofs.«01_k».proof.Proof.FfnOut.Kernel
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import Idealize.ShloMosaic.Lib.Quiescent

@[expose] public section

set_option maxRecDepth 16384

noncomputable section

open Idealize.ShloMosaic Idealize.ShloMosaic.TcCoe Idealize.SL.Sem
open Cert.FfnOut (hz2 idx2 normed)

/-! ## The claims about the norm of the memory, one block of rows -/

namespace Cert.NormMem

theorem frame_kernel : Cert.quiescent_Kernel27 := fun m ρ _ => Cert.Kernel27.Gen.frame m ρ

theorem frame_ideal : Cert.quiescent_Kernel27Ideal := fun m ρ _ => Cert.Kernel27Ideal.Gen.frame m ρ

/-- The reference leaves its arguments unchanged; it declares no semaphore. -/
theorem frame_reference : Cert.quiescent_Reference27Ideal := fun m ρ _ =>
  (θ_run Cert.Reference27Ideal.defs _ _).mono (fun r h => ⟨fun c => (h c).2,
      Idealize.ShloMosaic.sem_eq_zero_of_no_sems (by decide) r.2⟩)
    (Cert.Reference27Ideal.Value.run (F := Ideal) m ρ)

section Kernel
open Cert.Kernel27Ideal Cert.Kernel27Ideal.Gen

theorem block_norm (x : Vec Ideal S512x1024 .f32) (g : Vec Ideal S1x1024 .f32) (p : Fin 512) (q : Fin 1024) :
    out0_2 x g (ValueIdx.ix2 p q) = normed (fun k => x (ValueIdx.ix2 p k)) (fun k => g (ValueIdx.ix2 0 k)) q := by
  unfold out0_2
  rw [View.canon_unit_zero hz2]
  simp only [View.ld_unit_zero (S := S512x1024) hz2, View.ld_unit_zero (S := S1x1024) hz2]
  unfold_payloads
  pointwise
  rfl

variable (m : (ℓ : Loc nD τ sig) → Buf (Elt Ideal) ℓ) (c : Dev nD)

abbrev argX : FVec Ideal S512x1024 .f32 := m ((c.tc : Thread nD τ).loc main_arg0)
abbrev argG : FVec Ideal S1x1024 .f32 := m ((c.tc : Thread nD τ).loc main_arg1)

def normAt (i : S512x1024.Idx) : EReal := normed (fun k => argX m c (ValueIdx.ix2 (i 0) k)) (fun k => argG m c (ValueIdx.ix2 0 k)) (i 1)

theorem idx_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ win0_2.flush t = true :=
  (by decide +kernel : ∀ t : Fin grid0.N, _)

theorem iblk0 (t : Fin cfg0.N) (p : Fin 512) (k : Fin 1024) : iblk m c 0 t (ValueIdx.ix2 p k) = argX m c (ValueIdx.ix2 p k) := by
  obtain ⟨⟨h0, h1⟩, -⟩ := idx_facts t
  show V m c main_arg0 _ = _
  rw [V_main_arg0]
  refine congrArg _ (funext fun a => Fin.ext ?_)
  match a with
  | ⟨0, _⟩ => show win0_0.index t 0 * 512 + 1 * p.val = p.val; omega
  | ⟨1, _⟩ => show win0_0.index t 1 * 1024 + 1 * k.val = k.val; omega

theorem iblk1 (t : Fin cfg0.N) (k : Fin 1024) : iblk m c 1 t (ValueIdx.ix2 0 k) = argG m c (ValueIdx.ix2 0 k) := by
  obtain ⟨-, ⟨h0, h1⟩, -⟩ := idx_facts t
  show V m c main_arg1 _ = _
  rw [V_main_arg1]
  refine congrArg _ (funext fun a => Fin.ext ?_)
  match a with
  | ⟨0, _⟩ => show win0_1.index t 0 * 1 + 1 * 0 = 0; omega
  | ⟨1, _⟩ => show win0_1.index t 1 * 1024 + 1 * k.val = k.val; omega

theorem final_norm : (dats m 0 c).arrAt 2 cfg0.N = normAt m c := by
  refine (dats m 0 c).arrAt_eq_of_cover 2 (normAt m c) (fun t _ => ?_) fun i => ?_
  · obtain ⟨-, -, ⟨h0, h1⟩, -⟩ := idx_facts t
    rw [Value.flushed2]
    funext i
    obtain ⟨p, q, rfl⟩ : ∃ (p : Fin 512) (q : Fin 1024), i = ValueIdx.ix2 p q := ⟨i 0, i 1, idx2 i⟩
    refine (block_norm _ _ p q).trans (.trans (b := normAt m c (ValueIdx.ix2 p q)) ?_ (congrArg (normAt m c) (funext fun a => Fin.ext ?_)))
    · simp only [iblk0, iblk1]
      rfl
    · match a with
      | ⟨0, _⟩ => show p.val = win0_2.index t 0 * 512 + 1 * p.val; omega
      | ⟨1, _⟩ => show q.val = win0_2.index t 1 * 1024 + 1 * q.val; omega
  · have hi0 : (i 0 : ℕ) < 512 := (i 0).isLt
    have hi1 : (i 1 : ℕ) < 1024 := (i 1).isLt
    have ht : 0 < cfg0.N := by rw [show cfg0.N = 1 from N_0]; omega
    obtain ⟨-, -, ⟨h0, h1⟩, hf⟩ := idx_facts ⟨_, ht⟩
    refine ⟨⟨_, ht⟩, hf, ?_⟩
    show i ∈ ((View.whole main_v0).slice (win0_2.rect ⟨_, ht⟩)).set
    rw [View.set_slice_whole, Rect.mem_set_unit]
    intro a
    match a with
    | ⟨0, _⟩ => show win0_2.index ⟨_, ht⟩ 0 * 512 ≤ (i 0 : ℕ) ∧ (i 0 : ℕ) < win0_2.index ⟨_, ht⟩ 0 * 512 + 512; omega
    | ⟨1, _⟩ => show win0_2.index ⟨_, ht⟩ 1 * 1024 ≤ (i 1 : ℕ) ∧ (i 1 : ℕ) < win0_2.index ⟨_, ht⟩ 1 * 1024 + 1024; omega

end Kernel

section Reference
open Cert.Reference27Ideal Cert.Reference27Ideal.Read

theorem ref_norm (x : FVec Ideal S512x1024 .f32) (g : FVec Ideal S1x1024 .f32) (p : Fin 512) (q : Fin 1024) :
    val_main_v14 (F := Ideal) x g (ValueIdx.ix2 p q) = normed (fun k => x (ValueIdx.ix2 p k)) (fun k => g (ValueIdx.ix2 0 k)) q := by
  unfold val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  rfl

end Reference

theorem algebraic : Cert.algebraic_Kernel27Ideal_Reference27Ideal := by
  intro m ρ m' ρ' _ hagree
  refine ⟨fun c => normAt m c, ?_, ?_⟩
  · refine (θ_run Cert.Kernel27Ideal.defs _ _).mono (fun _ h c => ?_) (Cert.Kernel27Ideal.Value.run_blocks (F := Ideal) m ρ)
    exact ⟨(h c).1.trans (final_norm m c), (h c).2⟩
  · refine (θ_run Cert.Reference27Ideal.defs _ _).mono (fun _ h c => ?_) (Cert.Reference27Ideal.Value.run (F := Ideal) m' ρ')
    obtain ⟨a0, a1⟩ := hagree c
    refine ⟨(h c).1.trans ?_, (h c).2⟩
    rw [Cert.Reference27Ideal.Read.val_main_v14_eq, a0, a1]
    funext i
    obtain ⟨p, q, rfl⟩ : ∃ (p : Fin 512) (q : Fin 1024), i = ValueIdx.ix2 p q := ⟨i 0, i 1, idx2 i⟩
    exact ref_norm _ _ p q

end Cert.NormMem

end
-- ==== Proof.lean ====
/- The certificate: every run of the programs ends with the argument arrays unchanged and all counters at zero, and the calls
leave the results of their references. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.DhRms
public import proofs.«01_k».proof.Proof.FfnDa
public import proofs.«01_k».proof.Proof.FfnIn
public import proofs.«01_k».proof.Proof.FfnOut
public import proofs.«01_k».proof.Proof.MixIn
public import proofs.«01_k».proof.Proof.MixOut
public import proofs.«01_k».proof.Proof.MixDcat
public import proofs.«01_k».proof.Proof.AdamSmall
public import proofs.«01_k».proof.Proof.AdamFfnIn
public import proofs.«01_k».proof.Proof.AdamFfnOut
public import proofs.«01_k».proof.Proof.AdamMixIn
public import proofs.«01_k».proof.Proof.AdamKv
public import proofs.«01_k».proof.Proof.AdamHgrnOut
public import proofs.«01_k».proof.Proof.AdamGmlpOut
public import proofs.«01_k».proof.Proof.GmlpFwd
public import proofs.«01_k».proof.Proof.GmlpBwd
public import proofs.«01_k».proof.Proof.MixDh
public import proofs.«01_k».proof.Proof.MixDcatFirst
public import proofs.«01_k».proof.Proof.MixOutFirst
public import proofs.«01_k».proof.Proof.LossHead
public import proofs.«01_k».proof.Proof.RmsBwd
public import proofs.«01_k».proof.Proof.FfnOutLast
public import proofs.«01_k».proof.Proof.Kv
public import proofs.«01_k».proof.Proof.KvDx
public import proofs.«01_k».proof.Proof.KvDxSum
public import proofs.«01_k».proof.Proof.Norm
public import proofs.«01_k».proof.Proof.NormMem
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged; it declares no semaphore. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.FfnDa.pre_facts,
  fun m ρ _ => Cert.Kernel.Gen.frame m ρ, fun m ρ _ => Cert.KernelIdeal.Gen.frame m ρ, frame_reference,
  Cert.DhRms.frame_kernel, Cert.DhRms.frame_ideal, Cert.DhRms.frame_reference,
  Cert.FfnDa.frame_kernel, Cert.FfnDa.frame_ideal, Cert.FfnDa.frame_ideal_pre,
  Cert.FfnDa.frame_reference, Cert.FfnDa.frame_reference_pre, Cert.FfnIn.frame_kernel,
  Cert.FfnIn.frame_ideal, Cert.FfnIn.frame_reference, Cert.FfnOut.frame_kernel,
  Cert.FfnOut.frame_ideal, Cert.FfnOut.frame_reference, Cert.MixIn.frame_kernel,
  Cert.MixIn.frame_ideal, Cert.MixIn.frame_reference,
  Cert.MixOut.frame_kernel, Cert.MixOut.frame_ideal, Cert.MixOut.frame_reference,
  Cert.MixDcat.frame_kernel, Cert.MixDcat.frame_ideal, Cert.MixDcat.frame_reference,
  Cert.AdamSmall.frame_kernel, Cert.AdamSmall.frame_ideal, Cert.AdamSmall.frame_reference,
  Cert.AdamFfnIn.frame_kernel, Cert.AdamFfnIn.frame_ideal, Cert.AdamFfnIn.frame_reference,
  Cert.AdamFfnOut.frame_kernel, Cert.AdamFfnOut.frame_ideal, Cert.AdamFfnOut.frame_reference,
  Cert.AdamMixIn.frame_kernel, Cert.AdamMixIn.frame_ideal, Cert.AdamMixIn.frame_reference,
  Cert.AdamKv.frame_kernel, Cert.AdamKv.frame_ideal, Cert.AdamKv.frame_reference,
  Cert.AdamHgrnOut.frame_kernel, Cert.AdamHgrnOut.frame_ideal, Cert.AdamHgrnOut.frame_reference,
  Cert.AdamGmlpOut.frame_kernel, Cert.AdamGmlpOut.frame_ideal, Cert.AdamGmlpOut.frame_reference,
  Cert.GmlpFwd.frame_kernel, Cert.GmlpFwd.frame_ideal, Cert.GmlpFwd.frame_reference,
  Cert.MixDh.frame_kernel, Cert.MixDh.frame_ideal, Cert.MixDh.frame_reference,
  Cert.MixDcatFirst.frame_kernel, Cert.MixDcatFirst.frame_ideal, Cert.MixDcatFirst.frame_reference,
  Cert.MixOutFirst.frame_kernel, Cert.MixOutFirst.frame_ideal, Cert.MixOutFirst.frame_reference,
  Cert.LossHead.frame_kernel, Cert.LossHead.frame_ideal, Cert.LossHead.frame_reference,
  Cert.RmsBwd.frame_kernel, Cert.RmsBwd.frame_ideal, Cert.RmsBwd.frame_reference,
  Cert.FfnOutLast.frame_kernel, Cert.FfnOutLast.frame_ideal, Cert.FfnOutLast.frame_reference,
  Cert.Kv.frame_kernel, Cert.Kv.frame_ideal, Cert.Kv.frame_reference,
  Cert.KvDx.frame_kernel, Cert.KvDx.frame_ideal, Cert.KvDx.frame_reference,
  Cert.KvDxSum.frame_kernel, Cert.KvDxSum.frame_ideal, Cert.KvDxSum.frame_reference,
  Cert.Norm.frame_kernel, Cert.Norm.frame_ideal, Cert.Norm.frame_reference,
  Cert.NormMem.frame_kernel, Cert.NormMem.frame_ideal, Cert.NormMem.frame_reference,
  trivial, Cert.GmlpBwd.algebraic, trivial, Cert.DhRms.algebraic, trivial,
  Cert.FfnDa.algebraic, trivial, Cert.FfnIn.algebraic, trivial,
  Cert.FfnOut.algebraic, trivial, Cert.MixIn.algebraic,
  trivial, Cert.MixOut.algebraic,
  trivial, Cert.MixDcat.algebraic,
  trivial, Cert.AdamSmall.algebraic,
  trivial, Cert.AdamFfnIn.algebraic,
  trivial, Cert.AdamFfnOut.algebraic,
  trivial, Cert.AdamMixIn.algebraic,
  trivial, Cert.AdamKv.algebraic,
  trivial, Cert.AdamHgrnOut.algebraic,
  trivial, Cert.AdamGmlpOut.algebraic,
  trivial, Cert.GmlpFwd.algebraic,
  trivial, Cert.MixDh.algebraic,
  trivial, Cert.MixDcatFirst.algebraic,
  trivial, Cert.MixOutFirst.algebraic,
  trivial, Cert.LossHead.algebraic,
  trivial, Cert.RmsBwd.algebraic,
  trivial, Cert.FfnOutLast.algebraic,
  trivial, Cert.Kv.algebraic,
  trivial, Cert.KvDx.algebraic,
  trivial, Cert.KvDxSum.algebraic,
  trivial, Cert.Norm.algebraic,
  trivial, Cert.NormMem.algebraic⟩

end Cert.Proof

end
